-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "neg" .f32 0xF149F2CA#32 ⊥
  ∧ IdealRules.named_const.Statement Cert.KernelIdeal.κ "scale" .f32 0x3E38AA3B#32 (((1 / 8) * (Real.log 2)⁻¹ : ℝ) : EReal)

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)) (v4 : (c : Dev Cert.Kernel3Ideal.nD) → Buf (Elt Ideal) ((c.tc : Thread Cert.Kernel3Ideal.nD Cert.Kernel3Ideal.τ).loc Cert.Kernel3Ideal.main_v20_4)) (v5 : (c : Dev Cert.Kernel3Ideal.nD) → Buf (Elt Ideal) ((c.tc : Thread Cert.Kernel3Ideal.nD Cert.Kernel3Ideal.τ).loc Cert.Kernel3Ideal.main_v20_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_v20_4) = v4 c
          ∧ r.2.mem ((c.tc : Thread Cert.Kernel3Ideal.nD Cert.Kernel3Ideal.τ).loc Cert.Kernel3Ideal.main_v20_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_v52) = v3 c
          ∧ r.2.mem ((c.tc : Thread Cert.Reference3Ideal.nD Cert.Reference3Ideal.τ).loc Cert.Reference3Ideal.main_v54) = v4 c
          ∧ r.2.mem ((c.tc : Thread Cert.Reference3Ideal.nD Cert.Reference3Ideal.τ).loc Cert.Reference3Ideal.main_v56) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_values.lean ====
abbrev S16x4096x4x2x64 : Shape := ⟨5, ![16, 4096, 4, 2, 64]⟩
abbrev S16x4096x4x128 : Shape := ⟨4, ![16, 4096, 4, 128]⟩
abbrev S4x64 : Shape := ⟨2, ![4, 64]⟩
abbrev S128 : Shape := ⟨1, ![128]⟩
abbrev S_ : Shape := ⟨0, ![]⟩

class Facts : Prop where
  bcast_S_S16x4096x4x128 : S_.BroadcastsInDim S16x4096x4x128 (![] : Fin 0 → Fin S16x4096x4x128.rank)
  bcast_S_S4x64 : S_.BroadcastsInDim S4x64 (![] : Fin 0 → Fin S4x64.rank)

variable [Facts]

def fn {F : FTy → Type} [FloatOps F] (main_arg0 : FVec F S16x4096x4x2x64 .f32) (main_arg1 : FVec F S16x4096x4x2x64 .f32) (main_arg2 : FVec F S16x4096x4x128 .f32) (main_arg3 : FVec F S4x64 .f32) (main_arg4 : FVec F S128 .f32) : IVec S16x4096x4x128 1 × IVec S4x64 1 :=
  let main_v0 : FVec F S16x4096x4x128 .f32 := Host.absf main_arg2
  let main_cst : FVec F S_ .f32 := constant S_ .f32 0x7F800000#32
  let main_v1 : FVec F S16x4096x4x128 .f32 := broadcastInDim S16x4096x4x128 ![] bcast_S_S16x4096x4x128 main_cst
  let main_v2 : IVec S16x4096x4x128 1 := cmpf .olt main_v0 main_v1
  let main_v3 : FVec F S4x64 .f32 := Host.absf main_arg3
  let main_cst_0 : FVec F S_ .f32 := constant S_ .f32 0x7F800000#32
  let main_v4 : FVec F S4x64 .f32 := broadcastInDim S4x64 ![] bcast_S_S4x64 main_cst_0
  let main_v5 : IVec S4x64 1 := cmpf .olt main_v3 main_v4
  (main_v2, main_v5)
-- ==== Kernel.lean ====
abbrev S16x4096x4x2x64 : Shape := ⟨5, ![16, 4096, 4, 2, 64]⟩
abbrev S16x4096x4x128 : Shape := ⟨4, ![16, 4096, 4, 128]⟩
abbrev S4x64 : Shape := ⟨2, ![4, 64]⟩
abbrev S128 : Shape := ⟨1, ![128]⟩
abbrev S20 : Shape := ⟨1, ![20]⟩
abbrev S1x64 : Shape := ⟨2, ![1, 64]⟩
abbrev S64 : Shape := ⟨1, ![64]⟩
abbrev S_ : Shape := ⟨0, ![]⟩
abbrev S65536x512 : Shape := ⟨2, ![65536, 512]⟩
abbrev S1 : Shape := ⟨1, ![1]⟩
abbrev S1x128 : Shape := ⟨2, ![1, 128]⟩
abbrev S512x512 : Shape := ⟨2, ![512, 512]⟩
abbrev S1024x512 : Shape := ⟨2, ![1024, 512]⟩
abbrev S8x512x128 : Shape := ⟨3, ![8, 512, 128]⟩
abbrev S8x512x256 : Shape := ⟨3, ![8, 512, 256]⟩
abbrev S512x128 : Shape := ⟨2, ![512, 128]⟩
abbrev S1024x128 : Shape := ⟨2, ![1024, 128]⟩
abbrev S512x1024 : Shape := ⟨2, ![512, 1024]⟩
abbrev S1024x256 : Shape := ⟨2, ![1024, 256]⟩
abbrev S1x512x128 : Shape := ⟨3, ![1, 512, 128]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S256x256 : Shape := ⟨2, ![256, 256]⟩
abbrev S256x512 : Shape := ⟨2, ![256, 512]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1x256x256 : Shape := ⟨3, ![1, 256, 256]⟩

abbrev nBuf : Space → Nat
  | .hbm => 32
  | .vmem => 11
  | .smem => 3
  | _ => 0

abbrev bufTy : (tb : Table) → Fin (tcTables nBuf tb) → BufTy
  | .hbm, ⟨0, _⟩ => ⟨S16x4096x4x2x64, .f32⟩
  | .hbm, ⟨1, _⟩ => ⟨S16x4096x4x2x64, .f32⟩
  | .hbm, ⟨2, _⟩ => ⟨S16x4096x4x128, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S65536x512, .f32⟩
  | .hbm, ⟨25, _⟩ => ⟨S65536x512, .f32⟩
  | .hbm, ⟨26, _⟩ => ⟨S65536x512, .bf16⟩
  | .hbm, ⟨27, _⟩ => ⟨S65536x512, .f32⟩
  | .hbm, ⟨28, _⟩ => ⟨S65536x512, .bf16⟩
  | .hbm, ⟨29, _⟩ => ⟨S1, .f32⟩
  | .hbm, ⟨30, _⟩ => ⟨S1x128, .f32⟩
  | .hbm, ⟨31, _⟩ => ⟨S65536x512, .bf16⟩
  | .local _ .vmem, ⟨0, _⟩ => ⟨S512x512, .f32⟩
  | .local _ .vmem, ⟨1, _⟩ => ⟨S512x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x128, .f32⟩
  | .local _ .vmem, ⟨7, _⟩ => ⟨S512x512, .bf16⟩
  | .local _ .vmem, ⟨8, _⟩ => ⟨S512x512, .bf16⟩
  | .local _ .vmem, ⟨9, _⟩ => ⟨S8x512x128, .f32⟩
  | .local _ .vmem, ⟨10, _⟩ => ⟨S8x512x256, .f32⟩
  | .local _ .smem, ⟨0, _⟩ => ⟨S20, .i32⟩
  | .local _ .smem, ⟨1, _⟩ => ⟨S20, .i32⟩
  | .local _ .smem, ⟨2, _⟩ => ⟨S1, .f32⟩
  | _, _ => ⟨S16x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 20], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_cond4 (v1 : BitVec 32) (v3 : BitVec 32) : BitVec 1 :=
  let c2_i32_3 : BitVec 32 := 2#32
  let v13 : BitVec 32 := Scalar.muli v3 c2_i32_3
  let c0_i32_4 : BitVec 32 := 0#32
  let v14 : BitVec 32 := Scalar.addi v13 c0_i32_4
  let v20 : BitVec 1 := Scalar.cmpi .eq v14 v1
  let v21 : BitVec 32 := Scalar.extui v20
  let c0_i32_6 : BitVec 32 := 0#32
  let v22 : BitVec 1 := Scalar.cmpi .ne v21 c0_i32_6
  v22

def k0_cond5 (v1 : BitVec 32) (v3 : BitVec 32) : BitVec 1 :=
  let c2_i32_7 : BitVec 32 := 2#32
  let v23 : BitVec 32 := Scalar.muli v3 c2_i32_7
  let c1_i32_8 : BitVec 32 := 1#32
  let v24 : BitVec 32 := Scalar.addi v23 c1_i32_8
  let v25 : BitVec 1 := Scalar.cmpi .eq v24 v1
  let v26 : BitVec 32 := Scalar.extui v25
  let c0_i32_9 : BitVec 32 := 0#32
  let v27 : BitVec 1 := Scalar.cmpi .ne v26 c0_i32_9
  v27

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S20) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : Index := Scalar.indexCast arg1
  let v2 : BitVec 32 := pf.at 1 (Rect.unit (s := S20) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_3 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : Index := Scalar.indexCast arg1
  let v2 : BitVec 32 := pf.at 1 (Rect.unit (s := S20) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S20) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "neg" => some ⊥
  | "scale" => some (((1 / 8) * (Real.log 2)⁻¹ : ℝ) : EReal)
  | _ => none
-- ==== ReferenceIdeal.lean ====
abbrev S16x4096x4x2x64 : Shape := ⟨5, ![16, 4096, 4, 2, 64]⟩
abbrev S16x4096x4x128 : Shape := ⟨4, ![16, 4096, 4, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4x2x4096x4096 : Shape := ⟨5, ![16, 4, 2, 4096, 4096]⟩
abbrev S16x4x2x4096 : Shape := ⟨4, ![16, 4, 2, 4096]⟩
abbrev S16x4x2x4096x1 : Shape := ⟨5, ![16, 4, 2, 4096, 1]⟩
abbrev S16x4x1x4096x4096 : Shape := ⟨5, ![16, 4, 1, 4096, 4096]⟩
abbrev S16x4x4096x4096 : Shape := ⟨4, ![16, 4, 4096, 4096]⟩
abbrev S16x4x128x4096 : Shape := ⟨4, ![16, 4, 128, 4096]⟩
abbrev S16x4096x4 : Shape := ⟨3, ![16, 4096, 4]⟩
abbrev S16x4096x4x1 : Shape := ⟨4, ![16, 4096, 4, 1]⟩
abbrev S1x1x1x128 : Shape := ⟨4, ![1, 1, 1, 128]⟩
abbrev S65536x512 : Shape := ⟨2, ![65536, 512]⟩

abbrev nBuf : Space → Nat
  | .hbm => 101
  | .vmem => 0
  | .smem => 0
  | _ => 0

abbrev bufTy : (tb : Table) → Fin (tcTables nBuf tb) → BufTy
  | .hbm, ⟨0, _⟩ => ⟨S16x4096x4x2x64, .f32⟩
  | .hbm, ⟨1, _⟩ => ⟨S16x4096x4x2x64, .f32⟩
  | .hbm, ⟨2, _⟩ => ⟨S16x4096x4x128, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096, .i32⟩
  | .hbm, ⟨25, _⟩ => ⟨S_, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S1x4096, .i32⟩
  | .hbm, ⟨44, _⟩ => ⟨S4096x1, .i32⟩
  | .hbm, ⟨45, _⟩ => ⟨S4096x4096, .i32⟩
  | .hbm, ⟨46, _⟩ => ⟨S4096x4096, .i32⟩
  | .hbm, ⟨47, _⟩ => ⟨S4096x4096, .i1⟩
  | .hbm, ⟨48, _⟩ => ⟨S16x4x2x4096x4096, .f32⟩
  | .hbm, ⟨49, _⟩ => ⟨S_, .f32⟩
  | .hbm, ⟨50, _⟩ => ⟨S16x4x2x4096x4096, .f32⟩
  | .hbm, ⟨51, _⟩ => ⟨S16x4x2x4096x4096, .f32⟩
  | .hbm, ⟨52, _⟩ => ⟨S_, .f32⟩
  | .hbm, ⟨53, _⟩ => ⟨S_, .f32⟩
  | .hbm, ⟨54, _⟩ => ⟨S16x4x2x4096x4096, .i1⟩
  | .hbm, ⟨55, _⟩ => ⟨S16x4x2x4096x4096, .f32⟩
  | .hbm, ⟨56, _⟩ => ⟨S16x4x2x4096x4096, .f32⟩
  | .hbm, ⟨57, _⟩ => ⟨S_, .f32⟩
  | .hbm, ⟨58, _⟩ => ⟨S16x4x2x4096, .f32⟩
  | .hbm, ⟨59, _⟩ => ⟨S_, .f32⟩
  | .hbm, ⟨60, _⟩ => ⟨S16x4x2x4096, .f32⟩
  | .hbm, ⟨61, _⟩ => ⟨S16x4x2x4096, .f32⟩
  | .hbm, ⟨62, _⟩ => ⟨S16x4x2x4096x1, .f32⟩
  | .hbm, ⟨63, _⟩ => ⟨S16x4x2x4096x4096, .f32⟩
  | .hbm, ⟨64, _⟩ => ⟨S16x4x2x4096x4096, .f32⟩
  | .hbm, ⟨65, _⟩ => ⟨S16x4x2x4096x4096, .f32⟩
  | .hbm, ⟨66, _⟩ => ⟨S_, .f32⟩
  | .hbm, ⟨67, _⟩ => ⟨S16x4x2x4096, .f32⟩
  | .hbm, ⟨68, _⟩ => ⟨S16x4x2x4096x1, .f32⟩
  | .hbm, ⟨69, _⟩ => ⟨S16x4x2x4096x4096, .f32⟩
  | .hbm, ⟨70, _⟩ => ⟨S16x4x2x4096x4096, .f32⟩
  | .hbm, ⟨71, _⟩ => ⟨S16x4x1x4096x4096, .f32⟩
  | .hbm, ⟨72, _⟩ => ⟨S16x4x4096x4096, .f32⟩
  | .hbm, ⟨73, _⟩ => ⟨S16x4x1x4096x4096, .f32⟩
  | .hbm, ⟨74, _⟩ => ⟨S16x4x4096x4096, .f32⟩
  | .hbm, ⟨75, _⟩ => ⟨S16x4x4096x4096, .f32⟩
  | .hbm, ⟨76, _⟩ => ⟨S16x4x4096x4096, .f32⟩
  | .hbm, ⟨77, _⟩ => ⟨S16x4x4096x4096, .f32⟩
  | .hbm, ⟨78, _⟩ => ⟨S16x4x128x4096, .f32⟩
  | .hbm, ⟨79, _⟩ => ⟨S16x4096x4x128, .f32⟩
  | .hbm, ⟨80, _⟩ => ⟨S16x4096x4x128, .f32⟩
  | .hbm, ⟨81, _⟩ => ⟨S_, .f32⟩
  | .hbm, ⟨82, _⟩ => ⟨S16x4096x4, .f32⟩
  | .hbm, ⟨83, _⟩ => ⟨S16x4096x4x1, .f32⟩
  | .hbm, ⟨84, _⟩ => ⟨S_, .f32⟩
  | .hbm, ⟨85, _⟩ => ⟨S16x4096x4x1, .f32⟩
  | .hbm, ⟨86, _⟩ => ⟨S16x4096x4x1, .f32⟩
  | .hbm, ⟨87, _⟩ => ⟨S_, .f32⟩
  | .hbm, ⟨88, _⟩ => ⟨S16x4096x4x1, .f32⟩
  | .hbm, ⟨89, _⟩ => ⟨S16x4096x4x1, .f32⟩
  | .hbm, ⟨90, _⟩ => ⟨S16x4096x4x1, .f32⟩
  | .hbm, ⟨91, _⟩ => ⟨S16x4096x4x128, .f32⟩
  | .hbm, ⟨92, _⟩ => ⟨S16x4096x4x128, .f32⟩
  | .hbm, ⟨93, _⟩ => ⟨S1x1x1x128, .f32⟩
  | .hbm, ⟨94, _⟩ => ⟨S16x4096x4x128, .f32⟩
  | .hbm, ⟨95, _⟩ => ⟨S16x4096x4x128, .f32⟩
  | .hbm, ⟨96, _⟩ => ⟨S_, .f32⟩
  | .hbm, ⟨97, _⟩ => ⟨S16x4096x4x128, .f32⟩
  | .hbm, ⟨98, _⟩ => ⟨S16x4096x4x128, .f32⟩
  | .hbm, ⟨99, _⟩ => ⟨S65536x512, .f32⟩
  | .hbm, ⟨100, _⟩ => ⟨S65536x512, .bf16⟩
  | _, _ => ⟨S16x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v26 : Ref sig .tc := ⟨.hbm, 56, rfl⟩
abbrev main_cst_4 : Ref sig .tc := ⟨.hbm, 57, rfl⟩
abbrev main_v27 : Ref sig .tc := ⟨.hbm, 58, rfl⟩
abbrev main_cst_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_7 : Ref sig .tc := ⟨.hbm, 81, rfl⟩
abbrev main_v48 : Ref sig .tc := ⟨.hbm, 82, rfl⟩
abbrev main_v49 : Ref sig .tc := ⟨.hbm, 83, rfl⟩
abbrev main_cst_8 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_10 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x512 : Shape := ⟨3, ![16, 4096, 512]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S65536x512 : Shape := ⟨2, ![65536, 512]⟩
abbrev S_ : Shape := ⟨0, ![]⟩
abbrev S16x8x2816 : Shape := ⟨3, ![16, 8, 2816]⟩
abbrev S65536x1024 : Shape := ⟨2, ![65536, 1024]⟩
abbrev S1x1024 : Shape := ⟨2, ![1, 1024]⟩
abbrev S1x2816 : Shape := ⟨2, ![1, 2816]⟩
abbrev S512x1024 : Shape := ⟨2, ![512, 1024]⟩
abbrev S512x512 : Shape := ⟨2, ![512, 512]⟩
abbrev S1x8x2816 : Shape := ⟨3, ![1, 8, 2816]⟩
abbrev S8x2816 : Shape := ⟨2, ![8, 2816]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩
abbrev S1x256 : Shape := ⟨2, ![1, 256]⟩
abbrev S8x256 : Shape := ⟨2, ![8, 256]⟩
abbrev S512x768 : Shape := ⟨2, ![512, 768]⟩
abbrev S768x1024 : Shape := ⟨2, ![768, 1024]⟩

abbrev nBuf : Space → Nat
  | .hbm => 23
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S2816x1024, .f32⟩
  | .hbm, ⟨9, _⟩ => ⟨S65536x512, .f32⟩
  | .hbm, ⟨10, _⟩ => ⟨S65536x512, .bf16⟩
  | .hbm, ⟨11, _⟩ => ⟨S65536x512, .f32⟩
  | .hbm, ⟨12, _⟩ => ⟨S65536x512, .bf16⟩
  | .hbm, ⟨13, _⟩ => ⟨S_, .f32⟩
  | .hbm, ⟨14, _⟩ => ⟨S16x8x2816, .f32⟩
  | .hbm, ⟨15, _⟩ => ⟨S65536x1024, .f32⟩
  | .hbm, ⟨16, _⟩ => ⟨S1024x1024, .bf16⟩
  | .hbm, ⟨17, _⟩ => ⟨S1x1024, .f32⟩
  | .hbm, ⟨18, _⟩ => ⟨S1024x5632, .bf16⟩
  | .hbm, ⟨19, _⟩ => ⟨S1x2816, .f32⟩
  | .hbm, ⟨20, _⟩ => ⟨S2816x1024, .bf16⟩
  | .hbm, ⟨21, _⟩ => ⟨S65536x1024, .f32⟩
  | .hbm, ⟨22, _⟩ => ⟨S16x8x2816, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S3x2816, .f32⟩
  | .local _ .vmem, ⟨10, _⟩ => ⟨S1x2816, .f32⟩
  | .local _ .vmem, ⟨11, _⟩ => ⟨S2816x1024, .bf16⟩
  | .local _ .vmem, ⟨12, _⟩ => ⟨S1x8x2816, .f32⟩
  | .local _ .vmem, ⟨13, _⟩ => ⟨S1x8x2816, .f32⟩
  | .local _ .vmem, ⟨14, _⟩ => ⟨S512x1024, .f32⟩
  | .local _ .vmem, ⟨15, _⟩ => ⟨S512x1024, .f32⟩
  | .local _ .vmem, ⟨16, _⟩ => ⟨S1x8x2816, .f32⟩
  | .local _ .vmem, ⟨17, _⟩ => ⟨S1x8x2816, .f32⟩
  | .local _ .vmem, ⟨18, _⟩ => ⟨S8x2816, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S16x4096x1024 : Shape := ⟨3, ![16, 4096, 1024]⟩
abbrev S16x4096x512 : Shape := ⟨3, ![16, 4096, 512]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩
abbrev S16x2x2816 : Shape := ⟨3, ![16, 2, 2816]⟩
abbrev S16x4098x2816 : Shape := ⟨3, ![16, 4098, 2816]⟩
abbrev S1x2816 : Shape := ⟨2, ![1, 2816]⟩
abbrev S1x1x2816 : Shape := ⟨3, ![1, 1, 2816]⟩
abbrev S65536x1024 : Shape := ⟨2, ![65536, 1024]⟩
abbrev S16x8x2816 : Shape := ⟨3, ![16, 8, 2816]⟩

abbrev nBuf : Space → Nat
  | .hbm => 71
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S2816x1024, .f32⟩
  | .hbm, ⟨9, _⟩ => ⟨S16x4096x1024, .f32⟩
  | .hbm, ⟨10, _⟩ => ⟨S16x4096x1024, .f32⟩
  | .hbm, ⟨11, _⟩ => ⟨S16x4096x1024, .f32⟩
  | .hbm, ⟨12, _⟩ => ⟨S16x4096x1024, .f32⟩
  | .hbm, ⟨13, _⟩ => ⟨S_, .f32⟩
  | .hbm, ⟨14, _⟩ => ⟨S16x4096, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S_, .f32⟩
  | .hbm, ⟨20, _⟩ => ⟨S16x4096x1, .f32⟩
  | .hbm, ⟨21, _⟩ => ⟨S16x4096x1, .f32⟩
  | .hbm, ⟨22, _⟩ => ⟨S16x4096x1, .f32⟩
  | .hbm, ⟨23, _⟩ => ⟨S16x4096x1024, .f32⟩
  | .hbm, ⟨24, _⟩ => ⟨S16x4096x1024, .f32⟩
  | .hbm, ⟨25, _⟩ => ⟨S1x1x1024, .f32⟩
  | .hbm, ⟨26, _⟩ => ⟨S16x4096x1024, .f32⟩
  | .hbm, ⟨27, _⟩ => ⟨S16x4096x1024, .f32⟩
  | .hbm, ⟨28, _⟩ => ⟨S16x4096x5632, .f32⟩
  | .hbm, ⟨29, _⟩ => ⟨S16x4096x2816, .f32⟩
  | .hbm, ⟨30, _⟩ => ⟨S16x4096x2816, .f32⟩
  | .hbm, ⟨31, _⟩ => ⟨S_, .f32⟩
  | .hbm, ⟨32, _⟩ => ⟨S16x2x2816, .f32⟩
  | .hbm, ⟨33, _⟩ => ⟨S16x4098x2816, .f32⟩
  | .hbm, ⟨34, _⟩ => ⟨S16x4096x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S16x4096x2816, .f32⟩
  | .hbm, ⟨39, _⟩ => ⟨S16x4096x2816, .f32⟩
  | .hbm, ⟨40, _⟩ => ⟨S1x1x2816, .f32⟩
  | .hbm, ⟨41, _⟩ => ⟨S16x4096x2816, .f32⟩
  | .hbm, ⟨42, _⟩ => ⟨S16x4096x2816, .f32⟩
  | .hbm, ⟨43, _⟩ => ⟨S16x4096x2816, .f32⟩
  | .hbm, ⟨44, _⟩ => ⟨S1x2816, .f32⟩
  | .hbm, ⟨45, _⟩ => ⟨S2816, .f32⟩
  | .hbm, ⟨46, _⟩ => ⟨S1x1x2816, .f32⟩
  | .hbm, ⟨47, _⟩ => ⟨S16x4096x2816, .f32⟩
  | .hbm, ⟨48, _⟩ => ⟨S16x4096x2816, .f32⟩
  | .hbm, ⟨49, _⟩ => ⟨S16x4096x2816, .f32⟩
  | .hbm, ⟨50, _⟩ => ⟨S16x4096x2816, .f32⟩
  | .hbm, ⟨51, _⟩ => ⟨S1x2816, .f32⟩
  | .hbm, ⟨52, _⟩ => ⟨S2816, .f32⟩
  | .hbm, ⟨53, _⟩ => ⟨S1x1x2816, .f32⟩
  | .hbm, ⟨54, _⟩ => ⟨S16x4096x2816, .f32⟩
  | .hbm, ⟨55, _⟩ => ⟨S16x4096x2816, .f32⟩
  | .hbm, ⟨56, _⟩ => ⟨S16x4096x2816, .f32⟩
  | .hbm, ⟨57, _⟩ => ⟨S16x4096x2816, .f32⟩
  | .hbm, ⟨58, _⟩ => ⟨S16x4096x2816, .f32⟩
  | .hbm, ⟨59, _⟩ => ⟨S_, .f32⟩
  | .hbm, ⟨60, _⟩ => ⟨S16x4096x2816, .f32⟩
  | .hbm, ⟨61, _⟩ => ⟨S16x4096x2816, .f32⟩
  | .hbm, ⟨62, _⟩ => ⟨S_, .f32⟩
  | .hbm, ⟨63, _⟩ => ⟨S16x4096x2816, .f32⟩
  | .hbm, ⟨64, _⟩ => ⟨S16x4096x2816, .f32⟩
  | .hbm, ⟨65, _⟩ => ⟨S16x4096x2816, .f32⟩
  | .hbm, ⟨66, _⟩ => ⟨S16x4096x2816, .f32⟩
  | .hbm, ⟨67, _⟩ => ⟨S16x4096x1024, .f32⟩
  | .hbm, ⟨68, _⟩ => ⟨S16x4096x1024, .f32⟩
  | .hbm, ⟨69, _⟩ => ⟨S65536x1024, .f32⟩
  | .hbm, ⟨70, _⟩ => ⟨S16x8x2816, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Kernel3.lean ====
abbrev S16x4096x1024 : Shape := ⟨3, ![16, 4096, 1024]⟩
abbrev S1024 : Shape := ⟨1, ![1024]⟩
abbrev S1024x3328 : Shape := ⟨2, ![1024, 3328]⟩
abbrev S64 : Shape := ⟨1, ![64]⟩
abbrev S65536x1024 : Shape := ⟨2, ![65536, 1024]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x4 : Shape := ⟨2, ![4, 4]⟩
abbrev S_ : Shape := ⟨0, ![]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S65536x1792 : Shape := ⟨2, ![65536, 1792]⟩
abbrev S65536x512 : Shape := ⟨2, ![65536, 512]⟩
abbrev S1x262144x128 : Shape := ⟨3, ![1, 262144, 128]⟩
abbrev S512x1024 : Shape := ⟨2, ![512, 1024]⟩
abbrev S512x1792 : Shape := ⟨2, ![512, 1792]⟩
abbrev S512x512 : Shape := ⟨2, ![512, 512]⟩
abbrev S1x2048x128 : Shape := ⟨3, ![1, 2048, 128]⟩
abbrev S512x1 : Shape := ⟨2, ![512, 1]⟩
abbrev S1024x1792 : Shape := ⟨2, ![1024, 1792]⟩
abbrev S1024x512 : Shape := ⟨2, ![1024, 512]⟩
abbrev S512x128 : Shape := ⟨2, ![512, 128]⟩
abbrev S1x512x128 : Shape := ⟨3, ![1, 512, 128]⟩
abbrev S512x256 : Shape := ⟨2, ![512, 256]⟩

abbrev nBuf : Space → Nat
  | .hbm => 38
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3328, .f32⟩
  | .hbm, ⟨3, _⟩ => ⟨S64, .f32⟩
  | .hbm, ⟨4, _⟩ => ⟨S64, .f32⟩
  | .hbm, ⟨5, _⟩ => ⟨S65536x1024, .f32⟩
  | .hbm, ⟨6, _⟩ => ⟨S1x1024, .f32⟩
  | .hbm, ⟨7, _⟩ => ⟨S1024x3328, .bf16⟩
  | .hbm, ⟨8, _⟩ => ⟨S1x64, .f32⟩
  | .hbm, ⟨9, _⟩ => ⟨S8x64, .f32⟩
  | .hbm, ⟨10, _⟩ => ⟨S512, .f32⟩
  | .hbm, ⟨11, _⟩ => ⟨S1x512, .f32⟩
  | .hbm, ⟨12, _⟩ => ⟨S1x64, .f32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S4x4, .i32⟩
  | .hbm, ⟨17, _⟩ => ⟨S4x4, .i32⟩
  | .hbm, ⟨18, _⟩ => ⟨S_, .i32⟩
  | .hbm, ⟨19, _⟩ => ⟨S4x4, .i32⟩
  | .hbm, ⟨20, _⟩ => ⟨S4x4, .i32⟩
  | .hbm, ⟨21, _⟩ => ⟨S4x4, .i1⟩
  | .hbm, ⟨22, _⟩ => ⟨S4x4, .f32⟩
  | .hbm, ⟨23, _⟩ => ⟨S_, .f32⟩
  | .hbm, ⟨24, _⟩ => ⟨S64x64, .f32⟩
  | .hbm, ⟨25, _⟩ => ⟨S4x1x4x1, .f32⟩
  | .hbm, ⟨26, _⟩ => ⟨S1x64x1x64, .f32⟩
  | .hbm, ⟨27, _⟩ => ⟨S4x64x4x64, .f32⟩
  | .hbm, ⟨28, _⟩ => ⟨S4x64x4x64, .f32⟩
  | .hbm, ⟨29, _⟩ => ⟨S4x64x4x64, .f32⟩
  | .hbm, ⟨30, _⟩ => ⟨S256x256, .f32⟩
  | .hbm, ⟨31, _⟩ => ⟨S256x256, .bf16⟩
  | .hbm, ⟨32, _⟩ => ⟨S65536x1792, .f32⟩
  | .hbm, ⟨33, _⟩ => ⟨S65536x512, .bf16⟩
  | .hbm, ⟨34, _⟩ => ⟨S1x262144x128, .f32⟩
  | .hbm, ⟨35, _⟩ => ⟨S1x262144x128, .f32⟩
  | .hbm, ⟨36, _⟩ => ⟨S65536x512, .bf16⟩
  | .hbm, ⟨37, _⟩ => ⟨S65536x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3328, .bf16⟩
  | .local _ .vmem, ⟨4, _⟩ => ⟨S1x512, .f32⟩
  | .local _ .vmem, ⟨5, _⟩ => ⟨S1x512, .f32⟩
  | .local _ .vmem, ⟨6, _⟩ => ⟨S256x256, .bf16⟩
  | .local _ .vmem, ⟨7, _⟩ => ⟨S512x1792, .f32⟩
  | .local _ .vmem, ⟨8, _⟩ => ⟨S512x1792, .f32⟩
  | .local _ .vmem, ⟨9, _⟩ => ⟨S512x512, .bf16⟩
  | .local _ .vmem, ⟨10, _⟩ => ⟨S512x512, .bf16⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev main_v20_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16x4096x1024 : Shape := ⟨3, ![16, 4096, 1024]⟩
abbrev S1024 : Shape := ⟨1, ![1024]⟩
abbrev S1024x3328 : Shape := ⟨2, ![1024, 3328]⟩
abbrev S64 : Shape := ⟨1, ![64]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3328 : Shape := ⟨3, ![16, 4096, 3328]⟩
abbrev S16x4096x512 : Shape := ⟨3, ![16, 4096, 512]⟩
abbrev S16x4096x4x2x64 : Shape := ⟨5, ![16, 4096, 4, 2, 64]⟩
abbrev S16x4096x4x2 : Shape := ⟨4, ![16, 4096, 4, 2]⟩
abbrev S16x4096x4x2x1 : Shape := ⟨5, ![16, 4096, 4, 2, 1]⟩
abbrev S1x1x1x1x64 : Shape := ⟨5, ![1, 1, 1, 1, 64]⟩
abbrev S16x4096x1792 : Shape := ⟨3, ![16, 4096, 1792]⟩
abbrev S65536x1792 : Shape := ⟨2, ![65536, 1792]⟩
abbrev S65536x512 : Shape := ⟨2, ![65536, 512]⟩
abbrev S1x262144x128 : Shape := ⟨3, ![1, 262144, 128]⟩

abbrev nBuf : Space → Nat
  | .hbm => 72
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3328, .f32⟩
  | .hbm, ⟨3, _⟩ => ⟨S64, .f32⟩
  | .hbm, ⟨4, _⟩ => ⟨S64, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S16x4096x3328, .f32⟩
  | .hbm, ⟨22, _⟩ => ⟨S16x4096x512, .f32⟩
  | .hbm, ⟨23, _⟩ => ⟨S16x4096x4x2x64, .f32⟩
  | .hbm, ⟨24, _⟩ => ⟨S16x4096x4x2x64, .f32⟩
  | .hbm, ⟨25, _⟩ => ⟨S_, .f32⟩
  | .hbm, ⟨26, _⟩ => ⟨S16x4096x4x2, .f32⟩
  | .hbm, ⟨27, _⟩ => ⟨S16x4096x4x2x1, .f32⟩
  | .hbm, ⟨28, _⟩ => ⟨S_, .f32⟩
  | .hbm, ⟨29, _⟩ => ⟨S16x4096x4x2x1, .f32⟩
  | .hbm, ⟨30, _⟩ => ⟨S16x4096x4x2x1, .f32⟩
  | .hbm, ⟨31, _⟩ => ⟨S_, .f32⟩
  | .hbm, ⟨32, _⟩ => ⟨S16x4096x4x2x1, .f32⟩
  | .hbm, ⟨33, _⟩ => ⟨S16x4096x4x2x1, .f32⟩
  | .hbm, ⟨34, _⟩ => ⟨S16x4096x4x2x1, .f32⟩
  | .hbm, ⟨35, _⟩ => ⟨S16x4096x4x2x64, .f32⟩
  | .hbm, ⟨36, _⟩ => ⟨S16x4096x4x2x64, .f32⟩
  | .hbm, ⟨37, _⟩ => ⟨S1x1x1x1x64, .f32⟩
  | .hbm, ⟨38, _⟩ => ⟨S16x4096x4x2x64, .f32⟩
  | .hbm, ⟨39, _⟩ => ⟨S16x4096x4x2x64, .f32⟩
  | .hbm, ⟨40, _⟩ => ⟨S_, .f32⟩
  | .hbm, ⟨41, _⟩ => ⟨S16x4096x4x2x64, .f32⟩
  | .hbm, ⟨42, _⟩ => ⟨S16x4096x4x2x64, .f32⟩
  | .hbm, ⟨43, _⟩ => ⟨S16x4096x512, .f32⟩
  | .hbm, ⟨44, _⟩ => ⟨S16x4096x4x2x64, .f32⟩
  | .hbm, ⟨45, _⟩ => ⟨S16x4096x4x2x64, .f32⟩
  | .hbm, ⟨46, _⟩ => ⟨S_, .f32⟩
  | .hbm, ⟨47, _⟩ => ⟨S16x4096x4x2, .f32⟩
  | .hbm, ⟨48, _⟩ => ⟨S16x4096x4x2x1, .f32⟩
  | .hbm, ⟨49, _⟩ => ⟨S_, .f32⟩
  | .hbm, ⟨50, _⟩ => ⟨S16x4096x4x2x1, .f32⟩
  | .hbm, ⟨51, _⟩ => ⟨S16x4096x4x2x1, .f32⟩
  | .hbm, ⟨52, _⟩ => ⟨S_, .f32⟩
  | .hbm, ⟨53, _⟩ => ⟨S16x4096x4x2x1, .f32⟩
  | .hbm, ⟨54, _⟩ => ⟨S16x4096x4x2x1, .f32⟩
  | .hbm, ⟨55, _⟩ => ⟨S16x4096x4x2x1, .f32⟩
  | .hbm, ⟨56, _⟩ => ⟨S16x4096x4x2x64, .f32⟩
  | .hbm, ⟨57, _⟩ => ⟨S16x4096x4x2x64, .f32⟩
  | .hbm, ⟨58, _⟩ => ⟨S1x1x1x1x64, .f32⟩
  | .hbm, ⟨59, _⟩ => ⟨S16x4096x4x2x64, .f32⟩
  | .hbm, ⟨60, _⟩ => ⟨S16x4096x4x2x64, .f32⟩
  | .hbm, ⟨61, _⟩ => ⟨S16x4096x512, .f32⟩
  | .hbm, ⟨62, _⟩ => ⟨S16x4096x1792, .f32⟩
  | .hbm, ⟨63, _⟩ => ⟨S65536x1792, .f32⟩
  | .hbm, ⟨64, _⟩ => ⟨S65536x512, .f32⟩
  | .hbm, ⟨65, _⟩ => ⟨S65536x512, .bf16⟩
  | .hbm, ⟨66, _⟩ => ⟨S1x262144x128, .f32⟩
  | .hbm, ⟨67, _⟩ => ⟨S1x262144x128, .f32⟩
  | .hbm, ⟨68, _⟩ => ⟨S65536x512, .f32⟩
  | .hbm, ⟨69, _⟩ => ⟨S65536x512, .bf16⟩
  | .hbm, ⟨70, _⟩ => ⟨S65536x512, .f32⟩
  | .hbm, ⟨71, _⟩ => ⟨S65536x512, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Proof.Kit.lean ====
/- The arrays, tables and staging buffers of the attention call, as the proofs about it use them: what the host operations
   before the call leave in the arrays, the contents of the two prefetched tables, and each window's block at a grid point. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attn_prompt (grid0.coords t) (Memref.whole main_c) (Memref.isWhole_whole _) (Memref.whole main_c_0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S20 .i32 := Memref.whole main_c
abbrev htbM0_0 : tbM0_0.IsWhole := Memref.isWhole_whole _
abbrev tbM0_1 : Memref sig .tc .smem S20 .i32 := Memref.whole main_c_0
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

end Cert.KernelIdeal.Attn
-- ==== Proof.Segs.lean ====
/- The body of the attention call cut into its five conditional parts, each a program of its own. -/
module

public import proofs.«01_k».proof.Proof.Kit

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The first part of the body: the running maximum and the accumulator are reset. -/
noncomputable def segInit (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (arg10 : Memref sig .tc .vmem S8x512x128 .f32) (harg10 : arg10.IsWhole) (arg11 : Memref sig .tc .vmem S8x512x256 .f32) (harg11 : arg11.IsWhole) :
    Prog (TpuEff nD τ sig (Elt F) Λ₀ .tc) PUnit := do
  let v29 : Vec F S8x512x128 .f32 ← Prog.lift (.load arg10 (Rect.unit (s := S8x512x128) ![0, 0, 0] S8x512x128.size inb_S8x512x128_S8x512x128_0_0_0).toLoadRect (View.loadsAt_vmem h_S8x512x128))
  Prog.lift (.store arg10 (Rect.unit (s := S8x512x128) ![0, 0, 0] S8x512x128.size inb_S8x512x128_S8x512x128_0_0_0) (k0_pay1 (F := F)) Finset.univ (View.stores_vmem_bits_univ h_S8x512x128 rfl) (.inl rfl))
  let v33 : Vec F S8x512x256 .f32 ← Prog.lift (.load arg11 (Rect.unit (s := S8x512x256) ![0, 0, 0] S8x512x256.size inb_S8x512x256_S8x512x256_0_0_0).toLoadRect (View.loadsAt_vmem h_S8x512x256))
  Prog.lift (.store arg11 (Rect.unit (s := S8x512x256) ![0, 0, 0] S8x512x256.size inb_S8x512x256_S8x512x256_0_0_0) (k0_pay2 (F := F)) Finset.univ (View.stores_vmem_bits_univ h_S8x512x256 rfl) (.inl rfl))
  pure ⟨⟩

/-- The part of the body that takes all 1024 keys of a key block into the running maximum and the accumulator. -/
noncomputable def segFull (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (arg10 : Memref sig .tc .vmem S8x512x128 .f32) (harg10 : arg10.IsWhole) (arg11 : Memref sig .tc .vmem S8x512x256 .f32) (harg11 : arg11.IsWhole) :
    Prog (TpuEff nD τ sig (Elt F) Λ₀ .tc) PUnit := do
  let ⟨v32, v35, v36, v37, v47, v50, v56, v62, v66⟩ : Σ' (v32 : FVec F S512x512 .bf16) (v35 : IVec S512x128 1) (v36 : FVec F S512x128 .bf16) (v37 : FVec F S1024x128 .bf16) (v47 : FVec F S512x1024 .f32) (v50 : FVec F S1024x256 .bf16) (v56 : FVec F S512x128 .f32) (v62 : FVec F S512x1024 .bf16), FVec F S512x256 .f32 ← k0_part1 i arg2 harg2 arg3 harg3 arg4 harg4 arg5 harg5 arg6 harg6 arg7 harg7 arg8 harg8 arg9 harg9 arg10 harg10 arg11 harg11
  let ⟨v79, v88, v100, v101⟩ : Σ' (v79 : FVec F S512x1024 .f32) (v88 : FVec F S512x128 .f32) (v100 : FVec F S512x256 .f32), Vec F S1x512x256 .f32 ← k0_part2 i arg2 harg2 arg3 harg3 arg4 harg4 arg5 harg5 arg6 harg6 arg7 harg7 arg8 harg8 arg9 harg9 arg10 harg10 arg11 harg11 v32 v35 v36 v37 v47 v50 v56 v62 v66
  let ⟨v111, v120, v136⟩ : Σ' (v111 : FVec F S512x1024 .f32) (v120 : FVec F S512x128 .f32), Vec F S1x512x128 .f32 ← k0_part3 i arg2 harg2 arg3 harg3 arg4 harg4 arg5 harg5 arg6 harg6 arg7 harg7 arg8 harg8 arg9 harg9 arg10 harg10 arg11 harg11 v32 v35 v36 v37 v79 v88 v100 v101
  let ⟨v143, v172⟩ : Σ' (v143 : FVec F S512x1024 .f32), FVec F S512x128 .bf16 ← k0_part4 i arg2 harg2 arg3 harg3 arg4 harg4 arg5 harg5 arg6 harg6 arg7 harg7 arg8 harg8 arg9 harg9 arg10 harg10 arg11 harg11 v32 v35 v36 v37 v111 v120 v136
  let ⟨v175, v207, v208⟩ : Σ' (v175 : FVec F S512x1024 .f32) (v207 : FVec F S512x1024 .f32), Vec F S1024x128 .bf16 ← k0_part5 i arg2 harg2 arg3 harg3 arg4 harg4 arg5 harg5 arg6 harg6 arg7 harg7 arg8 harg8 arg9 harg9 arg10 harg10 arg11 harg11 v32 v35 v36 v37 v143 v172
  let ⟨v239, v242, v244⟩ : Σ' (v239 : FVec F S512x1024 .f32) (v242 : FVec F S1024x256 .bf16), FVec F S512x128 .f32 ← k0_part6 i arg2 harg2 arg3 harg3 arg4 harg4 arg5 harg5 arg6 harg6 arg7 harg7 arg8 harg8 arg9 harg9 arg10 harg10 arg11 harg11 v32 v35 v36 v37 v175 v208
  let ⟨v269, v275, v281, v282⟩ : Σ' (v269 : FVec F S1024x256 .bf16) (v275 : FVec F S512x128 .f32) (v281 : FVec F S512x1024 .bf16), FVec F S512x256 .f32 ← k0_part7 i arg2 harg2 arg3 harg3 arg4 harg4 arg5 harg5 arg6 harg6 arg7 harg7 arg8 harg8 arg9 harg9 arg10 harg10 arg11 harg11 v37 v207 v239 v242 v244
  let v283 : Vec F S1x512x256 .f32 ← Prog.lift (.load arg11 (Rect.unit (s := S8x512x256) ![7, 0, 0] S1x512x256.size inb_S8x512x256_S1x512x256_7_0_0).toLoadRect (View.loadsAt_vmem h_S1x512x256))
  let v288 : Vec F S1x512x256 .f32 ← Prog.lift (.load arg11 (Rect.unit (s := S8x512x256) ![7, 0, 0] S1x512x256.size inb_S8x512x256_S1x512x256_7_0_0).toLoadRect (View.loadsAt_vmem h_S1x512x256))
  Prog.lift (.store arg11 (Rect.unit (s := S8x512x256) ![7, 0, 0] S1x512x256.size inb_S8x512x256_S1x512x256_7_0_0) (k0_pay3 v269 v281 v282 v283) Finset.univ (View.stores_vmem_bits_univ h_S1x512x256 rfl) (.inl rfl))
  let v291 : Vec F S1x512x128 .f32 ← Prog.lift (.load arg10 (Rect.unit (s := S8x512x128) ![7, 0, 0] S1x512x128.size inb_S8x512x128_S1x512x128_7_0_0).toLoadRect (View.loadsAt_vmem h_S1x512x128))
  Prog.lift (.store arg10 (Rect.unit (s := S8x512x128) ![7, 0, 0] S1x512x128.size inb_S8x512x128_S1x512x128_7_0_0) (k0_pay4 v275) Finset.univ (View.stores_vmem_bits_univ h_S1x512x128 rfl) (.inl rfl))
  pure ⟨⟩

/-- The part of the body that takes the first 512 keys of a key block in. -/
noncomputable def segHalf (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (arg10 : Memref sig .tc .vmem S8x512x128 .f32) (harg10 : arg10.IsWhole) (arg11 : Memref sig .tc .vmem S8x512x256 .f32) (harg11 : arg11.IsWhole) :
    Prog (TpuEff nD τ sig (Elt F) Λ₀ .tc) PUnit := do
  let ⟨v32, v35, v36, v37, v47, v50, v56, v62, v66⟩ : Σ' (v32 : FVec F S512x512 .bf16) (v35 : IVec S512x128 1) (v36 : FVec F S512x128 .bf16) (v37 : FVec F S512x128 .bf16) (v47 : FVec F S512x512 .f32) (v50 : FVec F S512x256 .bf16) (v56 : FVec F S512x128 .f32) (v62 : FVec F S512x512 .bf16), FVec F S512x256 .f32 ← k0_part8 i arg2 harg2 arg3 harg3 arg4 harg4 arg5 harg5 arg6 harg6 arg7 harg7 arg8 harg8 arg9 harg9 arg10 harg10 arg11 harg11
  let ⟨v79, v88, v100, v101⟩ : Σ' (v79 : FVec F S512x512 .f32) (v88 : FVec F S512x128 .f32) (v100 : FVec F S512x256 .f32), Vec F S1x512x256 .f32 ← k0_part9 i arg2 harg2 arg3 harg3 arg4 harg4 arg5 harg5 arg6 harg6 arg7 harg7 arg8 harg8 arg9 harg9 arg10 harg10 arg11 harg11 v32 v35 v36 v37 v47 v50 v56 v62 v66
  let ⟨v111, v120, v136⟩ : Σ' (v111 : FVec F S512x512 .f32) (v120 : FVec F S512x128 .f32), Vec F S1x512x128 .f32 ← k0_part10 i arg2 harg2 arg3 harg3 arg4 harg4 arg5 harg5 arg6 harg6 arg7 harg7 arg8 harg8 arg9 harg9 arg10 harg10 arg11 harg11 v32 v35 v36 v37 v79 v88 v100 v101
  let ⟨v143, v172⟩ : Σ' (v143 : FVec F S512x512 .f32), FVec F S512x128 .bf16 ← k0_part11 i arg2 harg2 arg3 harg3 arg4 harg4 arg5 harg5 arg6 harg6 arg7 harg7 arg8 harg8 arg9 harg9 arg10 harg10 arg11 harg11 v32 v35 v36 v37 v111 v120 v136
  let ⟨v175, v207, v208⟩ : Σ' (v175 : FVec F S512x512 .f32) (v207 : FVec F S512x512 .f32), Vec F S512x128 .bf16 ← k0_part12 i arg2 harg2 arg3 harg3 arg4 harg4 arg5 harg5 arg6 harg6 arg7 harg7 arg8 harg8 arg9 harg9 arg10 harg10 arg11 harg11 v32 v35 v36 v37 v143 v172
  let ⟨v239, v242, v244⟩ : Σ' (v239 : FVec F S512x512 .f32) (v242 : FVec F S512x256 .bf16), FVec F S512x128 .f32 ← k0_part13 i arg2 harg2 arg3 harg3 arg4 harg4 arg5 harg5 arg6 harg6 arg7 harg7 arg8 harg8 arg9 harg9 arg10 harg10 arg11 harg11 v32 v35 v36 v37 v175 v208
  let ⟨v269, v275, v281, v282⟩ : Σ' (v269 : FVec F S512x256 .bf16) (v275 : FVec F S512x128 .f32) (v281 : FVec F S512x512 .bf16), FVec F S512x256 .f32 ← k0_part14 i arg2 harg2 arg3 harg3 arg4 harg4 arg5 harg5 arg6 harg6 arg7 harg7 arg8 harg8 arg9 harg9 arg10 harg10 arg11 harg11 v37 v207 v239 v242 v244
  let v283 : Vec F S1x512x256 .f32 ← Prog.lift (.load arg11 (Rect.unit (s := S8x512x256) ![7, 0, 0] S1x512x256.size inb_S8x512x256_S1x512x256_7_0_0).toLoadRect (View.loadsAt_vmem h_S1x512x256))
  let v288 : Vec F S1x512x256 .f32 ← Prog.lift (.load arg11 (Rect.unit (s := S8x512x256) ![7, 0, 0] S1x512x256.size inb_S8x512x256_S1x512x256_7_0_0).toLoadRect (View.loadsAt_vmem h_S1x512x256))
  Prog.lift (.store arg11 (Rect.unit (s := S8x512x256) ![7, 0, 0] S1x512x256.size inb_S8x512x256_S1x512x256_7_0_0) (k0_pay5 v269 v281 v282 v283) Finset.univ (View.stores_vmem_bits_univ h_S1x512x256 rfl) (.inl rfl))
  let v291 : Vec F S1x512x128 .f32 ← Prog.lift (.load arg10 (Rect.unit (s := S8x512x128) ![7, 0, 0] S1x512x128.size inb_S8x512x128_S1x512x128_7_0_0).toLoadRect (View.loadsAt_vmem h_S1x512x128))
  Prog.lift (.store arg10 (Rect.unit (s := S8x512x128) ![7, 0, 0] S1x512x128.size inb_S8x512x128_S1x512x128_7_0_0) (k0_pay6 v275) Finset.univ (View.stores_vmem_bits_univ h_S1x512x128 rfl) (.inl rfl))
  pure ⟨⟩

/-- The part of the body for a diagonal tile that is the first half of its key block: its keys are taken in under the mask, and the result is written. -/
noncomputable def segDiag0 (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (arg10 : Memref sig .tc .vmem S8x512x128 .f32) (harg10 : arg10.IsWhole) (arg11 : Memref sig .tc .vmem S8x512x256 .f32) (harg11 : arg11.IsWhole) :
    Prog (TpuEff nD τ sig (Elt F) Λ₀ .tc) PUnit := do
  let ⟨v814, v816⟩ : Σ' (v814 : FVec F S512x128 .f32), FVec F S1x128 .f32 ← k0_part35 i arg2 harg2 arg3 harg3 arg4 harg4 arg5 harg5 arg6 harg6 arg7 harg7 arg8 harg8 arg9 harg9 arg10 harg10 arg11 harg11
  let v822 : Vec F S512x128 .bf16 ← Prog.lift (.load arg9 (Rect.unit (s := S512x512) ![0, 384] S512x128.size inb_S512x512_S512x128_0_384).toLoadRect (View.loadsAt_vmem h_S512x128))
  Prog.lift (.store arg9 (Rect.unit (s := S512x512) ![0, 384] S512x128.size inb_S512x512_S512x128_0_384) (k0_pay7 v814 v816) Finset.univ (View.stores_vmem h_S512x128 (harg9.storeExact_slice rfl _ packedbf16_S512x512_S512x128_0_384) (fun _ => rfl)) (.inl rfl))
  pure ⟨⟩

/-- The part of the body for a diagonal tile that is the second half of its key block. -/
noncomputable def segDiag1 (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (arg10 : Memref sig .tc .vmem S8x512x128 .f32) (harg10 : arg10.IsWhole) (arg11 : Memref sig .tc .vmem S8x512x256 .f32) (harg11 : arg11.IsWhole) :
    Prog (TpuEff nD τ sig (Elt F) Λ₀ .tc) PUnit := do
  let ⟨v814, v816⟩ : Σ' (v814 : FVec F S512x128 .f32), FVec F S1x128 .f32 ← k0_part56 i arg2 harg2 arg3 harg3 arg4 harg4 arg5 harg5 arg6 harg6 arg7 harg7 arg8 harg8 arg9 harg9 arg10 harg10 arg11 harg11
  let v822 : Vec F S512x128 .bf16 ← Prog.lift (.load arg9 (Rect.unit (s := S512x512) ![0, 384] S512x128.size inb_S512x512_S512x128_0_384).toLoadRect (View.loadsAt_vmem h_S512x128))
  Prog.lift (.store arg9 (Rect.unit (s := S512x512) ![0, 384] S512x128.size inb_S512x512_S512x128_0_384) (k0_pay8 v814 v816) Finset.univ (View.stores_vmem h_S512x128 (harg9.storeExact_slice rfl _ packedbf16_S512x512_S512x128_0_384) (fun _ => rfl)) (.inl rfl))
  pure ⟨⟩

/-- The body as a sequence of its five conditional parts. -/
noncomputable def bodySegs (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (arg10 : Memref sig .tc .vmem S8x512x128 .f32) (harg10 : arg10.IsWhole) (arg11 : Memref sig .tc .vmem S8x512x256 .f32) (harg11 : arg11.IsWhole) :
    Prog (TpuEff nD τ sig (Elt F) Λ₀ .tc) PUnit := do
  let v1 : Elt F .i32 ← smemLoad arg2 (Rect.unit (s := S20) (k0_off1 i) S1.size (k0_off1_inb i)) numel1_S1 rfl
  let v3 : Elt F .i32 ← smemLoad arg3 (Rect.unit (s := S20) (k0_off1 i) S1.size (k0_off1_inb i)) numel1_S1 rfl
  let v4 : BitVec 1 := Scalar.cmpi .eq v3 0#32
  let v5 : BitVec 32 := Scalar.extui v4
  let v6 : BitVec 1 := Scalar.cmpi .ne v5 0#32
  if v6 = 1#1 then do
    segInit i arg2 harg2 arg3 harg3 arg4 harg4 arg5 harg5 arg6 harg6 arg7 harg7 arg8 harg8 arg9 harg9 arg10 harg10 arg11 harg11
  else do
    pure ⟨⟩
  let v7 : BitVec 32 := Scalar.muli v3 2#32
  let v8 : BitVec 32 := Scalar.addi v7 2#32
  let v9 : BitVec 32 := Scalar.subi v8 1#32
  let v10 : BitVec 1 := Scalar.cmpi .slt v9 v1
  let v11 : BitVec 32 := Scalar.extui v10
  let v12 : BitVec 1 := Scalar.cmpi .ne v11 0#32
  if v12 = 1#1 then do
    segFull i arg2 harg2 arg3 harg3 arg4 harg4 arg5 harg5 arg6 harg6 arg7 harg7 arg8 harg8 arg9 harg9 arg10 harg10 arg11 harg11
  else do
    pure ⟨⟩
  let v13 : BitVec 32 := Scalar.muli v3 2#32
  let v14 : BitVec 32 := Scalar.addi v13 0#32
  let v15 : BitVec 1 := Scalar.cmpi .sge v9 v1
  let v16 : BitVec 1 := Scalar.cmpi .slt v14 v1
  let v17 : BitVec 1 := Scalar.andi v15 v16
  let v18 : BitVec 32 := Scalar.extui v17
  let v19 : BitVec 1 := Scalar.cmpi .ne v18 0#32
  if v19 = 1#1 then do
    segHalf i arg2 harg2 arg3 harg3 arg4 harg4 arg5 harg5 arg6 harg6 arg7 harg7 arg8 harg8 arg9 harg9 arg10 harg10 arg11 harg11
  else do
    pure ⟨⟩
  if k0_h4 : k0_cond4 v1 v3 = 1#1 then do
    segDiag0 i arg2 harg2 arg3 harg3 arg4 harg4 arg5 harg5 arg6 harg6 arg7 harg7 arg8 harg8 arg9 harg9 arg10 harg10 arg11 harg11
  else do
    pure ⟨⟩
  if k0_h5 : k0_cond5 v1 v3 = 1#1 then do
    segDiag1 i arg2 harg2 arg3 harg3 arg4 harg4 arg5 harg5 arg6 harg6 arg7 harg7 arg8 harg8 arg9 harg9 arg10 harg10 arg11 harg11
  else do
    pure ⟨⟩
  pure ⟨⟩

set_option maxRecDepth 65536 in
set_option maxHeartbeats 4000000 in
/-- The body is the sequence of its parts. -/
theorem body_eq_segs : cc0_attn_prompt (F := F) = bodySegs (F := F) := by
  rw [cc0_attn_prompt_eq_skeleton]
  unfold bodySegs segInit segFull segHalf segDiag0 segDiag1 cc0_attn_prompt_skel
  rfl

end Cert.KernelIdeal.Attn
-- ==== Proof.Runs.lean ====
/- The five parts of the attention body run symbolically: what each leaves in the two scratches and in the output block. -/
module

public import proofs.«01_k».proof.Proof.Segs

@[expose] public section

set_option maxRecDepth 16384
set_option Elab.async false

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The scratch holding the running maxima, one slab for each head and map, as a memref. -/
abbrev scM0 : Memref sig .tc .vmem S8x512x128 .f32 := Memref.whole cc0_scratch0
/-- The scratch holding the weighted sums and, in its upper lanes, the sums of weights. -/
abbrev scM1 : Memref sig .tc .vmem S8x512x256 .f32 := Memref.whole cc0_scratch1

set_option backward.proofsInPublic true in
set_option maxHeartbeats 8000000 in
/-- Running the reset: what it leaves in the scratches, with the proof that it runs. -/
noncomputable def runInit (c : Dev nD) (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole)
     (X0 : Buf (Elt F) ((c : Thread nD τ).loc cc0_scratch0)) (X1 : Buf (Elt F) ((c : Thread nD τ).loc cc0_scratch1)) :
    Σ' (out1 : Buf (Elt F) ((c : Thread nD τ).loc cc0_scratch0)), { out2 : Buf (Elt F) ((c : Thread nD τ).loc cc0_scratch1) //
      ∀ K : PUnit → sProp 𝕄,
        iprop((scM0.view.loc (c : Thread nD τ) ↦{fullShare} X0)
          ∗ (scM1.view.loc (c : Thread nD τ) ↦{fullShare} X1)
          ∗ (iprop((scM0.view.loc (c : Thread nD τ) ↦{fullShare} out1)
          ∗ (scM1.view.loc (c : Thread nD τ) ↦{fullShare} out2)) -∗ K ⟨⟩))
          ⊢ wp frame (wpE (defs₀ (F := F)) Variants.none c none) Set.univ (segInit i arg2 harg2 arg3 harg3 arg4 harg4 arg5 harg5 arg6 harg6 arg7 harg7 arg8 harg8 arg9 harg9 scM0 (Memref.isWhole_whole _) scM1 (Memref.isWhole_whole _)) K } :=
  ⟨_, _, fun K => by
    unfold segInit
    iintro ⟨HS0, HS1, Hk⟩
    have hS0 : scM0.IsWhole := Memref.isWhole_whole _
    have hS1 : scM1.IsWhole := Memref.isWhole_whole _
    sl_exec!
    sl_step
    iapply Hk
    isplitl [HS0]; · iexact HS0
    iexact HS1⟩

set_option backward.proofsInPublic true in
set_option maxHeartbeats 8000000 in
/-- Running the update by 1024 keys: what it leaves in the scratches, with the proof that it runs. -/
noncomputable def runFull (c : Dev nD) (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole)
    (x1 : S512x512.Idx → Elt F .f32) (x2 x3 : S1024x512.Idx → Elt F .bf16) (X0 : Buf (Elt F) ((c : Thread nD τ).loc cc0_scratch0)) (X1 : Buf (Elt F) ((c : Thread nD τ).loc cc0_scratch1)) :
    Σ' (out1 : Buf (Elt F) ((c : Thread nD τ).loc cc0_scratch0)), { out2 : Buf (Elt F) ((c : Thread nD τ).loc cc0_scratch1) //
      ∀ K : PUnit → sProp 𝕄,
        iprop((arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (scM0.view.loc (c : Thread nD τ) ↦{fullShare} X0)
          ∗ (scM1.view.loc (c : Thread nD τ) ↦{fullShare} X1)
          ∗ (iprop((arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (scM0.view.loc (c : Thread nD τ) ↦{fullShare} out1)
          ∗ (scM1.view.loc (c : Thread nD τ) ↦{fullShare} out2)) -∗ K ⟨⟩))
          ⊢ wp frame (wpE (defs₀ (F := F)) Variants.none c none) Set.univ (segFull i arg2 harg2 arg3 harg3 arg4 harg4 arg5 harg5 arg6 harg6 arg7 harg7 arg8 harg8 arg9 harg9 scM0 (Memref.isWhole_whole _) scM1 (Memref.isWhole_whole _)) K } :=
  ⟨_, _, fun K => by
    unfold segFull
    iintro ⟨H1, H2, H3, HS0, HS1, Hk⟩
    have hS0 : scM0.IsWhole := Memref.isWhole_whole _
    have hS1 : scM1.IsWhole := Memref.isWhole_whole _
    sl_exec!
    sl_step
    iapply Hk
    isplitl [H1]; · iexact H1
    isplitl [H2]; · iexact H2
    isplitl [H3]; · iexact H3
    isplitl [HS0]; · iexact HS0
    iexact HS1⟩

set_option backward.proofsInPublic true in
set_option maxHeartbeats 8000000 in
/-- Running the update by the first 512 keys: what it leaves in the scratches, with the proof that it runs. -/
noncomputable def runHalf (c : Dev nD) (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole)
    (x1 : S512x512.Idx → Elt F .f32) (x2 x3 : S1024x512.Idx → Elt F .bf16) (X0 : Buf (Elt F) ((c : Thread nD τ).loc cc0_scratch0)) (X1 : Buf (Elt F) ((c : Thread nD τ).loc cc0_scratch1)) :
    Σ' (out1 : Buf (Elt F) ((c : Thread nD τ).loc cc0_scratch0)), { out2 : Buf (Elt F) ((c : Thread nD τ).loc cc0_scratch1) //
      ∀ K : PUnit → sProp 𝕄,
        iprop((arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (scM0.view.loc (c : Thread nD τ) ↦{fullShare} X0)
          ∗ (scM1.view.loc (c : Thread nD τ) ↦{fullShare} X1)
          ∗ (iprop((arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (scM0.view.loc (c : Thread nD τ) ↦{fullShare} out1)
          ∗ (scM1.view.loc (c : Thread nD τ) ↦{fullShare} out2)) -∗ K ⟨⟩))
          ⊢ wp frame (wpE (defs₀ (F := F)) Variants.none c none) Set.univ (segHalf i arg2 harg2 arg3 harg3 arg4 harg4 arg5 harg5 arg6 harg6 arg7 harg7 arg8 harg8 arg9 harg9 scM0 (Memref.isWhole_whole _) scM1 (Memref.isWhole_whole _)) K } :=
  ⟨_, _, fun K => by
    unfold segHalf
    iintro ⟨H1, H2, H3, HS0, HS1, Hk⟩
    have hS0 : scM0.IsWhole := Memref.isWhole_whole _
    have hS1 : scM1.IsWhole := Memref.isWhole_whole _
    sl_exec!
    sl_step
    iapply Hk
    isplitl [H1]; · iexact H1
    isplitl [H2]; · iexact H2
    isplitl [H3]; · iexact H3
    isplitl [HS0]; · iexact HS0
    iexact HS1⟩

set_option backward.proofsInPublic true in
set_option maxHeartbeats 8000000 in
/-- Running the masked update by the first 512 keys and the finish: what it leaves in the scratches and the output block, with the proof that it runs. -/
noncomputable def runDiag0 (c : Dev nD) (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole)
    (x0 : S1.Idx → Elt F .f32) (x1 : S512x512.Idx → Elt F .f32) (x2 x3 : S1024x512.Idx → Elt F .bf16) (x4 : S1x128.Idx → Elt F .f32) (X0 : Buf (Elt F) ((c : Thread nD τ).loc cc0_scratch0)) (X1 : Buf (Elt F) ((c : Thread nD τ).loc cc0_scratch1)) :
    Σ' (out0 : List (View.Piece (Elt F) S512x512 .bf16)) (out1 : Buf (Elt F) ((c : Thread nD τ).loc cc0_scratch0)), { out2 : Buf (Elt F) ((c : Thread nD τ).loc cc0_scratch1) //
      ∀ K : PUnit → sProp 𝕄,
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (∃ f, arg9.view.loc (c : Thread nD τ) ↦[arg9.view.set]{fullShare} f)
          ∗ (scM0.view.loc (c : Thread nD τ) ↦{fullShare} X0)
          ∗ (scM1.view.loc (c : Thread nD τ) ↦{fullShare} X1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (∃ f, arg9.view.loc (c : Thread nD τ) ↦[arg9.view.set]{fullShare} arg9.view.writes (Elt F) f out0)
          ∗ (scM0.view.loc (c : Thread nD τ) ↦{fullShare} out1)
          ∗ (scM1.view.loc (c : Thread nD τ) ↦{fullShare} out2)) -∗ K ⟨⟩))
          ⊢ wp frame (wpE (defs₀ (F := F)) Variants.none c none) Set.univ (segDiag0 i arg2 harg2 arg3 harg3 arg4 harg4 arg5 harg5 arg6 harg6 arg7 harg7 arg8 harg8 arg9 harg9 scM0 (Memref.isWhole_whole _) scM1 (Memref.isWhole_whole _)) K } :=
  ⟨_, _, _, fun K => by
    unfold segDiag0
    iintro ⟨H0, H1, H2, H3, H4, ⟨%f, HO⟩, HS0, HS1, Hk⟩
    have hS0 : scM0.IsWhole := Memref.isWhole_whole _
    have hS1 : scM1.IsWhole := Memref.isWhole_whole _
    sl_exec!
    sl_step
    iapply Hk
    isplitl [H0]; · iexact H0
    isplitl [H1]; · iexact H1
    isplitl [H2]; · iexact H2
    isplitl [H3]; · iexact H3
    isplitl [H4]; · iexact H4
    isplitl [HO]; · iexists _; iexact HO
    isplitl [HS0]; · iexact HS0
    iexact HS1⟩

set_option backward.proofsInPublic true in
set_option maxHeartbeats 8000000 in
/-- Running the masked update by the second 512 keys and the finish: what it leaves in the scratches and the output block, with the proof that it runs. -/
noncomputable def runDiag1 (c : Dev nD) (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole)
    (x0 : S1.Idx → Elt F .f32) (x1 : S512x512.Idx → Elt F .f32) (x2 x3 : S1024x512.Idx → Elt F .bf16) (x4 : S1x128.Idx → Elt F .f32) (X0 : Buf (Elt F) ((c : Thread nD τ).loc cc0_scratch0)) (X1 : Buf (Elt F) ((c : Thread nD τ).loc cc0_scratch1)) :
    Σ' (out0 : List (View.Piece (Elt F) S512x512 .bf16)) (out1 : Buf (Elt F) ((c : Thread nD τ).loc cc0_scratch0)), { out2 : Buf (Elt F) ((c : Thread nD τ).loc cc0_scratch1) //
      ∀ K : PUnit → sProp 𝕄,
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (∃ f, arg9.view.loc (c : Thread nD τ) ↦[arg9.view.set]{fullShare} f)
          ∗ (scM0.view.loc (c : Thread nD τ) ↦{fullShare} X0)
          ∗ (scM1.view.loc (c : Thread nD τ) ↦{fullShare} X1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (∃ f, arg9.view.loc (c : Thread nD τ) ↦[arg9.view.set]{fullShare} arg9.view.writes (Elt F) f out0)
          ∗ (scM0.view.loc (c : Thread nD τ) ↦{fullShare} out1)
          ∗ (scM1.view.loc (c : Thread nD τ) ↦{fullShare} out2)) -∗ K ⟨⟩))
          ⊢ wp frame (wpE (defs₀ (F := F)) Variants.none c none) Set.univ (segDiag1 i arg2 harg2 arg3 harg3 arg4 harg4 arg5 harg5 arg6 harg6 arg7 harg7 arg8 harg8 arg9 harg9 scM0 (Memref.isWhole_whole _) scM1 (Memref.isWhole_whole _)) K } :=
  ⟨_, _, _, fun K => by
    unfold segDiag1
    iintro ⟨H0, H1, H2, H3, H4, ⟨%f, HO⟩, HS0, HS1, Hk⟩
    have hS0 : scM0.IsWhole := Memref.isWhole_whole _
    have hS1 : scM1.IsWhole := Memref.isWhole_whole _
    sl_exec!
    sl_step
    iapply Hk
    isplitl [H0]; · iexact H0
    isplitl [H1]; · iexact H1
    isplitl [H2]; · iexact H2
    isplitl [H3]; · iexact H3
    isplitl [H4]; · iexact H4
    isplitl [HO]; · iexists _; iexact HO
    isplitl [HS0]; · iexact HS0
    iexact HS1⟩

end Cert.KernelIdeal.Attn
-- ==== Proof.Body.lean ====
/- The whole body of the attention call from its five parts. -/
module

public import proofs.«01_k».proof.Proof.Runs

@[expose] public section

set_option maxRecDepth 16384
set_option Elab.async false

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The reset under its condition: with the condition off nothing changes. -/
theorem wp_init (b : Prop) [Decidable b] (c : Dev nD) (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole)
     (X0 : Buf (Elt F) ((c : Thread nD τ).loc cc0_scratch0)) (X1 : Buf (Elt F) ((c : Thread nD τ).loc cc0_scratch1)) (k : PUnit → Prog (TpuEff nD τ sig (Elt F) Λ₀ .tc) PUnit) (K : PUnit → sProp 𝕄) :
    iprop((scM0.view.loc (c : Thread nD τ) ↦{fullShare} X0)
          ∗ (scM1.view.loc (c : Thread nD τ) ↦{fullShare} X1)
          ∗ (iprop((scM0.view.loc (c : Thread nD τ) ↦{fullShare} (if b then (runInit c i arg2 harg2 arg3 harg3 arg4 harg4 arg5 harg5 arg6 harg6 arg7 harg7 arg8 harg8 arg9 harg9 X0 X1).1 else X0))
          ∗ (scM1.view.loc (c : Thread nD τ) ↦{fullShare} (if b then (runInit c i arg2 harg2 arg3 harg3 arg4 harg4 arg5 harg5 arg6 harg6 arg7 harg7 arg8 harg8 arg9 harg9 X0 X1).2.1 else X1))) -∗ wp frame (wpE (defs₀ (F := F)) Variants.none c none) Set.univ (k ⟨⟩) K))
      ⊢ wp frame (wpE (defs₀ (F := F)) Variants.none c none) Set.univ (if b then segInit i arg2 harg2 arg3 harg3 arg4 harg4 arg5 harg5 arg6 harg6 arg7 harg7 arg8 harg8 arg9 harg9 scM0 (Memref.isWhole_whole _) scM1 (Memref.isWhole_whole _) >>= k else k ⟨⟩) K := by
  by_cases h : b
  · rw [if_pos h, if_pos h, if_pos h]
    rw [wp_bind]
    exact (runInit c i arg2 harg2 arg3 harg3 arg4 harg4 arg5 harg5 arg6 harg6 arg7 harg7 arg8 harg8 arg9 harg9 X0 X1).2.2 (fun a => wp frame (wpE (defs₀ (F := F)) Variants.none c none) Set.univ (k a) K)
  · rw [if_neg h, if_neg h, if_neg h]
    iintro ⟨HS0, HS1, Hk⟩
    iapply Hk
    isplitl [HS0]; · iexact HS0
    iexact HS1

/-- The update by 1024 keys under its condition: with the condition off nothing changes. -/
theorem wp_full (b : Prop) [Decidable b] (c : Dev nD) (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole)
    (x1 : S512x512.Idx → Elt F .f32) (x2 x3 : S1024x512.Idx → Elt F .bf16) (X0 : Buf (Elt F) ((c : Thread nD τ).loc cc0_scratch0)) (X1 : Buf (Elt F) ((c : Thread nD τ).loc cc0_scratch1)) (k : PUnit → Prog (TpuEff nD τ sig (Elt F) Λ₀ .tc) PUnit) (K : PUnit → sProp 𝕄) :
    iprop((arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (scM0.view.loc (c : Thread nD τ) ↦{fullShare} X0)
          ∗ (scM1.view.loc (c : Thread nD τ) ↦{fullShare} X1)
          ∗ (iprop((arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (scM0.view.loc (c : Thread nD τ) ↦{fullShare} (if b then (runFull c i arg2 harg2 arg3 harg3 arg4 harg4 arg5 harg5 arg6 harg6 arg7 harg7 arg8 harg8 arg9 harg9 x1 x2 x3 X0 X1).1 else X0))
          ∗ (scM1.view.loc (c : Thread nD τ) ↦{fullShare} (if b then (runFull c i arg2 harg2 arg3 harg3 arg4 harg4 arg5 harg5 arg6 harg6 arg7 harg7 arg8 harg8 arg9 harg9 x1 x2 x3 X0 X1).2.1 else X1))) -∗ wp frame (wpE (defs₀ (F := F)) Variants.none c none) Set.univ (k ⟨⟩) K))
      ⊢ wp frame (wpE (defs₀ (F := F)) Variants.none c none) Set.univ (if b then segFull i arg2 harg2 arg3 harg3 arg4 harg4 arg5 harg5 arg6 harg6 arg7 harg7 arg8 harg8 arg9 harg9 scM0 (Memref.isWhole_whole _) scM1 (Memref.isWhole_whole _) >>= k else k ⟨⟩) K := by
  by_cases h : b
  · rw [if_pos h, if_pos h, if_pos h]
    rw [wp_bind]
    exact (runFull c i arg2 harg2 arg3 harg3 arg4 harg4 arg5 harg5 arg6 harg6 arg7 harg7 arg8 harg8 arg9 harg9 x1 x2 x3 X0 X1).2.2 (fun a => wp frame (wpE (defs₀ (F := F)) Variants.none c none) Set.univ (k a) K)
  · rw [if_neg h, if_neg h, if_neg h]
    iintro ⟨H1, H2, H3, HS0, HS1, Hk⟩
    iapply Hk
    isplitl [H1]; · iexact H1
    isplitl [H2]; · iexact H2
    isplitl [H3]; · iexact H3
    isplitl [HS0]; · iexact HS0
    iexact HS1

/-- The update by the first 512 keys under its condition: with the condition off nothing changes. -/
theorem wp_half (b : Prop) [Decidable b] (c : Dev nD) (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole)
    (x1 : S512x512.Idx → Elt F .f32) (x2 x3 : S1024x512.Idx → Elt F .bf16) (X0 : Buf (Elt F) ((c : Thread nD τ).loc cc0_scratch0)) (X1 : Buf (Elt F) ((c : Thread nD τ).loc cc0_scratch1)) (k : PUnit → Prog (TpuEff nD τ sig (Elt F) Λ₀ .tc) PUnit) (K : PUnit → sProp 𝕄) :
    iprop((arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (scM0.view.loc (c : Thread nD τ) ↦{fullShare} X0)
          ∗ (scM1.view.loc (c : Thread nD τ) ↦{fullShare} X1)
          ∗ (iprop((arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (scM0.view.loc (c : Thread nD τ) ↦{fullShare} (if b then (runHalf c i arg2 harg2 arg3 harg3 arg4 harg4 arg5 harg5 arg6 harg6 arg7 harg7 arg8 harg8 arg9 harg9 x1 x2 x3 X0 X1).1 else X0))
          ∗ (scM1.view.loc (c : Thread nD τ) ↦{fullShare} (if b then (runHalf c i arg2 harg2 arg3 harg3 arg4 harg4 arg5 harg5 arg6 harg6 arg7 harg7 arg8 harg8 arg9 harg9 x1 x2 x3 X0 X1).2.1 else X1))) -∗ wp frame (wpE (defs₀ (F := F)) Variants.none c none) Set.univ (k ⟨⟩) K))
      ⊢ wp frame (wpE (defs₀ (F := F)) Variants.none c none) Set.univ (if b then segHalf i arg2 harg2 arg3 harg3 arg4 harg4 arg5 harg5 arg6 harg6 arg7 harg7 arg8 harg8 arg9 harg9 scM0 (Memref.isWhole_whole _) scM1 (Memref.isWhole_whole _) >>= k else k ⟨⟩) K := by
  by_cases h : b
  · rw [if_pos h, if_pos h, if_pos h]
    rw [wp_bind]
    exact (runHalf c i arg2 harg2 arg3 harg3 arg4 harg4 arg5 harg5 arg6 harg6 arg7 harg7 arg8 harg8 arg9 harg9 x1 x2 x3 X0 X1).2.2 (fun a => wp frame (wpE (defs₀ (F := F)) Variants.none c none) Set.univ (k a) K)
  · rw [if_neg h, if_neg h, if_neg h]
    iintro ⟨H1, H2, H3, HS0, HS1, Hk⟩
    iapply Hk
    isplitl [H1]; · iexact H1
    isplitl [H2]; · iexact H2
    isplitl [H3]; · iexact H3
    isplitl [HS0]; · iexact HS0
    iexact HS1

/-- The masked update by the first 512 keys, with the finish, under its condition: with the condition off nothing changes. -/
theorem wp_diag0 (b : Prop) [Decidable b] (c : Dev nD) (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole)
    (x0 : S1.Idx → Elt F .f32) (x1 : S512x512.Idx → Elt F .f32) (x2 x3 : S1024x512.Idx → Elt F .bf16) (x4 : S1x128.Idx → Elt F .f32) (Q : arg9.view.ty.Contents (Elt F) → Prop) (X0 : Buf (Elt F) ((c : Thread nD τ).loc cc0_scratch0)) (X1 : Buf (Elt F) ((c : Thread nD τ).loc cc0_scratch1)) (k : PUnit → Prog (TpuEff nD τ sig (Elt F) Λ₀ .tc) PUnit) (K : PUnit → sProp 𝕄) :
    iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (∃ f, ⌜Q f⌝ ∗ arg9.view.loc (c : Thread nD τ) ↦[arg9.view.set]{fullShare} f)
          ∗ (scM0.view.loc (c : Thread nD τ) ↦{fullShare} X0)
          ∗ (scM1.view.loc (c : Thread nD τ) ↦{fullShare} X1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (∃ f, ⌜(b → ∃ f', f = arg9.view.writes (Elt F) f' (runDiag0 c i arg2 harg2 arg3 harg3 arg4 harg4 arg5 harg5 arg6 harg6 arg7 harg7 arg8 harg8 arg9 harg9 x0 x1 x2 x3 x4 X0 X1).1) ∧ (¬b → Q f)⌝ ∗ arg9.view.loc (c : Thread nD τ) ↦[arg9.view.set]{fullShare} f)
          ∗ (scM0.view.loc (c : Thread nD τ) ↦{fullShare} (if b then (runDiag0 c i arg2 harg2 arg3 harg3 arg4 harg4 arg5 harg5 arg6 harg6 arg7 harg7 arg8 harg8 arg9 harg9 x0 x1 x2 x3 x4 X0 X1).2.1 else X0))
          ∗ (scM1.view.loc (c : Thread nD τ) ↦{fullShare} (if b then (runDiag0 c i arg2 harg2 arg3 harg3 arg4 harg4 arg5 harg5 arg6 harg6 arg7 harg7 arg8 harg8 arg9 harg9 x0 x1 x2 x3 x4 X0 X1).2.2.1 else X1))) -∗ wp frame (wpE (defs₀ (F := F)) Variants.none c none) Set.univ (k ⟨⟩) K))
      ⊢ wp frame (wpE (defs₀ (F := F)) Variants.none c none) Set.univ (dite b (fun _ => segDiag0 i arg2 harg2 arg3 harg3 arg4 harg4 arg5 harg5 arg6 harg6 arg7 harg7 arg8 harg8 arg9 harg9 scM0 (Memref.isWhole_whole _) scM1 (Memref.isWhole_whole _) >>= k) (fun _ => k ⟨⟩)) K := by
  by_cases h : b
  · rw [if_pos h, if_pos h, dif_pos h, wp_bind]
    iintro ⟨H0, H1, H2, H3, H4, ⟨%f, %hq, HO⟩, HS0, HS1, Hk⟩
    iapply (runDiag0 c i arg2 harg2 arg3 harg3 arg4 harg4 arg5 harg5 arg6 harg6 arg7 harg7 arg8 harg8 arg9 harg9 x0 x1 x2 x3 x4 X0 X1).2.2.2 (fun a => wp frame (wpE (defs₀ (F := F)) Variants.none c none) Set.univ (k a) K)
    isplitl [H0]; · iexact H0
    isplitl [H1]; · iexact H1
    isplitl [H2]; · iexact H2
    isplitl [H3]; · iexact H3
    isplitl [H4]; · iexact H4
    isplitl [HO]; · iexists _; iexact HO
    isplitl [HS0]; · iexact HS0
    isplitl [HS1]; · iexact HS1
    iintro ⟨H0, H1, H2, H3, H4, ⟨%g, HO⟩, HS0, HS1⟩
    iapply Hk
    isplitl [H0]; · iexact H0
    isplitl [H1]; · iexact H1
    isplitl [H2]; · iexact H2
    isplitl [H3]; · iexact H3
    isplitl [H4]; · iexact H4
    isplitl [HO]
    · iexists _
      isplitr [HO]
      · ipureintro; exact ⟨fun _ => ⟨g, rfl⟩, fun hn => absurd h hn⟩
      · iexact HO
    isplitl [HS0]; · iexact HS0
    iexact HS1
  · rw [if_neg h, if_neg h, dif_neg h]
    iintro ⟨H0, H1, H2, H3, H4, ⟨%f, %hq, HO⟩, HS0, HS1, Hk⟩
    iapply Hk
    isplitl [H0]; · iexact H0
    isplitl [H1]; · iexact H1
    isplitl [H2]; · iexact H2
    isplitl [H3]; · iexact H3
    isplitl [H4]; · iexact H4
    isplitl [HO]
    · iexists _
      isplitr [HO]
      · ipureintro; exact ⟨fun hp => absurd hp h, fun _ => hq⟩
      · iexact HO
    isplitl [HS0]; · iexact HS0
    iexact HS1

/-- The masked update by the second 512 keys, with the finish, under its condition: with the condition off nothing changes. -/
theorem wp_diag1 (b : Prop) [Decidable b] (c : Dev nD) (i : grid0.Coords) (arg2 : Memref sig .tc .smem S20 .i32) (harg2 : arg2.IsWhole) (arg3 : Memref sig .tc .smem S20 .i32) (harg3 : arg3.IsWhole) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole)
    (x0 : S1.Idx → Elt F .f32) (x1 : S512x512.Idx → Elt F .f32) (x2 x3 : S1024x512.Idx → Elt F .bf16) (x4 : S1x128.Idx → Elt F .f32) (Q : arg9.view.ty.Contents (Elt F) → Prop) (X0 : Buf (Elt F) ((c : Thread nD τ).loc cc0_scratch0)) (X1 : Buf (Elt F) ((c : Thread nD τ).loc cc0_scratch1)) (k : PUnit → Prog (TpuEff nD τ sig (Elt F) Λ₀ .tc) PUnit) (K : PUnit → sProp 𝕄) :
    iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (∃ f, ⌜Q f⌝ ∗ arg9.view.loc (c : Thread nD τ) ↦[arg9.view.set]{fullShare} f)
          ∗ (scM0.view.loc (c : Thread nD τ) ↦{fullShare} X0)
          ∗ (scM1.view.loc (c : Thread nD τ) ↦{fullShare} X1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (∃ f, ⌜(b → ∃ f', f = arg9.view.writes (Elt F) f' (runDiag1 c i arg2 harg2 arg3 harg3 arg4 harg4 arg5 harg5 arg6 harg6 arg7 harg7 arg8 harg8 arg9 harg9 x0 x1 x2 x3 x4 X0 X1).1) ∧ (¬b → Q f)⌝ ∗ arg9.view.loc (c : Thread nD τ) ↦[arg9.view.set]{fullShare} f)
          ∗ (scM0.view.loc (c : Thread nD τ) ↦{fullShare} (if b then (runDiag1 c i arg2 harg2 arg3 harg3 arg4 harg4 arg5 harg5 arg6 harg6 arg7 harg7 arg8 harg8 arg9 harg9 x0 x1 x2 x3 x4 X0 X1).2.1 else X0))
          ∗ (scM1.view.loc (c : Thread nD τ) ↦{fullShare} (if b then (runDiag1 c i arg2 harg2 arg3 harg3 arg4 harg4 arg5 harg5 arg6 harg6 arg7 harg7 arg8 harg8 arg9 harg9 x0 x1 x2 x3 x4 X0 X1).2.2.1 else X1))) -∗ wp frame (wpE (defs₀ (F := F)) Variants.none c none) Set.univ (k ⟨⟩) K))
      ⊢ wp frame (wpE (defs₀ (F := F)) Variants.none c none) Set.univ (dite b (fun _ => segDiag1 i arg2 harg2 arg3 harg3 arg4 harg4 arg5 harg5 arg6 harg6 arg7 harg7 arg8 harg8 arg9 harg9 scM0 (Memref.isWhole_whole _) scM1 (Memref.isWhole_whole _) >>= k) (fun _ => k ⟨⟩)) K := by
  by_cases h : b
  · rw [if_pos h, if_pos h, dif_pos h, wp_bind]
    iintro ⟨H0, H1, H2, H3, H4, ⟨%f, %hq, HO⟩, HS0, HS1, Hk⟩
    iapply (runDiag1 c i arg2 harg2 arg3 harg3 arg4 harg4 arg5 harg5 arg6 harg6 arg7 harg7 arg8 harg8 arg9 harg9 x0 x1 x2 x3 x4 X0 X1).2.2.2 (fun a => wp frame (wpE (defs₀ (F := F)) Variants.none c none) Set.univ (k a) K)
    isplitl [H0]; · iexact H0
    isplitl [H1]; · iexact H1
    isplitl [H2]; · iexact H2
    isplitl [H3]; · iexact H3
    isplitl [H4]; · iexact H4
    isplitl [HO]; · iexists _; iexact HO
    isplitl [HS0]; · iexact HS0
    isplitl [HS1]; · iexact HS1
    iintro ⟨H0, H1, H2, H3, H4, ⟨%g, HO⟩, HS0, HS1⟩
    iapply Hk
    isplitl [H0]; · iexact H0
    isplitl [H1]; · iexact H1
    isplitl [H2]; · iexact H2
    isplitl [H3]; · iexact H3
    isplitl [H4]; · iexact H4
    isplitl [HO]
    · iexists _
      isplitr [HO]
      · ipureintro; exact ⟨fun _ => ⟨g, rfl⟩, fun hn => absurd h hn⟩
      · iexact HO
    isplitl [HS0]; · iexact HS0
    iexact HS1
  · rw [if_neg h, if_neg h, dif_neg h]
    iintro ⟨H0, H1, H2, H3, H4, ⟨%f, %hq, HO⟩, HS0, HS1, Hk⟩
    iapply Hk
    isplitl [H0]; · iexact H0
    isplitl [H1]; · iexact H1
    isplitl [H2]; · iexact H2
    isplitl [H3]; · iexact H3
    isplitl [H4]; · iexact H4
    isplitl [HO]
    · iexists _
      isplitr [HO]
      · ipureintro; exact ⟨fun hp => absurd hp h, fun _ => hq⟩
      · iexact HO
    isplitl [HS0]; · iexact HS0
    iexact HS1

/-- The first word of a table at the point: the query tile. -/
abbrev wq (i : grid0.Coords) (T0 : S20.Idx → Elt F .i32) : Elt F .i32 := (View.readAt (Elt F) (tbM0_0).view (Rect.unit (s := S20) (k0_off1 i) S1.size (k0_off1_inb i)).toLoadRect T0 (Shape.Idx.first (numel1_S1.symm ▸ Nat.one_pos)))
/-- The second word of a table at the point: the key block. -/
abbrev wk (i : grid0.Coords) (T1 : S20.Idx → Elt F .i32) : Elt F .i32 := (View.readAt (Elt F) (tbM0_1).view (Rect.unit (s := S20) (k0_off1 i) S1.size (k0_off1_inb i)).toLoadRect T1 (Shape.Idx.first (numel1_S1.symm ▸ Nat.one_pos)))
/-- The five conditions of the body, over the point's query tile `a` and key block `b`. -/
abbrev cnd0 (b : BitVec 32) : Prop := Scalar.cmpi .ne (Scalar.extui (Scalar.cmpi .eq b 0#32)) 0#32 = 1#1
abbrev cnd1 (a b : BitVec 32) : Prop := Scalar.cmpi .ne (Scalar.extui (Scalar.cmpi .slt (Scalar.subi (Scalar.addi (Scalar.muli b 2#32) 2#32) 1#32) a)) 0#32 = 1#1
abbrev cnd2 (a b : BitVec 32) : Prop := Scalar.cmpi .ne (Scalar.extui (Scalar.andi (Scalar.cmpi .sge (Scalar.subi (Scalar.addi (Scalar.muli b 2#32) 2#32) 1#32) a) (Scalar.cmpi .slt (Scalar.addi (Scalar.muli b 2#32) 0#32) a))) 0#32 = 1#1
abbrev cnd3 (a b : BitVec 32) : Prop := k0_cond4 a b = 1#1
abbrev cnd4 (a b : BitVec 32) : Prop := k0_cond5 a b = 1#1

/-- The scratches after each of the parts, from those before. -/
def st0 (b : Prop) [Decidable b] (c : Dev nD) (i : grid0.Coords) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (X : Buf (Elt F) ((c : Thread nD τ).loc cc0_scratch0) × Buf (Elt F) ((c : Thread nD τ).loc cc0_scratch1)) :
    Buf (Elt F) ((c : Thread nD τ).loc cc0_scratch0) × Buf (Elt F) ((c : Thread nD τ).loc cc0_scratch1) :=
  (if b then (runInit c i tbM0_0 (Memref.isWhole_whole _) tbM0_1 (Memref.isWhole_whole _) arg4 harg4 arg5 harg5 arg6 harg6 arg7 harg7 arg8 harg8 arg9 harg9  X.1 X.2).1 else X.1, if b then (runInit c i tbM0_0 (Memref.isWhole_whole _) tbM0_1 (Memref.isWhole_whole _) arg4 harg4 arg5 harg5 arg6 harg6 arg7 harg7 arg8 harg8 arg9 harg9  X.1 X.2).2.1 else X.2)
def st1 (b : Prop) [Decidable b] (c : Dev nD) (i : grid0.Coords) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (x1 : S512x512.Idx → Elt F .f32) (x2 x3 : S1024x512.Idx → Elt F .bf16) (X : Buf (Elt F) ((c : Thread nD τ).loc cc0_scratch0) × Buf (Elt F) ((c : Thread nD τ).loc cc0_scratch1)) :
    Buf (Elt F) ((c : Thread nD τ).loc cc0_scratch0) × Buf (Elt F) ((c : Thread nD τ).loc cc0_scratch1) :=
  (if b then (runFull c i tbM0_0 (Memref.isWhole_whole _) tbM0_1 (Memref.isWhole_whole _) arg4 harg4 arg5 harg5 arg6 harg6 arg7 harg7 arg8 harg8 arg9 harg9 x1 x2 x3 X.1 X.2).1 else X.1, if b then (runFull c i tbM0_0 (Memref.isWhole_whole _) tbM0_1 (Memref.isWhole_whole _) arg4 harg4 arg5 harg5 arg6 harg6 arg7 harg7 arg8 harg8 arg9 harg9 x1 x2 x3 X.1 X.2).2.1 else X.2)
def st2 (b : Prop) [Decidable b] (c : Dev nD) (i : grid0.Coords) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (x1 : S512x512.Idx → Elt F .f32) (x2 x3 : S1024x512.Idx → Elt F .bf16) (X : Buf (Elt F) ((c : Thread nD τ).loc cc0_scratch0) × Buf (Elt F) ((c : Thread nD τ).loc cc0_scratch1)) :
    Buf (Elt F) ((c : Thread nD τ).loc cc0_scratch0) × Buf (Elt F) ((c : Thread nD τ).loc cc0_scratch1) :=
  (if b then (runHalf c i tbM0_0 (Memref.isWhole_whole _) tbM0_1 (Memref.isWhole_whole _) arg4 harg4 arg5 harg5 arg6 harg6 arg7 harg7 arg8 harg8 arg9 harg9 x1 x2 x3 X.1 X.2).1 else X.1, if b then (runHalf c i tbM0_0 (Memref.isWhole_whole _) tbM0_1 (Memref.isWhole_whole _) arg4 harg4 arg5 harg5 arg6 harg6 arg7 harg7 arg8 harg8 arg9 harg9 x1 x2 x3 X.1 X.2).2.1 else X.2)
def st3 (b : Prop) [Decidable b] (c : Dev nD) (i : grid0.Coords) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (x0 : S1.Idx → Elt F .f32) (x1 : S512x512.Idx → Elt F .f32) (x2 x3 : S1024x512.Idx → Elt F .bf16) (x4 : S1x128.Idx → Elt F .f32) (X : Buf (Elt F) ((c : Thread nD τ).loc cc0_scratch0) × Buf (Elt F) ((c : Thread nD τ).loc cc0_scratch1)) :
    Buf (Elt F) ((c : Thread nD τ).loc cc0_scratch0) × Buf (Elt F) ((c : Thread nD τ).loc cc0_scratch1) :=
  (if b then (runDiag0 c i tbM0_0 (Memref.isWhole_whole _) tbM0_1 (Memref.isWhole_whole _) arg4 harg4 arg5 harg5 arg6 harg6 arg7 harg7 arg8 harg8 arg9 harg9 x0 x1 x2 x3 x4 X.1 X.2).2.1 else X.1, if b then (runDiag0 c i tbM0_0 (Memref.isWhole_whole _) tbM0_1 (Memref.isWhole_whole _) arg4 harg4 arg5 harg5 arg6 harg6 arg7 harg7 arg8 harg8 arg9 harg9 x0 x1 x2 x3 x4 X.1 X.2).2.2.1 else X.2)
def st4 (b : Prop) [Decidable b] (c : Dev nD) (i : grid0.Coords) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (x0 : S1.Idx → Elt F .f32) (x1 : S512x512.Idx → Elt F .f32) (x2 x3 : S1024x512.Idx → Elt F .bf16) (x4 : S1x128.Idx → Elt F .f32) (X : Buf (Elt F) ((c : Thread nD τ).loc cc0_scratch0) × Buf (Elt F) ((c : Thread nD τ).loc cc0_scratch1)) :
    Buf (Elt F) ((c : Thread nD τ).loc cc0_scratch0) × Buf (Elt F) ((c : Thread nD τ).loc cc0_scratch1) :=
  (if b then (runDiag1 c i tbM0_0 (Memref.isWhole_whole _) tbM0_1 (Memref.isWhole_whole _) arg4 harg4 arg5 harg5 arg6 harg6 arg7 harg7 arg8 harg8 arg9 harg9 x0 x1 x2 x3 x4 X.1 X.2).2.1 else X.1, if b then (runDiag1 c i tbM0_0 (Memref.isWhole_whole _) tbM0_1 (Memref.isWhole_whole _) arg4 harg4 arg5 harg5 arg6 harg6 arg7 harg7 arg8 harg8 arg9 harg9 x0 x1 x2 x3 x4 X.1 X.2).2.2.1 else X.2)
/-- The scratches before the diagonal parts. -/
def stMid (wa wb : BitVec 32) (c : Dev nD) (i : grid0.Coords) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (x1 : S512x512.Idx → Elt F .f32) (x2 x3 : S1024x512.Idx → Elt F .bf16) (X : Buf (Elt F) ((c : Thread nD τ).loc cc0_scratch0) × Buf (Elt F) ((c : Thread nD τ).loc cc0_scratch1)) : Buf (Elt F) ((c : Thread nD τ).loc cc0_scratch0) × Buf (Elt F) ((c : Thread nD τ).loc cc0_scratch1) :=
  st2 (cnd2 wa wb) c i arg4 harg4 arg5 harg5 arg6 harg6 arg7 harg7 arg8 harg8 arg9 harg9 x1 x2 x3 (st1 (cnd1 wa wb) c i arg4 harg4 arg5 harg5 arg6 harg6 arg7 harg7 arg8 harg8 arg9 harg9 x1 x2 x3 (st0 (cnd0 wb) c i arg4 harg4 arg5 harg5 arg6 harg6 arg7 harg7 arg8 harg8 arg9 harg9 X))
/-- The scratches after the first diagonal part. -/
def stD (wa wb : BitVec 32) (c : Dev nD) (i : grid0.Coords) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (x0 : S1.Idx → Elt F .f32) (x1 : S512x512.Idx → Elt F .f32) (x2 x3 : S1024x512.Idx → Elt F .bf16) (x4 : S1x128.Idx → Elt F .f32) (X : Buf (Elt F) ((c : Thread nD τ).loc cc0_scratch0) × Buf (Elt F) ((c : Thread nD τ).loc cc0_scratch1)) : Buf (Elt F) ((c : Thread nD τ).loc cc0_scratch0) × Buf (Elt F) ((c : Thread nD τ).loc cc0_scratch1) :=
  st3 (cnd3 wa wb) c i arg4 harg4 arg5 harg5 arg6 harg6 arg7 harg7 arg8 harg8 arg9 harg9 x0 x1 x2 x3 x4 (stMid wa wb c i arg4 harg4 arg5 harg5 arg6 harg6 arg7 harg7 arg8 harg8 arg9 harg9 x1 x2 x3 X)
/-- The scratches after the body. -/
def stEnd (wa wb : BitVec 32) (c : Dev nD) (i : grid0.Coords) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (x0 : S1.Idx → Elt F .f32) (x1 : S512x512.Idx → Elt F .f32) (x2 x3 : S1024x512.Idx → Elt F .bf16) (x4 : S1x128.Idx → Elt F .f32) (X : Buf (Elt F) ((c : Thread nD τ).loc cc0_scratch0) × Buf (Elt F) ((c : Thread nD τ).loc cc0_scratch1)) : Buf (Elt F) ((c : Thread nD τ).loc cc0_scratch0) × Buf (Elt F) ((c : Thread nD τ).loc cc0_scratch1) :=
  st4 (cnd4 wa wb) c i arg4 harg4 arg5 harg5 arg6 harg6 arg7 harg7 arg8 harg8 arg9 harg9 x0 x1 x2 x3 x4 (stD wa wb c i arg4 harg4 arg5 harg5 arg6 harg6 arg7 harg7 arg8 harg8 arg9 harg9 x0 x1 x2 x3 x4 X)
/-- What the output block's buffer holds after the first diagonal part. -/
def out0Ok (wa wb : BitVec 32) (c : Dev nD) (i : grid0.Coords) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (x0 : S1.Idx → Elt F .f32) (x1 : S512x512.Idx → Elt F .f32) (x2 x3 : S1024x512.Idx → Elt F .bf16) (x4 : S1x128.Idx → Elt F .f32) (X : Buf (Elt F) ((c : Thread nD τ).loc cc0_scratch0) × Buf (Elt F) ((c : Thread nD τ).loc cc0_scratch1)) (f : arg9.view.ty.Contents (Elt F)) : Prop :=
  (cnd3 wa wb → ∃ f', f = arg9.view.writes (Elt F) f' (runDiag0 c i tbM0_0 (Memref.isWhole_whole _) tbM0_1 (Memref.isWhole_whole _) arg4 harg4 arg5 harg5 arg6 harg6 arg7 harg7 arg8 harg8 arg9 harg9 x0 x1 x2 x3 x4 (stMid wa wb c i arg4 harg4 arg5 harg5 arg6 harg6 arg7 harg7 arg8 harg8 arg9 harg9 x1 x2 x3 X).1 (stMid wa wb c i arg4 harg4 arg5 harg5 arg6 harg6 arg7 harg7 arg8 harg8 arg9 harg9 x1 x2 x3 X).2).1) ∧ (¬ cnd3 wa wb → True)
/-- What the output block's buffer holds after the body, where one of the diagonal parts was run. -/
def outOk (wa wb : BitVec 32) (c : Dev nD) (i : grid0.Coords) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (x0 : S1.Idx → Elt F .f32) (x1 : S512x512.Idx → Elt F .f32) (x2 x3 : S1024x512.Idx → Elt F .bf16) (x4 : S1x128.Idx → Elt F .f32) (X : Buf (Elt F) ((c : Thread nD τ).loc cc0_scratch0) × Buf (Elt F) ((c : Thread nD τ).loc cc0_scratch1)) (f : arg9.view.ty.Contents (Elt F)) : Prop :=
  (cnd4 wa wb → ∃ f', f = arg9.view.writes (Elt F) f' (runDiag1 c i tbM0_0 (Memref.isWhole_whole _) tbM0_1 (Memref.isWhole_whole _) arg4 harg4 arg5 harg5 arg6 harg6 arg7 harg7 arg8 harg8 arg9 harg9 x0 x1 x2 x3 x4 (stD wa wb c i arg4 harg4 arg5 harg5 arg6 harg6 arg7 harg7 arg8 harg8 arg9 harg9 x0 x1 x2 x3 x4 X).1 (stD wa wb c i arg4 harg4 arg5 harg5 arg6 harg6 arg7 harg7 arg8 harg8 arg9 harg9 x0 x1 x2 x3 x4 X).2).1)
  ∧ (¬ cnd4 wa wb → out0Ok wa wb c i arg4 harg4 arg5 harg5 arg6 harg6 arg7 harg7 arg8 harg8 arg9 harg9 x0 x1 x2 x3 x4 X f)

set_option backward.proofsInPublic true in
set_option maxHeartbeats 8000000 in
/-- The body on whole staging buffers: the input blocks and the tables are left as they were, the scratches go from `X` to
    `stEnd … X`, and a diagonal part leaves its output block. -/
theorem body_run (c : Dev nD) (i : grid0.Coords) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole) (T0 T1 : S20.Idx → Elt F .i32)
    (x0 : S1.Idx → Elt F .f32) (x1 : S512x512.Idx → Elt F .f32) (x2 x3 : S1024x512.Idx → Elt F .bf16) (x4 : S1x128.Idx → Elt F .f32) (X : Buf (Elt F) ((c : Thread nD τ).loc cc0_scratch0) × Buf (Elt F) ((c : Thread nD τ).loc cc0_scratch1)) (K : PUnit → sProp 𝕄) :
    iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0.view.loc (c : Thread nD τ) ↦{fullShare} X.1)
          ∗ (scM1.view.loc (c : Thread nD τ) ↦{fullShare} X.2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ f, ⌜outOk (wq i T0) (wk i T1) c i arg4 harg4 arg5 harg5 arg6 harg6 arg7 harg7 arg8 harg8 arg9 harg9 x0 x1 x2 x3 x4 X f⌝ ∗ arg9.view.loc (c : Thread nD τ) ↦[arg9.view.set]{fullShare} f)
          ∗ (scM0.view.loc (c : Thread nD τ) ↦{fullShare} (stEnd (wq i T0) (wk i T1) c i arg4 harg4 arg5 harg5 arg6 harg6 arg7 harg7 arg8 harg8 arg9 harg9 x0 x1 x2 x3 x4 X).1)
          ∗ (scM1.view.loc (c : Thread nD τ) ↦{fullShare} (stEnd (wq i T0) (wk i T1) c i arg4 harg4 arg5 harg5 arg6 harg6 arg7 harg7 arg8 harg8 arg9 harg9 x0 x1 x2 x3 x4 X).2)) -∗ K ⟨⟩))
      ⊢ wp frame (wpE (defs₀ (F := F)) Variants.none c none) Set.univ (cc0_attn_prompt i tbM0_0 (Memref.isWhole_whole _) tbM0_1 (Memref.isWhole_whole _) arg4 harg4 arg5 harg5 arg6 harg6 arg7 harg7 arg8 harg8 arg9 harg9 scM0 (Memref.isWhole_whole _) scM1 (Memref.isWhole_whole _)) K := by
  rw [body_eq_segs]
  unfold bodySegs
  rw [wp_bind]
  unfold owns
  iintro ⟨H0, H1, H2, H3, H4, HT0, HT1, ⟨%d5, %f5, -, HO⟩, HS0, HS1, Hk⟩
  have hT0 : tbM0_0.IsWhole := Memref.isWhole_whole _
  have hT1 : tbM0_1.IsWhole := Memref.isWhole_whole _
  unfold smemLoad smemLoadElt
  sl_step
  sl_step
  rw [wp_bind]
  sl_step
  sl_step
  iapply (wp_init (cnd0 (wk i T1)) c i tbM0_0 (Memref.isWhole_whole _) tbM0_1 (Memref.isWhole_whole _) arg4 harg4 arg5 harg5 arg6 harg6 arg7 harg7 arg8 harg8 arg9 harg9  (X).1 (X).2 _ K)
  isplitl [HS0]; · iexact HS0
  isplitl [HS1]; · iexact HS1
  iintro ⟨HS0, HS1⟩
  iapply (wp_full (cnd1 (wq i T0) (wk i T1)) c i tbM0_0 (Memref.isWhole_whole _) tbM0_1 (Memref.isWhole_whole _) arg4 harg4 arg5 harg5 arg6 harg6 arg7 harg7 arg8 harg8 arg9 harg9 x1 x2 x3 (st0 (cnd0 (wk i T1)) c i arg4 harg4 arg5 harg5 arg6 harg6 arg7 harg7 arg8 harg8 arg9 harg9 X).1 (st0 (cnd0 (wk i T1)) c i arg4 harg4 arg5 harg5 arg6 harg6 arg7 harg7 arg8 harg8 arg9 harg9 X).2 _ K)
  isplitl [H1]; · iexact H1
  isplitl [H2]; · iexact H2
  isplitl [H3]; · iexact H3
  isplitl [HS0]; · iexact HS0
  isplitl [HS1]; · iexact HS1
  iintro ⟨H1, H2, H3, HS0, HS1⟩
  iapply (wp_half (cnd2 (wq i T0) (wk i T1)) c i tbM0_0 (Memref.isWhole_whole _) tbM0_1 (Memref.isWhole_whole _) arg4 harg4 arg5 harg5 arg6 harg6 arg7 harg7 arg8 harg8 arg9 harg9 x1 x2 x3 (st1 (cnd1 (wq i T0) (wk i T1)) c i arg4 harg4 arg5 harg5 arg6 harg6 arg7 harg7 arg8 harg8 arg9 harg9 x1 x2 x3 (st0 (cnd0 (wk i T1)) c i arg4 harg4 arg5 harg5 arg6 harg6 arg7 harg7 arg8 harg8 arg9 harg9 X)).1 (st1 (cnd1 (wq i T0) (wk i T1)) c i arg4 harg4 arg5 harg5 arg6 harg6 arg7 harg7 arg8 harg8 arg9 harg9 x1 x2 x3 (st0 (cnd0 (wk i T1)) c i arg4 harg4 arg5 harg5 arg6 harg6 arg7 harg7 arg8 harg8 arg9 harg9 X)).2 _ K)
  isplitl [H1]; · iexact H1
  isplitl [H2]; · iexact H2
  isplitl [H3]; · iexact H3
  isplitl [HS0]; · iexact HS0
  isplitl [HS1]; · iexact HS1
  iintro ⟨H1, H2, H3, HS0, HS1⟩
  iapply (wp_diag0 (cnd3 (wq i T0) (wk i T1)) c i tbM0_0 (Memref.isWhole_whole _) tbM0_1 (Memref.isWhole_whole _) arg4 harg4 arg5 harg5 arg6 harg6 arg7 harg7 arg8 harg8 arg9 harg9 x0 x1 x2 x3 x4 (fun _ => True) (stMid (wq i T0) (wk i T1) c i arg4 harg4 arg5 harg5 arg6 harg6 arg7 harg7 arg8 harg8 arg9 harg9 x1 x2 x3 X).1 (stMid (wq i T0) (wk i T1) c i arg4 harg4 arg5 harg5 arg6 harg6 arg7 harg7 arg8 harg8 arg9 harg9 x1 x2 x3 X).2 _ K)
  isplitl [H0]; · iexact H0
  isplitl [H1]; · iexact H1
  isplitl [H2]; · iexact H2
  isplitl [H3]; · iexact H3
  isplitl [H4]; · iexact H4
  isplitl [HO]
  · iexists _
    isplitr [HO]
    · ipureintro; exact trivial
    · iexact HO
  isplitl [HS0]; · iexact HS0
  isplitl [HS1]; · iexact HS1
  iintro ⟨H0, H1, H2, H3, H4, ⟨%f0, %hq, HO⟩, HS0, HS1⟩
  iapply (wp_diag1 (cnd4 (wq i T0) (wk i T1)) c i tbM0_0 (Memref.isWhole_whole _) tbM0_1 (Memref.isWhole_whole _) arg4 harg4 arg5 harg5 arg6 harg6 arg7 harg7 arg8 harg8 arg9 harg9 x0 x1 x2 x3 x4 (out0Ok (wq i T0) (wk i T1) c i arg4 harg4 arg5 harg5 arg6 harg6 arg7 harg7 arg8 harg8 arg9 harg9 x0 x1 x2 x3 x4 X) (stD (wq i T0) (wk i T1) c i arg4 harg4 arg5 harg5 arg6 harg6 arg7 harg7 arg8 harg8 arg9 harg9 x0 x1 x2 x3 x4 X).1 (stD (wq i T0) (wk i T1) c i arg4 harg4 arg5 harg5 arg6 harg6 arg7 harg7 arg8 harg8 arg9 harg9 x0 x1 x2 x3 x4 X).2 _ K)
  isplitl [H0]; · iexact H0
  isplitl [H1]; · iexact H1
  isplitl [H2]; · iexact H2
  isplitl [H3]; · iexact H3
  isplitl [H4]; · iexact H4
  isplitl [HO]
  · iexists _
    isplitr [HO]
    · ipureintro; exact hq
    · iexact HO
  isplitl [HS0]; · iexact HS0
  isplitl [HS1]; · iexact HS1
  iintro ⟨H0, H1, H2, H3, H4, ⟨%f1, %hq, HO⟩, HS0, HS1⟩
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]
  · iexists _
    isplitr [HO]
    · ipureintro; exact hq
    · iexact HO
  isplitl [HS0]; · iexact HS0
  iexact HS1

end Cert.KernelIdeal.Attn
-- ==== Proof.Tables.lean ====
/- The contents of the two prefetched tables and the pipeline's side condition of them. -/
module

public import proofs.«01_k».proof.Proof.Kit

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.Sem

variable {F : FTy → Type} [FloatOps F] [Named F]

variable (m : (ℓ : Loc nD τ sig) → Buf (Elt F) ℓ)

/-- The tables as literal contents: the query tile and the key block of each step of the second grid axis. -/
def tabs : pre0.Contents (Elt F) := fun
  | 0 => fun i => lit0 (S20.rowMajor i)
  | 1 => fun i => lit1 (S20.rowMajor i)

/-- The pipeline's side condition holds of the tables. -/
theorem ok_tabs : ok0 (F := F) tabs := by
  exact of_decide_eq_true (by sl_kernel_rfl)

theorem tbl_eq : tbl m = tabs := by
  funext j
  fin_cases j
  · show StableHlo.after hostOps0 (fun b => m ((0 : Dev nD), b)) main_c = _
    rfl
  · show StableHlo.after hostOps0 (fun b => m ((0 : Dev nD), b)) main_c_0 = _
    rfl
end Cert.KernelIdeal.Attn
-- ==== Proof.Track.lean ====
/- The run of the attention program: a property of the two scratches tracked from point to point. -/
module

public import proofs.«01_k».proof.Proof.Body
public import proofs.«01_k».proof.Proof.Tables
public import Idealize.ShloMosaic.Lib.Pipeline.TableIdle

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The tables as admissible contents, and the pipeline at them. -/
abbrev admT : (pcfg0 (F := F)).Adm := ⟨tabs, ok_tabs⟩
abbrev cfgT : Pipeline.Cfg sig Λ₀ := cfg0 (F := F) admT

/-- Window `w`'s block at point `t`, read off its array as the call finds it. -/
def blkT (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (V m c (Pipeline.arrRef spec0 w))

/-- The query tile and the key block of a point. -/
abbrev wqT (t : Fin (cfgT (F := F)).N) : BitVec 32 := wq (F := F) (grid0.coords t) (tabs 0)
abbrev wkT (t : Fin (cfgT (F := F)).N) : BitVec 32 := wk (F := F) (grid0.coords t) (tabs 1)

/-- The pair of scratch contents on core `c`. -/
abbrev Scr (c : Dev nD) : Type := Buf (Elt F) ((c : Thread nD τ).loc cc0_scratch0) × Buf (Elt F) ((c : Thread nD τ).loc cc0_scratch1)

/-- The scratches after the body at point `t`, from those before. -/
def stepT (c : Dev nD) (t : Fin (cfgT (F := F)).N) (X : Scr (F := F) c) : Scr (F := F) c :=
  stEnd (wqT t) (wkT t) c (grid0.coords t) (st0_0 (F := F) admT t) (hstage0_0 (((cfg0 (F := F) admT).slots t 0).cast nbuf0_0)) (st0_1 (F := F) admT t) (hstage0_1 (((cfg0 (F := F) admT).slots t 1).cast nbuf0_1)) (st0_2 (F := F) admT t) (hstage0_2 (((cfg0 (F := F) admT).slots t 2).cast nbuf0_2)) (st0_3 (F := F) admT t) (hstage0_3 (((cfg0 (F := F) admT).slots t 3).cast nbuf0_3)) (st0_4 (F := F) admT t) (hstage0_4 (((cfg0 (F := F) admT).slots t 4).cast nbuf0_4)) (st0_5 (F := F) admT t) (hstage0_5 (((cfg0 (F := F) admT).slots t 5).cast nbuf0_5)) (blkT m c 0 t) (blkT m c 1 t) (blkT m c 2 t) (blkT m c 3 t) (blkT m c 4 t) X
/-- What the output block's buffer holds after the body at point `t`. -/
def outT (c : Dev nD) (t : Fin (cfgT (F := F)).N) (X : Scr (F := F) c) (f : (st0_5 (F := F) admT t).view.ty.Contents (Elt F)) : Prop :=
  outOk (wqT t) (wkT t) c (grid0.coords t) (st0_0 (F := F) admT t) (hstage0_0 (((cfg0 (F := F) admT).slots t 0).cast nbuf0_0)) (st0_1 (F := F) admT t) (hstage0_1 (((cfg0 (F := F) admT).slots t 1).cast nbuf0_1)) (st0_2 (F := F) admT t) (hstage0_2 (((cfg0 (F := F) admT).slots t 2).cast nbuf0_2)) (st0_3 (F := F) admT t) (hstage0_3 (((cfg0 (F := F) admT).slots t 3).cast nbuf0_3)) (st0_4 (F := F) admT t) (hstage0_4 (((cfg0 (F := F) admT).slots t 4).cast nbuf0_4)) (st0_5 (F := F) admT t) (hstage0_5 (((cfg0 (F := F) admT).slots t 5).cast nbuf0_5)) (blkT m c 0 t) (blkT m c 1 t) (blkT m c 2 t) (blkT m c 3 t) (blkT m c 4 t) X f

/-- A property of the scratches before each point, and one of the output block each point leaves. -/
structure Track where
  Inv : (c : Dev nD) → Fin ((cfgT (F := F)).N + 1) → Scr (F := F) c → Prop
  Out : (c : Dev nD) → Fin (cfgT (F := F)).N → (S512x512.Idx → Elt F .bf16) → Prop
  init : ∀ c X, Inv c 0 X
  step : ∀ c t X, Inv c t.castSucc X → Inv c t.succ (stepT m c t X)
  out : ∀ c t X, Inv c t.castSucc X → ∀ f, outT m c t X f → Out c t ((st0_5 (F := F) admT t).view.read (Elt F) f)

variable {m} (tr : Track m)

/-- The relational proof data: inputs stay, the output block has the property, and the scratches are tracked. -/
def rdat (c : Dev nD) : RDat τ (Elt F) Unit ℕ (UR sig nD τ) ℕ (cfgT (F := F)) c where
  A w := V m c (Pipeline.arrRef spec0 w)
  after := fun
    | 0, _, Y, X => X = Y | 1, _, Y, X => X = Y | 2, _, Y, X => X = Y | 3, _, Y, X => X = Y | 4, _, Y, X => X = Y
    | 5, t, _, X => tr.Out c t X
    | ⟨_ + 6, h⟩, _, _, _ => absurd h (Nat.not_lt.2 (Nat.le_add_left _ _))
  Φ t := iprop(∃ X0 X1, ⌜tr.Inv c t (X0, X1)⌝ ∗ (scM0.view.loc (c : Thread nD τ) ↦{fullShare} X0) ∗ (scM1.view.loc (c : Thread nD τ) ↦{fullShare} X1)
    ∗ (∃ r, prngReg c r) ∗ tbPt0 c tbM0_0 (tabs 0) ∗ tbPt0 c tbM0_1 (tabs 1))
  q _ := fullShare
  owed _ := 0

theorem finds0 (c : Dev nD) (t : Fin (cfgT (F := F)).N) (Y) (h : (rdat tr c).Finds 0 t Y) : Y = blkT m c 0 t := by
  obtain ⟨d, hd⟩ := (rdat tr c).finds_in_eq_fetched 0 rfl (fun _ _ _ => rfl) (fun _ _ _ h => h) t Y h
  rw [hd]; rfl
theorem finds1 (c : Dev nD) (t : Fin (cfgT (F := F)).N) (Y) (h : (rdat tr c).Finds 1 t Y) : Y = blkT m c 1 t := by
  obtain ⟨d, hd⟩ := (rdat tr c).finds_in_eq_fetched 1 rfl (fun _ _ _ => rfl) (fun _ _ _ h => h) t Y h
  rw [hd]; rfl
theorem finds2 (c : Dev nD) (t : Fin (cfgT (F := F)).N) (Y) (h : (rdat tr c).Finds 2 t Y) : Y = blkT m c 2 t := by
  obtain ⟨d, hd⟩ := (rdat tr c).finds_in_eq_fetched 2 rfl (fun _ _ _ => rfl) (fun _ _ _ h => h) t Y h
  rw [hd]; rfl
theorem finds3 (c : Dev nD) (t : Fin (cfgT (F := F)).N) (Y) (h : (rdat tr c).Finds 3 t Y) : Y = blkT m c 3 t := by
  obtain ⟨d, hd⟩ := (rdat tr c).finds_in_eq_fetched 3 rfl (fun _ _ _ => rfl) (fun _ _ _ h => h) t Y h
  rw [hd]; rfl
theorem finds4 (c : Dev nD) (t : Fin (cfgT (F := F)).N) (Y) (h : (rdat tr c).Finds 4 t Y) : Y = blkT m c 4 t := by
  obtain ⟨d, hd⟩ := (rdat tr c).finds_in_eq_fetched 4 rfl (fun _ _ _ => rfl) (fun _ _ _ h => h) t Y h
  rw [hd]; rfl

set_option maxHeartbeats 4000000 in
/-- The body obligation at every point. -/
theorem body_obl (c : Dev nD) : (rdat tr c).BodyObligation (defs₀ (F := F)) Variants.none () Set.univ := fun t Y hY => by
  have h0 := finds0 tr c t _ (hY 0)
  have h1 := finds1 tr c t _ (hY 1)
  have h2 := finds2 tr c t _ (hY 2)
  have h3 := finds3 tr c t _ (hY 3)
  have h4 := finds4 tr c t _ (hY 4)
  rw [bigSep_W0, bigSep_W0]
  rewrite [h0, h1, h2, h3, h4, show (rdat tr c).owesAt () t.succ = (rdat tr c).owesAt () t.castSucc from rfl]
  show iprop((∃ X0 X1, ⌜tr.Inv c t.castSucc (X0, X1)⌝ ∗ (scM0.view.loc (c : Thread nD τ) ↦{fullShare} X0) ∗ (scM1.view.loc (c : Thread nD τ) ↦{fullShare} X1)
    ∗ (∃ r, prngReg c r) ∗ tbPt0 c tbM0_0 (tabs 0) ∗ tbPt0 c tbM0_1 (tabs 1)) ∗ _ ∗ _) ⊢ wp frame (wpE (defs₀ (F := F)) Variants.none c none) Set.univ
      (cc0_attn_prompt (grid0.coords t) tbM0_0 (Memref.isWhole_whole _) tbM0_1 (Memref.isWhole_whole _) (st0_0 (F := F) admT t) (hstage0_0 (((cfg0 (F := F) admT).slots t 0).cast nbuf0_0)) (st0_1 (F := F) admT t) (hstage0_1 (((cfg0 (F := F) admT).slots t 1).cast nbuf0_1)) (st0_2 (F := F) admT t) (hstage0_2 (((cfg0 (F := F) admT).slots t 2).cast nbuf0_2)) (st0_3 (F := F) admT t) (hstage0_3 (((cfg0 (F := F) admT).slots t 3).cast nbuf0_3)) (st0_4 (F := F) admT t) (hstage0_4 (((cfg0 (F := F) admT).slots t 4).cast nbuf0_4)) (st0_5 (F := F) admT t) (hstage0_5 (((cfg0 (F := F) admT).slots t 5).cast nbuf0_5)) scM0 (Memref.isWhole_whole _) scM1 (Memref.isWhole_whole _)) _
  iintro ⟨⟨%X0, %X1, %hI, HS0, HS1, Hp, HT0, HT1⟩, Ho, H0, H1, H2, H3, H4, H5⟩
  iapply (body_run c (grid0.coords t) (st0_0 (F := F) admT t) (hstage0_0 (((cfg0 (F := F) admT).slots t 0).cast nbuf0_0)) (st0_1 (F := F) admT t) (hstage0_1 (((cfg0 (F := F) admT).slots t 1).cast nbuf0_1)) (st0_2 (F := F) admT t) (hstage0_2 (((cfg0 (F := F) admT).slots t 2).cast nbuf0_2)) (st0_3 (F := F) admT t) (hstage0_3 (((cfg0 (F := F) admT).slots t 3).cast nbuf0_3)) (st0_4 (F := F) admT t) (hstage0_4 (((cfg0 (F := F) admT).slots t 4).cast nbuf0_4)) (st0_5 (F := F) admT t) (hstage0_5 (((cfg0 (F := F) admT).slots t 5).cast nbuf0_5)) (tabs 0) (tabs 1) (blkT m c 0 t) (blkT m c 1 t) (blkT m c 2 t) (blkT m c 3 t) (blkT m c 4 t) (X0, X1) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  isplitl [HS0]; · iexact HS0
  isplitl [HS1]; · iexact HS1
  iintro ⟨H0, H1, H2, H3, H4, HT0, HT1, ⟨%f, %hf, HO⟩, HS0, HS1⟩
  isplitl [HS0 HS1 Hp HT0 HT1]
  · unfold rdat
    iexists _
    iexists _
    isplitr
    · ipureintro; exact tr.step c t (X0, X1) hI
    isplitl [HS0]; · iexact HS0
    isplitl [HS1]; · iexact HS1
    isplitl [Hp]; · iexact Hp
    isplitl [HT0]; · iexact HT0
    iexact HT1
  isplitl [Ho]; · iexact Ho
  isplitl [H0]
  · iexists _
    isplitr
    · ipureintro; rfl
    iapply owns_of_rep; iexact H0
  isplitl [H1]
  · iexists _
    isplitr
    · ipureintro; rfl
    iapply owns_of_rep; iexact H1
  isplitl [H2]
  · iexists _
    isplitr
    · ipureintro; rfl
    iapply owns_of_rep; iexact H2
  isplitl [H3]
  · iexists _
    isplitr
    · ipureintro; rfl
    iapply owns_of_rep; iexact H3
  isplitl [H4]
  · iexists _
    isplitr
    · ipureintro; rfl
    iapply owns_of_rep; iexact H4
  iexists _
  isplitr
  · ipureintro; exact tr.out c t (X0, X1) hI f hf
  unfold owns; iexists _
  isplitr
  · ipureintro; rfl
  iexact HO

/-- The run of the program at any tracked property: every output array stands in the relation to its entry contents, every
    other array is unchanged, and no semaphore counter is left over. -/
theorem run_main : θ_run defs (onTc (τ := τ) (main (F := F))) (s₀ m ρ) (fun r => RDat.FramePost (cfgT (F := F)) (rdat tr) (V m) r ∧ r.2.sem = fun _ => 0) :=
  RDat.θ_run_frameP_track pcfgs (fun _ => admT) 0 launch0 defs₀ Variants.none (rdat tr) m ρ main
    (hbody := body_obl tr) (hshare := fun c w => by first | rfl | (fin_cases w <;> rfl)) (howed := fun _ _ => rfl) (V := V m) (hmain := hmain m Variants.none) (hA := fun _ _ => rfl)
    (hpf := fun c k => (V_pre m c k).trans (congrFun (tbl_eq m) k))
    (hin := fun c => by
      unfold Pipeline.ΦA
      rw [show (Pipeline.ΦT (pcfgs (F := F) 0).pre admT.1 c : sProp 𝕄) = Pipeline.ΦT pre0 tabs c from rfl, ← tbl_eq m, PhiT0_eq m c, tbl_eq m]
      rw [show (Pipeline.scopedRest (Ix := Unit) (Name := ℕ) (U := UR sig nD τ) (Lvl := ℕ) (Val := Elt F) (cfgT (F := F)).spec c : sProp 𝕄) = Pipeline.scopedRest spec0 c from rfl, scopedRest0_eq]
      show _ ⊢ iprop(∃ X0 X1, ⌜tr.Inv c 0 (X0, X1)⌝ ∗ (scM0.view.loc (c : Thread nD τ) ↦{fullShare} X0) ∗ (scM1.view.loc (c : Thread nD τ) ↦{fullShare} X1)
        ∗ (∃ r, prngReg c r) ∗ tbPt0 c tbM0_0 (tabs 0) ∗ tbPt0 c tbM0_1 (tabs 1))
      iintro ⟨⟨⟨⟨%X0, HS0⟩, ⟨%X1, HS1⟩⟩, Hp⟩, HT0, HT1⟩
      iexists X0
      iexists X1
      isplitr
      · ipureintro; exact tr.init c _
      isplitl [HS0]; · iexact HS0
      isplitl [HS1]; · iexact HS1
      isplitl [Hp]; · iexact Hp
      isplitl [HT0]; · iexact HT0
      iexact HT1)
    (hout := fun c => by
      unfold Pipeline.ΦA
      rw [show (Pipeline.scopedRest (Ix := Unit) (Name := ℕ) (U := UR sig nD τ) (Lvl := ℕ) (Val := Elt F) (cfgT (F := F)).spec c : sProp 𝕄) = Pipeline.scopedRest spec0 c from rfl, scopedRest0_eq]
      show iprop(∃ X0 X1, ⌜tr.Inv c _ (X0, X1)⌝ ∗ (scM0.view.loc (c : Thread nD τ) ↦{fullShare} X0) ∗ (scM1.view.loc (c : Thread nD τ) ↦{fullShare} X1)
        ∗ (∃ r, prngReg c r) ∗ tbPt0 c tbM0_0 (tabs 0) ∗ tbPt0 c tbM0_1 (tabs 1)) ⊢ _
      iintro ⟨%X0, %X1, %hI, HS0, HS1, Hp, HT0, HT1⟩
      isplitl [HS0 HS1]
      · isplitl [HS0]
        · iexists X0; iexact HS0
        · iexists X1; iexact HS1
      · iexact Hp) (fun r => RDat.FramePost (cfgT (F := F)) (rdat tr) (V m) r ∧ r.2.sem = fun _ => 0) (fun _ h => h)

/-- Nothing tracked. -/
def noTrack : Track m where
  Inv _ _ _ := True
  Out _ _ _ := True
  init _ _ := trivial
  step _ _ _ _ := trivial
  out _ _ _ _ _ _ := trivial

variable (m)

/-- Every launch ends with the arguments unchanged and no semaphore counter left over. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c)⟩, h.2⟩) (run_main ρ (noTrack (m := m)))

end Cert.KernelIdeal.Attn
-- ==== Proof.Same.lean ====
/- The frame of the program over the bits: it is the idealized program's, whose constants read by name are read as bits. -/
module

public import proofs.«01_k».proof.Defs
public import proofs.«01_k».proof.Proof.Track
public import proofs.«01_k».proof.Proof.Gen.Kernel

@[expose] public section

set_option maxRecDepth 65536

namespace Cert.KernelIdeal.Attn

open Idealize.ShloMosaic Idealize.SL.Sem

/-- Over the bits a named constant is its bit pattern. -/
instance bitsNamed : Named Bits := ⟨fun _ _ {φ} b => Scalar.ofBits φ b⟩

set_option maxHeartbeats 8000000 in
/-- The body over the bits is the idealized body with its named constants read as bits. -/
theorem body_eq : Cert.Kernel.cc0_attn_prompt (F := Bits) = Cert.KernelIdeal.cc0_attn_prompt (F := Bits) := by
  unfold Cert.Kernel.cc0_attn_prompt Cert.KernelIdeal.cc0_attn_prompt
  rfl

/-- The bodies called are the same. -/
theorem defs₀_eq : Cert.Kernel.defs₀ (F := Bits) = Cert.KernelIdeal.defs₀ (F := Bits) := by
  unfold Cert.Kernel.defs₀ Cert.KernelIdeal.defs₀
  rw [body_eq]
  refine congrArg Defs.onTc (funext fun l => funext fun x => ?_)
  match l, x with
  | 0, (t, s) => rfl

set_option maxHeartbeats 4000000 in
/-- The programs define the same procedures. -/
theorem defs_eq : Cert.Kernel.defs (F := Bits) = Cert.KernelIdeal.defs (F := Bits) :=
  congrArg (Pipeline.defs (Cert.Kernel.pcfgs (F := Bits))) defs₀_eq

set_option maxHeartbeats 4000000 in
/-- The two programs' text is the same. -/
theorem main_eq : Cert.Kernel.main (F := Bits) = Cert.KernelIdeal.main (F := Bits) := rfl

set_option maxHeartbeats 8000000 in
/-- Every launch of the program over the bits ends with the arguments unchanged and no semaphore counter left over. -/
theorem frame_bits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  have h := frame_run (F := Bits) m g
  rw [defs_eq, main_eq]
  exact h

end Cert.KernelIdeal.Attn
-- ==== Proof.Math.lean ====
/- The arithmetic of a running softmax on the extended reals. -/
module

public import proofs.«01_k».proof.Proof.Kit

@[expose] public section

set_option maxRecDepth 16384

noncomputable section

namespace Cert.KernelIdeal.Attn

open Idealize.ShloMosaic

/-- The maximum of the first `n` scores. -/
def mx (s : ℕ → EReal) (n : ℕ) : EReal := (Finset.range n).sup s

/-- The sum of the first `n` values, each weighted by two to the power of its score less the maximum. -/
def ac (s va : ℕ → EReal) (n : ℕ) : EReal :=
  ∑ k ∈ Finset.range n, Ideal.exp2 (s k - mx s n) * va k

theorem exp2_coe (r : ℝ) : Ideal.exp2 (r : EReal) = (((2 : ℝ) ^ r : ℝ) : EReal) := rfl
theorem exp2_bot : Ideal.exp2 ⊥ = 0 := rfl
theorem exp_coe (r : ℝ) : Ideal.exp (r : EReal) = ((Real.exp r : ℝ) : EReal) := rfl
theorem exp_bot : Ideal.exp ⊥ = 0 := rfl

/-- Weights against a smaller maximum are brought to a larger one by one factor. -/
theorem exp2_mul {s a b : EReal} (h1 : s ≤ a) (h2 : a ≤ b) :
    Ideal.exp2 (s - a) * Ideal.exp2 (a - b) = Ideal.exp2 (s - b) := by
  induction b using EReal.rec with
  | bot =>
    obtain rfl := le_bot_iff.mp h2
    obtain rfl := le_bot_iff.mp h1
    simp [exp2_bot]
  | top =>
    have e (x : EReal) : x - ⊤ = ⊥ := by rw [sub_eq_add_neg]; simp
    rw [e, e, exp2_bot, mul_zero]
  | coe b =>
    induction a using EReal.rec with
    | bot =>
      obtain rfl := le_bot_iff.mp h1
      simp [exp2_bot]
    | top => simp at h2
    | coe a =>
      induction s using EReal.rec with
      | bot => simp [exp2_bot]
      | top => simp at h1
      | coe s =>
        rw [← EReal.coe_sub, ← EReal.coe_sub, ← EReal.coe_sub, exp2_coe, exp2_coe, exp2_coe, ← EReal.coe_mul,
          ← Real.rpow_add (by norm_num)]
        congr 2; ring

/-- A weight against a larger maximum is a nonnegative real. -/
theorem exp2_real {s a : EReal} (h : s ≤ a) : ∃ r : ℝ, 0 ≤ r ∧ Ideal.exp2 (s - a) = r := by
  induction a using EReal.rec with
  | bot =>
    obtain rfl := le_bot_iff.mp h
    exact ⟨0, le_rfl, by simp [exp2_bot]⟩
  | top => exact ⟨0, le_rfl, by rw [sub_eq_add_neg]; simp [exp2_bot]⟩
  | coe a =>
    induction s using EReal.rec with
    | bot => exact ⟨0, le_rfl, by simp [exp2_bot]⟩
    | top => simp at h
    | coe s => exact ⟨(2 : ℝ) ^ (s - a), by positivity, by rw [← EReal.coe_sub, exp2_coe]⟩

/-- A nonnegative real factor distributes over a sum of extended reals. -/
theorem coe_mul_add {r : ℝ} (h : 0 ≤ r) (x y : EReal) : (r : EReal) * (x + y) = r * x + r * y :=
  EReal.left_distrib_of_nonneg_of_ne_top (by exact_mod_cast h) (EReal.coe_ne_top r) x y

/-- A nonnegative real factor distributes over a finite sum of extended reals. -/
theorem coe_mul_sum {ι : Type} {r : ℝ} (h : 0 ≤ r) (S : Finset ι) (f : ι → EReal) :
    (r : EReal) * ∑ i ∈ S, f i = ∑ i ∈ S, (r : EReal) * f i := by
  classical
  induction S using Finset.induction_on with
  | empty => simp
  | insert a S ha ih => rw [Finset.sum_insert ha, Finset.sum_insert ha, coe_mul_add h, ih]

theorem le_mx (s : ℕ → EReal) {k n : ℕ} (h : k < n) : s k ≤ mx s n :=
  Finset.le_sup (f := s) (Finset.mem_range.mpr h)

theorem mx_mono (s : ℕ → EReal) {n n' : ℕ} (h : n ≤ n') : mx s n ≤ mx s n' :=
  Finset.sup_mono (Finset.range_mono h)

theorem mx_zero (s : ℕ → EReal) : mx s 0 = ⊥ := rfl
theorem ac_zero (s va : ℕ → EReal) : ac s va 0 = 0 := rfl

/-- The maximum after `N` more scores. -/
theorem mx_add (s : ℕ → EReal) (n N : ℕ) :
    mx s (n + N) = max (mx s n) (Finset.univ.sup fun j : Fin N => s (n + j)) := by
  apply le_antisymm
  · refine Finset.sup_le fun k hk => ?_
    rw [Finset.mem_range] at hk
    by_cases h : k < n
    · exact le_max_of_le_left (le_mx s h)
    · refine le_max_of_le_right ?_
      have e : k = n + ((⟨k - n, by omega⟩ : Fin N) : ℕ) := by simp; omega
      rw [e]
      exact Finset.le_sup (f := fun j : Fin N => s (n + j)) (Finset.mem_univ _)
  · refine max_le (mx_mono s (by omega)) (Finset.sup_le fun j _ => le_mx s (by omega))

/-- The weighted sum after `N` more scores. -/
theorem ac_add (s va : ℕ → EReal) (n N : ℕ) :
    ac s va (n + N) = Ideal.exp2 (mx s n - mx s (n + N)) * ac s va n
      + ∑ j : Fin N, Ideal.exp2 (s (n + j) - mx s (n + N)) * va (n + j) := by
  have h := mx_mono s (Nat.le_add_right n N)
  obtain ⟨r, hr, e⟩ := exp2_real h
  rw [ac, Finset.sum_range_add, ac, e, coe_mul_sum hr, Finset.sum_range (n := N)]
  congr 1
  refine Finset.sum_congr rfl fun k hk => ?_
  rw [← mul_assoc, ← e, mul_comm (Ideal.exp2 (mx s n - _)), exp2_mul (le_mx s (Finset.mem_range.mp hk)) h]

/-- Scores that are all the least value add nothing to the maximum. -/
theorem mx_ext (s : ℕ → EReal) {n n' : ℕ} (h : n ≤ n') (hs : ∀ k, n ≤ k → k < n' → s k = ⊥) : mx s n' = mx s n := by
  refine le_antisymm (Finset.sup_le fun k hk' => ?_) (mx_mono s h)
  by_cases hk : k < n
  · exact le_mx s hk
  · rw [hs k (by omega) (Finset.mem_range.mp hk')]; exact bot_le

/-- Scores that are all the least value add nothing to the weighted sum. -/
theorem ac_ext (s va : ℕ → EReal) {n n' : ℕ} (h : n ≤ n') (hs : ∀ k, n ≤ k → k < n' → s k = ⊥) :
    ac s va n' = ac s va n := by
  rw [ac, ac, mx_ext s h hs]
  symm
  refine Finset.sum_subset (Finset.range_mono h) fun k hk' hk => ?_
  rw [hs k (by simpa using hk) (Finset.mem_range.mp hk'), sub_eq_add_neg, EReal.bot_add, exp2_bot, zero_mul]

/-- A positive real factor commutes with the maximum. -/
theorem mx_mul {κ : ℝ} (hκ : 0 < κ) (t : ℕ → EReal) {n : ℕ} (hn : n ≠ 0) :
    mx (fun k => (κ : EReal) * t k) n = κ * mx t n := by
  have hm : Monotone fun x : EReal => (κ : EReal) * x := fun x y hxy =>
    mul_le_mul_of_nonneg_left hxy (by exact_mod_cast hκ.le)
  unfold mx
  rw [← Finset.sup'_eq_sup ⟨0, by simpa using Nat.pos_of_ne_zero hn⟩,
    ← Finset.sup'_eq_sup ⟨0, by simpa using Nat.pos_of_ne_zero hn⟩]
  exact (Finset.comp_sup'_eq_sup'_comp _ (fun x : EReal => (κ : EReal) * x) fun x y => hm.map_sup x y).symm

/-- Two to a power scaled by the reciprocal of the logarithm of two is the exponential. -/
theorem exp2_scale {x y : EReal} (h : x ≤ y) :
    Ideal.exp2 ((((Real.log 2)⁻¹ : ℝ) : EReal) * x - (((Real.log 2)⁻¹ : ℝ) : EReal) * y) = Ideal.exp (x - y) := by
  have hl : 0 < Real.log 2 := Real.log_pos (by norm_num)
  have hκ : 0 < (Real.log 2)⁻¹ := inv_pos.mpr hl
  induction y using EReal.rec with
  | bot =>
    obtain rfl := le_bot_iff.mp h
    rw [EReal.coe_mul_bot_of_pos hκ]; simp [exp2_bot, exp_bot]
  | top =>
    have e (x : EReal) : x - ⊤ = ⊥ := by rw [sub_eq_add_neg]; simp
    rw [EReal.coe_mul_top_of_pos hκ, e, e, exp2_bot, exp_bot]
  | coe y =>
    induction x using EReal.rec with
    | bot => rw [EReal.coe_mul_bot_of_pos hκ]; simp [exp2_bot, exp_bot]
    | top => simp at h
    | coe x =>
      rw [← EReal.coe_mul, ← EReal.coe_mul, ← EReal.coe_sub, ← EReal.coe_sub, exp2_coe, exp_coe,
        Real.rpow_def_of_pos (by norm_num)]
      congr 2
      field_simp

/-- An exponential weight is a nonnegative real. -/
theorem exp_real {s a : EReal} (h : s ≤ a) : ∃ r : ℝ, 0 ≤ r ∧ Ideal.exp (s - a) = r := by
  obtain ⟨r, hr, e⟩ := exp2_real (s := (((Real.log 2)⁻¹ : ℝ) : EReal) * s) (a := (((Real.log 2)⁻¹ : ℝ) : EReal) * a)
    (mul_le_mul_of_nonneg_left h (by
      have hl : 0 < Real.log 2 := Real.log_pos (by norm_num)
      exact_mod_cast (inv_pos.mpr hl).le))
  exact ⟨r, hr, by rw [← e, exp2_scale h]⟩

theorem div_coe {a b : ℝ} (hb : b ≠ 0) : Ideal.div (a : EReal) (b : EReal) = ((a / b : ℝ) : EReal) := by
  have hb' : (b : EReal) ≠ 0 := by exact_mod_cast hb
  rw [Ideal.div, if_neg hb', ← EReal.coe_inv, ← EReal.coe_mul, div_eq_mul_inv]

theorem div_zero_zero : Ideal.div 0 0 = ⊥ := by simp [Ideal.div]

/-- The mean of the squares of a row of 128 lanes. -/
def msq (o : Fin 128 → EReal) : EReal := Ideal.div (∑ e, o e * o e) ((128 : ℝ) : EReal)

/-- An infinite summand makes a sum of nonnegative extended reals infinite. -/
theorem sum_top {ι : Type} [Fintype ι] (f : ι → EReal) (h0 : ∀ i, 0 ≤ f i) (i : ι) (hi : f i = ⊤) :
    ∑ i, f i = ⊤ := by
  refine top_le_iff.mp ?_
  rw [← hi]
  exact Finset.single_le_sum (f := f) (fun i _ => h0 i) (Finset.mem_univ i)

/-- A row whose lanes are all zero or infinite is zero once scaled by its reciprocal root mean square. -/
theorem norm_degenerate (o : Fin 128 → EReal) (ε : ℝ) (h : ∀ e, o e = 0 ∨ o e = ⊤ ∨ o e = ⊥) (e : Fin 128) :
    o e * Ideal.rsqrt (msq o + ε) = 0 := by
  by_cases h0 : ∀ e, o e = 0
  · rw [h0, zero_mul]
  · push Not at h0
    obtain ⟨e', he'⟩ := h0
    have hsq : ∑ e, o e * o e = ⊤ := by
      refine sum_top _ (fun i => ?_) e' ?_
      · rcases h i with h | h | h <;> rw [h] <;> simp
      · rcases h e' with h | h | h
        · exact absurd h he'
        · rw [h]; rfl
        · rw [h]; rfl
    have : msq o + ε = ⊤ := by
      rw [msq, hsq, Ideal.div, if_neg (by norm_num), ← EReal.coe_inv, EReal.top_mul_coe_of_pos (by norm_num)]
      exact EReal.top_add_coe ε
    rw [this, show Ideal.rsqrt ⊤ = 0 from rfl, mul_zero]

/-- A sum of zero or infinite summands is zero or infinite. -/
theorem sum_degenerate {ι : Type} (S : Finset ι) (f : ι → EReal) (h : ∀ i, f i = 0 ∨ f i = ⊤ ∨ f i = ⊥) :
    ∑ i ∈ S, f i = 0 ∨ ∑ i ∈ S, f i = ⊤ ∨ ∑ i ∈ S, f i = ⊥ := by
  classical
  induction S using Finset.induction_on with
  | empty => simp
  | insert a S ha ih =>
    rw [Finset.sum_insert ha]
    rcases h a with h | h | h <;> rcases ih with i | i | i <;> rw [h, i] <;> simp

theorem inf_mul_coe {x : EReal} (hx : x = ⊤ ∨ x = ⊥) (r : ℝ) : x * r = 0 ∨ x * r = ⊤ ∨ x * r = ⊥ := by
  rcases lt_trichotomy r 0 with h | h | h
  · rcases hx with rfl | rfl
    · rw [EReal.top_mul_coe_of_neg h]; simp
    · rw [EReal.bot_mul_coe_of_neg h]; simp
  · rw [h]; simp
  · rcases hx with rfl | rfl
    · rw [EReal.top_mul_coe_of_pos h]; simp
    · rw [EReal.bot_mul_coe_of_pos h]; simp

theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The difference of two maps: normalising the weighted sums is weighting by the normalised maps,
once the row is scaled by its reciprocal root mean square. -/
theorem row_eq {n : ℕ} (u w : Fin n → ℝ) (hu : ∀ k, 0 ≤ u k) (hw : ∀ k, 0 ≤ w k) (v : Fin n → Fin 128 → ℝ)
    (l ε : ℝ) (ok orf : Fin 128 → EReal)
    (hok : ∀ e, ok e = Ideal.div (∑ k, (u k : EReal) * v k e) (∑ k, (u k : EReal))
      - l * Ideal.div (∑ k, (w k : EReal) * v k e) (∑ k, (w k : EReal)))
    (horf : ∀ e, orf e = ∑ k, (Ideal.div (u k) (∑ k, (u k : EReal)) - l * Ideal.div (w k) (∑ k, (w k : EReal))) * v k e)
    (e : Fin 128) :
    ok e * Ideal.rsqrt (msq ok + ε) = orf e * Ideal.rsqrt (msq orf + ε) := by
  have hz (x : Fin n → ℝ) (hx : ∀ k, 0 ≤ x k) (h0 : ∑ k, x k = 0) (k : Fin n) : x k = 0 :=
    (Finset.sum_eq_zero_iff_of_nonneg fun k _ => hx k).mp h0 k (Finset.mem_univ k)
  simp only [coe_sum, ← EReal.coe_mul] at hok horf
  by_cases hU : ∑ k, u k = 0
  · have hu0 := hz u hu hU
    have e1 : ∀ e, ok e = ⊥ := fun e => by
      rw [hok, hU]
      simp only [hu0, zero_mul, Finset.sum_const_zero, EReal.coe_zero, div_zero_zero, sub_eq_add_neg, EReal.bot_add]
    have e2 : ∀ e, orf e = 0 ∨ orf e = ⊤ ∨ orf e = ⊥ := fun e => by
      rw [horf]
      refine sum_degenerate _ _ fun k => ?_
      rw [hU, hu0, EReal.coe_zero, div_zero_zero, sub_eq_add_neg, EReal.bot_add]
      exact inf_mul_coe (Or.inr rfl) _
    rw [norm_degenerate ok ε (fun e => Or.inr (Or.inr (e1 e))), norm_degenerate orf ε e2]
  · by_cases hW : ∑ k, w k = 0
    · have hw0 := hz w hw hW
      by_cases hl : l = 0
      · have : ok = orf := by
          funext e
          rw [hok, horf, hW, hl]
          simp only [EReal.coe_zero, zero_mul, sub_zero]
          rw [div_coe hU, Finset.sum_div, ← coe_sum]
          refine Finset.sum_congr rfl fun k _ => ?_
          rw [div_coe hU, ← EReal.coe_mul, div_mul_eq_mul_div]
        rw [this]
      · have hb : (l : EReal) * ⊥ = ⊤ ∨ (l : EReal) * ⊥ = ⊥ := by
          rcases lt_or_gt_of_ne hl with h | h
          · exact Or.inl (EReal.coe_mul_bot_of_neg h)
          · exact Or.inr (EReal.coe_mul_bot_of_pos h)
        have hs (r : ℝ) : (r : EReal) - l * ⊥ = ⊤ ∨ (r : EReal) - l * ⊥ = ⊥ := by
          rcases hb with h | h <;> rw [h] <;> simp
        have e1 : ∀ e, ok e = 0 ∨ ok e = ⊤ ∨ ok e = ⊥ := fun e => by
          rw [hok, hW, div_coe hU]
          simp only [hw0, zero_mul, Finset.sum_const_zero, EReal.coe_zero, div_zero_zero]
          exact Or.inr (hs _)
        have e2 : ∀ e, orf e = 0 ∨ orf e = ⊤ ∨ orf e = ⊥ := fun e => by
          rw [horf]
          refine sum_degenerate _ _ fun k => ?_
          rw [hW, hw0, EReal.coe_zero, div_zero_zero, div_coe hU]
          exact inf_mul_coe (hs _) _
        rw [norm_degenerate ok ε e1, norm_degenerate orf ε e2]
    · have : ok = orf := by
        funext e
        rw [hok, horf, div_coe hU, div_coe hW, ← EReal.coe_mul, ← EReal.coe_sub, Finset.sum_div, Finset.sum_div,
          Finset.mul_sum, ← Finset.sum_sub_distrib, ← coe_sum]
        refine Finset.sum_congr rfl fun k _ => ?_
        rw [div_coe hU, div_coe hW, ← EReal.coe_mul, ← EReal.coe_sub, ← EReal.coe_mul]
        congr 1
        ring
      rw [this]

end Cert.KernelIdeal.Attn
-- ==== Proof.Slab.lean ====
/- One head and map of the attention update, for any number of rows and keys: what it computes at each element. -/
module

public import proofs.«01_k».proof.Proof.Math
public import Idealize.ShloMosaic.Lib.MatmulPlain
public import Idealize.ShloMosaic.Lib.ValueLayout
public import Idealize.ShloMosaic.Lib.ValueLayoutCasts
public import Idealize.ShloMosaic.Lib.Pointwise.SelectCore
public import Idealize.ShloMosaic.PureOps.Ideal.Laws
public import Idealize.ShloMosaic.Lib.IdealHost
public import Idealize.ShloMosaic.Lib.Pipeline.Value

@[expose] public section

set_option maxRecDepth 16384

noncomputable section

namespace Cert.KernelIdeal.Attn

open Cert.KernelIdeal.Gen
open Idealize.ShloMosaic

variable {F : FTy → Type} [FloatOps F] [Named F]

abbrev T1 (a : ℕ) : Shape := ⟨1, ![a]⟩
abbrev T2 (a b : ℕ) : Shape := ⟨2, ![a, b]⟩
abbrev T3 (a b c : ℕ) : Shape := ⟨3, ![a, b, c]⟩

/-- The facts about shapes that one slab of `R` rows and `N` keys needs; `c` copies of 128 lanes make `N`. -/
structure SlabOk (R N c : ℕ) : Prop where
  cq : (T2 R 512).ShapeCasts (T2 R 512)
  ck : (T2 N 128).ShapeCasts (T2 N 128)
  c1 : (T3 1 R 128).ShapeCasts (T2 R 128)
  d1 : (T2 R 128).ShapeCasts (T3 1 R 128)
  c2 : (T3 1 R 256).ShapeCasts (T2 R 256)
  d2 : (T2 R 256).ShapeCasts (T3 1 R 256)
  red : (T2 R N).Reduces [1] (T1 R)
  ca : (T1 R).ShapeCasts (T2 R 1)
  br : (T2 R 1).Broadcasts (T2 R 128)
  io : (T2 R 128).Iotas .tc 32 [1]
  cN : Shape.Concatenates (List.replicate c (T2 R 128)) (T2 R N) 1
  cR : Shape.Concatenates (List.replicate 2 (T2 R 128)) (T2 R 256) 1
  cV : Shape.Concatenates [T2 N 128, T2 N 128] (T2 N 256) 1

/-- Copies of 128 lanes side by side. -/
def copies {α : Type} {R N : ℕ} (c : ℕ) (h : Shape.Concatenates (List.replicate c (T2 R 128)) (T2 R N) 1)
    (x : (T2 R 128).Idx → α) : (T2 R N).Idx → α :=
  concatenate (T2 R N) 1 (List.replicate c ⟨T2 R 128, x⟩) (by rw [List.map_replicate]; exact h)

/-- The lanes below 64. -/
def lowLanes {R : ℕ} (h : (T2 R 128).Iotas .tc 32 [1]) : IVec (T2 R 128) 1 :=
  cmpi .slt (iota .tc (T2 R 128) 32 [1] h) (broadcast (T2 R 128) 64#32)

/-- The scaled queries. -/
def slabQ {R : ℕ} (h : (T2 R 512).ShapeCasts (T2 R 512)) (q : FVec F (T2 R 512) .f32) : FVec F (T2 R 512) .bf16 :=
  truncf .bf16 (mulf (shapeCast (T2 R 512) q h) (broadcast (T2 R 512) (Named.named κ "scale" 0x3E38AA3B#32 : F .f32))) bitsLt_bf16_f32

/-- The scores of one map of one head: the other map's lanes of the queries are zero. -/
def slabS {R N c : ℕ} (f : SlabOk R N c) (b : Bool) (o : ℕ) (ho : (T2 R 512).Slices ![0, o] (T2 R 128))
    (q : FVec F (T2 R 512) .f32) (k : FVec F (T2 N 128) .bf16) : FVec F (T2 R N) .f32 :=
  matmul (DotDims.transposedRhs R 128 N) none
    (match b with
      | false => select (lowLanes f.io) (extractStridedSlice (T2 R 128) ![0, o] (slabQ f.cq q) ho)
          (broadcast (T2 R 128) (Scalar.ofBits .bf16 0x0000#16 : F .bf16))
      | true => select (lowLanes f.io) (broadcast (T2 R 128) (Scalar.ofBits .bf16 0x0000#16 : F .bf16))
          (extractStridedSlice (T2 R 128) ![0, o] (slabQ f.cq q) ho))
    (shapeCast (T2 N 128) k f.ck) (constant (T2 R N) .f32 0x00000000#32)

/-- The scores where the mask allows them, the least value elsewhere. -/
def slabK {R N : ℕ} (mk : IVec (T2 R N) 1) (s : FVec F (T2 R N) .f32) : FVec F (T2 R N) .f32 :=
  select mk s (broadcast (T2 R N) (Named.named κ "neg" 0xF149F2CA#32 : F .f32))

/-- The values with a column block of ones beside them. -/
def slabV {R N c : ℕ} (f : SlabOk R N c) (v : FVec F (T2 N 128) .bf16) : FVec F (T2 N 256) .bf16 :=
  concatenate (T2 N 256) 1 [⟨T2 N 128, shapeCast (T2 N 128) v f.ck⟩,
    ⟨T2 N 128, broadcast (T2 N 128) (Scalar.ofBits .bf16 0x3F80#16 : F .bf16)⟩] f.cV

/-- The new maxima, as a matrix. -/
def slabN {R N c : ℕ} (f : SlabOk R N c) (s : FVec F (T2 R N) .f32) (p : FVec F (T3 1 R 128) .f32) : FVec F (T2 R 128) .f32 :=
  maximumf (shapeCast (T2 R 128) p f.c1)
    (broadcastTo (T2 R 128) (shapeCast (T2 R 1)
      (multiReduction .maximumf [1] (T1 R) s 0xFF800000#32 f.red (.inl rfl) rfl) f.ca) f.br)

/-- The new maxima, as stored. -/
def slabM {R N c : ℕ} (f : SlabOk R N c) (s : FVec F (T2 R N) .f32) (p : FVec F (T3 1 R 128) .f32) : FVec F (T3 1 R 128) .f32 :=
  shapeCast (T3 1 R 128) (slabN f s p) f.d1

/-- The new weighted sums, as stored. -/
def slabA {R N c : ℕ} (f : SlabOk R N c) (s : FVec F (T2 R N) .f32) (v : FVec F (T2 N 128) .bf16)
    (p : FVec F (T3 1 R 128) .f32) (a : FVec F (T3 1 R 256) .f32) : FVec F (T3 1 R 256) .f32 :=
  shapeCast (T3 1 R 256)
    (addf (mulf (copies 2 f.cR (exp2 (subf (shapeCast (T2 R 128) p f.c1) (slabN f s p)))) (shapeCast (T2 R 256) a f.c2))
      (matmul (DotDims.plain R N 256) none (exp2 (truncf .bf16 (subf s (copies c f.cN (slabN f s p))) bitsLt_bf16_f32))
        (slabV f v) (constant (T2 R 256) .f32 0x00000000#32))) f.d2

/-- A copy's lane is the original's lane modulo 128. -/
theorem copies_apply {α : Type} {R N : ℕ} (c : ℕ) (h : Shape.Concatenates (List.replicate c (T2 R 128)) (T2 R N) 1)
    (x : (T2 R 128).Idx → α) (r : Fin R) (j : Fin N) :
    copies c h x (ValueIdx.ix2 r j) = x (ValueIdx.ix2 r ⟨j.val % 128, Nat.mod_lt _ (by norm_num)⟩) := by
  have key : ∀ (c : ℕ) (hs) (cc : ℕ) (hc),
      concatenateAt (T2 R N) 1 (ValueIdx.ix2 r j) (List.replicate (c + 1) ⟨T2 R 128, x⟩) hs cc hc
        = x (ValueIdx.ix2 r ⟨cc % 128, Nat.mod_lt _ (by norm_num)⟩) := by
    intro c
    induction c with
    | zero =>
      intro hs cc hc
      have hcc : cc < 128 := by simpa [axisSizes] using hc
      show x _ = _
      congr 1
      funext a
      match a with
      | ⟨0, _⟩ => rfl
      | ⟨1, _⟩ => exact Fin.ext (by
          rw [Shape.Idx.norm_def]
          refine Eq.trans ?_ (Nat.mod_eq_of_lt hcc).symm
          rfl)
    | succ c ih =>
      intro hs cc hc
      have e := concatenateAt_cons (t := T2 R N) 1 (ValueIdx.ix2 r j) x ⟨T2 R 128, x⟩ (List.replicate c ⟨T2 R 128, x⟩) hs cc hc
      refine e.trans ?_
      split
      · rename_i hlt
        have hlt' : cc < 128 := hlt
        congr 1
        funext a
        match a with
        | ⟨0, _⟩ => rfl
        | ⟨1, _⟩ => exact Fin.ext (by
            rw [Shape.Idx.norm_def]
            refine Eq.trans ?_ (Nat.mod_eq_of_lt hlt').symm
            rfl)
      · rename_i hge
        have hge' : ¬ cc < 128 := hge
        refine (ih _ _ _).trans ?_
        congr 2
        apply Fin.ext
        show (cc - 128) % 128 = cc % 128
        omega
  cases c with
  | zero => exact absurd j.isLt (by have := h.2.2; simp at this; omega)
  | succ c =>
    unfold copies
    rw [concatenate_eq_readAt]
    exact (concatReadAt_locate _ _ _ _ _ _).trans (key c _ _ _)

theorem lowLanes_apply {R : ℕ} (h : (T2 R 128).Iotas .tc 32 [1]) (r : Fin R) (l : Fin 128) :
    lowLanes h (ValueIdx.ix2 r l) = if l.val < 64 then 1#1 else 0#1 := by
  show Scalar.cmpi .slt (BitVec.ofNat 32 (0 * 128 + l.val)) 64#32 = _
  revert l; decide

/-- The factor of the queries: an eighth, over the logarithm of two. -/
def qsc : ℝ := (1 / 8) * (Real.log 2)⁻¹

theorem named_scale : (Named.named κ "scale" 0x3E38AA3B#32 : Ideal .f32) = ((qsc : ℝ) : EReal) := rfl
theorem named_neg : (Named.named κ "neg" 0xF149F2CA#32 : Ideal .f32) = (⊥ : EReal) := rfl

theorem slabQ_apply {R : ℕ} (h : (T2 R 512).ShapeCasts (T2 R 512)) (q : FVec Ideal (T2 R 512) .f32) (i : (T2 R 512).Idx) :
    slabQ h q i = (q i : EReal) * (qsc : EReal) := by
  show (shapeCast (T2 R 512) q h i : EReal) * (qsc : EReal) = _
  rw [shapeCast_apply q h i i rfl]

/-- A score: the sum over the map's own 64 lanes. -/
theorem slabS_apply {R N c : ℕ} (f : SlabOk R N c) (b : Bool) (o : ℕ) (ho : (T2 R 512).Slices ![0, o] (T2 R 128))
    (q : FVec Ideal (T2 R 512) .f32) (k : FVec Ideal (T2 N 128) .bf16) (r : Fin R) (j : Fin N)
    (Q K : ℕ → EReal) (hq : ∀ l : Fin 512, q (ValueIdx.ix2 r l) = Q l) (hk : ∀ l : Fin 128, k (ValueIdx.ix2 j l) = K l) :
    slabS f b o ho q k (ValueIdx.ix2 r j) = ∑ d : Fin 64, (Q (o + 64 * b.toNat + d) * (qsc : EReal)) * K (64 * b.toNat + d) := by
  have ho' : o + 128 ≤ 512 := ho.2 1
  have he (l : Fin 128) : extractStridedSlice (T2 R 128) ![0, o] (slabQ f.cq q) ho (ValueIdx.ix2 r l) = Q (o + l) * (qsc : EReal) := by
    rw [extractStridedSlice_apply _ _ ho (ValueIdx.ix2 r l) (ValueIdx.ix2 r ⟨o + l.val, by omega⟩), slabQ_apply, hq]
    intro a
    match a with
    | ⟨0, _⟩ => show r.val = 0 + r.val; omega
    | ⟨1, _⟩ => rfl
  have hk' (l : Fin 128) : shapeCast (T2 N 128) k f.ck (ValueIdx.ix2 j l) = K l := by
    rw [shapeCast_apply k f.ck _ _ rfl, hk]
  unfold slabS
  refine (Ideal.matmul_transposedRhs_apply none _ _ _ r j).trans ?_
  rw [show constant (F := Ideal) (T2 R N) .f32 0x00000000#32 (ValueIdx.ix2 r j) = (0 : EReal) from Ideal.ofBits_zero_f32, zero_add]
  have z (l : Fin 128) : (broadcast (T2 R 128) (Scalar.ofBits .bf16 0x0000#16 : Ideal .bf16)) (ValueIdx.ix2 r l) = (0 : EReal) :=
    Ideal.ofBits_zero_bf16
  rw [show (∑ l : Fin 128, _ : EReal) = ∑ l : Fin (64 + 64), _ from rfl, Fin.sum_univ_add]
  cases b with
  | false =>
    have h1 (l : Fin 128) (hl : l.val < 64) : select (lowLanes f.io) (extractStridedSlice (T2 R 128) ![0, o] (slabQ f.cq q) ho)
          (broadcast (T2 R 128) (Scalar.ofBits .bf16 0x0000#16 : Ideal .bf16)) (ValueIdx.ix2 r l) = Q (o + l) * (qsc : EReal) := by
      show Scalar.select (lowLanes f.io (ValueIdx.ix2 r l)) _ _ = _
      rw [lowLanes_apply, if_pos hl, ValueIdx.select_one, he]
    have h2 (l : Fin 128) (hl : ¬ l.val < 64) : select (lowLanes f.io) (extractStridedSlice (T2 R 128) ![0, o] (slabQ f.cq q) ho)
          (broadcast (T2 R 128) (Scalar.ofBits .bf16 0x0000#16 : Ideal .bf16)) (ValueIdx.ix2 r l) = (0 : EReal) := by
      show Scalar.select (lowLanes f.io (ValueIdx.ix2 r l)) _ _ = _
      rw [lowLanes_apply, if_neg hl, ValueIdx.select_zero, z]
    refine (congrArg₂ (· + ·) (Finset.sum_congr rfl fun d _ => congrArg₂ (· * ·) (h1 (Fin.castAdd 64 d) d.isLt) (hk' (Fin.castAdd 64 d)))
      (Finset.sum_congr rfl fun d _ => congrArg (· * _) (h2 (Fin.natAdd 64 d) (by simp)))).trans ?_
    simp
  | true =>
    have h1 (l : Fin 128) (hl : ¬ l.val < 64) : select (lowLanes f.io) (broadcast (T2 R 128) (Scalar.ofBits .bf16 0x0000#16 : Ideal .bf16))
          (extractStridedSlice (T2 R 128) ![0, o] (slabQ f.cq q) ho) (ValueIdx.ix2 r l) = Q (o + l) * (qsc : EReal) := by
      show Scalar.select (lowLanes f.io (ValueIdx.ix2 r l)) _ _ = _
      rw [lowLanes_apply, if_neg hl, ValueIdx.select_zero, he]
    have h2 (l : Fin 128) (hl : l.val < 64) : select (lowLanes f.io) (broadcast (T2 R 128) (Scalar.ofBits .bf16 0x0000#16 : Ideal .bf16))
          (extractStridedSlice (T2 R 128) ![0, o] (slabQ f.cq q) ho) (ValueIdx.ix2 r l) = (0 : EReal) := by
      show Scalar.select (lowLanes f.io (ValueIdx.ix2 r l)) _ _ = _
      rw [lowLanes_apply, if_pos hl, ValueIdx.select_one, z]
    refine (congrArg₂ (· + ·) (Finset.sum_congr rfl fun d _ => congrArg (· * _) (h2 (Fin.castAdd 64 d) d.isLt))
      (Finset.sum_congr rfl fun d _ => congrArg₂ (· * ·) (h1 (Fin.natAdd 64 d) (by simp)) (hk' (Fin.natAdd 64 d)))).trans ?_
    simp [add_assoc, Nat.add_comm 64]

theorem slabK_apply {R N : ℕ} (mk : IVec (T2 R N) 1) (s : FVec Ideal (T2 R N) .f32) (i : (T2 R N).Idx) (p : Prop) [Decidable p]
    (h : mk i = if p then 1#1 else 0#1) : slabK mk s i = if p then s i else (⊥ : EReal) := by
  show Scalar.select (mk i) (s i) (⊥ : EReal) = _
  rw [h]
  split
  · rw [ValueIdx.select_one]
  · rw [ValueIdx.select_zero]

theorem slabV_apply {R N c : ℕ} (f : SlabOk R N c) (v : FVec Ideal (T2 N 128) .bf16) (j : Fin N) (d : Fin 256) (W : ℕ → EReal)
    (hv : ∀ l : Fin 128, v (ValueIdx.ix2 j l) = W l) : slabV f v (ValueIdx.ix2 j d) = if d.val < 128 then W d else (1 : EReal) := by
  unfold slabV
  rw [concatenate_pair_apply]
  by_cases h : d.val < 128
  · refine (dif_pos (show (ValueIdx.ix2 j d 1).val < 128 from h)).trans ?_
    rw [if_pos h, shapeCast_apply v f.ck _ (ValueIdx.ix2 j ⟨d.val, h⟩) (by rw [Shape.Idx.norm_def]; rfl), hv]
  · refine (dif_neg (show ¬ (ValueIdx.ix2 j d 1).val < 128 from h)).trans ?_
    rw [if_neg h]
    exact Ideal.ofBits_one_bf16

/-- The new maxima: the larger of the old one and the row's scores. -/
theorem slabN_apply {R N c : ℕ} (f : SlabOk R N c) (s : FVec Ideal (T2 R N) .f32) (p : FVec Ideal (T3 1 R 128) .f32)
    (r : Fin R) (l : Fin 128) :
    slabN f s p (ValueIdx.ix2 r l) = max (p (ValueIdx.ix3 0 r l) : EReal) (Finset.univ.sup fun j : Fin N => (s (ValueIdx.ix2 r j) : EReal)) := by
  show max (shapeCast (T2 R 128) p f.c1 (ValueIdx.ix2 r l) : EReal) (broadcastTo (T2 R 128) _ f.br (ValueIdx.ix2 r l)) = _
  rw [ValueIdx.shapeCast_1ab_ab_apply]
  congr 1
  rw [broadcastTo_apply _ f.br (ValueIdx.ix2 r l) (ValueIdx.ix2 r (0 : Fin 1)) (by
    intro a
    match a with
    | ⟨0, _⟩ =>
      show r.val = if R = 1 then 0 else r.val
      split
      · omega
      · rfl
    | ⟨1, _⟩ => rfl), ValueIdx.shapeCast_a_a1_apply]
  refine (Ideal.multiReduction_maximumf_single s _ f.red _ _ _).trans ?_
  rw [show (FloatOps.ofBits (F := Ideal) .f32 0xFF800000#32 : EReal) = ⊥ by
    simp [Ideal.ofBits, Ideal.ieee]]
  have hl (j : Fin N) : f.red.lift (ValueIdx.ix1 r) j = ValueIdx.ix2 r j := by
    funext a
    match a with
    | ⟨0, _⟩ => rfl
    | ⟨1, _⟩ => rfl
  show (Finset.univ : Finset (Fin N)).fold max ⊥ (fun j => (s (f.red.lift (ValueIdx.ix1 r) j) : EReal)) = _
  rw [show (fun j => (s (f.red.lift (ValueIdx.ix1 r) j) : EReal)) = fun j : Fin N => (s (ValueIdx.ix2 r j) : EReal) from
    funext fun j => congrArg s (hl j)]
  rfl

/-- One slab's maxima follow the running maximum. -/
theorem slabM_step {R N c : ℕ} (f : SlabOk R N c) (s : FVec Ideal (T2 R N) .f32) (p : FVec Ideal (T3 1 R 128) .f32)
    (S : ℕ → EReal) (n : ℕ) (r : Fin R) (hs : ∀ j : Fin N, s (ValueIdx.ix2 r j) = S (n + j))
    (hp : ∀ l : Fin 128, p (ValueIdx.ix3 0 r l) = mx S n) (l : Fin 128) :
    slabM f s p (ValueIdx.ix3 0 r l) = mx S (n + N) := by
  unfold slabM
  rw [ValueIdx.shapeCast_ab_1ab_apply, slabN_apply, hp, mx_add]
  simp only [hs]

/-- One slab's weighted sums follow the running weighted sum. -/
theorem slabA_step {R N c : ℕ} (f : SlabOk R N c) (s : FVec Ideal (T2 R N) .f32) (v : FVec Ideal (T2 N 128) .bf16)
    (p : FVec Ideal (T3 1 R 128) .f32) (a : FVec Ideal (T3 1 R 256) .f32)
    (S W : ℕ → EReal) (n : ℕ) (r : Fin R) (d : Fin 256) (hs : ∀ j : Fin N, s (ValueIdx.ix2 r j) = S (n + j))
    (hp : ∀ l : Fin 128, p (ValueIdx.ix3 0 r l) = mx S n)
    (hv : ∀ j : Fin N, slabV f v (ValueIdx.ix2 j d) = W (n + j))
    (ha : a (ValueIdx.ix3 0 r d) = ac S W n) :
    slabA f s v p a (ValueIdx.ix3 0 r d) = ac S W (n + N) := by
  have hN (l : Fin 128) : slabN f s p (ValueIdx.ix2 r l) = mx S (n + N) := by
    rw [slabN_apply, hp, mx_add]; simp only [hs]
  unfold slabA
  rw [ValueIdx.shapeCast_ab_1ab_apply]
  rw [ac_add]
  refine (congrArg₂ (fun x y : EReal => x + y) (congrArg₂ (fun x y : EReal => x * y) (copies_apply 2 f.cR _ r d)
    (ValueIdx.shapeCast_1ab_ab_apply a f.c2 r d)) (Ideal.matmul_plain_apply none _ _ _ r d)).trans ?_
  rw [ha]
  congr 1
  · show Ideal.exp2 ((shapeCast (T2 R 128) p f.c1 (ValueIdx.ix2 r _) : EReal) - slabN f s p (ValueIdx.ix2 r _)) * _ = _
    rw [ValueIdx.shapeCast_1ab_ab_apply, hN, hp]
  · rw [show constant (F := Ideal) (T2 R 256) .f32 0x00000000#32 (ValueIdx.ix2 r d) = (0 : EReal) from Ideal.ofBits_zero_f32, zero_add]
    refine Finset.sum_congr rfl fun j _ => ?_
    rw [hv]
    show Ideal.exp2 ((s (ValueIdx.ix2 r j) : EReal) - copies c f.cN (slabN f s p) (ValueIdx.ix2 r j)) * _ = _
    rw [copies_apply, hN, hs]

end Cert.KernelIdeal.Attn
-- ==== Proof.Pieces.lean ====
module

public import proofs.«01_k».proof.Proof.Runs
public import proofs.«01_k».proof.Proof.Slab

@[expose] public section

set_option maxRecDepth 16384
set_option Elab.async false

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem slabOk_1024 : SlabOk 512 1024 8 := by constructor <;> decide
theorem slabOk_512 : SlabOk 512 512 4 := by constructor <;> decide
theorem slabOk_256 : SlabOk 256 256 2 := by constructor <;> decide
theorem slabOk_256b : SlabOk 256 512 4 := by constructor <;> decide

/-- A block of queries, keys or values as loaded. -/
abbrev ld2 {s : Shape} {φ : EltTy} (A : Memref sig .tc .vmem s φ) (x : s.Idx → Elt F φ) (r : Rect s) : r.shape.Idx → Elt F φ :=
  A.view.readAt (Elt F) r.toLoadRect (A.view.rep x)

/-- The quotient by 64, rounded down, as the body computes it. -/
def chunkOf {s : Shape} (x : IVec s 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt 64#32 0#32)) (Scalar.extui (Scalar.cmpi .slt 64#32 0#32)))))
    (cmpi .ne (remsi x (broadcast s 64#32)) (broadcast s 0#32)))
    (subi (divsi x (broadcast s 64#32)) (broadcast s 1#32)) (divsi x (broadcast s 64#32))

/-- A column's chunk is no later than its row's. -/
def chunkMask (R N : ℕ) (o : BitVec 32) (h0 : (T2 R N).Iotas .tc 32 [0]) (h1 : (T2 R N).Iotas .tc 32 [1]) : IVec (T2 R N) 1 :=
  cmpi .sle (chunkOf (iota .tc (T2 R N) 32 [1] h1)) (chunkOf (addi (broadcast (T2 R N) o) (iota .tc (T2 R N) 32 [0] h0)))

/-- The chunk of a small index. -/
theorem chunkOf_eq (n : ℕ) (hn : n < 512) {s : Shape} (x : IVec s 32) (i : s.Idx) (hx : x i = BitVec.ofNat 32 n) :
    chunkOf x i = BitVec.ofNat 32 (n / 64) := by
  have key : ∀ n : Fin 512, Scalar.select (Scalar.andi (Scalar.cmpi .ne (Scalar.subi (Scalar.extui (Scalar.cmpi .sgt (BitVec.ofNat 32 n.val) 0#32))
      (Scalar.extui (Scalar.cmpi .slt (BitVec.ofNat 32 n.val) 0#32))) (Scalar.subi (Scalar.extui (Scalar.cmpi .sgt 64#32 0#32)) (Scalar.extui (Scalar.cmpi .slt 64#32 0#32))))
      (Scalar.cmpi .ne (Scalar.remsi (BitVec.ofNat 32 n.val) 64#32) 0#32)) (Scalar.subi (Scalar.divsi (BitVec.ofNat 32 n.val) 64#32) 1#32)
      (Scalar.divsi (BitVec.ofNat 32 n.val) 64#32) = BitVec.ofNat 32 (n.val / 64) := of_decide_eq_true (by sl_kernel_rfl)
  refine Eq.trans ?_ (key ⟨n, hn⟩)
  rw [← hx]
  rfl

theorem chunkMask_apply {R N : ℕ} (o : ℕ) (h0 h1) (r : Fin R) (j : Fin N) (hr : o + R ≤ 512) (hN : N ≤ 512) :
    chunkMask R N (BitVec.ofNat 32 o) h0 h1 (ValueIdx.ix2 r j) = if j.val / 64 ≤ (o + r.val) / 64 then 1#1 else 0#1 := by
  have e1 := chunkOf_eq j.val (by omega) (iota .tc (T2 R N) 32 [1] h1) (ValueIdx.ix2 r j) (by
    show BitVec.ofNat 32 (0 * N + j.val) = _
    rw [Nat.zero_mul, Nat.zero_add])
  have e2 := chunkOf_eq (o + r.val) (by omega) (addi (broadcast (T2 R N) (BitVec.ofNat 32 o)) (iota .tc (T2 R N) 32 [0] h0)) (ValueIdx.ix2 r j) (by
    show BitVec.ofNat 32 o + BitVec.ofNat 32 (0 * R + r.val) = _
    rw [Nat.zero_mul, Nat.zero_add, BitVec.ofNat_add])
  have key : ∀ a b : Fin 8, Scalar.cmpi .sle (BitVec.ofNat 32 a.val) (BitVec.ofNat 32 b.val) = if a.val ≤ b.val then 1#1 else 0#1 := by decide
  have a1 : j.val / 64 < 8 := by omega
  have a2 : (o + r.val) / 64 < 8 := by omega
  refine Eq.trans ?_ (key ⟨_, a1⟩ ⟨_, a2⟩)
  rw [← e1, ← e2]
  rfl

set_option maxHeartbeats 4000000 in
/-- The update by 1024 keys: the maxima stored. -/
theorem runFull_M (c : Dev nD) (arg5 : Memref sig .tc .vmem S512x512 .f32) (arg6 : Memref sig .tc .vmem S1024x512 .bf16) (arg7 : Memref sig .tc .vmem S1024x512 .bf16)
    (x1 : S512x512.Idx → Elt F .f32) (x2 x3 : S1024x512.Idx → Elt F .bf16) (X0 : Buf (Elt F) ((c : Thread nD τ).loc cc0_scratch0)) (X1 : Buf (Elt F) ((c : Thread nD τ).loc cc0_scratch1)) :
    runFull.sl.HS0_8 c arg5 arg6 x1 x2 X0 = [⟨Rect.unit (s := S8x512x128) ![7, 0, 0] S1x512x128.size inb_S8x512x128_S1x512x128_7_0_0, slabM slabOk_1024 (slabS slabOk_1024 true 384 slices_S512x512_o0_384_S512x128 (ld2 arg5 x1 (Rect.unit (s := S512x512) ![0, 0] S512x512.size inb_S512x512_S512x512_0_0)) (ld2 arg6 x2 (Rect.unit (s := S1024x512) ![0, 384] S1024x128.size inb_S1024x512_S1024x128_0_384))) (scM0.view.readAt (Elt F) (Rect.unit (s := S8x512x128) ![7, 0, 0] S1x512x128.size inb_S8x512x128_S1x512x128_7_0_0).toLoadRect X0)⟩,
      ⟨Rect.unit (s := S8x512x128) ![6, 0, 0] S1x512x128.size inb_S8x512x128_S1x512x128_6_0_0, slabM slabOk_1024 (slabS slabOk_1024 false 384 slices_S512x512_o0_384_S512x128 (ld2 arg5 x1 (Rect.unit (s := S512x512) ![0, 0] S512x512.size inb_S512x512_S512x512_0_0)) (ld2 arg6 x2 (Rect.unit (s := S1024x512) ![0, 384] S1024x128.size inb_S1024x512_S1024x128_0_384))) (scM0.view.readAt (Elt F) (Rect.unit (s := S8x512x128) ![6, 0, 0] S1x512x128.size inb_S8x512x128_S1x512x128_6_0_0).toLoadRect X0)⟩,
      ⟨Rect.unit (s := S8x512x128) ![5, 0, 0] S1x512x128.size inb_S8x512x128_S1x512x128_5_0_0, slabM slabOk_1024 (slabS slabOk_1024 true 256 slices_S512x512_o0_256_S512x128 (ld2 arg5 x1 (Rect.unit (s := S512x512) ![0, 0] S512x512.size inb_S512x512_S512x512_0_0)) (ld2 arg6 x2 (Rect.unit (s := S1024x512) ![0, 256] S1024x128.size inb_S1024x512_S1024x128_0_256))) (scM0.view.readAt (Elt F) (Rect.unit (s := S8x512x128) ![5, 0, 0] S1x512x128.size inb_S8x512x128_S1x512x128_5_0_0).toLoadRect X0)⟩,
      ⟨Rect.unit (s := S8x512x128) ![4, 0, 0] S1x512x128.size inb_S8x512x128_S1x512x128_4_0_0, slabM slabOk_1024 (slabS slabOk_1024 false 256 slices_S512x512_o0_256_S512x128 (ld2 arg5 x1 (Rect.unit (s := S512x512) ![0, 0] S512x512.size inb_S512x512_S512x512_0_0)) (ld2 arg6 x2 (Rect.unit (s := S1024x512) ![0, 256] S1024x128.size inb_S1024x512_S1024x128_0_256))) (scM0.view.readAt (Elt F) (Rect.unit (s := S8x512x128) ![4, 0, 0] S1x512x128.size inb_S8x512x128_S1x512x128_4_0_0).toLoadRect X0)⟩,
      ⟨Rect.unit (s := S8x512x128) ![3, 0, 0] S1x512x128.size inb_S8x512x128_S1x512x128_3_0_0, slabM slabOk_1024 (slabS slabOk_1024 true 128 slices_S512x512_o0_128_S512x128 (ld2 arg5 x1 (Rect.unit (s := S512x512) ![0, 0] S512x512.size inb_S512x512_S512x512_0_0)) (ld2 arg6 x2 (Rect.unit (s := S1024x512) ![0, 128] S1024x128.size inb_S1024x512_S1024x128_0_128))) (scM0.view.readAt (Elt F) (Rect.unit (s := S8x512x128) ![3, 0, 0] S1x512x128.size inb_S8x512x128_S1x512x128_3_0_0).toLoadRect X0)⟩,
      ⟨Rect.unit (s := S8x512x128) ![2, 0, 0] S1x512x128.size inb_S8x512x128_S1x512x128_2_0_0, slabM slabOk_1024 (slabS slabOk_1024 false 128 slices_S512x512_o0_128_S512x128 (ld2 arg5 x1 (Rect.unit (s := S512x512) ![0, 0] S512x512.size inb_S512x512_S512x512_0_0)) (ld2 arg6 x2 (Rect.unit (s := S1024x512) ![0, 128] S1024x128.size inb_S1024x512_S1024x128_0_128))) (scM0.view.readAt (Elt F) (Rect.unit (s := S8x512x128) ![2, 0, 0] S1x512x128.size inb_S8x512x128_S1x512x128_2_0_0).toLoadRect X0)⟩,
      ⟨Rect.unit (s := S8x512x128) ![1, 0, 0] S1x512x128.size inb_S8x512x128_S1x512x128_1_0_0, slabM slabOk_1024 (slabS slabOk_1024 true 0 slices_S512x512_o0_0_S512x128 (ld2 arg5 x1 (Rect.unit (s := S512x512) ![0, 0] S512x512.size inb_S512x512_S512x512_0_0)) (ld2 arg6 x2 (Rect.unit (s := S1024x512) ![0, 0] S1024x128.size inb_S1024x512_S1024x128_0_0))) (scM0.view.readAt (Elt F) (Rect.unit (s := S8x512x128) ![1, 0, 0] S1x512x128.size inb_S8x512x128_S1x512x128_1_0_0).toLoadRect X0)⟩,
      ⟨Rect.unit (s := S8x512x128) ![0, 0, 0] S1x512x128.size inb_S8x512x128_S1x512x128_0_0_0, slabM slabOk_1024 (slabS slabOk_1024 false 0 slices_S512x512_o0_0_S512x128 (ld2 arg5 x1 (Rect.unit (s := S512x512) ![0, 0] S512x512.size inb_S512x512_S512x512_0_0)) (ld2 arg6 x2 (Rect.unit (s := S1024x512) ![0, 0] S1024x128.size inb_S1024x512_S1024x128_0_0))) (scM0.view.readAt (Elt F) (Rect.unit (s := S8x512x128) ![0, 0, 0] S1x512x128.size inb_S8x512x128_S1x512x128_0_0_0).toLoadRect X0)⟩] := by
  rfl

set_option maxHeartbeats 4000000 in
/-- The update by 1024 keys: the weighted sums stored. -/
theorem runFull_A (c : Dev nD) (arg5 : Memref sig .tc .vmem S512x512 .f32) (arg6 : Memref sig .tc .vmem S1024x512 .bf16) (arg7 : Memref sig .tc .vmem S1024x512 .bf16)
    (x1 : S512x512.Idx → Elt F .f32) (x2 x3 : S1024x512.Idx → Elt F .bf16) (X0 : Buf (Elt F) ((c : Thread nD τ).loc cc0_scratch0)) (X1 : Buf (Elt F) ((c : Thread nD τ).loc cc0_scratch1)) :
    runFull.sl.HS1_8 c arg5 arg6 arg7 x1 x2 x3 X0 X1 = [⟨Rect.unit (s := S8x512x256) ![7, 0, 0] S1x512x256.size inb_S8x512x256_S1x512x256_7_0_0, slabA slabOk_1024 (slabS slabOk_1024 true 384 slices_S512x512_o0_384_S512x128 (ld2 arg5 x1 (Rect.unit (s := S512x512) ![0, 0] S512x512.size inb_S512x512_S512x512_0_0)) (ld2 arg6 x2 (Rect.unit (s := S1024x512) ![0, 384] S1024x128.size inb_S1024x512_S1024x128_0_384))) (ld2 arg7 x3 (Rect.unit (s := S1024x512) ![0, 384] S1024x128.size inb_S1024x512_S1024x128_0_384)) (scM0.view.readAt (Elt F) (Rect.unit (s := S8x512x128) ![7, 0, 0] S1x512x128.size inb_S8x512x128_S1x512x128_7_0_0).toLoadRect X0) (scM1.view.readAt (Elt F) (Rect.unit (s := S8x512x256) ![7, 0, 0] S1x512x256.size inb_S8x512x256_S1x512x256_7_0_0).toLoadRect X1)⟩,
      ⟨Rect.unit (s := S8x512x256) ![6, 0, 0] S1x512x256.size inb_S8x512x256_S1x512x256_6_0_0, slabA slabOk_1024 (slabS slabOk_1024 false 384 slices_S512x512_o0_384_S512x128 (ld2 arg5 x1 (Rect.unit (s := S512x512) ![0, 0] S512x512.size inb_S512x512_S512x512_0_0)) (ld2 arg6 x2 (Rect.unit (s := S1024x512) ![0, 384] S1024x128.size inb_S1024x512_S1024x128_0_384))) (ld2 arg7 x3 (Rect.unit (s := S1024x512) ![0, 384] S1024x128.size inb_S1024x512_S1024x128_0_384)) (scM0.view.readAt (Elt F) (Rect.unit (s := S8x512x128) ![6, 0, 0] S1x512x128.size inb_S8x512x128_S1x512x128_6_0_0).toLoadRect X0) (scM1.view.readAt (Elt F) (Rect.unit (s := S8x512x256) ![6, 0, 0] S1x512x256.size inb_S8x512x256_S1x512x256_6_0_0).toLoadRect X1)⟩,
      ⟨Rect.unit (s := S8x512x256) ![5, 0, 0] S1x512x256.size inb_S8x512x256_S1x512x256_5_0_0, slabA slabOk_1024 (slabS slabOk_1024 true 256 slices_S512x512_o0_256_S512x128 (ld2 arg5 x1 (Rect.unit (s := S512x512) ![0, 0] S512x512.size inb_S512x512_S512x512_0_0)) (ld2 arg6 x2 (Rect.unit (s := S1024x512) ![0, 256] S1024x128.size inb_S1024x512_S1024x128_0_256))) (ld2 arg7 x3 (Rect.unit (s := S1024x512) ![0, 256] S1024x128.size inb_S1024x512_S1024x128_0_256)) (scM0.view.readAt (Elt F) (Rect.unit (s := S8x512x128) ![5, 0, 0] S1x512x128.size inb_S8x512x128_S1x512x128_5_0_0).toLoadRect X0) (scM1.view.readAt (Elt F) (Rect.unit (s := S8x512x256) ![5, 0, 0] S1x512x256.size inb_S8x512x256_S1x512x256_5_0_0).toLoadRect X1)⟩,
      ⟨Rect.unit (s := S8x512x256) ![4, 0, 0] S1x512x256.size inb_S8x512x256_S1x512x256_4_0_0, slabA slabOk_1024 (slabS slabOk_1024 false 256 slices_S512x512_o0_256_S512x128 (ld2 arg5 x1 (Rect.unit (s := S512x512) ![0, 0] S512x512.size inb_S512x512_S512x512_0_0)) (ld2 arg6 x2 (Rect.unit (s := S1024x512) ![0, 256] S1024x128.size inb_S1024x512_S1024x128_0_256))) (ld2 arg7 x3 (Rect.unit (s := S1024x512) ![0, 256] S1024x128.size inb_S1024x512_S1024x128_0_256)) (scM0.view.readAt (Elt F) (Rect.unit (s := S8x512x128) ![4, 0, 0] S1x512x128.size inb_S8x512x128_S1x512x128_4_0_0).toLoadRect X0) (scM1.view.readAt (Elt F) (Rect.unit (s := S8x512x256) ![4, 0, 0] S1x512x256.size inb_S8x512x256_S1x512x256_4_0_0).toLoadRect X1)⟩,
      ⟨Rect.unit (s := S8x512x256) ![3, 0, 0] S1x512x256.size inb_S8x512x256_S1x512x256_3_0_0, slabA slabOk_1024 (slabS slabOk_1024 true 128 slices_S512x512_o0_128_S512x128 (ld2 arg5 x1 (Rect.unit (s := S512x512) ![0, 0] S512x512.size inb_S512x512_S512x512_0_0)) (ld2 arg6 x2 (Rect.unit (s := S1024x512) ![0, 128] S1024x128.size inb_S1024x512_S1024x128_0_128))) (ld2 arg7 x3 (Rect.unit (s := S1024x512) ![0, 128] S1024x128.size inb_S1024x512_S1024x128_0_128)) (scM0.view.readAt (Elt F) (Rect.unit (s := S8x512x128) ![3, 0, 0] S1x512x128.size inb_S8x512x128_S1x512x128_3_0_0).toLoadRect X0) (scM1.view.readAt (Elt F) (Rect.unit (s := S8x512x256) ![3, 0, 0] S1x512x256.size inb_S8x512x256_S1x512x256_3_0_0).toLoadRect X1)⟩,
      ⟨Rect.unit (s := S8x512x256) ![2, 0, 0] S1x512x256.size inb_S8x512x256_S1x512x256_2_0_0, slabA slabOk_1024 (slabS slabOk_1024 false 128 slices_S512x512_o0_128_S512x128 (ld2 arg5 x1 (Rect.unit (s := S512x512) ![0, 0] S512x512.size inb_S512x512_S512x512_0_0)) (ld2 arg6 x2 (Rect.unit (s := S1024x512) ![0, 128] S1024x128.size inb_S1024x512_S1024x128_0_128))) (ld2 arg7 x3 (Rect.unit (s := S1024x512) ![0, 128] S1024x128.size inb_S1024x512_S1024x128_0_128)) (scM0.view.readAt (Elt F) (Rect.unit (s := S8x512x128) ![2, 0, 0] S1x512x128.size inb_S8x512x128_S1x512x128_2_0_0).toLoadRect X0) (scM1.view.readAt (Elt F) (Rect.unit (s := S8x512x256) ![2, 0, 0] S1x512x256.size inb_S8x512x256_S1x512x256_2_0_0).toLoadRect X1)⟩,
      ⟨Rect.unit (s := S8x512x256) ![1, 0, 0] S1x512x256.size inb_S8x512x256_S1x512x256_1_0_0, slabA slabOk_1024 (slabS slabOk_1024 true 0 slices_S512x512_o0_0_S512x128 (ld2 arg5 x1 (Rect.unit (s := S512x512) ![0, 0] S512x512.size inb_S512x512_S512x512_0_0)) (ld2 arg6 x2 (Rect.unit (s := S1024x512) ![0, 0] S1024x128.size inb_S1024x512_S1024x128_0_0))) (ld2 arg7 x3 (Rect.unit (s := S1024x512) ![0, 0] S1024x128.size inb_S1024x512_S1024x128_0_0)) (scM0.view.readAt (Elt F) (Rect.unit (s := S8x512x128) ![1, 0, 0] S1x512x128.size inb_S8x512x128_S1x512x128_1_0_0).toLoadRect X0) (scM1.view.readAt (Elt F) (Rect.unit (s := S8x512x256) ![1, 0, 0] S1x512x256.size inb_S8x512x256_S1x512x256_1_0_0).toLoadRect X1)⟩,
      ⟨Rect.unit (s := S8x512x256) ![0, 0, 0] S1x512x256.size inb_S8x512x256_S1x512x256_0_0_0, slabA slabOk_1024 (slabS slabOk_1024 false 0 slices_S512x512_o0_0_S512x128 (ld2 arg5 x1 (Rect.unit (s := S512x512) ![0, 0] S512x512.size inb_S512x512_S512x512_0_0)) (ld2 arg6 x2 (Rect.unit (s := S1024x512) ![0, 0] S1024x128.size inb_S1024x512_S1024x128_0_0))) (ld2 arg7 x3 (Rect.unit (s := S1024x512) ![0, 0] S1024x128.size inb_S1024x512_S1024x128_0_0)) (scM0.view.readAt (Elt F) (Rect.unit (s := S8x512x128) ![0, 0, 0] S1x512x128.size inb_S8x512x128_S1x512x128_0_0_0).toLoadRect X0) (scM1.view.readAt (Elt F) (Rect.unit (s := S8x512x256) ![0, 0, 0] S1x512x256.size inb_S8x512x256_S1x512x256_0_0_0).toLoadRect X1)⟩] := by
  rfl

set_option maxHeartbeats 4000000 in
/-- The update by 512 keys: the maxima stored. -/
theorem runHalf_M (c : Dev nD) (arg5 : Memref sig .tc .vmem S512x512 .f32) (arg6 : Memref sig .tc .vmem S1024x512 .bf16) (arg7 : Memref sig .tc .vmem S1024x512 .bf16)
    (x1 : S512x512.Idx → Elt F .f32) (x2 x3 : S1024x512.Idx → Elt F .bf16) (X0 : Buf (Elt F) ((c : Thread nD τ).loc cc0_scratch0)) (X1 : Buf (Elt F) ((c : Thread nD τ).loc cc0_scratch1)) :
    runHalf.sl.HS0_8 c arg5 arg6 x1 x2 X0 = [⟨Rect.unit (s := S8x512x128) ![7, 0, 0] S1x512x128.size inb_S8x512x128_S1x512x128_7_0_0, slabM slabOk_512 (slabS slabOk_512 true 384 slices_S512x512_o0_384_S512x128 (ld2 arg5 x1 (Rect.unit (s := S512x512) ![0, 0] S512x512.size inb_S512x512_S512x512_0_0)) (ld2 arg6 x2 (Rect.unit (s := S1024x512) ![0, 384] S512x128.size inb_S1024x512_S512x128_0_384))) (scM0.view.readAt (Elt F) (Rect.unit (s := S8x512x128) ![7, 0, 0] S1x512x128.size inb_S8x512x128_S1x512x128_7_0_0).toLoadRect X0)⟩,
      ⟨Rect.unit (s := S8x512x128) ![6, 0, 0] S1x512x128.size inb_S8x512x128_S1x512x128_6_0_0, slabM slabOk_512 (slabS slabOk_512 false 384 slices_S512x512_o0_384_S512x128 (ld2 arg5 x1 (Rect.unit (s := S512x512) ![0, 0] S512x512.size inb_S512x512_S512x512_0_0)) (ld2 arg6 x2 (Rect.unit (s := S1024x512) ![0, 384] S512x128.size inb_S1024x512_S512x128_0_384))) (scM0.view.readAt (Elt F) (Rect.unit (s := S8x512x128) ![6, 0, 0] S1x512x128.size inb_S8x512x128_S1x512x128_6_0_0).toLoadRect X0)⟩,
      ⟨Rect.unit (s := S8x512x128) ![5, 0, 0] S1x512x128.size inb_S8x512x128_S1x512x128_5_0_0, slabM slabOk_512 (slabS slabOk_512 true 256 slices_S512x512_o0_256_S512x128 (ld2 arg5 x1 (Rect.unit (s := S512x512) ![0, 0] S512x512.size inb_S512x512_S512x512_0_0)) (ld2 arg6 x2 (Rect.unit (s := S1024x512) ![0, 256] S512x128.size inb_S1024x512_S512x128_0_256))) (scM0.view.readAt (Elt F) (Rect.unit (s := S8x512x128) ![5, 0, 0] S1x512x128.size inb_S8x512x128_S1x512x128_5_0_0).toLoadRect X0)⟩,
      ⟨Rect.unit (s := S8x512x128) ![4, 0, 0] S1x512x128.size inb_S8x512x128_S1x512x128_4_0_0, slabM slabOk_512 (slabS slabOk_512 false 256 slices_S512x512_o0_256_S512x128 (ld2 arg5 x1 (Rect.unit (s := S512x512) ![0, 0] S512x512.size inb_S512x512_S512x512_0_0)) (ld2 arg6 x2 (Rect.unit (s := S1024x512) ![0, 256] S512x128.size inb_S1024x512_S512x128_0_256))) (scM0.view.readAt (Elt F) (Rect.unit (s := S8x512x128) ![4, 0, 0] S1x512x128.size inb_S8x512x128_S1x512x128_4_0_0).toLoadRect X0)⟩,
      ⟨Rect.unit (s := S8x512x128) ![3, 0, 0] S1x512x128.size inb_S8x512x128_S1x512x128_3_0_0, slabM slabOk_512 (slabS slabOk_512 true 128 slices_S512x512_o0_128_S512x128 (ld2 arg5 x1 (Rect.unit (s := S512x512) ![0, 0] S512x512.size inb_S512x512_S512x512_0_0)) (ld2 arg6 x2 (Rect.unit (s := S1024x512) ![0, 128] S512x128.size inb_S1024x512_S512x128_0_128))) (scM0.view.readAt (Elt F) (Rect.unit (s := S8x512x128) ![3, 0, 0] S1x512x128.size inb_S8x512x128_S1x512x128_3_0_0).toLoadRect X0)⟩,
      ⟨Rect.unit (s := S8x512x128) ![2, 0, 0] S1x512x128.size inb_S8x512x128_S1x512x128_2_0_0, slabM slabOk_512 (slabS slabOk_512 false 128 slices_S512x512_o0_128_S512x128 (ld2 arg5 x1 (Rect.unit (s := S512x512) ![0, 0] S512x512.size inb_S512x512_S512x512_0_0)) (ld2 arg6 x2 (Rect.unit (s := S1024x512) ![0, 128] S512x128.size inb_S1024x512_S512x128_0_128))) (scM0.view.readAt (Elt F) (Rect.unit (s := S8x512x128) ![2, 0, 0] S1x512x128.size inb_S8x512x128_S1x512x128_2_0_0).toLoadRect X0)⟩,
      ⟨Rect.unit (s := S8x512x128) ![1, 0, 0] S1x512x128.size inb_S8x512x128_S1x512x128_1_0_0, slabM slabOk_512 (slabS slabOk_512 true 0 slices_S512x512_o0_0_S512x128 (ld2 arg5 x1 (Rect.unit (s := S512x512) ![0, 0] S512x512.size inb_S512x512_S512x512_0_0)) (ld2 arg6 x2 (Rect.unit (s := S1024x512) ![0, 0] S512x128.size inb_S1024x512_S512x128_0_0))) (scM0.view.readAt (Elt F) (Rect.unit (s := S8x512x128) ![1, 0, 0] S1x512x128.size inb_S8x512x128_S1x512x128_1_0_0).toLoadRect X0)⟩,
      ⟨Rect.unit (s := S8x512x128) ![0, 0, 0] S1x512x128.size inb_S8x512x128_S1x512x128_0_0_0, slabM slabOk_512 (slabS slabOk_512 false 0 slices_S512x512_o0_0_S512x128 (ld2 arg5 x1 (Rect.unit (s := S512x512) ![0, 0] S512x512.size inb_S512x512_S512x512_0_0)) (ld2 arg6 x2 (Rect.unit (s := S1024x512) ![0, 0] S512x128.size inb_S1024x512_S512x128_0_0))) (scM0.view.readAt (Elt F) (Rect.unit (s := S8x512x128) ![0, 0, 0] S1x512x128.size inb_S8x512x128_S1x512x128_0_0_0).toLoadRect X0)⟩] := by
  rfl

set_option maxHeartbeats 4000000 in
/-- The update by 512 keys: the weighted sums stored. -/
theorem runHalf_A (c : Dev nD) (arg5 : Memref sig .tc .vmem S512x512 .f32) (arg6 : Memref sig .tc .vmem S1024x512 .bf16) (arg7 : Memref sig .tc .vmem S1024x512 .bf16)
    (x1 : S512x512.Idx → Elt F .f32) (x2 x3 : S1024x512.Idx → Elt F .bf16) (X0 : Buf (Elt F) ((c : Thread nD τ).loc cc0_scratch0)) (X1 : Buf (Elt F) ((c : Thread nD τ).loc cc0_scratch1)) :
    runHalf.sl.HS1_8 c arg5 arg6 arg7 x1 x2 x3 X0 X1 = [⟨Rect.unit (s := S8x512x256) ![7, 0, 0] S1x512x256.size inb_S8x512x256_S1x512x256_7_0_0, slabA slabOk_512 (slabS slabOk_512 true 384 slices_S512x512_o0_384_S512x128 (ld2 arg5 x1 (Rect.unit (s := S512x512) ![0, 0] S512x512.size inb_S512x512_S512x512_0_0)) (ld2 arg6 x2 (Rect.unit (s := S1024x512) ![0, 384] S512x128.size inb_S1024x512_S512x128_0_384))) (ld2 arg7 x3 (Rect.unit (s := S1024x512) ![0, 384] S512x128.size inb_S1024x512_S512x128_0_384)) (scM0.view.readAt (Elt F) (Rect.unit (s := S8x512x128) ![7, 0, 0] S1x512x128.size inb_S8x512x128_S1x512x128_7_0_0).toLoadRect X0) (scM1.view.readAt (Elt F) (Rect.unit (s := S8x512x256) ![7, 0, 0] S1x512x256.size inb_S8x512x256_S1x512x256_7_0_0).toLoadRect X1)⟩,
      ⟨Rect.unit (s := S8x512x256) ![6, 0, 0] S1x512x256.size inb_S8x512x256_S1x512x256_6_0_0, slabA slabOk_512 (slabS slabOk_512 false 384 slices_S512x512_o0_384_S512x128 (ld2 arg5 x1 (Rect.unit (s := S512x512) ![0, 0] S512x512.size inb_S512x512_S512x512_0_0)) (ld2 arg6 x2 (Rect.unit (s := S1024x512) ![0, 384] S512x128.size inb_S1024x512_S512x128_0_384))) (ld2 arg7 x3 (Rect.unit (s := S1024x512) ![0, 384] S512x128.size inb_S1024x512_S512x128_0_384)) (scM0.view.readAt (Elt F) (Rect.unit (s := S8x512x128) ![6, 0, 0] S1x512x128.size inb_S8x512x128_S1x512x128_6_0_0).toLoadRect X0) (scM1.view.readAt (Elt F) (Rect.unit (s := S8x512x256) ![6, 0, 0] S1x512x256.size inb_S8x512x256_S1x512x256_6_0_0).toLoadRect X1)⟩,
      ⟨Rect.unit (s := S8x512x256) ![5, 0, 0] S1x512x256.size inb_S8x512x256_S1x512x256_5_0_0, slabA slabOk_512 (slabS slabOk_512 true 256 slices_S512x512_o0_256_S512x128 (ld2 arg5 x1 (Rect.unit (s := S512x512) ![0, 0] S512x512.size inb_S512x512_S512x512_0_0)) (ld2 arg6 x2 (Rect.unit (s := S1024x512) ![0, 256] S512x128.size inb_S1024x512_S512x128_0_256))) (ld2 arg7 x3 (Rect.unit (s := S1024x512) ![0, 256] S512x128.size inb_S1024x512_S512x128_0_256)) (scM0.view.readAt (Elt F) (Rect.unit (s := S8x512x128) ![5, 0, 0] S1x512x128.size inb_S8x512x128_S1x512x128_5_0_0).toLoadRect X0) (scM1.view.readAt (Elt F) (Rect.unit (s := S8x512x256) ![5, 0, 0] S1x512x256.size inb_S8x512x256_S1x512x256_5_0_0).toLoadRect X1)⟩,
      ⟨Rect.unit (s := S8x512x256) ![4, 0, 0] S1x512x256.size inb_S8x512x256_S1x512x256_4_0_0, slabA slabOk_512 (slabS slabOk_512 false 256 slices_S512x512_o0_256_S512x128 (ld2 arg5 x1 (Rect.unit (s := S512x512) ![0, 0] S512x512.size inb_S512x512_S512x512_0_0)) (ld2 arg6 x2 (Rect.unit (s := S1024x512) ![0, 256] S512x128.size inb_S1024x512_S512x128_0_256))) (ld2 arg7 x3 (Rect.unit (s := S1024x512) ![0, 256] S512x128.size inb_S1024x512_S512x128_0_256)) (scM0.view.readAt (Elt F) (Rect.unit (s := S8x512x128) ![4, 0, 0] S1x512x128.size inb_S8x512x128_S1x512x128_4_0_0).toLoadRect X0) (scM1.view.readAt (Elt F) (Rect.unit (s := S8x512x256) ![4, 0, 0] S1x512x256.size inb_S8x512x256_S1x512x256_4_0_0).toLoadRect X1)⟩,
      ⟨Rect.unit (s := S8x512x256) ![3, 0, 0] S1x512x256.size inb_S8x512x256_S1x512x256_3_0_0, slabA slabOk_512 (slabS slabOk_512 true 128 slices_S512x512_o0_128_S512x128 (ld2 arg5 x1 (Rect.unit (s := S512x512) ![0, 0] S512x512.size inb_S512x512_S512x512_0_0)) (ld2 arg6 x2 (Rect.unit (s := S1024x512) ![0, 128] S512x128.size inb_S1024x512_S512x128_0_128))) (ld2 arg7 x3 (Rect.unit (s := S1024x512) ![0, 128] S512x128.size inb_S1024x512_S512x128_0_128)) (scM0.view.readAt (Elt F) (Rect.unit (s := S8x512x128) ![3, 0, 0] S1x512x128.size inb_S8x512x128_S1x512x128_3_0_0).toLoadRect X0) (scM1.view.readAt (Elt F) (Rect.unit (s := S8x512x256) ![3, 0, 0] S1x512x256.size inb_S8x512x256_S1x512x256_3_0_0).toLoadRect X1)⟩,
      ⟨Rect.unit (s := S8x512x256) ![2, 0, 0] S1x512x256.size inb_S8x512x256_S1x512x256_2_0_0, slabA slabOk_512 (slabS slabOk_512 false 128 slices_S512x512_o0_128_S512x128 (ld2 arg5 x1 (Rect.unit (s := S512x512) ![0, 0] S512x512.size inb_S512x512_S512x512_0_0)) (ld2 arg6 x2 (Rect.unit (s := S1024x512) ![0, 128] S512x128.size inb_S1024x512_S512x128_0_128))) (ld2 arg7 x3 (Rect.unit (s := S1024x512) ![0, 128] S512x128.size inb_S1024x512_S512x128_0_128)) (scM0.view.readAt (Elt F) (Rect.unit (s := S8x512x128) ![2, 0, 0] S1x512x128.size inb_S8x512x128_S1x512x128_2_0_0).toLoadRect X0) (scM1.view.readAt (Elt F) (Rect.unit (s := S8x512x256) ![2, 0, 0] S1x512x256.size inb_S8x512x256_S1x512x256_2_0_0).toLoadRect X1)⟩,
      ⟨Rect.unit (s := S8x512x256) ![1, 0, 0] S1x512x256.size inb_S8x512x256_S1x512x256_1_0_0, slabA slabOk_512 (slabS slabOk_512 true 0 slices_S512x512_o0_0_S512x128 (ld2 arg5 x1 (Rect.unit (s := S512x512) ![0, 0] S512x512.size inb_S512x512_S512x512_0_0)) (ld2 arg6 x2 (Rect.unit (s := S1024x512) ![0, 0] S512x128.size inb_S1024x512_S512x128_0_0))) (ld2 arg7 x3 (Rect.unit (s := S1024x512) ![0, 0] S512x128.size inb_S1024x512_S512x128_0_0)) (scM0.view.readAt (Elt F) (Rect.unit (s := S8x512x128) ![1, 0, 0] S1x512x128.size inb_S8x512x128_S1x512x128_1_0_0).toLoadRect X0) (scM1.view.readAt (Elt F) (Rect.unit (s := S8x512x256) ![1, 0, 0] S1x512x256.size inb_S8x512x256_S1x512x256_1_0_0).toLoadRect X1)⟩,
      ⟨Rect.unit (s := S8x512x256) ![0, 0, 0] S1x512x256.size inb_S8x512x256_S1x512x256_0_0_0, slabA slabOk_512 (slabS slabOk_512 false 0 slices_S512x512_o0_0_S512x128 (ld2 arg5 x1 (Rect.unit (s := S512x512) ![0, 0] S512x512.size inb_S512x512_S512x512_0_0)) (ld2 arg6 x2 (Rect.unit (s := S1024x512) ![0, 0] S512x128.size inb_S1024x512_S512x128_0_0))) (ld2 arg7 x3 (Rect.unit (s := S1024x512) ![0, 0] S512x128.size inb_S1024x512_S512x128_0_0)) (scM0.view.readAt (Elt F) (Rect.unit (s := S8x512x128) ![0, 0, 0] S1x512x128.size inb_S8x512x128_S1x512x128_0_0_0).toLoadRect X0) (scM1.view.readAt (Elt F) (Rect.unit (s := S8x512x256) ![0, 0, 0] S1x512x256.size inb_S8x512x256_S1x512x256_0_0_0).toLoadRect X1)⟩] := by
  rfl

set_option maxHeartbeats 4000000 in
/-- The masked update: the maxima stored. -/
theorem runDiag0_M (c : Dev nD) (arg5 : Memref sig .tc .vmem S512x512 .f32) (arg6 : Memref sig .tc .vmem S1024x512 .bf16) (arg7 : Memref sig .tc .vmem S1024x512 .bf16)
    (x1 : S512x512.Idx → Elt F .f32) (x2 x3 : S1024x512.Idx → Elt F .bf16) (X0 : Buf (Elt F) ((c : Thread nD τ).loc cc0_scratch0)) (X1 : Buf (Elt F) ((c : Thread nD τ).loc cc0_scratch1)) :
    runDiag0.sl.HS0_16 c arg5 arg6 x1 x2 X0 = [⟨Rect.unit (s := S8x512x128) ![7, 256, 0] S1x256x128.size inb_S8x512x128_S1x256x128_7_256_0, slabM slabOk_256b (slabK (chunkMask 256 512 256#32 iota_S256x512_d0_w32 iota_S256x512_d1_w32) (slabS slabOk_256b true 384 slices_S256x512_o0_384_S256x128 (ld2 arg5 x1 (Rect.unit (s := S512x512) ![256, 0] S256x512.size inb_S512x512_S256x512_256_0)) (ld2 arg6 x2 (Rect.unit (s := S1024x512) ![0, 384] S512x128.size inb_S1024x512_S512x128_0_384)))) (scM0.view.readAt (Elt F) (Rect.unit (s := S8x512x128) ![7, 256, 0] S1x256x128.size inb_S8x512x128_S1x256x128_7_256_0).toLoadRect X0)⟩,
      ⟨Rect.unit (s := S8x512x128) ![6, 256, 0] S1x256x128.size inb_S8x512x128_S1x256x128_6_256_0, slabM slabOk_256b (slabK (chunkMask 256 512 256#32 iota_S256x512_d0_w32 iota_S256x512_d1_w32) (slabS slabOk_256b false 384 slices_S256x512_o0_384_S256x128 (ld2 arg5 x1 (Rect.unit (s := S512x512) ![256, 0] S256x512.size inb_S512x512_S256x512_256_0)) (ld2 arg6 x2 (Rect.unit (s := S1024x512) ![0, 384] S512x128.size inb_S1024x512_S512x128_0_384)))) (scM0.view.readAt (Elt F) (Rect.unit (s := S8x512x128) ![6, 256, 0] S1x256x128.size inb_S8x512x128_S1x256x128_6_256_0).toLoadRect X0)⟩,
      ⟨Rect.unit (s := S8x512x128) ![5, 256, 0] S1x256x128.size inb_S8x512x128_S1x256x128_5_256_0, slabM slabOk_256b (slabK (chunkMask 256 512 256#32 iota_S256x512_d0_w32 iota_S256x512_d1_w32) (slabS slabOk_256b true 256 slices_S256x512_o0_256_S256x128 (ld2 arg5 x1 (Rect.unit (s := S512x512) ![256, 0] S256x512.size inb_S512x512_S256x512_256_0)) (ld2 arg6 x2 (Rect.unit (s := S1024x512) ![0, 256] S512x128.size inb_S1024x512_S512x128_0_256)))) (scM0.view.readAt (Elt F) (Rect.unit (s := S8x512x128) ![5, 256, 0] S1x256x128.size inb_S8x512x128_S1x256x128_5_256_0).toLoadRect X0)⟩,
      ⟨Rect.unit (s := S8x512x128) ![4, 256, 0] S1x256x128.size inb_S8x512x128_S1x256x128_4_256_0, slabM slabOk_256b (slabK (chunkMask 256 512 256#32 iota_S256x512_d0_w32 iota_S256x512_d1_w32) (slabS slabOk_256b false 256 slices_S256x512_o0_256_S256x128 (ld2 arg5 x1 (Rect.unit (s := S512x512) ![256, 0] S256x512.size inb_S512x512_S256x512_256_0)) (ld2 arg6 x2 (Rect.unit (s := S1024x512) ![0, 256] S512x128.size inb_S1024x512_S512x128_0_256)))) (scM0.view.readAt (Elt F) (Rect.unit (s := S8x512x128) ![4, 256, 0] S1x256x128.size inb_S8x512x128_S1x256x128_4_256_0).toLoadRect X0)⟩,
      ⟨Rect.unit (s := S8x512x128) ![3, 256, 0] S1x256x128.size inb_S8x512x128_S1x256x128_3_256_0, slabM slabOk_256b (slabK (chunkMask 256 512 256#32 iota_S256x512_d0_w32 iota_S256x512_d1_w32) (slabS slabOk_256b true 128 slices_S256x512_o0_128_S256x128 (ld2 arg5 x1 (Rect.unit (s := S512x512) ![256, 0] S256x512.size inb_S512x512_S256x512_256_0)) (ld2 arg6 x2 (Rect.unit (s := S1024x512) ![0, 128] S512x128.size inb_S1024x512_S512x128_0_128)))) (scM0.view.readAt (Elt F) (Rect.unit (s := S8x512x128) ![3, 256, 0] S1x256x128.size inb_S8x512x128_S1x256x128_3_256_0).toLoadRect X0)⟩,
      ⟨Rect.unit (s := S8x512x128) ![2, 256, 0] S1x256x128.size inb_S8x512x128_S1x256x128_2_256_0, slabM slabOk_256b (slabK (chunkMask 256 512 256#32 iota_S256x512_d0_w32 iota_S256x512_d1_w32) (slabS slabOk_256b false 128 slices_S256x512_o0_128_S256x128 (ld2 arg5 x1 (Rect.unit (s := S512x512) ![256, 0] S256x512.size inb_S512x512_S256x512_256_0)) (ld2 arg6 x2 (Rect.unit (s := S1024x512) ![0, 128] S512x128.size inb_S1024x512_S512x128_0_128)))) (scM0.view.readAt (Elt F) (Rect.unit (s := S8x512x128) ![2, 256, 0] S1x256x128.size inb_S8x512x128_S1x256x128_2_256_0).toLoadRect X0)⟩,
      ⟨Rect.unit (s := S8x512x128) ![1, 256, 0] S1x256x128.size inb_S8x512x128_S1x256x128_1_256_0, slabM slabOk_256b (slabK (chunkMask 256 512 256#32 iota_S256x512_d0_w32 iota_S256x512_d1_w32) (slabS slabOk_256b true 0 slices_S256x512_o0_0_S256x128 (ld2 arg5 x1 (Rect.unit (s := S512x512) ![256, 0] S256x512.size inb_S512x512_S256x512_256_0)) (ld2 arg6 x2 (Rect.unit (s := S1024x512) ![0, 0] S512x128.size inb_S1024x512_S512x128_0_0)))) (scM0.view.readAt (Elt F) (Rect.unit (s := S8x512x128) ![1, 256, 0] S1x256x128.size inb_S8x512x128_S1x256x128_1_256_0).toLoadRect X0)⟩,
      ⟨Rect.unit (s := S8x512x128) ![0, 256, 0] S1x256x128.size inb_S8x512x128_S1x256x128_0_256_0, slabM slabOk_256b (slabK (chunkMask 256 512 256#32 iota_S256x512_d0_w32 iota_S256x512_d1_w32) (slabS slabOk_256b false 0 slices_S256x512_o0_0_S256x128 (ld2 arg5 x1 (Rect.unit (s := S512x512) ![256, 0] S256x512.size inb_S512x512_S256x512_256_0)) (ld2 arg6 x2 (Rect.unit (s := S1024x512) ![0, 0] S512x128.size inb_S1024x512_S512x128_0_0)))) (scM0.view.readAt (Elt F) (Rect.unit (s := S8x512x128) ![0, 256, 0] S1x256x128.size inb_S8x512x128_S1x256x128_0_256_0).toLoadRect X0)⟩,
      ⟨Rect.unit (s := S8x512x128) ![7, 0, 0] S1x256x128.size inb_S8x512x128_S1x256x128_7_0_0, slabM slabOk_256 (slabK (chunkMask 256 256 0#32 iota_S256x256_d0_w32 iota_S256x256_d1_w32) (slabS slabOk_256 true 384 slices_S256x512_o0_384_S256x128 (ld2 arg5 x1 (Rect.unit (s := S512x512) ![0, 0] S256x512.size inb_S512x512_S256x512_0_0)) (ld2 arg6 x2 (Rect.unit (s := S1024x512) ![0, 384] S256x128.size inb_S1024x512_S256x128_0_384)))) (scM0.view.readAt (Elt F) (Rect.unit (s := S8x512x128) ![7, 0, 0] S1x256x128.size inb_S8x512x128_S1x256x128_7_0_0).toLoadRect X0)⟩,
      ⟨Rect.unit (s := S8x512x128) ![6, 0, 0] S1x256x128.size inb_S8x512x128_S1x256x128_6_0_0, slabM slabOk_256 (slabK (chunkMask 256 256 0#32 iota_S256x256_d0_w32 iota_S256x256_d1_w32) (slabS slabOk_256 false 384 slices_S256x512_o0_384_S256x128 (ld2 arg5 x1 (Rect.unit (s := S512x512) ![0, 0] S256x512.size inb_S512x512_S256x512_0_0)) (ld2 arg6 x2 (Rect.unit (s := S1024x512) ![0, 384] S256x128.size inb_S1024x512_S256x128_0_384)))) (scM0.view.readAt (Elt F) (Rect.unit (s := S8x512x128) ![6, 0, 0] S1x256x128.size inb_S8x512x128_S1x256x128_6_0_0).toLoadRect X0)⟩,
      ⟨Rect.unit (s := S8x512x128) ![5, 0, 0] S1x256x128.size inb_S8x512x128_S1x256x128_5_0_0, slabM slabOk_256 (slabK (chunkMask 256 256 0#32 iota_S256x256_d0_w32 iota_S256x256_d1_w32) (slabS slabOk_256 true 256 slices_S256x512_o0_256_S256x128 (ld2 arg5 x1 (Rect.unit (s := S512x512) ![0, 0] S256x512.size inb_S512x512_S256x512_0_0)) (ld2 arg6 x2 (Rect.unit (s := S1024x512) ![0, 256] S256x128.size inb_S1024x512_S256x128_0_256)))) (scM0.view.readAt (Elt F) (Rect.unit (s := S8x512x128) ![5, 0, 0] S1x256x128.size inb_S8x512x128_S1x256x128_5_0_0).toLoadRect X0)⟩,
      ⟨Rect.unit (s := S8x512x128) ![4, 0, 0] S1x256x128.size inb_S8x512x128_S1x256x128_4_0_0, slabM slabOk_256 (slabK (chunkMask 256 256 0#32 iota_S256x256_d0_w32 iota_S256x256_d1_w32) (slabS slabOk_256 false 256 slices_S256x512_o0_256_S256x128 (ld2 arg5 x1 (Rect.unit (s := S512x512) ![0, 0] S256x512.size inb_S512x512_S256x512_0_0)) (ld2 arg6 x2 (Rect.unit (s := S1024x512) ![0, 256] S256x128.size inb_S1024x512_S256x128_0_256)))) (scM0.view.readAt (Elt F) (Rect.unit (s := S8x512x128) ![4, 0, 0] S1x256x128.size inb_S8x512x128_S1x256x128_4_0_0).toLoadRect X0)⟩,
      ⟨Rect.unit (s := S8x512x128) ![3, 0, 0] S1x256x128.size inb_S8x512x128_S1x256x128_3_0_0, slabM slabOk_256 (slabK (chunkMask 256 256 0#32 iota_S256x256_d0_w32 iota_S256x256_d1_w32) (slabS slabOk_256 true 128 slices_S256x512_o0_128_S256x128 (ld2 arg5 x1 (Rect.unit (s := S512x512) ![0, 0] S256x512.size inb_S512x512_S256x512_0_0)) (ld2 arg6 x2 (Rect.unit (s := S1024x512) ![0, 128] S256x128.size inb_S1024x512_S256x128_0_128)))) (scM0.view.readAt (Elt F) (Rect.unit (s := S8x512x128) ![3, 0, 0] S1x256x128.size inb_S8x512x128_S1x256x128_3_0_0).toLoadRect X0)⟩,
      ⟨Rect.unit (s := S8x512x128) ![2, 0, 0] S1x256x128.size inb_S8x512x128_S1x256x128_2_0_0, slabM slabOk_256 (slabK (chunkMask 256 256 0#32 iota_S256x256_d0_w32 iota_S256x256_d1_w32) (slabS slabOk_256 false 128 slices_S256x512_o0_128_S256x128 (ld2 arg5 x1 (Rect.unit (s := S512x512) ![0, 0] S256x512.size inb_S512x512_S256x512_0_0)) (ld2 arg6 x2 (Rect.unit (s := S1024x512) ![0, 128] S256x128.size inb_S1024x512_S256x128_0_128)))) (scM0.view.readAt (Elt F) (Rect.unit (s := S8x512x128) ![2, 0, 0] S1x256x128.size inb_S8x512x128_S1x256x128_2_0_0).toLoadRect X0)⟩,
      ⟨Rect.unit (s := S8x512x128) ![1, 0, 0] S1x256x128.size inb_S8x512x128_S1x256x128_1_0_0, slabM slabOk_256 (slabK (chunkMask 256 256 0#32 iota_S256x256_d0_w32 iota_S256x256_d1_w32) (slabS slabOk_256 true 0 slices_S256x512_o0_0_S256x128 (ld2 arg5 x1 (Rect.unit (s := S512x512) ![0, 0] S256x512.size inb_S512x512_S256x512_0_0)) (ld2 arg6 x2 (Rect.unit (s := S1024x512) ![0, 0] S256x128.size inb_S1024x512_S256x128_0_0)))) (scM0.view.readAt (Elt F) (Rect.unit (s := S8x512x128) ![1, 0, 0] S1x256x128.size inb_S8x512x128_S1x256x128_1_0_0).toLoadRect X0)⟩,
      ⟨Rect.unit (s := S8x512x128) ![0, 0, 0] S1x256x128.size inb_S8x512x128_S1x256x128_0_0_0, slabM slabOk_256 (slabK (chunkMask 256 256 0#32 iota_S256x256_d0_w32 iota_S256x256_d1_w32) (slabS slabOk_256 false 0 slices_S256x512_o0_0_S256x128 (ld2 arg5 x1 (Rect.unit (s := S512x512) ![0, 0] S256x512.size inb_S512x512_S256x512_0_0)) (ld2 arg6 x2 (Rect.unit (s := S1024x512) ![0, 0] S256x128.size inb_S1024x512_S256x128_0_0)))) (scM0.view.readAt (Elt F) (Rect.unit (s := S8x512x128) ![0, 0, 0] S1x256x128.size inb_S8x512x128_S1x256x128_0_0_0).toLoadRect X0)⟩] := by
  rfl

set_option maxHeartbeats 4000000 in
/-- The masked update: the weighted sums stored. -/
theorem runDiag0_A (c : Dev nD) (arg5 : Memref sig .tc .vmem S512x512 .f32) (arg6 : Memref sig .tc .vmem S1024x512 .bf16) (arg7 : Memref sig .tc .vmem S1024x512 .bf16)
    (x1 : S512x512.Idx → Elt F .f32) (x2 x3 : S1024x512.Idx → Elt F .bf16) (X0 : Buf (Elt F) ((c : Thread nD τ).loc cc0_scratch0)) (X1 : Buf (Elt F) ((c : Thread nD τ).loc cc0_scratch1)) :
    runDiag0.sl.HS1_16 c arg5 arg6 arg7 x1 x2 x3 X0 X1 = [⟨Rect.unit (s := S8x512x256) ![7, 256, 0] S1x256x256.size inb_S8x512x256_S1x256x256_7_256_0, slabA slabOk_256b (slabK (chunkMask 256 512 256#32 iota_S256x512_d0_w32 iota_S256x512_d1_w32) (slabS slabOk_256b true 384 slices_S256x512_o0_384_S256x128 (ld2 arg5 x1 (Rect.unit (s := S512x512) ![256, 0] S256x512.size inb_S512x512_S256x512_256_0)) (ld2 arg6 x2 (Rect.unit (s := S1024x512) ![0, 384] S512x128.size inb_S1024x512_S512x128_0_384)))) (ld2 arg7 x3 (Rect.unit (s := S1024x512) ![0, 384] S512x128.size inb_S1024x512_S512x128_0_384)) (scM0.view.readAt (Elt F) (Rect.unit (s := S8x512x128) ![7, 256, 0] S1x256x128.size inb_S8x512x128_S1x256x128_7_256_0).toLoadRect X0) (scM1.view.readAt (Elt F) (Rect.unit (s := S8x512x256) ![7, 256, 0] S1x256x256.size inb_S8x512x256_S1x256x256_7_256_0).toLoadRect X1)⟩,
      ⟨Rect.unit (s := S8x512x256) ![6, 256, 0] S1x256x256.size inb_S8x512x256_S1x256x256_6_256_0, slabA slabOk_256b (slabK (chunkMask 256 512 256#32 iota_S256x512_d0_w32 iota_S256x512_d1_w32) (slabS slabOk_256b false 384 slices_S256x512_o0_384_S256x128 (ld2 arg5 x1 (Rect.unit (s := S512x512) ![256, 0] S256x512.size inb_S512x512_S256x512_256_0)) (ld2 arg6 x2 (Rect.unit (s := S1024x512) ![0, 384] S512x128.size inb_S1024x512_S512x128_0_384)))) (ld2 arg7 x3 (Rect.unit (s := S1024x512) ![0, 384] S512x128.size inb_S1024x512_S512x128_0_384)) (scM0.view.readAt (Elt F) (Rect.unit (s := S8x512x128) ![6, 256, 0] S1x256x128.size inb_S8x512x128_S1x256x128_6_256_0).toLoadRect X0) (scM1.view.readAt (Elt F) (Rect.unit (s := S8x512x256) ![6, 256, 0] S1x256x256.size inb_S8x512x256_S1x256x256_6_256_0).toLoadRect X1)⟩,
      ⟨Rect.unit (s := S8x512x256) ![5, 256, 0] S1x256x256.size inb_S8x512x256_S1x256x256_5_256_0, slabA slabOk_256b (slabK (chunkMask 256 512 256#32 iota_S256x512_d0_w32 iota_S256x512_d1_w32) (slabS slabOk_256b true 256 slices_S256x512_o0_256_S256x128 (ld2 arg5 x1 (Rect.unit (s := S512x512) ![256, 0] S256x512.size inb_S512x512_S256x512_256_0)) (ld2 arg6 x2 (Rect.unit (s := S1024x512) ![0, 256] S512x128.size inb_S1024x512_S512x128_0_256)))) (ld2 arg7 x3 (Rect.unit (s := S1024x512) ![0, 256] S512x128.size inb_S1024x512_S512x128_0_256)) (scM0.view.readAt (Elt F) (Rect.unit (s := S8x512x128) ![5, 256, 0] S1x256x128.size inb_S8x512x128_S1x256x128_5_256_0).toLoadRect X0) (scM1.view.readAt (Elt F) (Rect.unit (s := S8x512x256) ![5, 256, 0] S1x256x256.size inb_S8x512x256_S1x256x256_5_256_0).toLoadRect X1)⟩,
      ⟨Rect.unit (s := S8x512x256) ![4, 256, 0] S1x256x256.size inb_S8x512x256_S1x256x256_4_256_0, slabA slabOk_256b (slabK (chunkMask 256 512 256#32 iota_S256x512_d0_w32 iota_S256x512_d1_w32) (slabS slabOk_256b false 256 slices_S256x512_o0_256_S256x128 (ld2 arg5 x1 (Rect.unit (s := S512x512) ![256, 0] S256x512.size inb_S512x512_S256x512_256_0)) (ld2 arg6 x2 (Rect.unit (s := S1024x512) ![0, 256] S512x128.size inb_S1024x512_S512x128_0_256)))) (ld2 arg7 x3 (Rect.unit (s := S1024x512) ![0, 256] S512x128.size inb_S1024x512_S512x128_0_256)) (scM0.view.readAt (Elt F) (Rect.unit (s := S8x512x128) ![4, 256, 0] S1x256x128.size inb_S8x512x128_S1x256x128_4_256_0).toLoadRect X0) (scM1.view.readAt (Elt F) (Rect.unit (s := S8x512x256) ![4, 256, 0] S1x256x256.size inb_S8x512x256_S1x256x256_4_256_0).toLoadRect X1)⟩,
      ⟨Rect.unit (s := S8x512x256) ![3, 256, 0] S1x256x256.size inb_S8x512x256_S1x256x256_3_256_0, slabA slabOk_256b (slabK (chunkMask 256 512 256#32 iota_S256x512_d0_w32 iota_S256x512_d1_w32) (slabS slabOk_256b true 128 slices_S256x512_o0_128_S256x128 (ld2 arg5 x1 (Rect.unit (s := S512x512) ![256, 0] S256x512.size inb_S512x512_S256x512_256_0)) (ld2 arg6 x2 (Rect.unit (s := S1024x512) ![0, 128] S512x128.size inb_S1024x512_S512x128_0_128)))) (ld2 arg7 x3 (Rect.unit (s := S1024x512) ![0, 128] S512x128.size inb_S1024x512_S512x128_0_128)) (scM0.view.readAt (Elt F) (Rect.unit (s := S8x512x128) ![3, 256, 0] S1x256x128.size inb_S8x512x128_S1x256x128_3_256_0).toLoadRect X0) (scM1.view.readAt (Elt F) (Rect.unit (s := S8x512x256) ![3, 256, 0] S1x256x256.size inb_S8x512x256_S1x256x256_3_256_0).toLoadRect X1)⟩,
      ⟨Rect.unit (s := S8x512x256) ![2, 256, 0] S1x256x256.size inb_S8x512x256_S1x256x256_2_256_0, slabA slabOk_256b (slabK (chunkMask 256 512 256#32 iota_S256x512_d0_w32 iota_S256x512_d1_w32) (slabS slabOk_256b false 128 slices_S256x512_o0_128_S256x128 (ld2 arg5 x1 (Rect.unit (s := S512x512) ![256, 0] S256x512.size inb_S512x512_S256x512_256_0)) (ld2 arg6 x2 (Rect.unit (s := S1024x512) ![0, 128] S512x128.size inb_S1024x512_S512x128_0_128)))) (ld2 arg7 x3 (Rect.unit (s := S1024x512) ![0, 128] S512x128.size inb_S1024x512_S512x128_0_128)) (scM0.view.readAt (Elt F) (Rect.unit (s := S8x512x128) ![2, 256, 0] S1x256x128.size inb_S8x512x128_S1x256x128_2_256_0).toLoadRect X0) (scM1.view.readAt (Elt F) (Rect.unit (s := S8x512x256) ![2, 256, 0] S1x256x256.size inb_S8x512x256_S1x256x256_2_256_0).toLoadRect X1)⟩,
      ⟨Rect.unit (s := S8x512x256) ![1, 256, 0] S1x256x256.size inb_S8x512x256_S1x256x256_1_256_0, slabA slabOk_256b (slabK (chunkMask 256 512 256#32 iota_S256x512_d0_w32 iota_S256x512_d1_w32) (slabS slabOk_256b true 0 slices_S256x512_o0_0_S256x128 (ld2 arg5 x1 (Rect.unit (s := S512x512) ![256, 0] S256x512.size inb_S512x512_S256x512_256_0)) (ld2 arg6 x2 (Rect.unit (s := S1024x512) ![0, 0] S512x128.size inb_S1024x512_S512x128_0_0)))) (ld2 arg7 x3 (Rect.unit (s := S1024x512) ![0, 0] S512x128.size inb_S1024x512_S512x128_0_0)) (scM0.view.readAt (Elt F) (Rect.unit (s := S8x512x128) ![1, 256, 0] S1x256x128.size inb_S8x512x128_S1x256x128_1_256_0).toLoadRect X0) (scM1.view.readAt (Elt F) (Rect.unit (s := S8x512x256) ![1, 256, 0] S1x256x256.size inb_S8x512x256_S1x256x256_1_256_0).toLoadRect X1)⟩,
      ⟨Rect.unit (s := S8x512x256) ![0, 256, 0] S1x256x256.size inb_S8x512x256_S1x256x256_0_256_0, slabA slabOk_256b (slabK (chunkMask 256 512 256#32 iota_S256x512_d0_w32 iota_S256x512_d1_w32) (slabS slabOk_256b false 0 slices_S256x512_o0_0_S256x128 (ld2 arg5 x1 (Rect.unit (s := S512x512) ![256, 0] S256x512.size inb_S512x512_S256x512_256_0)) (ld2 arg6 x2 (Rect.unit (s := S1024x512) ![0, 0] S512x128.size inb_S1024x512_S512x128_0_0)))) (ld2 arg7 x3 (Rect.unit (s := S1024x512) ![0, 0] S512x128.size inb_S1024x512_S512x128_0_0)) (scM0.view.readAt (Elt F) (Rect.unit (s := S8x512x128) ![0, 256, 0] S1x256x128.size inb_S8x512x128_S1x256x128_0_256_0).toLoadRect X0) (scM1.view.readAt (Elt F) (Rect.unit (s := S8x512x256) ![0, 256, 0] S1x256x256.size inb_S8x512x256_S1x256x256_0_256_0).toLoadRect X1)⟩,
      ⟨Rect.unit (s := S8x512x256) ![7, 0, 0] S1x256x256.size inb_S8x512x256_S1x256x256_7_0_0, slabA slabOk_256 (slabK (chunkMask 256 256 0#32 iota_S256x256_d0_w32 iota_S256x256_d1_w32) (slabS slabOk_256 true 384 slices_S256x512_o0_384_S256x128 (ld2 arg5 x1 (Rect.unit (s := S512x512) ![0, 0] S256x512.size inb_S512x512_S256x512_0_0)) (ld2 arg6 x2 (Rect.unit (s := S1024x512) ![0, 384] S256x128.size inb_S1024x512_S256x128_0_384)))) (ld2 arg7 x3 (Rect.unit (s := S1024x512) ![0, 384] S256x128.size inb_S1024x512_S256x128_0_384)) (scM0.view.readAt (Elt F) (Rect.unit (s := S8x512x128) ![7, 0, 0] S1x256x128.size inb_S8x512x128_S1x256x128_7_0_0).toLoadRect X0) (scM1.view.readAt (Elt F) (Rect.unit (s := S8x512x256) ![7, 0, 0] S1x256x256.size inb_S8x512x256_S1x256x256_7_0_0).toLoadRect X1)⟩,
      ⟨Rect.unit (s := S8x512x256) ![6, 0, 0] S1x256x256.size inb_S8x512x256_S1x256x256_6_0_0, slabA slabOk_256 (slabK (chunkMask 256 256 0#32 iota_S256x256_d0_w32 iota_S256x256_d1_w32) (slabS slabOk_256 false 384 slices_S256x512_o0_384_S256x128 (ld2 arg5 x1 (Rect.unit (s := S512x512) ![0, 0] S256x512.size inb_S512x512_S256x512_0_0)) (ld2 arg6 x2 (Rect.unit (s := S1024x512) ![0, 384] S256x128.size inb_S1024x512_S256x128_0_384)))) (ld2 arg7 x3 (Rect.unit (s := S1024x512) ![0, 384] S256x128.size inb_S1024x512_S256x128_0_384)) (scM0.view.readAt (Elt F) (Rect.unit (s := S8x512x128) ![6, 0, 0] S1x256x128.size inb_S8x512x128_S1x256x128_6_0_0).toLoadRect X0) (scM1.view.readAt (Elt F) (Rect.unit (s := S8x512x256) ![6, 0, 0] S1x256x256.size inb_S8x512x256_S1x256x256_6_0_0).toLoadRect X1)⟩,
      ⟨Rect.unit (s := S8x512x256) ![5, 0, 0] S1x256x256.size inb_S8x512x256_S1x256x256_5_0_0, slabA slabOk_256 (slabK (chunkMask 256 256 0#32 iota_S256x256_d0_w32 iota_S256x256_d1_w32) (slabS slabOk_256 true 256 slices_S256x512_o0_256_S256x128 (ld2 arg5 x1 (Rect.unit (s := S512x512) ![0, 0] S256x512.size inb_S512x512_S256x512_0_0)) (ld2 arg6 x2 (Rect.unit (s := S1024x512) ![0, 256] S256x128.size inb_S1024x512_S256x128_0_256)))) (ld2 arg7 x3 (Rect.unit (s := S1024x512) ![0, 256] S256x128.size inb_S1024x512_S256x128_0_256)) (scM0.view.readAt (Elt F) (Rect.unit (s := S8x512x128) ![5, 0, 0] S1x256x128.size inb_S8x512x128_S1x256x128_5_0_0).toLoadRect X0) (scM1.view.readAt (Elt F) (Rect.unit (s := S8x512x256) ![5, 0, 0] S1x256x256.size inb_S8x512x256_S1x256x256_5_0_0).toLoadRect X1)⟩,
      ⟨Rect.unit (s := S8x512x256) ![4, 0, 0] S1x256x256.size inb_S8x512x256_S1x256x256_4_0_0, slabA slabOk_256 (slabK (chunkMask 256 256 0#32 iota_S256x256_d0_w32 iota_S256x256_d1_w32) (slabS slabOk_256 false 256 slices_S256x512_o0_256_S256x128 (ld2 arg5 x1 (Rect.unit (s := S512x512) ![0, 0] S256x512.size inb_S512x512_S256x512_0_0)) (ld2 arg6 x2 (Rect.unit (s := S1024x512) ![0, 256] S256x128.size inb_S1024x512_S256x128_0_256)))) (ld2 arg7 x3 (Rect.unit (s := S1024x512) ![0, 256] S256x128.size inb_S1024x512_S256x128_0_256)) (scM0.view.readAt (Elt F) (Rect.unit (s := S8x512x128) ![4, 0, 0] S1x256x128.size inb_S8x512x128_S1x256x128_4_0_0).toLoadRect X0) (scM1.view.readAt (Elt F) (Rect.unit (s := S8x512x256) ![4, 0, 0] S1x256x256.size inb_S8x512x256_S1x256x256_4_0_0).toLoadRect X1)⟩,
      ⟨Rect.unit (s := S8x512x256) ![3, 0, 0] S1x256x256.size inb_S8x512x256_S1x256x256_3_0_0, slabA slabOk_256 (slabK (chunkMask 256 256 0#32 iota_S256x256_d0_w32 iota_S256x256_d1_w32) (slabS slabOk_256 true 128 slices_S256x512_o0_128_S256x128 (ld2 arg5 x1 (Rect.unit (s := S512x512) ![0, 0] S256x512.size inb_S512x512_S256x512_0_0)) (ld2 arg6 x2 (Rect.unit (s := S1024x512) ![0, 128] S256x128.size inb_S1024x512_S256x128_0_128)))) (ld2 arg7 x3 (Rect.unit (s := S1024x512) ![0, 128] S256x128.size inb_S1024x512_S256x128_0_128)) (scM0.view.readAt (Elt F) (Rect.unit (s := S8x512x128) ![3, 0, 0] S1x256x128.size inb_S8x512x128_S1x256x128_3_0_0).toLoadRect X0) (scM1.view.readAt (Elt F) (Rect.unit (s := S8x512x256) ![3, 0, 0] S1x256x256.size inb_S8x512x256_S1x256x256_3_0_0).toLoadRect X1)⟩,
      ⟨Rect.unit (s := S8x512x256) ![2, 0, 0] S1x256x256.size inb_S8x512x256_S1x256x256_2_0_0, slabA slabOk_256 (slabK (chunkMask 256 256 0#32 iota_S256x256_d0_w32 iota_S256x256_d1_w32) (slabS slabOk_256 false 128 slices_S256x512_o0_128_S256x128 (ld2 arg5 x1 (Rect.unit (s := S512x512) ![0, 0] S256x512.size inb_S512x512_S256x512_0_0)) (ld2 arg6 x2 (Rect.unit (s := S1024x512) ![0, 128] S256x128.size inb_S1024x512_S256x128_0_128)))) (ld2 arg7 x3 (Rect.unit (s := S1024x512) ![0, 128] S256x128.size inb_S1024x512_S256x128_0_128)) (scM0.view.readAt (Elt F) (Rect.unit (s := S8x512x128) ![2, 0, 0] S1x256x128.size inb_S8x512x128_S1x256x128_2_0_0).toLoadRect X0) (scM1.view.readAt (Elt F) (Rect.unit (s := S8x512x256) ![2, 0, 0] S1x256x256.size inb_S8x512x256_S1x256x256_2_0_0).toLoadRect X1)⟩,
      ⟨Rect.unit (s := S8x512x256) ![1, 0, 0] S1x256x256.size inb_S8x512x256_S1x256x256_1_0_0, slabA slabOk_256 (slabK (chunkMask 256 256 0#32 iota_S256x256_d0_w32 iota_S256x256_d1_w32) (slabS slabOk_256 true 0 slices_S256x512_o0_0_S256x128 (ld2 arg5 x1 (Rect.unit (s := S512x512) ![0, 0] S256x512.size inb_S512x512_S256x512_0_0)) (ld2 arg6 x2 (Rect.unit (s := S1024x512) ![0, 0] S256x128.size inb_S1024x512_S256x128_0_0)))) (ld2 arg7 x3 (Rect.unit (s := S1024x512) ![0, 0] S256x128.size inb_S1024x512_S256x128_0_0)) (scM0.view.readAt (Elt F) (Rect.unit (s := S8x512x128) ![1, 0, 0] S1x256x128.size inb_S8x512x128_S1x256x128_1_0_0).toLoadRect X0) (scM1.view.readAt (Elt F) (Rect.unit (s := S8x512x256) ![1, 0, 0] S1x256x256.size inb_S8x512x256_S1x256x256_1_0_0).toLoadRect X1)⟩,
      ⟨Rect.unit (s := S8x512x256) ![0, 0, 0] S1x256x256.size inb_S8x512x256_S1x256x256_0_0_0, slabA slabOk_256 (slabK (chunkMask 256 256 0#32 iota_S256x256_d0_w32 iota_S256x256_d1_w32) (slabS slabOk_256 false 0 slices_S256x512_o0_0_S256x128 (ld2 arg5 x1 (Rect.unit (s := S512x512) ![0, 0] S256x512.size inb_S512x512_S256x512_0_0)) (ld2 arg6 x2 (Rect.unit (s := S1024x512) ![0, 0] S256x128.size inb_S1024x512_S256x128_0_0)))) (ld2 arg7 x3 (Rect.unit (s := S1024x512) ![0, 0] S256x128.size inb_S1024x512_S256x128_0_0)) (scM0.view.readAt (Elt F) (Rect.unit (s := S8x512x128) ![0, 0, 0] S1x256x128.size inb_S8x512x128_S1x256x128_0_0_0).toLoadRect X0) (scM1.view.readAt (Elt F) (Rect.unit (s := S8x512x256) ![0, 0, 0] S1x256x256.size inb_S8x512x256_S1x256x256_0_0_0).toLoadRect X1)⟩] := by
  rfl

set_option maxHeartbeats 4000000 in
/-- The masked update: the maxima stored. -/
theorem runDiag1_M (c : Dev nD) (arg5 : Memref sig .tc .vmem S512x512 .f32) (arg6 : Memref sig .tc .vmem S1024x512 .bf16) (arg7 : Memref sig .tc .vmem S1024x512 .bf16)
    (x1 : S512x512.Idx → Elt F .f32) (x2 x3 : S1024x512.Idx → Elt F .bf16) (X0 : Buf (Elt F) ((c : Thread nD τ).loc cc0_scratch0)) (X1 : Buf (Elt F) ((c : Thread nD τ).loc cc0_scratch1)) :
    runDiag1.sl.HS0_16 c arg5 arg6 x1 x2 X0 = [⟨Rect.unit (s := S8x512x128) ![7, 256, 0] S1x256x128.size inb_S8x512x128_S1x256x128_7_256_0, slabM slabOk_256b (slabK (chunkMask 256 512 256#32 iota_S256x512_d0_w32 iota_S256x512_d1_w32) (slabS slabOk_256b true 384 slices_S256x512_o0_384_S256x128 (ld2 arg5 x1 (Rect.unit (s := S512x512) ![256, 0] S256x512.size inb_S512x512_S256x512_256_0)) (ld2 arg6 x2 (Rect.unit (s := S1024x512) ![512, 384] S512x128.size inb_S1024x512_S512x128_512_384)))) (scM0.view.readAt (Elt F) (Rect.unit (s := S8x512x128) ![7, 256, 0] S1x256x128.size inb_S8x512x128_S1x256x128_7_256_0).toLoadRect X0)⟩,
      ⟨Rect.unit (s := S8x512x128) ![6, 256, 0] S1x256x128.size inb_S8x512x128_S1x256x128_6_256_0, slabM slabOk_256b (slabK (chunkMask 256 512 256#32 iota_S256x512_d0_w32 iota_S256x512_d1_w32) (slabS slabOk_256b false 384 slices_S256x512_o0_384_S256x128 (ld2 arg5 x1 (Rect.unit (s := S512x512) ![256, 0] S256x512.size inb_S512x512_S256x512_256_0)) (ld2 arg6 x2 (Rect.unit (s := S1024x512) ![512, 384] S512x128.size inb_S1024x512_S512x128_512_384)))) (scM0.view.readAt (Elt F) (Rect.unit (s := S8x512x128) ![6, 256, 0] S1x256x128.size inb_S8x512x128_S1x256x128_6_256_0).toLoadRect X0)⟩,
      ⟨Rect.unit (s := S8x512x128) ![5, 256, 0] S1x256x128.size inb_S8x512x128_S1x256x128_5_256_0, slabM slabOk_256b (slabK (chunkMask 256 512 256#32 iota_S256x512_d0_w32 iota_S256x512_d1_w32) (slabS slabOk_256b true 256 slices_S256x512_o0_256_S256x128 (ld2 arg5 x1 (Rect.unit (s := S512x512) ![256, 0] S256x512.size inb_S512x512_S256x512_256_0)) (ld2 arg6 x2 (Rect.unit (s := S1024x512) ![512, 256] S512x128.size inb_S1024x512_S512x128_512_256)))) (scM0.view.readAt (Elt F) (Rect.unit (s := S8x512x128) ![5, 256, 0] S1x256x128.size inb_S8x512x128_S1x256x128_5_256_0).toLoadRect X0)⟩,
      ⟨Rect.unit (s := S8x512x128) ![4, 256, 0] S1x256x128.size inb_S8x512x128_S1x256x128_4_256_0, slabM slabOk_256b (slabK (chunkMask 256 512 256#32 iota_S256x512_d0_w32 iota_S256x512_d1_w32) (slabS slabOk_256b false 256 slices_S256x512_o0_256_S256x128 (ld2 arg5 x1 (Rect.unit (s := S512x512) ![256, 0] S256x512.size inb_S512x512_S256x512_256_0)) (ld2 arg6 x2 (Rect.unit (s := S1024x512) ![512, 256] S512x128.size inb_S1024x512_S512x128_512_256)))) (scM0.view.readAt (Elt F) (Rect.unit (s := S8x512x128) ![4, 256, 0] S1x256x128.size inb_S8x512x128_S1x256x128_4_256_0).toLoadRect X0)⟩,
      ⟨Rect.unit (s := S8x512x128) ![3, 256, 0] S1x256x128.size inb_S8x512x128_S1x256x128_3_256_0, slabM slabOk_256b (slabK (chunkMask 256 512 256#32 iota_S256x512_d0_w32 iota_S256x512_d1_w32) (slabS slabOk_256b true 128 slices_S256x512_o0_128_S256x128 (ld2 arg5 x1 (Rect.unit (s := S512x512) ![256, 0] S256x512.size inb_S512x512_S256x512_256_0)) (ld2 arg6 x2 (Rect.unit (s := S1024x512) ![512, 128] S512x128.size inb_S1024x512_S512x128_512_128)))) (scM0.view.readAt (Elt F) (Rect.unit (s := S8x512x128) ![3, 256, 0] S1x256x128.size inb_S8x512x128_S1x256x128_3_256_0).toLoadRect X0)⟩,
      ⟨Rect.unit (s := S8x512x128) ![2, 256, 0] S1x256x128.size inb_S8x512x128_S1x256x128_2_256_0, slabM slabOk_256b (slabK (chunkMask 256 512 256#32 iota_S256x512_d0_w32 iota_S256x512_d1_w32) (slabS slabOk_256b false 128 slices_S256x512_o0_128_S256x128 (ld2 arg5 x1 (Rect.unit (s := S512x512) ![256, 0] S256x512.size inb_S512x512_S256x512_256_0)) (ld2 arg6 x2 (Rect.unit (s := S1024x512) ![512, 128] S512x128.size inb_S1024x512_S512x128_512_128)))) (scM0.view.readAt (Elt F) (Rect.unit (s := S8x512x128) ![2, 256, 0] S1x256x128.size inb_S8x512x128_S1x256x128_2_256_0).toLoadRect X0)⟩,
      ⟨Rect.unit (s := S8x512x128) ![1, 256, 0] S1x256x128.size inb_S8x512x128_S1x256x128_1_256_0, slabM slabOk_256b (slabK (chunkMask 256 512 256#32 iota_S256x512_d0_w32 iota_S256x512_d1_w32) (slabS slabOk_256b true 0 slices_S256x512_o0_0_S256x128 (ld2 arg5 x1 (Rect.unit (s := S512x512) ![256, 0] S256x512.size inb_S512x512_S256x512_256_0)) (ld2 arg6 x2 (Rect.unit (s := S1024x512) ![512, 0] S512x128.size inb_S1024x512_S512x128_512_0)))) (scM0.view.readAt (Elt F) (Rect.unit (s := S8x512x128) ![1, 256, 0] S1x256x128.size inb_S8x512x128_S1x256x128_1_256_0).toLoadRect X0)⟩,
      ⟨Rect.unit (s := S8x512x128) ![0, 256, 0] S1x256x128.size inb_S8x512x128_S1x256x128_0_256_0, slabM slabOk_256b (slabK (chunkMask 256 512 256#32 iota_S256x512_d0_w32 iota_S256x512_d1_w32) (slabS slabOk_256b false 0 slices_S256x512_o0_0_S256x128 (ld2 arg5 x1 (Rect.unit (s := S512x512) ![256, 0] S256x512.size inb_S512x512_S256x512_256_0)) (ld2 arg6 x2 (Rect.unit (s := S1024x512) ![512, 0] S512x128.size inb_S1024x512_S512x128_512_0)))) (scM0.view.readAt (Elt F) (Rect.unit (s := S8x512x128) ![0, 256, 0] S1x256x128.size inb_S8x512x128_S1x256x128_0_256_0).toLoadRect X0)⟩,
      ⟨Rect.unit (s := S8x512x128) ![7, 0, 0] S1x256x128.size inb_S8x512x128_S1x256x128_7_0_0, slabM slabOk_256 (slabK (chunkMask 256 256 0#32 iota_S256x256_d0_w32 iota_S256x256_d1_w32) (slabS slabOk_256 true 384 slices_S256x512_o0_384_S256x128 (ld2 arg5 x1 (Rect.unit (s := S512x512) ![0, 0] S256x512.size inb_S512x512_S256x512_0_0)) (ld2 arg6 x2 (Rect.unit (s := S1024x512) ![512, 384] S256x128.size inb_S1024x512_S256x128_512_384)))) (scM0.view.readAt (Elt F) (Rect.unit (s := S8x512x128) ![7, 0, 0] S1x256x128.size inb_S8x512x128_S1x256x128_7_0_0).toLoadRect X0)⟩,
      ⟨Rect.unit (s := S8x512x128) ![6, 0, 0] S1x256x128.size inb_S8x512x128_S1x256x128_6_0_0, slabM slabOk_256 (slabK (chunkMask 256 256 0#32 iota_S256x256_d0_w32 iota_S256x256_d1_w32) (slabS slabOk_256 false 384 slices_S256x512_o0_384_S256x128 (ld2 arg5 x1 (Rect.unit (s := S512x512) ![0, 0] S256x512.size inb_S512x512_S256x512_0_0)) (ld2 arg6 x2 (Rect.unit (s := S1024x512) ![512, 384] S256x128.size inb_S1024x512_S256x128_512_384)))) (scM0.view.readAt (Elt F) (Rect.unit (s := S8x512x128) ![6, 0, 0] S1x256x128.size inb_S8x512x128_S1x256x128_6_0_0).toLoadRect X0)⟩,
      ⟨Rect.unit (s := S8x512x128) ![5, 0, 0] S1x256x128.size inb_S8x512x128_S1x256x128_5_0_0, slabM slabOk_256 (slabK (chunkMask 256 256 0#32 iota_S256x256_d0_w32 iota_S256x256_d1_w32) (slabS slabOk_256 true 256 slices_S256x512_o0_256_S256x128 (ld2 arg5 x1 (Rect.unit (s := S512x512) ![0, 0] S256x512.size inb_S512x512_S256x512_0_0)) (ld2 arg6 x2 (Rect.unit (s := S1024x512) ![512, 256] S256x128.size inb_S1024x512_S256x128_512_256)))) (scM0.view.readAt (Elt F) (Rect.unit (s := S8x512x128) ![5, 0, 0] S1x256x128.size inb_S8x512x128_S1x256x128_5_0_0).toLoadRect X0)⟩,
      ⟨Rect.unit (s := S8x512x128) ![4, 0, 0] S1x256x128.size inb_S8x512x128_S1x256x128_4_0_0, slabM slabOk_256 (slabK (chunkMask 256 256 0#32 iota_S256x256_d0_w32 iota_S256x256_d1_w32) (slabS slabOk_256 false 256 slices_S256x512_o0_256_S256x128 (ld2 arg5 x1 (Rect.unit (s := S512x512) ![0, 0] S256x512.size inb_S512x512_S256x512_0_0)) (ld2 arg6 x2 (Rect.unit (s := S1024x512) ![512, 256] S256x128.size inb_S1024x512_S256x128_512_256)))) (scM0.view.readAt (Elt F) (Rect.unit (s := S8x512x128) ![4, 0, 0] S1x256x128.size inb_S8x512x128_S1x256x128_4_0_0).toLoadRect X0)⟩,
      ⟨Rect.unit (s := S8x512x128) ![3, 0, 0] S1x256x128.size inb_S8x512x128_S1x256x128_3_0_0, slabM slabOk_256 (slabK (chunkMask 256 256 0#32 iota_S256x256_d0_w32 iota_S256x256_d1_w32) (slabS slabOk_256 true 128 slices_S256x512_o0_128_S256x128 (ld2 arg5 x1 (Rect.unit (s := S512x512) ![0, 0] S256x512.size inb_S512x512_S256x512_0_0)) (ld2 arg6 x2 (Rect.unit (s := S1024x512) ![512, 128] S256x128.size inb_S1024x512_S256x128_512_128)))) (scM0.view.readAt (Elt F) (Rect.unit (s := S8x512x128) ![3, 0, 0] S1x256x128.size inb_S8x512x128_S1x256x128_3_0_0).toLoadRect X0)⟩,
      ⟨Rect.unit (s := S8x512x128) ![2, 0, 0] S1x256x128.size inb_S8x512x128_S1x256x128_2_0_0, slabM slabOk_256 (slabK (chunkMask 256 256 0#32 iota_S256x256_d0_w32 iota_S256x256_d1_w32) (slabS slabOk_256 false 128 slices_S256x512_o0_128_S256x128 (ld2 arg5 x1 (Rect.unit (s := S512x512) ![0, 0] S256x512.size inb_S512x512_S256x512_0_0)) (ld2 arg6 x2 (Rect.unit (s := S1024x512) ![512, 128] S256x128.size inb_S1024x512_S256x128_512_128)))) (scM0.view.readAt (Elt F) (Rect.unit (s := S8x512x128) ![2, 0, 0] S1x256x128.size inb_S8x512x128_S1x256x128_2_0_0).toLoadRect X0)⟩,
      ⟨Rect.unit (s := S8x512x128) ![1, 0, 0] S1x256x128.size inb_S8x512x128_S1x256x128_1_0_0, slabM slabOk_256 (slabK (chunkMask 256 256 0#32 iota_S256x256_d0_w32 iota_S256x256_d1_w32) (slabS slabOk_256 true 0 slices_S256x512_o0_0_S256x128 (ld2 arg5 x1 (Rect.unit (s := S512x512) ![0, 0] S256x512.size inb_S512x512_S256x512_0_0)) (ld2 arg6 x2 (Rect.unit (s := S1024x512) ![512, 0] S256x128.size inb_S1024x512_S256x128_512_0)))) (scM0.view.readAt (Elt F) (Rect.unit (s := S8x512x128) ![1, 0, 0] S1x256x128.size inb_S8x512x128_S1x256x128_1_0_0).toLoadRect X0)⟩,
      ⟨Rect.unit (s := S8x512x128) ![0, 0, 0] S1x256x128.size inb_S8x512x128_S1x256x128_0_0_0, slabM slabOk_256 (slabK (chunkMask 256 256 0#32 iota_S256x256_d0_w32 iota_S256x256_d1_w32) (slabS slabOk_256 false 0 slices_S256x512_o0_0_S256x128 (ld2 arg5 x1 (Rect.unit (s := S512x512) ![0, 0] S256x512.size inb_S512x512_S256x512_0_0)) (ld2 arg6 x2 (Rect.unit (s := S1024x512) ![512, 0] S256x128.size inb_S1024x512_S256x128_512_0)))) (scM0.view.readAt (Elt F) (Rect.unit (s := S8x512x128) ![0, 0, 0] S1x256x128.size inb_S8x512x128_S1x256x128_0_0_0).toLoadRect X0)⟩] := by
  rfl

set_option maxHeartbeats 4000000 in
/-- The masked update: the weighted sums stored. -/
theorem runDiag1_A (c : Dev nD) (arg5 : Memref sig .tc .vmem S512x512 .f32) (arg6 : Memref sig .tc .vmem S1024x512 .bf16) (arg7 : Memref sig .tc .vmem S1024x512 .bf16)
    (x1 : S512x512.Idx → Elt F .f32) (x2 x3 : S1024x512.Idx → Elt F .bf16) (X0 : Buf (Elt F) ((c : Thread nD τ).loc cc0_scratch0)) (X1 : Buf (Elt F) ((c : Thread nD τ).loc cc0_scratch1)) :
    runDiag1.sl.HS1_16 c arg5 arg6 arg7 x1 x2 x3 X0 X1 = [⟨Rect.unit (s := S8x512x256) ![7, 256, 0] S1x256x256.size inb_S8x512x256_S1x256x256_7_256_0, slabA slabOk_256b (slabK (chunkMask 256 512 256#32 iota_S256x512_d0_w32 iota_S256x512_d1_w32) (slabS slabOk_256b true 384 slices_S256x512_o0_384_S256x128 (ld2 arg5 x1 (Rect.unit (s := S512x512) ![256, 0] S256x512.size inb_S512x512_S256x512_256_0)) (ld2 arg6 x2 (Rect.unit (s := S1024x512) ![512, 384] S512x128.size inb_S1024x512_S512x128_512_384)))) (ld2 arg7 x3 (Rect.unit (s := S1024x512) ![512, 384] S512x128.size inb_S1024x512_S512x128_512_384)) (scM0.view.readAt (Elt F) (Rect.unit (s := S8x512x128) ![7, 256, 0] S1x256x128.size inb_S8x512x128_S1x256x128_7_256_0).toLoadRect X0) (scM1.view.readAt (Elt F) (Rect.unit (s := S8x512x256) ![7, 256, 0] S1x256x256.size inb_S8x512x256_S1x256x256_7_256_0).toLoadRect X1)⟩,
      ⟨Rect.unit (s := S8x512x256) ![6, 256, 0] S1x256x256.size inb_S8x512x256_S1x256x256_6_256_0, slabA slabOk_256b (slabK (chunkMask 256 512 256#32 iota_S256x512_d0_w32 iota_S256x512_d1_w32) (slabS slabOk_256b false 384 slices_S256x512_o0_384_S256x128 (ld2 arg5 x1 (Rect.unit (s := S512x512) ![256, 0] S256x512.size inb_S512x512_S256x512_256_0)) (ld2 arg6 x2 (Rect.unit (s := S1024x512) ![512, 384] S512x128.size inb_S1024x512_S512x128_512_384)))) (ld2 arg7 x3 (Rect.unit (s := S1024x512) ![512, 384] S512x128.size inb_S1024x512_S512x128_512_384)) (scM0.view.readAt (Elt F) (Rect.unit (s := S8x512x128) ![6, 256, 0] S1x256x128.size inb_S8x512x128_S1x256x128_6_256_0).toLoadRect X0) (scM1.view.readAt (Elt F) (Rect.unit (s := S8x512x256) ![6, 256, 0] S1x256x256.size inb_S8x512x256_S1x256x256_6_256_0).toLoadRect X1)⟩,
      ⟨Rect.unit (s := S8x512x256) ![5, 256, 0] S1x256x256.size inb_S8x512x256_S1x256x256_5_256_0, slabA slabOk_256b (slabK (chunkMask 256 512 256#32 iota_S256x512_d0_w32 iota_S256x512_d1_w32) (slabS slabOk_256b true 256 slices_S256x512_o0_256_S256x128 (ld2 arg5 x1 (Rect.unit (s := S512x512) ![256, 0] S256x512.size inb_S512x512_S256x512_256_0)) (ld2 arg6 x2 (Rect.unit (s := S1024x512) ![512, 256] S512x128.size inb_S1024x512_S512x128_512_256)))) (ld2 arg7 x3 (Rect.unit (s := S1024x512) ![512, 256] S512x128.size inb_S1024x512_S512x128_512_256)) (scM0.view.readAt (Elt F) (Rect.unit (s := S8x512x128) ![5, 256, 0] S1x256x128.size inb_S8x512x128_S1x256x128_5_256_0).toLoadRect X0) (scM1.view.readAt (Elt F) (Rect.unit (s := S8x512x256) ![5, 256, 0] S1x256x256.size inb_S8x512x256_S1x256x256_5_256_0).toLoadRect X1)⟩,
      ⟨Rect.unit (s := S8x512x256) ![4, 256, 0] S1x256x256.size inb_S8x512x256_S1x256x256_4_256_0, slabA slabOk_256b (slabK (chunkMask 256 512 256#32 iota_S256x512_d0_w32 iota_S256x512_d1_w32) (slabS slabOk_256b false 256 slices_S256x512_o0_256_S256x128 (ld2 arg5 x1 (Rect.unit (s := S512x512) ![256, 0] S256x512.size inb_S512x512_S256x512_256_0)) (ld2 arg6 x2 (Rect.unit (s := S1024x512) ![512, 256] S512x128.size inb_S1024x512_S512x128_512_256)))) (ld2 arg7 x3 (Rect.unit (s := S1024x512) ![512, 256] S512x128.size inb_S1024x512_S512x128_512_256)) (scM0.view.readAt (Elt F) (Rect.unit (s := S8x512x128) ![4, 256, 0] S1x256x128.size inb_S8x512x128_S1x256x128_4_256_0).toLoadRect X0) (scM1.view.readAt (Elt F) (Rect.unit (s := S8x512x256) ![4, 256, 0] S1x256x256.size inb_S8x512x256_S1x256x256_4_256_0).toLoadRect X1)⟩,
      ⟨Rect.unit (s := S8x512x256) ![3, 256, 0] S1x256x256.size inb_S8x512x256_S1x256x256_3_256_0, slabA slabOk_256b (slabK (chunkMask 256 512 256#32 iota_S256x512_d0_w32 iota_S256x512_d1_w32) (slabS slabOk_256b true 128 slices_S256x512_o0_128_S256x128 (ld2 arg5 x1 (Rect.unit (s := S512x512) ![256, 0] S256x512.size inb_S512x512_S256x512_256_0)) (ld2 arg6 x2 (Rect.unit (s := S1024x512) ![512, 128] S512x128.size inb_S1024x512_S512x128_512_128)))) (ld2 arg7 x3 (Rect.unit (s := S1024x512) ![512, 128] S512x128.size inb_S1024x512_S512x128_512_128)) (scM0.view.readAt (Elt F) (Rect.unit (s := S8x512x128) ![3, 256, 0] S1x256x128.size inb_S8x512x128_S1x256x128_3_256_0).toLoadRect X0) (scM1.view.readAt (Elt F) (Rect.unit (s := S8x512x256) ![3, 256, 0] S1x256x256.size inb_S8x512x256_S1x256x256_3_256_0).toLoadRect X1)⟩,
      ⟨Rect.unit (s := S8x512x256) ![2, 256, 0] S1x256x256.size inb_S8x512x256_S1x256x256_2_256_0, slabA slabOk_256b (slabK (chunkMask 256 512 256#32 iota_S256x512_d0_w32 iota_S256x512_d1_w32) (slabS slabOk_256b false 128 slices_S256x512_o0_128_S256x128 (ld2 arg5 x1 (Rect.unit (s := S512x512) ![256, 0] S256x512.size inb_S512x512_S256x512_256_0)) (ld2 arg6 x2 (Rect.unit (s := S1024x512) ![512, 128] S512x128.size inb_S1024x512_S512x128_512_128)))) (ld2 arg7 x3 (Rect.unit (s := S1024x512) ![512, 128] S512x128.size inb_S1024x512_S512x128_512_128)) (scM0.view.readAt (Elt F) (Rect.unit (s := S8x512x128) ![2, 256, 0] S1x256x128.size inb_S8x512x128_S1x256x128_2_256_0).toLoadRect X0) (scM1.view.readAt (Elt F) (Rect.unit (s := S8x512x256) ![2, 256, 0] S1x256x256.size inb_S8x512x256_S1x256x256_2_256_0).toLoadRect X1)⟩,
      ⟨Rect.unit (s := S8x512x256) ![1, 256, 0] S1x256x256.size inb_S8x512x256_S1x256x256_1_256_0, slabA slabOk_256b (slabK (chunkMask 256 512 256#32 iota_S256x512_d0_w32 iota_S256x512_d1_w32) (slabS slabOk_256b true 0 slices_S256x512_o0_0_S256x128 (ld2 arg5 x1 (Rect.unit (s := S512x512) ![256, 0] S256x512.size inb_S512x512_S256x512_256_0)) (ld2 arg6 x2 (Rect.unit (s := S1024x512) ![512, 0] S512x128.size inb_S1024x512_S512x128_512_0)))) (ld2 arg7 x3 (Rect.unit (s := S1024x512) ![512, 0] S512x128.size inb_S1024x512_S512x128_512_0)) (scM0.view.readAt (Elt F) (Rect.unit (s := S8x512x128) ![1, 256, 0] S1x256x128.size inb_S8x512x128_S1x256x128_1_256_0).toLoadRect X0) (scM1.view.readAt (Elt F) (Rect.unit (s := S8x512x256) ![1, 256, 0] S1x256x256.size inb_S8x512x256_S1x256x256_1_256_0).toLoadRect X1)⟩,
      ⟨Rect.unit (s := S8x512x256) ![0, 256, 0] S1x256x256.size inb_S8x512x256_S1x256x256_0_256_0, slabA slabOk_256b (slabK (chunkMask 256 512 256#32 iota_S256x512_d0_w32 iota_S256x512_d1_w32) (slabS slabOk_256b false 0 slices_S256x512_o0_0_S256x128 (ld2 arg5 x1 (Rect.unit (s := S512x512) ![256, 0] S256x512.size inb_S512x512_S256x512_256_0)) (ld2 arg6 x2 (Rect.unit (s := S1024x512) ![512, 0] S512x128.size inb_S1024x512_S512x128_512_0)))) (ld2 arg7 x3 (Rect.unit (s := S1024x512) ![512, 0] S512x128.size inb_S1024x512_S512x128_512_0)) (scM0.view.readAt (Elt F) (Rect.unit (s := S8x512x128) ![0, 256, 0] S1x256x128.size inb_S8x512x128_S1x256x128_0_256_0).toLoadRect X0) (scM1.view.readAt (Elt F) (Rect.unit (s := S8x512x256) ![0, 256, 0] S1x256x256.size inb_S8x512x256_S1x256x256_0_256_0).toLoadRect X1)⟩,
      ⟨Rect.unit (s := S8x512x256) ![7, 0, 0] S1x256x256.size inb_S8x512x256_S1x256x256_7_0_0, slabA slabOk_256 (slabK (chunkMask 256 256 0#32 iota_S256x256_d0_w32 iota_S256x256_d1_w32) (slabS slabOk_256 true 384 slices_S256x512_o0_384_S256x128 (ld2 arg5 x1 (Rect.unit (s := S512x512) ![0, 0] S256x512.size inb_S512x512_S256x512_0_0)) (ld2 arg6 x2 (Rect.unit (s := S1024x512) ![512, 384] S256x128.size inb_S1024x512_S256x128_512_384)))) (ld2 arg7 x3 (Rect.unit (s := S1024x512) ![512, 384] S256x128.size inb_S1024x512_S256x128_512_384)) (scM0.view.readAt (Elt F) (Rect.unit (s := S8x512x128) ![7, 0, 0] S1x256x128.size inb_S8x512x128_S1x256x128_7_0_0).toLoadRect X0) (scM1.view.readAt (Elt F) (Rect.unit (s := S8x512x256) ![7, 0, 0] S1x256x256.size inb_S8x512x256_S1x256x256_7_0_0).toLoadRect X1)⟩,
      ⟨Rect.unit (s := S8x512x256) ![6, 0, 0] S1x256x256.size inb_S8x512x256_S1x256x256_6_0_0, slabA slabOk_256 (slabK (chunkMask 256 256 0#32 iota_S256x256_d0_w32 iota_S256x256_d1_w32) (slabS slabOk_256 false 384 slices_S256x512_o0_384_S256x128 (ld2 arg5 x1 (Rect.unit (s := S512x512) ![0, 0] S256x512.size inb_S512x512_S256x512_0_0)) (ld2 arg6 x2 (Rect.unit (s := S1024x512) ![512, 384] S256x128.size inb_S1024x512_S256x128_512_384)))) (ld2 arg7 x3 (Rect.unit (s := S1024x512) ![512, 384] S256x128.size inb_S1024x512_S256x128_512_384)) (scM0.view.readAt (Elt F) (Rect.unit (s := S8x512x128) ![6, 0, 0] S1x256x128.size inb_S8x512x128_S1x256x128_6_0_0).toLoadRect X0) (scM1.view.readAt (Elt F) (Rect.unit (s := S8x512x256) ![6, 0, 0] S1x256x256.size inb_S8x512x256_S1x256x256_6_0_0).toLoadRect X1)⟩,
      ⟨Rect.unit (s := S8x512x256) ![5, 0, 0] S1x256x256.size inb_S8x512x256_S1x256x256_5_0_0, slabA slabOk_256 (slabK (chunkMask 256 256 0#32 iota_S256x256_d0_w32 iota_S256x256_d1_w32) (slabS slabOk_256 true 256 slices_S256x512_o0_256_S256x128 (ld2 arg5 x1 (Rect.unit (s := S512x512) ![0, 0] S256x512.size inb_S512x512_S256x512_0_0)) (ld2 arg6 x2 (Rect.unit (s := S1024x512) ![512, 256] S256x128.size inb_S1024x512_S256x128_512_256)))) (ld2 arg7 x3 (Rect.unit (s := S1024x512) ![512, 256] S256x128.size inb_S1024x512_S256x128_512_256)) (scM0.view.readAt (Elt F) (Rect.unit (s := S8x512x128) ![5, 0, 0] S1x256x128.size inb_S8x512x128_S1x256x128_5_0_0).toLoadRect X0) (scM1.view.readAt (Elt F) (Rect.unit (s := S8x512x256) ![5, 0, 0] S1x256x256.size inb_S8x512x256_S1x256x256_5_0_0).toLoadRect X1)⟩,
      ⟨Rect.unit (s := S8x512x256) ![4, 0, 0] S1x256x256.size inb_S8x512x256_S1x256x256_4_0_0, slabA slabOk_256 (slabK (chunkMask 256 256 0#32 iota_S256x256_d0_w32 iota_S256x256_d1_w32) (slabS slabOk_256 false 256 slices_S256x512_o0_256_S256x128 (ld2 arg5 x1 (Rect.unit (s := S512x512) ![0, 0] S256x512.size inb_S512x512_S256x512_0_0)) (ld2 arg6 x2 (Rect.unit (s := S1024x512) ![512, 256] S256x128.size inb_S1024x512_S256x128_512_256)))) (ld2 arg7 x3 (Rect.unit (s := S1024x512) ![512, 256] S256x128.size inb_S1024x512_S256x128_512_256)) (scM0.view.readAt (Elt F) (Rect.unit (s := S8x512x128) ![4, 0, 0] S1x256x128.size inb_S8x512x128_S1x256x128_4_0_0).toLoadRect X0) (scM1.view.readAt (Elt F) (Rect.unit (s := S8x512x256) ![4, 0, 0] S1x256x256.size inb_S8x512x256_S1x256x256_4_0_0).toLoadRect X1)⟩,
      ⟨Rect.unit (s := S8x512x256) ![3, 0, 0] S1x256x256.size inb_S8x512x256_S1x256x256_3_0_0, slabA slabOk_256 (slabK (chunkMask 256 256 0#32 iota_S256x256_d0_w32 iota_S256x256_d1_w32) (slabS slabOk_256 true 128 slices_S256x512_o0_128_S256x128 (ld2 arg5 x1 (Rect.unit (s := S512x512) ![0, 0] S256x512.size inb_S512x512_S256x512_0_0)) (ld2 arg6 x2 (Rect.unit (s := S1024x512) ![512, 128] S256x128.size inb_S1024x512_S256x128_512_128)))) (ld2 arg7 x3 (Rect.unit (s := S1024x512) ![512, 128] S256x128.size inb_S1024x512_S256x128_512_128)) (scM0.view.readAt (Elt F) (Rect.unit (s := S8x512x128) ![3, 0, 0] S1x256x128.size inb_S8x512x128_S1x256x128_3_0_0).toLoadRect X0) (scM1.view.readAt (Elt F) (Rect.unit (s := S8x512x256) ![3, 0, 0] S1x256x256.size inb_S8x512x256_S1x256x256_3_0_0).toLoadRect X1)⟩,
      ⟨Rect.unit (s := S8x512x256) ![2, 0, 0] S1x256x256.size inb_S8x512x256_S1x256x256_2_0_0, slabA slabOk_256 (slabK (chunkMask 256 256 0#32 iota_S256x256_d0_w32 iota_S256x256_d1_w32) (slabS slabOk_256 false 128 slices_S256x512_o0_128_S256x128 (ld2 arg5 x1 (Rect.unit (s := S512x512) ![0, 0] S256x512.size inb_S512x512_S256x512_0_0)) (ld2 arg6 x2 (Rect.unit (s := S1024x512) ![512, 128] S256x128.size inb_S1024x512_S256x128_512_128)))) (ld2 arg7 x3 (Rect.unit (s := S1024x512) ![512, 128] S256x128.size inb_S1024x512_S256x128_512_128)) (scM0.view.readAt (Elt F) (Rect.unit (s := S8x512x128) ![2, 0, 0] S1x256x128.size inb_S8x512x128_S1x256x128_2_0_0).toLoadRect X0) (scM1.view.readAt (Elt F) (Rect.unit (s := S8x512x256) ![2, 0, 0] S1x256x256.size inb_S8x512x256_S1x256x256_2_0_0).toLoadRect X1)⟩,
      ⟨Rect.unit (s := S8x512x256) ![1, 0, 0] S1x256x256.size inb_S8x512x256_S1x256x256_1_0_0, slabA slabOk_256 (slabK (chunkMask 256 256 0#32 iota_S256x256_d0_w32 iota_S256x256_d1_w32) (slabS slabOk_256 true 0 slices_S256x512_o0_0_S256x128 (ld2 arg5 x1 (Rect.unit (s := S512x512) ![0, 0] S256x512.size inb_S512x512_S256x512_0_0)) (ld2 arg6 x2 (Rect.unit (s := S1024x512) ![512, 0] S256x128.size inb_S1024x512_S256x128_512_0)))) (ld2 arg7 x3 (Rect.unit (s := S1024x512) ![512, 0] S256x128.size inb_S1024x512_S256x128_512_0)) (scM0.view.readAt (Elt F) (Rect.unit (s := S8x512x128) ![1, 0, 0] S1x256x128.size inb_S8x512x128_S1x256x128_1_0_0).toLoadRect X0) (scM1.view.readAt (Elt F) (Rect.unit (s := S8x512x256) ![1, 0, 0] S1x256x256.size inb_S8x512x256_S1x256x256_1_0_0).toLoadRect X1)⟩,
      ⟨Rect.unit (s := S8x512x256) ![0, 0, 0] S1x256x256.size inb_S8x512x256_S1x256x256_0_0_0, slabA slabOk_256 (slabK (chunkMask 256 256 0#32 iota_S256x256_d0_w32 iota_S256x256_d1_w32) (slabS slabOk_256 false 0 slices_S256x512_o0_0_S256x128 (ld2 arg5 x1 (Rect.unit (s := S512x512) ![0, 0] S256x512.size inb_S512x512_S256x512_0_0)) (ld2 arg6 x2 (Rect.unit (s := S1024x512) ![512, 0] S256x128.size inb_S1024x512_S256x128_512_0)))) (ld2 arg7 x3 (Rect.unit (s := S1024x512) ![512, 0] S256x128.size inb_S1024x512_S256x128_512_0)) (scM0.view.readAt (Elt F) (Rect.unit (s := S8x512x128) ![0, 0, 0] S1x256x128.size inb_S8x512x128_S1x256x128_0_0_0).toLoadRect X0) (scM1.view.readAt (Elt F) (Rect.unit (s := S8x512x256) ![0, 0, 0] S1x256x256.size inb_S8x512x256_S1x256x256_0_0_0).toLoadRect X1)⟩] := by
  rfl

end Cert.KernelIdeal.Attn
-- ==== Proof.State.lean ====
/- The scratches as a running softmax: each part of the body carries the state on by its keys. -/
module

public import proofs.«01_k».proof.Proof.Pieces

@[expose] public section

set_option maxRecDepth 16384

noncomputable section

namespace Cert.KernelIdeal.Attn

open Cert.KernelIdeal.Gen
open Idealize.ShloMosaic Idealize.ShloMosaic.TcCoe Idealize.ShloMosaic.Tactic

/-- An array's element at two numbers, zero outside it. -/
def at2 {a b : ℕ} (x : (T2 a b).Idx → EReal) (r l : ℕ) : EReal :=
  if h : r < a ∧ l < b then x (ValueIdx.ix2 ⟨r, h.1⟩ ⟨l, h.2⟩) else 0

theorem at2_apply {a b : ℕ} (x : (T2 a b).Idx → EReal) (r : Fin a) (l : Fin b) : at2 x r l = x (ValueIdx.ix2 r l) :=
  dif_pos ⟨r.isLt, l.isLt⟩

/-- The two scratches hold the running maxima and the weighted sums of the first `n` keys. -/
def St (c : Dev nD) (S : ℕ → ℕ → ℕ → EReal) (W : ℕ → ℕ → ℕ → EReal) (n : ℕ)
    (X0 : Buf (Elt Ideal) ((c : Thread nD τ).loc cc0_scratch0)) (X1 : Buf (Elt Ideal) ((c : Thread nD τ).loc cc0_scratch1)) : Prop :=
  (∀ y : S8x512x128.Idx, scM0.view.read (Elt Ideal) X0 y = mx (S (y 0).val (y 1).val) n)
  ∧ ∀ y : S8x512x256.Idx, scM1.view.read (Elt Ideal) X1 y = ac (S (y 0).val (y 1).val) (W (y 0).val (y 2).val) n

/-- A stored slab of maxima holds the running maxima. -/
theorem pieceM {R N c : ℕ} (dv : Dev nD) (ok : SlabOk R N c) (i row : ℕ) (s : FVec Ideal (T2 R N) .f32)
    (X0 : Buf (Elt Ideal) ((dv : Thread nD τ).loc cc0_scratch0))
    (inb : ∀ a, (![i, row, 0] : Fin 3 → ℕ) a + (T3 1 R 128).size a ≤ S8x512x128.size a)
    (S : ℕ → ℕ → ℕ → EReal) (n n' : ℕ)
    (hs : ∀ (r : Fin R) (j : Fin N), s (ValueIdx.ix2 r j) = S i (row + r) (n + j))
    (hX : ∀ y : S8x512x128.Idx, scM0.view.read (Elt Ideal) X0 y = mx (S (y 0).val (y 1).val) n)
    (hn : ∀ r : Fin R, mx (S i (row + r)) n' = mx (S i (row + r)) (n + N)) :
    ∀ x : (T3 1 R 128).Idx, slabM ok s (scM0.view.readAt (Elt Ideal) (Rect.unit (s := S8x512x128) ![i, row, 0] (T3 1 R 128).size inb).toLoadRect X0) x
      = (fun y : S8x512x128.Idx => mx (S (y 0).val (y 1).val) n') ((Rect.unit (s := S8x512x128) ![i, row, 0] (T3 1 R 128).size inb).emb x) := by
  intro x
  obtain ⟨u, r, l, rfl⟩ : ∃ (u : Fin 1) (r : Fin R) (l : Fin 128), x = ValueIdx.ix3 u r l := ⟨x 0, x 1, x 2, ValueIdx.eq_ix3 x⟩
  obtain rfl : u = 0 := Subsingleton.elim _ _
  rw [slabM_step ok s _ (S i (row + r)) n r (hs r) (fun l => ?_) l]
  · show _ = mx (S (i + 1 * 0) (row + 1 * r.val)) n'
    rw [Nat.mul_zero, Nat.add_zero, Nat.one_mul, hn]
  · show scM0.view.read (Elt Ideal) X0 _ = _
    rw [hX]
    show mx (S (i + 1 * 0) (row + 1 * r.val)) n = _
    rw [Nat.mul_zero, Nat.add_zero, Nat.one_mul]

/-- A stored slab of weighted sums holds the running weighted sums. -/
theorem pieceA {R N c : ℕ} (dv : Dev nD) (ok : SlabOk R N c) (i row : ℕ) (s : FVec Ideal (T2 R N) .f32) (v : FVec Ideal (T2 N 128) .bf16)
    (X0 : Buf (Elt Ideal) ((dv : Thread nD τ).loc cc0_scratch0)) (X1 : Buf (Elt Ideal) ((dv : Thread nD τ).loc cc0_scratch1))
    (inb : ∀ a, (![i, row, 0] : Fin 3 → ℕ) a + (T3 1 R 128).size a ≤ S8x512x128.size a)
    (inb' : ∀ a, (![i, row, 0] : Fin 3 → ℕ) a + (T3 1 R 256).size a ≤ S8x512x256.size a)
    (S W : ℕ → ℕ → ℕ → EReal) (n n' : ℕ)
    (hs : ∀ (r : Fin R) (j : Fin N), s (ValueIdx.ix2 r j) = S i (row + r) (n + j))
    (hv : ∀ (j : Fin N) (d : Fin 256), slabV ok v (ValueIdx.ix2 j d) = W i d (n + j))
    (hX : St dv S W n X0 X1)
    (hn : ∀ (r : Fin R) (d : Fin 256), ac (S i (row + r)) (W i d) n' = ac (S i (row + r)) (W i d) (n + N)) :
    ∀ x : (T3 1 R 256).Idx, slabA ok s v (scM0.view.readAt (Elt Ideal) (Rect.unit (s := S8x512x128) ![i, row, 0] (T3 1 R 128).size inb).toLoadRect X0)
        (scM1.view.readAt (Elt Ideal) (Rect.unit (s := S8x512x256) ![i, row, 0] (T3 1 R 256).size inb').toLoadRect X1) x
      = (fun y : S8x512x256.Idx => ac (S (y 0).val (y 1).val) (W (y 0).val (y 2).val) n') ((Rect.unit (s := S8x512x256) ![i, row, 0] (T3 1 R 256).size inb').emb x) := by
  intro x
  obtain ⟨u, r, d, rfl⟩ : ∃ (u : Fin 1) (r : Fin R) (d : Fin 256), x = ValueIdx.ix3 u r d := ⟨x 0, x 1, x 2, ValueIdx.eq_ix3 x⟩
  obtain rfl : u = 0 := Subsingleton.elim _ _
  rw [slabA_step ok s v _ _ (S i (row + r)) (W i d) n r d (hs r) (fun l => ?_) (fun j => hv j d) ?_]
  · show _ = ac (S (i + 1 * 0) (row + 1 * r.val)) (W (i + 1 * 0) (0 + 1 * d.val)) n'
    rw [Nat.mul_zero, Nat.add_zero, Nat.one_mul, Nat.one_mul, Nat.zero_add, hn]
  · show scM1.view.read (Elt Ideal) X1 _ = _
    rw [hX.2]
    show ac (S (i + 1 * 0) (row + 1 * r.val)) (W (i + 1 * 0) (0 + 1 * d.val)) n = _
    rw [Nat.mul_zero, Nat.add_zero, Nat.one_mul, Nat.one_mul, Nat.zero_add]
  · show scM0.view.read (Elt Ideal) X0 _ = _
    rw [hX.1]
    show mx (S (i + 1 * 0) (row + 1 * r.val)) n = _
    rw [Nat.mul_zero, Nat.add_zero, Nat.one_mul]

/-- A loaded box's element is the block's at the box's offset. -/
theorem ld2_apply {a b R L : ℕ} {φ : EltTy} (A : Memref sig .tc .vmem (T2 a b) φ) (x : (T2 a b).Idx → Elt Ideal φ) (o p : ℕ)
    (inb : ∀ k, (![o, p] : Fin 2 → ℕ) k + (T2 R L).size k ≤ (T2 a b).size k) (r : Fin R) (l : Fin L) :
    ld2 A x (Rect.unit (s := T2 a b) ![o, p] (T2 R L).size inb) (ValueIdx.ix2 r l)
      = x (ValueIdx.ix2 ⟨o + r, Nat.lt_of_lt_of_le (Nat.add_lt_add_left r.isLt o) (inb 0)⟩ ⟨p + l, Nat.lt_of_lt_of_le (Nat.add_lt_add_left l.isLt p) (inb 1)⟩) := by
  unfold ld2
  rw [View.readAt_rep]
  refine congrArg x (funext fun k => Fin.ext ?_)
  match k with
  | ⟨0, _⟩ => show o + 1 * r.val = o + r.val; omega
  | ⟨1, _⟩ => show p + 1 * l.val = p + l.val; omega

/-- A slab's scores from the loaded boxes. -/
theorem score_ld {R N c : ℕ} (ok : SlabOk R N c) (b : Bool) (o : ℕ) (ho : (T2 R 512).Slices ![0, o] (T2 R 128))
    (A5 : Memref sig .tc .vmem S512x512 .f32) (A6 : Memref sig .tc .vmem S1024x512 .bf16)
    (x1 : S512x512.Idx → EReal) (x2 : S1024x512.Idx → EReal) (row koff : ℕ)
    (inb1 : ∀ k, (![row, 0] : Fin 2 → ℕ) k + (T2 R 512).size k ≤ (T2 512 512).size k)
    (inb2 : ∀ k, (![koff, o] : Fin 2 → ℕ) k + (T2 N 128).size k ≤ (T2 1024 512).size k) (r : Fin R) (j : Fin N) :
    slabS (F := Ideal) ok b o ho (ld2 (F := Ideal) (φ := .f32) A5 x1 (Rect.unit (s := T2 512 512) ![row, 0] (T2 R 512).size inb1))
        (ld2 (F := Ideal) (φ := .bf16) A6 x2 (Rect.unit (s := T2 1024 512) ![koff, o] (T2 N 128).size inb2)) (ValueIdx.ix2 r j)
      = ∑ d : Fin 64, (at2 x1 (row + r) (o + 64 * b.toNat + d) * (qsc : EReal)) * at2 x2 (koff + j) (o + 64 * b.toNat + d) := by
  rw [slabS_apply ok b o ho _ _ r j (fun l => at2 x1 (row + r) l) (fun l => at2 x2 (koff + j) (o + l)) (fun l => ?_) (fun l => ?_)]
  · refine Finset.sum_congr rfl fun d _ => ?_
    simp only [Nat.add_assoc]
  · rw [ld2_apply]
    refine Eq.trans ?_ (at2_apply (a := 512) (b := 512) x1 ⟨row + r, Nat.lt_of_lt_of_le (Nat.add_lt_add_left r.isLt row) (inb1 0)⟩ l).symm
    congr 2; exact Fin.ext (Nat.zero_add _)
  · rw [ld2_apply]
    exact (at2_apply (a := 1024) (b := 512) x2 ⟨koff + j, Nat.lt_of_lt_of_le (Nat.add_lt_add_left j.isLt koff) (inb2 0)⟩ ⟨o + l, Nat.lt_of_lt_of_le (Nat.add_lt_add_left l.isLt o) (inb2 1)⟩).symm

/-- A slab's values from the loaded box. -/
theorem value_ld {R N c : ℕ} (ok : SlabOk R N c) (A7 : Memref sig .tc .vmem S1024x512 .bf16) (x3 : S1024x512.Idx → EReal) (koff o : ℕ)
    (inb2 : ∀ k, (![koff, o] : Fin 2 → ℕ) k + (T2 N 128).size k ≤ (T2 1024 512).size k) (j : Fin N) (d : Fin 256) :
    slabV (F := Ideal) ok (ld2 (F := Ideal) (φ := .bf16) A7 x3 (Rect.unit (s := T2 1024 512) ![koff, o] (T2 N 128).size inb2)) (ValueIdx.ix2 j d)
      = if d.val < 128 then at2 x3 (koff + j) (o + d) else (1 : EReal) :=
  slabV_apply ok _ j d (fun l => at2 x3 (koff + j) (o + l)) fun l => by
    rw [ld2_apply]
    exact (at2_apply (a := 1024) (b := 512) x3 ⟨koff + j, Nat.lt_of_lt_of_le (Nat.add_lt_add_left j.isLt koff) (inb2 0)⟩ ⟨o + l, Nat.lt_of_lt_of_le (Nat.add_lt_add_left l.isLt o) (inb2 1)⟩).symm

/-- The unmasked score of query row `r` and key row `k` of two blocks, at head and map `i`. -/
def dotQK (x1 : S512x512.Idx → EReal) (x2 : S1024x512.Idx → EReal) (i r k : ℕ) : EReal :=
  ∑ d : Fin 64, (at2 x1 r (128 * (i / 2) + 64 * (i % 2) + d) * (qsc : EReal)) * at2 x2 k (128 * (i / 2) + 64 * (i % 2) + d)

/-- The value lanes of key row `k`, with ones above lane 128. -/
def valV (x3 : S1024x512.Idx → EReal) (i d k : ℕ) : EReal :=
  if d < 128 then at2 x3 k (128 * (i / 2) + d) else 1

/-- The update by 1024 keys carries the state on by 1024 keys. -/
theorem runFull_St (c : Dev nD) (arg5 : Memref sig .tc .vmem S512x512 .f32) (arg6 : Memref sig .tc .vmem S1024x512 .bf16) (arg7 : Memref sig .tc .vmem S1024x512 .bf16)
    (x1 : S512x512.Idx → EReal) (x2 x3 : S1024x512.Idx → EReal) (X0 : Buf (Elt Ideal) ((c : Thread nD τ).loc cc0_scratch0)) (X1 : Buf (Elt Ideal) ((c : Thread nD τ).loc cc0_scratch1))
    (S W : ℕ → ℕ → ℕ → EReal) (n : ℕ) (hX : St c S W n X0 X1)
    (hS : ∀ i r j : ℕ, i < 8 → r < 512 → j < 1024 → S i r (n + j) = dotQK x1 x2 i r (0 + j))
    (hW : ∀ i d j : ℕ, i < 8 → d < 256 → j < 1024 → W i d (n + j) = valV x3 i d (0 + j)) :
    St c S W (n + 1024) (scM0.view.writes (Elt Ideal) scM0.view.junk (runFull.sl.HS0_8 (F := Ideal) c arg5 arg6 x1 x2 X0))
      (scM1.view.writes (Elt Ideal) scM1.view.junk (runFull.sl.HS1_8 (F := Ideal) c arg5 arg6 arg7 x1 x2 x3 X0 X1)) := by
  constructor
  · intro y
    rw [runFull_M c arg5 arg6 arg7 x1 x2 x3 X0 X1]
    refine View.read_writes_apply_of_pieces (Val := Elt Ideal) scM0.view scM0.view.junk (fun y : S8x512x128.Idx => mx (S (y 0).val (y 1).val) (n + 1024)) _ ?_ y (View.cover_of_tiledL _ ![1, 512, 128] (by sl_kernel_rfl) y)
    intro p hp
    simp only [List.mem_cons, List.not_mem_nil, or_false] at hp
    rcases hp with rfl | rfl | rfl | rfl | rfl | rfl | rfl | rfl
    · exact pieceM c slabOk_1024 7 0 _ X0 _ S n _ (fun r j => (score_ld slabOk_1024 true 384 _ arg5 arg6 x1 x2 0 0 _ _ r j).trans (hS 7 (0 + r) j (by norm_num) (by have := r.isLt; omega) j.isLt).symm) hX.1 (fun _ => rfl)
    · exact pieceM c slabOk_1024 6 0 _ X0 _ S n _ (fun r j => (score_ld slabOk_1024 false 384 _ arg5 arg6 x1 x2 0 0 _ _ r j).trans (hS 6 (0 + r) j (by norm_num) (by have := r.isLt; omega) j.isLt).symm) hX.1 (fun _ => rfl)
    · exact pieceM c slabOk_1024 5 0 _ X0 _ S n _ (fun r j => (score_ld slabOk_1024 true 256 _ arg5 arg6 x1 x2 0 0 _ _ r j).trans (hS 5 (0 + r) j (by norm_num) (by have := r.isLt; omega) j.isLt).symm) hX.1 (fun _ => rfl)
    · exact pieceM c slabOk_1024 4 0 _ X0 _ S n _ (fun r j => (score_ld slabOk_1024 false 256 _ arg5 arg6 x1 x2 0 0 _ _ r j).trans (hS 4 (0 + r) j (by norm_num) (by have := r.isLt; omega) j.isLt).symm) hX.1 (fun _ => rfl)
    · exact pieceM c slabOk_1024 3 0 _ X0 _ S n _ (fun r j => (score_ld slabOk_1024 true 128 _ arg5 arg6 x1 x2 0 0 _ _ r j).trans (hS 3 (0 + r) j (by norm_num) (by have := r.isLt; omega) j.isLt).symm) hX.1 (fun _ => rfl)
    · exact pieceM c slabOk_1024 2 0 _ X0 _ S n _ (fun r j => (score_ld slabOk_1024 false 128 _ arg5 arg6 x1 x2 0 0 _ _ r j).trans (hS 2 (0 + r) j (by norm_num) (by have := r.isLt; omega) j.isLt).symm) hX.1 (fun _ => rfl)
    · exact pieceM c slabOk_1024 1 0 _ X0 _ S n _ (fun r j => (score_ld slabOk_1024 true 0 _ arg5 arg6 x1 x2 0 0 _ _ r j).trans (hS 1 (0 + r) j (by norm_num) (by have := r.isLt; omega) j.isLt).symm) hX.1 (fun _ => rfl)
    · exact pieceM c slabOk_1024 0 0 _ X0 _ S n _ (fun r j => (score_ld slabOk_1024 false 0 _ arg5 arg6 x1 x2 0 0 _ _ r j).trans (hS 0 (0 + r) j (by norm_num) (by have := r.isLt; omega) j.isLt).symm) hX.1 (fun _ => rfl)
  · intro y
    rw [runFull_A c arg5 arg6 arg7 x1 x2 x3 X0 X1]
    refine View.read_writes_apply_of_pieces (Val := Elt Ideal) scM1.view scM1.view.junk (fun y : S8x512x256.Idx => ac (S (y 0).val (y 1).val) (W (y 0).val (y 2).val) (n + 1024)) _ ?_ y (View.cover_of_tiledL _ ![1, 512, 256] (by sl_kernel_rfl) y)
    intro p hp
    simp only [List.mem_cons, List.not_mem_nil, or_false] at hp
    rcases hp with rfl | rfl | rfl | rfl | rfl | rfl | rfl | rfl
    · exact pieceA c slabOk_1024 7 0 _ _ X0 X1 _ _ S W n _ (fun r j => (score_ld slabOk_1024 true 384 _ arg5 arg6 x1 x2 0 0 _ _ r j).trans (hS 7 (0 + r) j (by norm_num) (by have := r.isLt; omega) j.isLt).symm)
        (fun j d => (value_ld slabOk_1024 arg7 x3 0 384 _ j d).trans (hW 7 d j (by norm_num) d.isLt (by have := j.isLt; omega)).symm) hX (fun _ _ => rfl)
    · exact pieceA c slabOk_1024 6 0 _ _ X0 X1 _ _ S W n _ (fun r j => (score_ld slabOk_1024 false 384 _ arg5 arg6 x1 x2 0 0 _ _ r j).trans (hS 6 (0 + r) j (by norm_num) (by have := r.isLt; omega) j.isLt).symm)
        (fun j d => (value_ld slabOk_1024 arg7 x3 0 384 _ j d).trans (hW 6 d j (by norm_num) d.isLt (by have := j.isLt; omega)).symm) hX (fun _ _ => rfl)
    · exact pieceA c slabOk_1024 5 0 _ _ X0 X1 _ _ S W n _ (fun r j => (score_ld slabOk_1024 true 256 _ arg5 arg6 x1 x2 0 0 _ _ r j).trans (hS 5 (0 + r) j (by norm_num) (by have := r.isLt; omega) j.isLt).symm)
        (fun j d => (value_ld slabOk_1024 arg7 x3 0 256 _ j d).trans (hW 5 d j (by norm_num) d.isLt (by have := j.isLt; omega)).symm) hX (fun _ _ => rfl)
    · exact pieceA c slabOk_1024 4 0 _ _ X0 X1 _ _ S W n _ (fun r j => (score_ld slabOk_1024 false 256 _ arg5 arg6 x1 x2 0 0 _ _ r j).trans (hS 4 (0 + r) j (by norm_num) (by have := r.isLt; omega) j.isLt).symm)
        (fun j d => (value_ld slabOk_1024 arg7 x3 0 256 _ j d).trans (hW 4 d j (by norm_num) d.isLt (by have := j.isLt; omega)).symm) hX (fun _ _ => rfl)
    · exact pieceA c slabOk_1024 3 0 _ _ X0 X1 _ _ S W n _ (fun r j => (score_ld slabOk_1024 true 128 _ arg5 arg6 x1 x2 0 0 _ _ r j).trans (hS 3 (0 + r) j (by norm_num) (by have := r.isLt; omega) j.isLt).symm)
        (fun j d => (value_ld slabOk_1024 arg7 x3 0 128 _ j d).trans (hW 3 d j (by norm_num) d.isLt (by have := j.isLt; omega)).symm) hX (fun _ _ => rfl)
    · exact pieceA c slabOk_1024 2 0 _ _ X0 X1 _ _ S W n _ (fun r j => (score_ld slabOk_1024 false 128 _ arg5 arg6 x1 x2 0 0 _ _ r j).trans (hS 2 (0 + r) j (by norm_num) (by have := r.isLt; omega) j.isLt).symm)
        (fun j d => (value_ld slabOk_1024 arg7 x3 0 128 _ j d).trans (hW 2 d j (by norm_num) d.isLt (by have := j.isLt; omega)).symm) hX (fun _ _ => rfl)
    · exact pieceA c slabOk_1024 1 0 _ _ X0 X1 _ _ S W n _ (fun r j => (score_ld slabOk_1024 true 0 _ arg5 arg6 x1 x2 0 0 _ _ r j).trans (hS 1 (0 + r) j (by norm_num) (by have := r.isLt; omega) j.isLt).symm)
        (fun j d => (value_ld slabOk_1024 arg7 x3 0 0 _ j d).trans (hW 1 d j (by norm_num) d.isLt (by have := j.isLt; omega)).symm) hX (fun _ _ => rfl)
    · exact pieceA c slabOk_1024 0 0 _ _ X0 X1 _ _ S W n _ (fun r j => (score_ld slabOk_1024 false 0 _ arg5 arg6 x1 x2 0 0 _ _ r j).trans (hS 0 (0 + r) j (by norm_num) (by have := r.isLt; omega) j.isLt).symm)
        (fun j d => (value_ld slabOk_1024 arg7 x3 0 0 _ j d).trans (hW 0 d j (by norm_num) d.isLt (by have := j.isLt; omega)).symm) hX (fun _ _ => rfl)

set_option maxHeartbeats 4000000 in
/-- The update by 512 keys carries the state on by 512 keys. -/
theorem runHalf_St (c : Dev nD) (arg5 : Memref sig .tc .vmem S512x512 .f32) (arg6 : Memref sig .tc .vmem S1024x512 .bf16) (arg7 : Memref sig .tc .vmem S1024x512 .bf16)
    (x1 : S512x512.Idx → EReal) (x2 x3 : S1024x512.Idx → EReal) (X0 : Buf (Elt Ideal) ((c : Thread nD τ).loc cc0_scratch0)) (X1 : Buf (Elt Ideal) ((c : Thread nD τ).loc cc0_scratch1))
    (S W : ℕ → ℕ → ℕ → EReal) (n : ℕ) (hX : St c S W n X0 X1)
    (hS : ∀ i r j : ℕ, i < 8 → r < 512 → j < 512 → S i r (n + j) = dotQK x1 x2 i r (0 + j))
    (hW : ∀ i d j : ℕ, i < 8 → d < 256 → j < 512 → W i d (n + j) = valV x3 i d (0 + j)) :
    St c S W (n + 512) (scM0.view.writes (Elt Ideal) scM0.view.junk (runHalf.sl.HS0_8 (F := Ideal) c arg5 arg6 x1 x2 X0))
      (scM1.view.writes (Elt Ideal) scM1.view.junk (runHalf.sl.HS1_8 (F := Ideal) c arg5 arg6 arg7 x1 x2 x3 X0 X1)) := by
  constructor
  · intro y
    rw [runHalf_M c arg5 arg6 arg7 x1 x2 x3 X0 X1]
    refine View.read_writes_apply_of_pieces (Val := Elt Ideal) scM0.view scM0.view.junk (fun y : S8x512x128.Idx => mx (S (y 0).val (y 1).val) (n + 512)) _ ?_ y (View.cover_of_tiledL _ ![1, 512, 128] (by sl_kernel_rfl) y)
    intro p hp
    simp only [List.mem_cons, List.not_mem_nil, or_false] at hp
    rcases hp with rfl | rfl | rfl | rfl | rfl | rfl | rfl | rfl
    · exact pieceM c slabOk_512 7 0 _ X0 _ S n _ (fun r j => (score_ld slabOk_512 true 384 _ arg5 arg6 x1 x2 0 0 _ _ r j).trans (hS 7 (0 + r) j (by norm_num) (by have := r.isLt; omega) j.isLt).symm) hX.1 (fun _ => rfl)
    · exact pieceM c slabOk_512 6 0 _ X0 _ S n _ (fun r j => (score_ld slabOk_512 false 384 _ arg5 arg6 x1 x2 0 0 _ _ r j).trans (hS 6 (0 + r) j (by norm_num) (by have := r.isLt; omega) j.isLt).symm) hX.1 (fun _ => rfl)
    · exact pieceM c slabOk_512 5 0 _ X0 _ S n _ (fun r j => (score_ld slabOk_512 true 256 _ arg5 arg6 x1 x2 0 0 _ _ r j).trans (hS 5 (0 + r) j (by norm_num) (by have := r.isLt; omega) j.isLt).symm) hX.1 (fun _ => rfl)
    · exact pieceM c slabOk_512 4 0 _ X0 _ S n _ (fun r j => (score_ld slabOk_512 false 256 _ arg5 arg6 x1 x2 0 0 _ _ r j).trans (hS 4 (0 + r) j (by norm_num) (by have := r.isLt; omega) j.isLt).symm) hX.1 (fun _ => rfl)
    · exact pieceM c slabOk_512 3 0 _ X0 _ S n _ (fun r j => (score_ld slabOk_512 true 128 _ arg5 arg6 x1 x2 0 0 _ _ r j).trans (hS 3 (0 + r) j (by norm_num) (by have := r.isLt; omega) j.isLt).symm) hX.1 (fun _ => rfl)
    · exact pieceM c slabOk_512 2 0 _ X0 _ S n _ (fun r j => (score_ld slabOk_512 false 128 _ arg5 arg6 x1 x2 0 0 _ _ r j).trans (hS 2 (0 + r) j (by norm_num) (by have := r.isLt; omega) j.isLt).symm) hX.1 (fun _ => rfl)
    · exact pieceM c slabOk_512 1 0 _ X0 _ S n _ (fun r j => (score_ld slabOk_512 true 0 _ arg5 arg6 x1 x2 0 0 _ _ r j).trans (hS 1 (0 + r) j (by norm_num) (by have := r.isLt; omega) j.isLt).symm) hX.1 (fun _ => rfl)
    · exact pieceM c slabOk_512 0 0 _ X0 _ S n _ (fun r j => (score_ld slabOk_512 false 0 _ arg5 arg6 x1 x2 0 0 _ _ r j).trans (hS 0 (0 + r) j (by norm_num) (by have := r.isLt; omega) j.isLt).symm) hX.1 (fun _ => rfl)
  · intro y
    rw [runHalf_A c arg5 arg6 arg7 x1 x2 x3 X0 X1]
    refine View.read_writes_apply_of_pieces (Val := Elt Ideal) scM1.view scM1.view.junk (fun y : S8x512x256.Idx => ac (S (y 0).val (y 1).val) (W (y 0).val (y 2).val) (n + 512)) _ ?_ y (View.cover_of_tiledL _ ![1, 512, 256] (by sl_kernel_rfl) y)
    intro p hp
    simp only [List.mem_cons, List.not_mem_nil, or_false] at hp
    rcases hp with rfl | rfl | rfl | rfl | rfl | rfl | rfl | rfl
    · exact pieceA c slabOk_512 7 0 _ _ X0 X1 _ _ S W n _ (fun r j => (score_ld slabOk_512 true 384 _ arg5 arg6 x1 x2 0 0 _ _ r j).trans (hS 7 (0 + r) j (by norm_num) (by have := r.isLt; omega) j.isLt).symm)
        (fun j d => (value_ld slabOk_512 arg7 x3 0 384 _ j d).trans (hW 7 d j (by norm_num) d.isLt (by have := j.isLt; omega)).symm) hX (fun _ _ => rfl)
    · exact pieceA c slabOk_512 6 0 _ _ X0 X1 _ _ S W n _ (fun r j => (score_ld slabOk_512 false 384 _ arg5 arg6 x1 x2 0 0 _ _ r j).trans (hS 6 (0 + r) j (by norm_num) (by have := r.isLt; omega) j.isLt).symm)
        (fun j d => (value_ld slabOk_512 arg7 x3 0 384 _ j d).trans (hW 6 d j (by norm_num) d.isLt (by have := j.isLt; omega)).symm) hX (fun _ _ => rfl)
    · exact pieceA c slabOk_512 5 0 _ _ X0 X1 _ _ S W n _ (fun r j => (score_ld slabOk_512 true 256 _ arg5 arg6 x1 x2 0 0 _ _ r j).trans (hS 5 (0 + r) j (by norm_num) (by have := r.isLt; omega) j.isLt).symm)
        (fun j d => (value_ld slabOk_512 arg7 x3 0 256 _ j d).trans (hW 5 d j (by norm_num) d.isLt (by have := j.isLt; omega)).symm) hX (fun _ _ => rfl)
    · exact pieceA c slabOk_512 4 0 _ _ X0 X1 _ _ S W n _ (fun r j => (score_ld slabOk_512 false 256 _ arg5 arg6 x1 x2 0 0 _ _ r j).trans (hS 4 (0 + r) j (by norm_num) (by have := r.isLt; omega) j.isLt).symm)
        (fun j d => (value_ld slabOk_512 arg7 x3 0 256 _ j d).trans (hW 4 d j (by norm_num) d.isLt (by have := j.isLt; omega)).symm) hX (fun _ _ => rfl)
    · exact pieceA c slabOk_512 3 0 _ _ X0 X1 _ _ S W n _ (fun r j => (score_ld slabOk_512 true 128 _ arg5 arg6 x1 x2 0 0 _ _ r j).trans (hS 3 (0 + r) j (by norm_num) (by have := r.isLt; omega) j.isLt).symm)
        (fun j d => (value_ld slabOk_512 arg7 x3 0 128 _ j d).trans (hW 3 d j (by norm_num) d.isLt (by have := j.isLt; omega)).symm) hX (fun _ _ => rfl)
    · exact pieceA c slabOk_512 2 0 _ _ X0 X1 _ _ S W n _ (fun r j => (score_ld slabOk_512 false 128 _ arg5 arg6 x1 x2 0 0 _ _ r j).trans (hS 2 (0 + r) j (by norm_num) (by have := r.isLt; omega) j.isLt).symm)
        (fun j d => (value_ld slabOk_512 arg7 x3 0 128 _ j d).trans (hW 2 d j (by norm_num) d.isLt (by have := j.isLt; omega)).symm) hX (fun _ _ => rfl)
    · exact pieceA c slabOk_512 1 0 _ _ X0 X1 _ _ S W n _ (fun r j => (score_ld slabOk_512 true 0 _ arg5 arg6 x1 x2 0 0 _ _ r j).trans (hS 1 (0 + r) j (by norm_num) (by have := r.isLt; omega) j.isLt).symm)
        (fun j d => (value_ld slabOk_512 arg7 x3 0 0 _ j d).trans (hW 1 d j (by norm_num) d.isLt (by have := j.isLt; omega)).symm) hX (fun _ _ => rfl)
    · exact pieceA c slabOk_512 0 0 _ _ X0 X1 _ _ S W n _ (fun r j => (score_ld slabOk_512 false 0 _ arg5 arg6 x1 x2 0 0 _ _ r j).trans (hS 0 (0 + r) j (by norm_num) (by have := r.isLt; omega) j.isLt).symm)
        (fun j d => (value_ld slabOk_512 arg7 x3 0 0 _ j d).trans (hW 0 d j (by norm_num) d.isLt (by have := j.isLt; omega)).symm) hX (fun _ _ => rfl)

set_option maxHeartbeats 4000000 in
/-- The masked update carries the state on by the diagonal tile's 512 keys. -/
theorem runDiag0_St (c : Dev nD) (arg5 : Memref sig .tc .vmem S512x512 .f32) (arg6 : Memref sig .tc .vmem S1024x512 .bf16) (arg7 : Memref sig .tc .vmem S1024x512 .bf16)
    (x1 : S512x512.Idx → EReal) (x2 x3 : S1024x512.Idx → EReal) (X0 : Buf (Elt Ideal) ((c : Thread nD τ).loc cc0_scratch0)) (X1 : Buf (Elt Ideal) ((c : Thread nD τ).loc cc0_scratch1))
    (S W : ℕ → ℕ → ℕ → EReal) (n : ℕ) (hX : St c S W n X0 X1)
    (hS : ∀ i r j : ℕ, i < 8 → r < 512 → j < 512 → S i r (n + j) = if j / 64 ≤ r / 64 then dotQK x1 x2 i r (0 + j) else (⊥ : EReal))
    (hW : ∀ i d j : ℕ, i < 8 → d < 256 → j < 512 → W i d (n + j) = valV x3 i d (0 + j)) :
    St c S W (n + 512) (scM0.view.writes (Elt Ideal) scM0.view.junk (runDiag0.sl.HS0_16 (F := Ideal) c arg5 arg6 x1 x2 X0))
      (scM1.view.writes (Elt Ideal) scM1.view.junk (runDiag0.sl.HS1_16 (F := Ideal) c arg5 arg6 arg7 x1 x2 x3 X0 X1)) := by
  have hbot (i r : ℕ) (hi : i < 8) (hr : r < 256) (k : ℕ) (h1 : n + 256 ≤ k) (h2 : k < n + 512) : S i r k = ⊥ := by
    obtain ⟨j, rfl⟩ : ∃ j, k = n + j := ⟨k - n, by omega⟩
    rw [hS i r j hi (by omega) (by omega), if_neg (by omega)]
  constructor
  · intro y
    rw [runDiag0_M c arg5 arg6 arg7 x1 x2 x3 X0 X1]
    refine View.read_writes_apply_of_pieces (Val := Elt Ideal) scM0.view scM0.view.junk (fun y : S8x512x128.Idx => mx (S (y 0).val (y 1).val) (n + 512)) _ ?_ y (View.cover_of_tiledL _ ![1, 256, 128] (by sl_kernel_rfl) y)
    intro p hp
    simp only [List.mem_cons, List.not_mem_nil, or_false] at hp
    rcases hp with rfl | rfl | rfl | rfl | rfl | rfl | rfl | rfl | rfl | rfl | rfl | rfl | rfl | rfl | rfl | rfl
    · exact pieceM c slabOk_256b 7 256 _ X0 _ S n _ (fun r j => (slabK_apply _ _ _ (j.val / 64 ≤ (256 + r.val) / 64) (chunkMask_apply 256 _ _ r j (by norm_num) (by norm_num))).trans
        ((if_congr Iff.rfl (score_ld slabOk_256b true 384 _ arg5 arg6 x1 x2 256 0 _ _ r j) rfl).trans (hS 7 (256 + r) j (by norm_num) (by have := r.isLt; omega) (by have := j.isLt; omega)).symm)) hX.1 (fun _ => rfl)
    · exact pieceM c slabOk_256b 6 256 _ X0 _ S n _ (fun r j => (slabK_apply _ _ _ (j.val / 64 ≤ (256 + r.val) / 64) (chunkMask_apply 256 _ _ r j (by norm_num) (by norm_num))).trans
        ((if_congr Iff.rfl (score_ld slabOk_256b false 384 _ arg5 arg6 x1 x2 256 0 _ _ r j) rfl).trans (hS 6 (256 + r) j (by norm_num) (by have := r.isLt; omega) (by have := j.isLt; omega)).symm)) hX.1 (fun _ => rfl)
    · exact pieceM c slabOk_256b 5 256 _ X0 _ S n _ (fun r j => (slabK_apply _ _ _ (j.val / 64 ≤ (256 + r.val) / 64) (chunkMask_apply 256 _ _ r j (by norm_num) (by norm_num))).trans
        ((if_congr Iff.rfl (score_ld slabOk_256b true 256 _ arg5 arg6 x1 x2 256 0 _ _ r j) rfl).trans (hS 5 (256 + r) j (by norm_num) (by have := r.isLt; omega) (by have := j.isLt; omega)).symm)) hX.1 (fun _ => rfl)
    · exact pieceM c slabOk_256b 4 256 _ X0 _ S n _ (fun r j => (slabK_apply _ _ _ (j.val / 64 ≤ (256 + r.val) / 64) (chunkMask_apply 256 _ _ r j (by norm_num) (by norm_num))).trans
        ((if_congr Iff.rfl (score_ld slabOk_256b false 256 _ arg5 arg6 x1 x2 256 0 _ _ r j) rfl).trans (hS 4 (256 + r) j (by norm_num) (by have := r.isLt; omega) (by have := j.isLt; omega)).symm)) hX.1 (fun _ => rfl)
    · exact pieceM c slabOk_256b 3 256 _ X0 _ S n _ (fun r j => (slabK_apply _ _ _ (j.val / 64 ≤ (256 + r.val) / 64) (chunkMask_apply 256 _ _ r j (by norm_num) (by norm_num))).trans
        ((if_congr Iff.rfl (score_ld slabOk_256b true 128 _ arg5 arg6 x1 x2 256 0 _ _ r j) rfl).trans (hS 3 (256 + r) j (by norm_num) (by have := r.isLt; omega) (by have := j.isLt; omega)).symm)) hX.1 (fun _ => rfl)
    · exact pieceM c slabOk_256b 2 256 _ X0 _ S n _ (fun r j => (slabK_apply _ _ _ (j.val / 64 ≤ (256 + r.val) / 64) (chunkMask_apply 256 _ _ r j (by norm_num) (by norm_num))).trans
        ((if_congr Iff.rfl (score_ld slabOk_256b false 128 _ arg5 arg6 x1 x2 256 0 _ _ r j) rfl).trans (hS 2 (256 + r) j (by norm_num) (by have := r.isLt; omega) (by have := j.isLt; omega)).symm)) hX.1 (fun _ => rfl)
    · exact pieceM c slabOk_256b 1 256 _ X0 _ S n _ (fun r j => (slabK_apply _ _ _ (j.val / 64 ≤ (256 + r.val) / 64) (chunkMask_apply 256 _ _ r j (by norm_num) (by norm_num))).trans
        ((if_congr Iff.rfl (score_ld slabOk_256b true 0 _ arg5 arg6 x1 x2 256 0 _ _ r j) rfl).trans (hS 1 (256 + r) j (by norm_num) (by have := r.isLt; omega) (by have := j.isLt; omega)).symm)) hX.1 (fun _ => rfl)
    · exact pieceM c slabOk_256b 0 256 _ X0 _ S n _ (fun r j => (slabK_apply _ _ _ (j.val / 64 ≤ (256 + r.val) / 64) (chunkMask_apply 256 _ _ r j (by norm_num) (by norm_num))).trans
        ((if_congr Iff.rfl (score_ld slabOk_256b false 0 _ arg5 arg6 x1 x2 256 0 _ _ r j) rfl).trans (hS 0 (256 + r) j (by norm_num) (by have := r.isLt; omega) (by have := j.isLt; omega)).symm)) hX.1 (fun _ => rfl)
    · exact pieceM c slabOk_256 7 0 _ X0 _ S n _ (fun r j => (slabK_apply _ _ _ (j.val / 64 ≤ (0 + r.val) / 64) (chunkMask_apply 0 _ _ r j (by norm_num) (by norm_num))).trans
        ((if_congr Iff.rfl (score_ld slabOk_256 true 384 _ arg5 arg6 x1 x2 0 0 _ _ r j) rfl).trans (hS 7 (0 + r) j (by norm_num) (by have := r.isLt; omega) (by have := j.isLt; omega)).symm)) hX.1 (fun r => mx_ext _ (by omega) (hbot 7 (0 + r) (by norm_num) (by have := r.isLt; omega)))
    · exact pieceM c slabOk_256 6 0 _ X0 _ S n _ (fun r j => (slabK_apply _ _ _ (j.val / 64 ≤ (0 + r.val) / 64) (chunkMask_apply 0 _ _ r j (by norm_num) (by norm_num))).trans
        ((if_congr Iff.rfl (score_ld slabOk_256 false 384 _ arg5 arg6 x1 x2 0 0 _ _ r j) rfl).trans (hS 6 (0 + r) j (by norm_num) (by have := r.isLt; omega) (by have := j.isLt; omega)).symm)) hX.1 (fun r => mx_ext _ (by omega) (hbot 6 (0 + r) (by norm_num) (by have := r.isLt; omega)))
    · exact pieceM c slabOk_256 5 0 _ X0 _ S n _ (fun r j => (slabK_apply _ _ _ (j.val / 64 ≤ (0 + r.val) / 64) (chunkMask_apply 0 _ _ r j (by norm_num) (by norm_num))).trans
        ((if_congr Iff.rfl (score_ld slabOk_256 true 256 _ arg5 arg6 x1 x2 0 0 _ _ r j) rfl).trans (hS 5 (0 + r) j (by norm_num) (by have := r.isLt; omega) (by have := j.isLt; omega)).symm)) hX.1 (fun r => mx_ext _ (by omega) (hbot 5 (0 + r) (by norm_num) (by have := r.isLt; omega)))
    · exact pieceM c slabOk_256 4 0 _ X0 _ S n _ (fun r j => (slabK_apply _ _ _ (j.val / 64 ≤ (0 + r.val) / 64) (chunkMask_apply 0 _ _ r j (by norm_num) (by norm_num))).trans
        ((if_congr Iff.rfl (score_ld slabOk_256 false 256 _ arg5 arg6 x1 x2 0 0 _ _ r j) rfl).trans (hS 4 (0 + r) j (by norm_num) (by have := r.isLt; omega) (by have := j.isLt; omega)).symm)) hX.1 (fun r => mx_ext _ (by omega) (hbot 4 (0 + r) (by norm_num) (by have := r.isLt; omega)))
    · exact pieceM c slabOk_256 3 0 _ X0 _ S n _ (fun r j => (slabK_apply _ _ _ (j.val / 64 ≤ (0 + r.val) / 64) (chunkMask_apply 0 _ _ r j (by norm_num) (by norm_num))).trans
        ((if_congr Iff.rfl (score_ld slabOk_256 true 128 _ arg5 arg6 x1 x2 0 0 _ _ r j) rfl).trans (hS 3 (0 + r) j (by norm_num) (by have := r.isLt; omega) (by have := j.isLt; omega)).symm)) hX.1 (fun r => mx_ext _ (by omega) (hbot 3 (0 + r) (by norm_num) (by have := r.isLt; omega)))
    · exact pieceM c slabOk_256 2 0 _ X0 _ S n _ (fun r j => (slabK_apply _ _ _ (j.val / 64 ≤ (0 + r.val) / 64) (chunkMask_apply 0 _ _ r j (by norm_num) (by norm_num))).trans
        ((if_congr Iff.rfl (score_ld slabOk_256 false 128 _ arg5 arg6 x1 x2 0 0 _ _ r j) rfl).trans (hS 2 (0 + r) j (by norm_num) (by have := r.isLt; omega) (by have := j.isLt; omega)).symm)) hX.1 (fun r => mx_ext _ (by omega) (hbot 2 (0 + r) (by norm_num) (by have := r.isLt; omega)))
    · exact pieceM c slabOk_256 1 0 _ X0 _ S n _ (fun r j => (slabK_apply _ _ _ (j.val / 64 ≤ (0 + r.val) / 64) (chunkMask_apply 0 _ _ r j (by norm_num) (by norm_num))).trans
        ((if_congr Iff.rfl (score_ld slabOk_256 true 0 _ arg5 arg6 x1 x2 0 0 _ _ r j) rfl).trans (hS 1 (0 + r) j (by norm_num) (by have := r.isLt; omega) (by have := j.isLt; omega)).symm)) hX.1 (fun r => mx_ext _ (by omega) (hbot 1 (0 + r) (by norm_num) (by have := r.isLt; omega)))
    · exact pieceM c slabOk_256 0 0 _ X0 _ S n _ (fun r j => (slabK_apply _ _ _ (j.val / 64 ≤ (0 + r.val) / 64) (chunkMask_apply 0 _ _ r j (by norm_num) (by norm_num))).trans
        ((if_congr Iff.rfl (score_ld slabOk_256 false 0 _ arg5 arg6 x1 x2 0 0 _ _ r j) rfl).trans (hS 0 (0 + r) j (by norm_num) (by have := r.isLt; omega) (by have := j.isLt; omega)).symm)) hX.1 (fun r => mx_ext _ (by omega) (hbot 0 (0 + r) (by norm_num) (by have := r.isLt; omega)))
  · intro y
    rw [runDiag0_A c arg5 arg6 arg7 x1 x2 x3 X0 X1]
    refine View.read_writes_apply_of_pieces (Val := Elt Ideal) scM1.view scM1.view.junk (fun y : S8x512x256.Idx => ac (S (y 0).val (y 1).val) (W (y 0).val (y 2).val) (n + 512)) _ ?_ y (View.cover_of_tiledL _ ![1, 256, 256] (by sl_kernel_rfl) y)
    intro p hp
    simp only [List.mem_cons, List.not_mem_nil, or_false] at hp
    rcases hp with rfl | rfl | rfl | rfl | rfl | rfl | rfl | rfl | rfl | rfl | rfl | rfl | rfl | rfl | rfl | rfl
    · exact pieceA c slabOk_256b 7 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b true 384 _ arg5 arg6 x1 x2 256 0 _ _ r j) rfl).trans (hS 7 (256 + r) j (by norm_num) (by have := r.isLt; omega) (by have := j.isLt; omega)).symm))
        (fun j d => (value_ld slabOk_256b arg7 x3 0 384 _ j d).trans (hW 7 d j (by norm_num) d.isLt (by have := j.isLt; omega)).symm) hX (fun _ _ => rfl)
    · exact pieceA c slabOk_256b 6 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b false 384 _ arg5 arg6 x1 x2 256 0 _ _ r j) rfl).trans (hS 6 (256 + r) j (by norm_num) (by have := r.isLt; omega) (by have := j.isLt; omega)).symm))
        (fun j d => (value_ld slabOk_256b arg7 x3 0 384 _ j d).trans (hW 6 d j (by norm_num) d.isLt (by have := j.isLt; omega)).symm) hX (fun _ _ => rfl)
    · exact pieceA c slabOk_256b 5 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b true 256 _ arg5 arg6 x1 x2 256 0 _ _ r j) rfl).trans (hS 5 (256 + r) j (by norm_num) (by have := r.isLt; omega) (by have := j.isLt; omega)).symm))
        (fun j d => (value_ld slabOk_256b arg7 x3 0 256 _ j d).trans (hW 5 d j (by norm_num) d.isLt (by have := j.isLt; omega)).symm) hX (fun _ _ => rfl)
    · exact pieceA c slabOk_256b 4 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b false 256 _ arg5 arg6 x1 x2 256 0 _ _ r j) rfl).trans (hS 4 (256 + r) j (by norm_num) (by have := r.isLt; omega) (by have := j.isLt; omega)).symm))
        (fun j d => (value_ld slabOk_256b arg7 x3 0 256 _ j d).trans (hW 4 d j (by norm_num) d.isLt (by have := j.isLt; omega)).symm) hX (fun _ _ => rfl)
    · exact pieceA c slabOk_256b 3 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b true 128 _ arg5 arg6 x1 x2 256 0 _ _ r j) rfl).trans (hS 3 (256 + r) j (by norm_num) (by have := r.isLt; omega) (by have := j.isLt; omega)).symm))
        (fun j d => (value_ld slabOk_256b arg7 x3 0 128 _ j d).trans (hW 3 d j (by norm_num) d.isLt (by have := j.isLt; omega)).symm) hX (fun _ _ => rfl)
    · exact pieceA c slabOk_256b 2 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b false 128 _ arg5 arg6 x1 x2 256 0 _ _ r j) rfl).trans (hS 2 (256 + r) j (by norm_num) (by have := r.isLt; omega) (by have := j.isLt; omega)).symm))
        (fun j d => (value_ld slabOk_256b arg7 x3 0 128 _ j d).trans (hW 2 d j (by norm_num) d.isLt (by have := j.isLt; omega)).symm) hX (fun _ _ => rfl)
    · exact pieceA c slabOk_256b 1 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b true 0 _ arg5 arg6 x1 x2 256 0 _ _ r j) rfl).trans (hS 1 (256 + r) j (by norm_num) (by have := r.isLt; omega) (by have := j.isLt; omega)).symm))
        (fun j d => (value_ld slabOk_256b arg7 x3 0 0 _ j d).trans (hW 1 d j (by norm_num) d.isLt (by have := j.isLt; omega)).symm) hX (fun _ _ => rfl)
    · exact pieceA c slabOk_256b 0 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b false 0 _ arg5 arg6 x1 x2 256 0 _ _ r j) rfl).trans (hS 0 (256 + r) j (by norm_num) (by have := r.isLt; omega) (by have := j.isLt; omega)).symm))
        (fun j d => (value_ld slabOk_256b arg7 x3 0 0 _ j d).trans (hW 0 d j (by norm_num) d.isLt (by have := j.isLt; omega)).symm) hX (fun _ _ => rfl)
    · exact pieceA c slabOk_256 7 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 true 384 _ arg5 arg6 x1 x2 0 0 _ _ r j) rfl).trans (hS 7 (0 + r) j (by norm_num) (by have := r.isLt; omega) (by have := j.isLt; omega)).symm))
        (fun j d => (value_ld slabOk_256 arg7 x3 0 384 _ j d).trans (hW 7 d j (by norm_num) d.isLt (by have := j.isLt; omega)).symm) hX (fun r d => ac_ext _ _ (by omega) (hbot 7 (0 + r) (by norm_num) (by have := r.isLt; omega)))
    · exact pieceA c slabOk_256 6 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 false 384 _ arg5 arg6 x1 x2 0 0 _ _ r j) rfl).trans (hS 6 (0 + r) j (by norm_num) (by have := r.isLt; omega) (by have := j.isLt; omega)).symm))
        (fun j d => (value_ld slabOk_256 arg7 x3 0 384 _ j d).trans (hW 6 d j (by norm_num) d.isLt (by have := j.isLt; omega)).symm) hX (fun r d => ac_ext _ _ (by omega) (hbot 6 (0 + r) (by norm_num) (by have := r.isLt; omega)))
    · exact pieceA c slabOk_256 5 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 true 256 _ arg5 arg6 x1 x2 0 0 _ _ r j) rfl).trans (hS 5 (0 + r) j (by norm_num) (by have := r.isLt; omega) (by have := j.isLt; omega)).symm))
        (fun j d => (value_ld slabOk_256 arg7 x3 0 256 _ j d).trans (hW 5 d j (by norm_num) d.isLt (by have := j.isLt; omega)).symm) hX (fun r d => ac_ext _ _ (by omega) (hbot 5 (0 + r) (by norm_num) (by have := r.isLt; omega)))
    · exact pieceA c slabOk_256 4 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 false 256 _ arg5 arg6 x1 x2 0 0 _ _ r j) rfl).trans (hS 4 (0 + r) j (by norm_num) (by have := r.isLt; omega) (by have := j.isLt; omega)).symm))
        (fun j d => (value_ld slabOk_256 arg7 x3 0 256 _ j d).trans (hW 4 d j (by norm_num) d.isLt (by have := j.isLt; omega)).symm) hX (fun r d => ac_ext _ _ (by omega) (hbot 4 (0 + r) (by norm_num) (by have := r.isLt; omega)))
    · exact pieceA c slabOk_256 3 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 true 128 _ arg5 arg6 x1 x2 0 0 _ _ r j) rfl).trans (hS 3 (0 + r) j (by norm_num) (by have := r.isLt; omega) (by have := j.isLt; omega)).symm))
        (fun j d => (value_ld slabOk_256 arg7 x3 0 128 _ j d).trans (hW 3 d j (by norm_num) d.isLt (by have := j.isLt; omega)).symm) hX (fun r d => ac_ext _ _ (by omega) (hbot 3 (0 + r) (by norm_num) (by have := r.isLt; omega)))
    · exact pieceA c slabOk_256 2 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 false 128 _ arg5 arg6 x1 x2 0 0 _ _ r j) rfl).trans (hS 2 (0 + r) j (by norm_num) (by have := r.isLt; omega) (by have := j.isLt; omega)).symm))
        (fun j d => (value_ld slabOk_256 arg7 x3 0 128 _ j d).trans (hW 2 d j (by norm_num) d.isLt (by have := j.isLt; omega)).symm) hX (fun r d => ac_ext _ _ (by omega) (hbot 2 (0 + r) (by norm_num) (by have := r.isLt; omega)))
    · exact pieceA c slabOk_256 1 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 true 0 _ arg5 arg6 x1 x2 0 0 _ _ r j) rfl).trans (hS 1 (0 + r) j (by norm_num) (by have := r.isLt; omega) (by have := j.isLt; omega)).symm))
        (fun j d => (value_ld slabOk_256 arg7 x3 0 0 _ j d).trans (hW 1 d j (by norm_num) d.isLt (by have := j.isLt; omega)).symm) hX (fun r d => ac_ext _ _ (by omega) (hbot 1 (0 + r) (by norm_num) (by have := r.isLt; omega)))
    · exact pieceA c slabOk_256 0 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 false 0 _ arg5 arg6 x1 x2 0 0 _ _ r j) rfl).trans (hS 0 (0 + r) j (by norm_num) (by have := r.isLt; omega) (by have := j.isLt; omega)).symm))
        (fun j d => (value_ld slabOk_256 arg7 x3 0 0 _ j d).trans (hW 0 d j (by norm_num) d.isLt (by have := j.isLt; omega)).symm) hX (fun r d => ac_ext _ _ (by omega) (hbot 0 (0 + r) (by norm_num) (by have := r.isLt; omega)))

set_option maxHeartbeats 4000000 in
/-- The masked update carries the state on by the diagonal tile's 512 keys. -/
theorem runDiag1_St (c : Dev nD) (arg5 : Memref sig .tc .vmem S512x512 .f32) (arg6 : Memref sig .tc .vmem S1024x512 .bf16) (arg7 : Memref sig .tc .vmem S1024x512 .bf16)
    (x1 : S512x512.Idx → EReal) (x2 x3 : S1024x512.Idx → EReal) (X0 : Buf (Elt Ideal) ((c : Thread nD τ).loc cc0_scratch0)) (X1 : Buf (Elt Ideal) ((c : Thread nD τ).loc cc0_scratch1))
    (S W : ℕ → ℕ → ℕ → EReal) (n : ℕ) (hX : St c S W n X0 X1)
    (hS : ∀ i r j : ℕ, i < 8 → r < 512 → j < 512 → S i r (n + j) = if j / 64 ≤ r / 64 then dotQK x1 x2 i r (512 + j) else (⊥ : EReal))
    (hW : ∀ i d j : ℕ, i < 8 → d < 256 → j < 512 → W i d (n + j) = valV x3 i d (512 + j)) :
    St c S W (n + 512) (scM0.view.writes (Elt Ideal) scM0.view.junk (runDiag1.sl.HS0_16 (F := Ideal) c arg5 arg6 x1 x2 X0))
      (scM1.view.writes (Elt Ideal) scM1.view.junk (runDiag1.sl.HS1_16 (F := Ideal) c arg5 arg6 arg7 x1 x2 x3 X0 X1)) := by
  have hbot (i r : ℕ) (hi : i < 8) (hr : r < 256) (k : ℕ) (h1 : n + 256 ≤ k) (h2 : k < n + 512) : S i r k = ⊥ := by
    obtain ⟨j, rfl⟩ : ∃ j, k = n + j := ⟨k - n, by omega⟩
    rw [hS i r j hi (by omega) (by omega), if_neg (by omega)]
  constructor
  · intro y
    rw [runDiag1_M c arg5 arg6 arg7 x1 x2 x3 X0 X1]
    refine View.read_writes_apply_of_pieces (Val := Elt Ideal) scM0.view scM0.view.junk (fun y : S8x512x128.Idx => mx (S (y 0).val (y 1).val) (n + 512)) _ ?_ y (View.cover_of_tiledL _ ![1, 256, 128] (by sl_kernel_rfl) y)
    intro p hp
    simp only [List.mem_cons, List.not_mem_nil, or_false] at hp
    rcases hp with rfl | rfl | rfl | rfl | rfl | rfl | rfl | rfl | rfl | rfl | rfl | rfl | rfl | rfl | rfl | rfl
    · exact pieceM c slabOk_256b 7 256 _ X0 _ S n _ (fun r j => (slabK_apply _ _ _ (j.val / 64 ≤ (256 + r.val) / 64) (chunkMask_apply 256 _ _ r j (by norm_num) (by norm_num))).trans
        ((if_congr Iff.rfl (score_ld slabOk_256b true 384 _ arg5 arg6 x1 x2 256 512 _ _ r j) rfl).trans (hS 7 (256 + r) j (by norm_num) (by have := r.isLt; omega) (by have := j.isLt; omega)).symm)) hX.1 (fun _ => rfl)
    · exact pieceM c slabOk_256b 6 256 _ X0 _ S n _ (fun r j => (slabK_apply _ _ _ (j.val / 64 ≤ (256 + r.val) / 64) (chunkMask_apply 256 _ _ r j (by norm_num) (by norm_num))).trans
        ((if_congr Iff.rfl (score_ld slabOk_256b false 384 _ arg5 arg6 x1 x2 256 512 _ _ r j) rfl).trans (hS 6 (256 + r) j (by norm_num) (by have := r.isLt; omega) (by have := j.isLt; omega)).symm)) hX.1 (fun _ => rfl)
    · exact pieceM c slabOk_256b 5 256 _ X0 _ S n _ (fun r j => (slabK_apply _ _ _ (j.val / 64 ≤ (256 + r.val) / 64) (chunkMask_apply 256 _ _ r j (by norm_num) (by norm_num))).trans
        ((if_congr Iff.rfl (score_ld slabOk_256b true 256 _ arg5 arg6 x1 x2 256 512 _ _ r j) rfl).trans (hS 5 (256 + r) j (by norm_num) (by have := r.isLt; omega) (by have := j.isLt; omega)).symm)) hX.1 (fun _ => rfl)
    · exact pieceM c slabOk_256b 4 256 _ X0 _ S n _ (fun r j => (slabK_apply _ _ _ (j.val / 64 ≤ (256 + r.val) / 64) (chunkMask_apply 256 _ _ r j (by norm_num) (by norm_num))).trans
        ((if_congr Iff.rfl (score_ld slabOk_256b false 256 _ arg5 arg6 x1 x2 256 512 _ _ r j) rfl).trans (hS 4 (256 + r) j (by norm_num) (by have := r.isLt; omega) (by have := j.isLt; omega)).symm)) hX.1 (fun _ => rfl)
    · exact pieceM c slabOk_256b 3 256 _ X0 _ S n _ (fun r j => (slabK_apply _ _ _ (j.val / 64 ≤ (256 + r.val) / 64) (chunkMask_apply 256 _ _ r j (by norm_num) (by norm_num))).trans
        ((if_congr Iff.rfl (score_ld slabOk_256b true 128 _ arg5 arg6 x1 x2 256 512 _ _ r j) rfl).trans (hS 3 (256 + r) j (by norm_num) (by have := r.isLt; omega) (by have := j.isLt; omega)).symm)) hX.1 (fun _ => rfl)
    · exact pieceM c slabOk_256b 2 256 _ X0 _ S n _ (fun r j => (slabK_apply _ _ _ (j.val / 64 ≤ (256 + r.val) / 64) (chunkMask_apply 256 _ _ r j (by norm_num) (by norm_num))).trans
        ((if_congr Iff.rfl (score_ld slabOk_256b false 128 _ arg5 arg6 x1 x2 256 512 _ _ r j) rfl).trans (hS 2 (256 + r) j (by norm_num) (by have := r.isLt; omega) (by have := j.isLt; omega)).symm)) hX.1 (fun _ => rfl)
    · exact pieceM c slabOk_256b 1 256 _ X0 _ S n _ (fun r j => (slabK_apply _ _ _ (j.val / 64 ≤ (256 + r.val) / 64) (chunkMask_apply 256 _ _ r j (by norm_num) (by norm_num))).trans
        ((if_congr Iff.rfl (score_ld slabOk_256b true 0 _ arg5 arg6 x1 x2 256 512 _ _ r j) rfl).trans (hS 1 (256 + r) j (by norm_num) (by have := r.isLt; omega) (by have := j.isLt; omega)).symm)) hX.1 (fun _ => rfl)
    · exact pieceM c slabOk_256b 0 256 _ X0 _ S n _ (fun r j => (slabK_apply _ _ _ (j.val / 64 ≤ (256 + r.val) / 64) (chunkMask_apply 256 _ _ r j (by norm_num) (by norm_num))).trans
        ((if_congr Iff.rfl (score_ld slabOk_256b false 0 _ arg5 arg6 x1 x2 256 512 _ _ r j) rfl).trans (hS 0 (256 + r) j (by norm_num) (by have := r.isLt; omega) (by have := j.isLt; omega)).symm)) hX.1 (fun _ => rfl)
    · exact pieceM c slabOk_256 7 0 _ X0 _ S n _ (fun r j => (slabK_apply _ _ _ (j.val / 64 ≤ (0 + r.val) / 64) (chunkMask_apply 0 _ _ r j (by norm_num) (by norm_num))).trans
        ((if_congr Iff.rfl (score_ld slabOk_256 true 384 _ arg5 arg6 x1 x2 0 512 _ _ r j) rfl).trans (hS 7 (0 + r) j (by norm_num) (by have := r.isLt; omega) (by have := j.isLt; omega)).symm)) hX.1 (fun r => mx_ext _ (by omega) (hbot 7 (0 + r) (by norm_num) (by have := r.isLt; omega)))
    · exact pieceM c slabOk_256 6 0 _ X0 _ S n _ (fun r j => (slabK_apply _ _ _ (j.val / 64 ≤ (0 + r.val) / 64) (chunkMask_apply 0 _ _ r j (by norm_num) (by norm_num))).trans
        ((if_congr Iff.rfl (score_ld slabOk_256 false 384 _ arg5 arg6 x1 x2 0 512 _ _ r j) rfl).trans (hS 6 (0 + r) j (by norm_num) (by have := r.isLt; omega) (by have := j.isLt; omega)).symm)) hX.1 (fun r => mx_ext _ (by omega) (hbot 6 (0 + r) (by norm_num) (by have := r.isLt; omega)))
    · exact pieceM c slabOk_256 5 0 _ X0 _ S n _ (fun r j => (slabK_apply _ _ _ (j.val / 64 ≤ (0 + r.val) / 64) (chunkMask_apply 0 _ _ r j (by norm_num) (by norm_num))).trans
        ((if_congr Iff.rfl (score_ld slabOk_256 true 256 _ arg5 arg6 x1 x2 0 512 _ _ r j) rfl).trans (hS 5 (0 + r) j (by norm_num) (by have := r.isLt; omega) (by have := j.isLt; omega)).symm)) hX.1 (fun r => mx_ext _ (by omega) (hbot 5 (0 + r) (by norm_num) (by have := r.isLt; omega)))
    · exact pieceM c slabOk_256 4 0 _ X0 _ S n _ (fun r j => (slabK_apply _ _ _ (j.val / 64 ≤ (0 + r.val) / 64) (chunkMask_apply 0 _ _ r j (by norm_num) (by norm_num))).trans
        ((if_congr Iff.rfl (score_ld slabOk_256 false 256 _ arg5 arg6 x1 x2 0 512 _ _ r j) rfl).trans (hS 4 (0 + r) j (by norm_num) (by have := r.isLt; omega) (by have := j.isLt; omega)).symm)) hX.1 (fun r => mx_ext _ (by omega) (hbot 4 (0 + r) (by norm_num) (by have := r.isLt; omega)))
    · exact pieceM c slabOk_256 3 0 _ X0 _ S n _ (fun r j => (slabK_apply _ _ _ (j.val / 64 ≤ (0 + r.val) / 64) (chunkMask_apply 0 _ _ r j (by norm_num) (by norm_num))).trans
        ((if_congr Iff.rfl (score_ld slabOk_256 true 128 _ arg5 arg6 x1 x2 0 512 _ _ r j) rfl).trans (hS 3 (0 + r) j (by norm_num) (by have := r.isLt; omega) (by have := j.isLt; omega)).symm)) hX.1 (fun r => mx_ext _ (by omega) (hbot 3 (0 + r) (by norm_num) (by have := r.isLt; omega)))
    · exact pieceM c slabOk_256 2 0 _ X0 _ S n _ (fun r j => (slabK_apply _ _ _ (j.val / 64 ≤ (0 + r.val) / 64) (chunkMask_apply 0 _ _ r j (by norm_num) (by norm_num))).trans
        ((if_congr Iff.rfl (score_ld slabOk_256 false 128 _ arg5 arg6 x1 x2 0 512 _ _ r j) rfl).trans (hS 2 (0 + r) j (by norm_num) (by have := r.isLt; omega) (by have := j.isLt; omega)).symm)) hX.1 (fun r => mx_ext _ (by omega) (hbot 2 (0 + r) (by norm_num) (by have := r.isLt; omega)))
    · exact pieceM c slabOk_256 1 0 _ X0 _ S n _ (fun r j => (slabK_apply _ _ _ (j.val / 64 ≤ (0 + r.val) / 64) (chunkMask_apply 0 _ _ r j (by norm_num) (by norm_num))).trans
        ((if_congr Iff.rfl (score_ld slabOk_256 true 0 _ arg5 arg6 x1 x2 0 512 _ _ r j) rfl).trans (hS 1 (0 + r) j (by norm_num) (by have := r.isLt; omega) (by have := j.isLt; omega)).symm)) hX.1 (fun r => mx_ext _ (by omega) (hbot 1 (0 + r) (by norm_num) (by have := r.isLt; omega)))
    · exact pieceM c slabOk_256 0 0 _ X0 _ S n _ (fun r j => (slabK_apply _ _ _ (j.val / 64 ≤ (0 + r.val) / 64) (chunkMask_apply 0 _ _ r j (by norm_num) (by norm_num))).trans
        ((if_congr Iff.rfl (score_ld slabOk_256 false 0 _ arg5 arg6 x1 x2 0 512 _ _ r j) rfl).trans (hS 0 (0 + r) j (by norm_num) (by have := r.isLt; omega) (by have := j.isLt; omega)).symm)) hX.1 (fun r => mx_ext _ (by omega) (hbot 0 (0 + r) (by norm_num) (by have := r.isLt; omega)))
  · intro y
    rw [runDiag1_A c arg5 arg6 arg7 x1 x2 x3 X0 X1]
    refine View.read_writes_apply_of_pieces (Val := Elt Ideal) scM1.view scM1.view.junk (fun y : S8x512x256.Idx => ac (S (y 0).val (y 1).val) (W (y 0).val (y 2).val) (n + 512)) _ ?_ y (View.cover_of_tiledL _ ![1, 256, 256] (by sl_kernel_rfl) y)
    intro p hp
    simp only [List.mem_cons, List.not_mem_nil, or_false] at hp
    rcases hp with rfl | rfl | rfl | rfl | rfl | rfl | rfl | rfl | rfl | rfl | rfl | rfl | rfl | rfl | rfl | rfl
    · exact pieceA c slabOk_256b 7 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b true 384 _ arg5 arg6 x1 x2 256 512 _ _ r j) rfl).trans (hS 7 (256 + r) j (by norm_num) (by have := r.isLt; omega) (by have := j.isLt; omega)).symm))
        (fun j d => (value_ld slabOk_256b arg7 x3 512 384 _ j d).trans (hW 7 d j (by norm_num) d.isLt (by have := j.isLt; omega)).symm) hX (fun _ _ => rfl)
    · exact pieceA c slabOk_256b 6 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b false 384 _ arg5 arg6 x1 x2 256 512 _ _ r j) rfl).trans (hS 6 (256 + r) j (by norm_num) (by have := r.isLt; omega) (by have := j.isLt; omega)).symm))
        (fun j d => (value_ld slabOk_256b arg7 x3 512 384 _ j d).trans (hW 6 d j (by norm_num) d.isLt (by have := j.isLt; omega)).symm) hX (fun _ _ => rfl)
    · exact pieceA c slabOk_256b 5 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b true 256 _ arg5 arg6 x1 x2 256 512 _ _ r j) rfl).trans (hS 5 (256 + r) j (by norm_num) (by have := r.isLt; omega) (by have := j.isLt; omega)).symm))
        (fun j d => (value_ld slabOk_256b arg7 x3 512 256 _ j d).trans (hW 5 d j (by norm_num) d.isLt (by have := j.isLt; omega)).symm) hX (fun _ _ => rfl)
    · exact pieceA c slabOk_256b 4 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b false 256 _ arg5 arg6 x1 x2 256 512 _ _ r j) rfl).trans (hS 4 (256 + r) j (by norm_num) (by have := r.isLt; omega) (by have := j.isLt; omega)).symm))
        (fun j d => (value_ld slabOk_256b arg7 x3 512 256 _ j d).trans (hW 4 d j (by norm_num) d.isLt (by have := j.isLt; omega)).symm) hX (fun _ _ => rfl)
    · exact pieceA c slabOk_256b 3 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b true 128 _ arg5 arg6 x1 x2 256 512 _ _ r j) rfl).trans (hS 3 (256 + r) j (by norm_num) (by have := r.isLt; omega) (by have := j.isLt; omega)).symm))
        (fun j d => (value_ld slabOk_256b arg7 x3 512 128 _ j d).trans (hW 3 d j (by norm_num) d.isLt (by have := j.isLt; omega)).symm) hX (fun _ _ => rfl)
    · exact pieceA c slabOk_256b 2 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b false 128 _ arg5 arg6 x1 x2 256 512 _ _ r j) rfl).trans (hS 2 (256 + r) j (by norm_num) (by have := r.isLt; omega) (by have := j.isLt; omega)).symm))
        (fun j d => (value_ld slabOk_256b arg7 x3 512 128 _ j d).trans (hW 2 d j (by norm_num) d.isLt (by have := j.isLt; omega)).symm) hX (fun _ _ => rfl)
    · exact pieceA c slabOk_256b 1 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b true 0 _ arg5 arg6 x1 x2 256 512 _ _ r j) rfl).trans (hS 1 (256 + r) j (by norm_num) (by have := r.isLt; omega) (by have := j.isLt; omega)).symm))
        (fun j d => (value_ld slabOk_256b arg7 x3 512 0 _ j d).trans (hW 1 d j (by norm_num) d.isLt (by have := j.isLt; omega)).symm) hX (fun _ _ => rfl)
    · exact pieceA c slabOk_256b 0 256 _ _ X0 X1 _ _ S W n _ (fun r j => (slabK_apply _ _ _ (j.val / 64 ≤ (256 + r.val) / 64) (chunkMask_apply 256 _ _ r j (by norm_num) (by norm_num))).trans
        ((if_congr Iff.rfl (score_ld slabOk_256b false 0 _ arg5 arg6 x1 x2 256 512 _ _ r j) rfl).trans (hS 0 (256 + r) j (by norm_num) (by have := r.isLt; omega) (by have := j.isLt; omega)).symm))
        (fun j d => (value_ld slabOk_256b arg7 x3 512 0 _ j d).trans (hW 0 d j (by norm_num) d.isLt (by have := j.isLt; omega)).symm) hX (fun _ _ => rfl)
    · exact pieceA c slabOk_256 7 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 true 384 _ arg5 arg6 x1 x2 0 512 _ _ r j) rfl).trans (hS 7 (0 + r) j (by norm_num) (by have := r.isLt; omega) (by have := j.isLt; omega)).symm))
        (fun j d => (value_ld slabOk_256 arg7 x3 512 384 _ j d).trans (hW 7 d j (by norm_num) d.isLt (by have := j.isLt; omega)).symm) hX (fun r d => ac_ext _ _ (by omega) (hbot 7 (0 + r) (by norm_num) (by have := r.isLt; omega)))
    · exact pieceA c slabOk_256 6 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 false 384 _ arg5 arg6 x1 x2 0 512 _ _ r j) rfl).trans (hS 6 (0 + r) j (by norm_num) (by have := r.isLt; omega) (by have := j.isLt; omega)).symm))
        (fun j d => (value_ld slabOk_256 arg7 x3 512 384 _ j d).trans (hW 6 d j (by norm_num) d.isLt (by have := j.isLt; omega)).symm) hX (fun r d => ac_ext _ _ (by omega) (hbot 6 (0 + r) (by norm_num) (by have := r.isLt; omega)))
    · exact pieceA c slabOk_256 5 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 true 256 _ arg5 arg6 x1 x2 0 512 _ _ r j) rfl).trans (hS 5 (0 + r) j (by norm_num) (by have := r.isLt; omega) (by have := j.isLt; omega)).symm))
        (fun j d => (value_ld slabOk_256 arg7 x3 512 256 _ j d).trans (hW 5 d j (by norm_num) d.isLt (by have := j.isLt; omega)).symm) hX (fun r d => ac_ext _ _ (by omega) (hbot 5 (0 + r) (by norm_num) (by have := r.isLt; omega)))
    · exact pieceA c slabOk_256 4 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 false 256 _ arg5 arg6 x1 x2 0 512 _ _ r j) rfl).trans (hS 4 (0 + r) j (by norm_num) (by have := r.isLt; omega) (by have := j.isLt; omega)).symm))
        (fun j d => (value_ld slabOk_256 arg7 x3 512 256 _ j d).trans (hW 4 d j (by norm_num) d.isLt (by have := j.isLt; omega)).symm) hX (fun r d => ac_ext _ _ (by omega) (hbot 4 (0 + r) (by norm_num) (by have := r.isLt; omega)))
    · exact pieceA c slabOk_256 3 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 true 128 _ arg5 arg6 x1 x2 0 512 _ _ r j) rfl).trans (hS 3 (0 + r) j (by norm_num) (by have := r.isLt; omega) (by have := j.isLt; omega)).symm))
        (fun j d => (value_ld slabOk_256 arg7 x3 512 128 _ j d).trans (hW 3 d j (by norm_num) d.isLt (by have := j.isLt; omega)).symm) hX (fun r d => ac_ext _ _ (by omega) (hbot 3 (0 + r) (by norm_num) (by have := r.isLt; omega)))
    · exact pieceA c slabOk_256 2 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 false 128 _ arg5 arg6 x1 x2 0 512 _ _ r j) rfl).trans (hS 2 (0 + r) j (by norm_num) (by have := r.isLt; omega) (by have := j.isLt; omega)).symm))
        (fun j d => (value_ld slabOk_256 arg7 x3 512 128 _ j d).trans (hW 2 d j (by norm_num) d.isLt (by have := j.isLt; omega)).symm) hX (fun r d => ac_ext _ _ (by omega) (hbot 2 (0 + r) (by norm_num) (by have := r.isLt; omega)))
    · exact pieceA c slabOk_256 1 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 true 0 _ arg5 arg6 x1 x2 0 512 _ _ r j) rfl).trans (hS 1 (0 + r) j (by norm_num) (by have := r.isLt; omega) (by have := j.isLt; omega)).symm))
        (fun j d => (value_ld slabOk_256 arg7 x3 512 0 _ j d).trans (hW 1 d j (by norm_num) d.isLt (by have := j.isLt; omega)).symm) hX (fun r d => ac_ext _ _ (by omega) (hbot 1 (0 + r) (by norm_num) (by have := r.isLt; omega)))
    · exact pieceA c slabOk_256 0 0 _ _ X0 X1 _ _ S W n _ (fun r j => (slabK_apply _ _ _ (j.val / 64 ≤ (0 + r.val) / 64) (chunkMask_apply 0 _ _ r j (by norm_num) (by norm_num))).trans
        ((if_congr Iff.rfl (score_ld slabOk_256 false 0 _ arg5 arg6 x1 x2 0 512 _ _ r j) rfl).trans (hS 0 (0 + r) j (by norm_num) (by have := r.isLt; omega) (by have := j.isLt; omega)).symm))
        (fun j d => (value_ld slabOk_256 arg7 x3 512 0 _ j d).trans (hW 0 d j (by norm_num) d.isLt (by have := j.isLt; omega)).symm) hX (fun r d => ac_ext _ _ (by omega) (hbot 0 (0 + r) (by norm_num) (by have := r.isLt; omega)))

end Cert.KernelIdeal.Attn
-- ==== Proof.Finish.lean ====
/- The end of a row: the two maps' weighted means, their difference, its norm, gain and scale. -/
module

public import proofs.«01_k».proof.Proof.State

@[expose] public section

set_option maxRecDepth 16384

noncomputable section

namespace Cert.KernelIdeal.Attn

open Cert.KernelIdeal.Gen
open Idealize.ShloMosaic Idealize.ShloMosaic.TcCoe Idealize.ShloMosaic.Tactic

section generic
variable {F : FTy → Type} [FloatOps F] [Named F]

/-- The weighted mean of one map. -/
def finQ (a : FVec F S1x512x256 .f32) : FVec F S512x128 .f32 :=
  divf (extractStridedSlice S512x128 ![0, 0] (shapeCast S512x256 a shapeCasts_S1x512x256_S512x256) slices_S512x256_o0_0_S512x128)
    (extractStridedSlice S512x128 ![0, 128] (shapeCast S512x256 a shapeCasts_S1x512x256_S512x256) slices_S512x256_o0_128_S512x128)

/-- The difference of the two maps. -/
def finO (lam : F .f32) (a1 a2 : FVec F S1x512x256 .f32) : FVec F S512x128 .f32 :=
  subf (finQ a1) (mulf (broadcast S512x128 lam) (finQ a2))

/-- The normed, scaled rows of a difference. -/
def finN (o : FVec F S512x128 .f32) (g : FVec F S1x128 .f32) : FVec F S512x128 .bf16 :=
  truncf .bf16 (mulf (mulf (mulf o (broadcastTo S512x128 (rsqrt (addf (divf (shapeCast S512x1
      (multiReduction .add [1] S512 (mulf o o) 0x00000000#32 reduces_S512x128_S512 (.inl rfl) rfl) shapeCasts_S512_S512x1)
        (broadcast S512x1 (Scalar.ofBits .f32 0x43000000#32 : F .f32))) (broadcast S512x1 (Scalar.ofBits .f32 0x358637BD#32 : F .f32)))) broadcasts_S512x1_S512x128))
      (broadcastTo S512x128 (shapeCast S1x128 g shapeCasts_S1x128_S1x128) broadcasts_S1x128_S512x128))
    (broadcast S512x128 (Scalar.ofBits .f32 0x3F4CCCCD#32 : F .f32))) bitsLt_bf16_f32

/-- A map's slab of the second scratch. -/
abbrev ldA (c : Dev nD) (X1 : Buf (Elt F) ((c : Thread nD τ).loc cc0_scratch1)) (i : ℕ)
    (inb : ∀ a, (![i, 0, 0] : Fin 3 → ℕ) a + S1x512x256.size a ≤ S8x512x256.size a) : S1x512x256.Idx → Elt F .f32 :=
  scM1.view.readAt (Elt F) (Rect.unit (s := S8x512x256) ![i, 0, 0] S1x512x256.size inb).toLoadRect X1

/-- The scalar of a one-element block. -/
abbrev ldL (A : Memref sig .tc .smem S1 .f32) (x0 : S1.Idx → Elt F .f32) : Elt F .f32 :=
  View.readAt (Elt F) A.view (Rect.unit (s := S1) ![0] S1.size inb_S1_S1_0).toLoadRect (A.view.rep x0) (Shape.Idx.first (numel1_S1.symm ▸ Nat.one_pos))

/-- One head's columns of the output block. -/
def finP (c : Dev nD) (arg4 : Memref sig .tc .smem S1 .f32) (arg8 : Memref sig .tc .vmem S1x128 .f32)
    (x0 : S1.Idx → Elt F .f32) (x4 : S1x128.Idx → Elt F .f32) (X1 : Buf (Elt F) ((c : Thread nD τ).loc cc0_scratch1)) (h : ℕ)
    (inb1 : ∀ a, (![2 * h, 0, 0] : Fin 3 → ℕ) a + S1x512x256.size a ≤ S8x512x256.size a)
    (inb2 : ∀ a, (![2 * h + 1, 0, 0] : Fin 3 → ℕ) a + S1x512x256.size a ≤ S8x512x256.size a) : S512x128.Idx → Elt F .bf16 :=
  finN (finO (ldL arg4 x0) (ldA c X1 (2 * h) inb1) (ldA c X1 (2 * h + 1) inb2))
    (ld2 arg8 x4 (Rect.unit (s := S1x128) ![0, 0] S1x128.size inb_S1x128_S1x128_0_0))

set_option maxHeartbeats 4000000 in
/-- The output block's pieces, head by head. -/
theorem runDiag0_O (c : Dev nD) (arg4 : Memref sig .tc .smem S1 .f32) (arg5 : Memref sig .tc .vmem S512x512 .f32) (arg6 : Memref sig .tc .vmem S1024x512 .bf16) (arg7 : Memref sig .tc .vmem S1024x512 .bf16)
    (arg8 : Memref sig .tc .vmem S1x128 .f32) (x0 : S1.Idx → Elt F .f32) (x1 : S512x512.Idx → Elt F .f32) (x2 x3 : S1024x512.Idx → Elt F .bf16) (x4 : S1x128.Idx → Elt F .f32)
    (X0 : Buf (Elt F) ((c : Thread nD τ).loc cc0_scratch0)) (X1 : Buf (Elt F) ((c : Thread nD τ).loc cc0_scratch1)) :
    runDiag0.sl.HO_4 c arg4 arg5 arg6 arg7 arg8 x0 x1 x2 x3 x4 X0 X1
      = [⟨Rect.unit (s := S512x512) ![0, 384] S512x128.size inb_S512x512_S512x128_0_384, finP c arg4 arg8 x0 x4 (scM1.view.writes (Elt F) scM1.view.junk (runDiag0.sl.HS1_16 c arg5 arg6 arg7 x1 x2 x3 X0 X1)) 3 inb_S8x512x256_S1x512x256_6_0_0 inb_S8x512x256_S1x512x256_7_0_0⟩,
        ⟨Rect.unit (s := S512x512) ![0, 256] S512x128.size inb_S512x512_S512x128_0_256, finP c arg4 arg8 x0 x4 (scM1.view.writes (Elt F) scM1.view.junk (runDiag0.sl.HS1_16 c arg5 arg6 arg7 x1 x2 x3 X0 X1)) 2 inb_S8x512x256_S1x512x256_4_0_0 inb_S8x512x256_S1x512x256_5_0_0⟩,
        ⟨Rect.unit (s := S512x512) ![0, 128] S512x128.size inb_S512x512_S512x128_0_128, finP c arg4 arg8 x0 x4 (scM1.view.writes (Elt F) scM1.view.junk (runDiag0.sl.HS1_16 c arg5 arg6 arg7 x1 x2 x3 X0 X1)) 1 inb_S8x512x256_S1x512x256_2_0_0 inb_S8x512x256_S1x512x256_3_0_0⟩,
        ⟨Rect.unit (s := S512x512) ![0, 0] S512x128.size inb_S512x512_S512x128_0_0, finP c arg4 arg8 x0 x4 (scM1.view.writes (Elt F) scM1.view.junk (runDiag0.sl.HS1_16 c arg5 arg6 arg7 x1 x2 x3 X0 X1)) 0 inb_S8x512x256_S1x512x256_0_0_0 inb_S8x512x256_S1x512x256_1_0_0⟩] := rfl

set_option maxHeartbeats 4000000 in
/-- The output block's pieces, head by head. -/
theorem runDiag1_O (c : Dev nD) (arg4 : Memref sig .tc .smem S1 .f32) (arg5 : Memref sig .tc .vmem S512x512 .f32) (arg6 : Memref sig .tc .vmem S1024x512 .bf16) (arg7 : Memref sig .tc .vmem S1024x512 .bf16)
    (arg8 : Memref sig .tc .vmem S1x128 .f32) (x0 : S1.Idx → Elt F .f32) (x1 : S512x512.Idx → Elt F .f32) (x2 x3 : S1024x512.Idx → Elt F .bf16) (x4 : S1x128.Idx → Elt F .f32)
    (X0 : Buf (Elt F) ((c : Thread nD τ).loc cc0_scratch0)) (X1 : Buf (Elt F) ((c : Thread nD τ).loc cc0_scratch1)) :
    runDiag1.sl.HO_4 c arg4 arg5 arg6 arg7 arg8 x0 x1 x2 x3 x4 X0 X1
      = [⟨Rect.unit (s := S512x512) ![0, 384] S512x128.size inb_S512x512_S512x128_0_384, finP c arg4 arg8 x0 x4 (scM1.view.writes (Elt F) scM1.view.junk (runDiag1.sl.HS1_16 c arg5 arg6 arg7 x1 x2 x3 X0 X1)) 3 inb_S8x512x256_S1x512x256_6_0_0 inb_S8x512x256_S1x512x256_7_0_0⟩,
        ⟨Rect.unit (s := S512x512) ![0, 256] S512x128.size inb_S512x512_S512x128_0_256, finP c arg4 arg8 x0 x4 (scM1.view.writes (Elt F) scM1.view.junk (runDiag1.sl.HS1_16 c arg5 arg6 arg7 x1 x2 x3 X0 X1)) 2 inb_S8x512x256_S1x512x256_4_0_0 inb_S8x512x256_S1x512x256_5_0_0⟩,
        ⟨Rect.unit (s := S512x512) ![0, 128] S512x128.size inb_S512x512_S512x128_0_128, finP c arg4 arg8 x0 x4 (scM1.view.writes (Elt F) scM1.view.junk (runDiag1.sl.HS1_16 c arg5 arg6 arg7 x1 x2 x3 X0 X1)) 1 inb_S8x512x256_S1x512x256_2_0_0 inb_S8x512x256_S1x512x256_3_0_0⟩,
        ⟨Rect.unit (s := S512x512) ![0, 0] S512x128.size inb_S512x512_S512x128_0_0, finP c arg4 arg8 x0 x4 (scM1.view.writes (Elt F) scM1.view.junk (runDiag1.sl.HS1_16 c arg5 arg6 arg7 x1 x2 x3 X0 X1)) 0 inb_S8x512x256_S1x512x256_0_0_0 inb_S8x512x256_S1x512x256_1_0_0⟩] := rfl
end generic

/-- The small number added to a mean square. -/
def epsR : ℝ := 8796093 * (1 / 8796093022208)

theorem eps_eq : (FloatOps.ofBits (F := Ideal) .f32 0x358637BD#32 : EReal) = (epsR : EReal) := by
  simp [Ideal.ofBits, Ideal.ieee]
  rw [← EReal.coe_mul]
  norm_num [epsR]

theorem size_eq : (FloatOps.ofBits (F := Ideal) .f32 0x43000000#32 : EReal) = ((128 : ℝ) : EReal) := by
  simp [Ideal.ofBits, Ideal.ieee]
  rw [← EReal.coe_mul]
  norm_num

/-- The last factor. -/
def lastF : EReal := FloatOps.ofBits (F := Ideal) .f32 0x3F4CCCCD#32

theorem finQ_apply (a : S1x512x256.Idx → EReal) (r : Fin 512) (e : Fin 128) :
    finQ (F := Ideal) a (ValueIdx.ix2 r e)
      = Ideal.div (a (ValueIdx.ix3 0 r ⟨e, by omega⟩)) (a (ValueIdx.ix3 0 r ⟨128 + e, by omega⟩)) := by
  show Ideal.div (extractStridedSlice S512x128 ![0, 0] (shapeCast S512x256 a shapeCasts_S1x512x256_S512x256) slices_S512x256_o0_0_S512x128 (ValueIdx.ix2 r e))
    (extractStridedSlice S512x128 ![0, 128] (shapeCast S512x256 a shapeCasts_S1x512x256_S512x256) slices_S512x256_o0_128_S512x128 (ValueIdx.ix2 r e)) = _
  rw [extractStridedSlice_apply _ _ slices_S512x256_o0_0_S512x128 (ValueIdx.ix2 r e) (ValueIdx.ix2 r (⟨e, by omega⟩ : Fin 256)) (by
      intro k
      match k with
      | ⟨0, _⟩ => exact (Nat.zero_add _).symm
      | ⟨1, _⟩ => exact (Nat.zero_add _).symm),
    extractStridedSlice_apply _ _ slices_S512x256_o0_128_S512x128 (ValueIdx.ix2 r e) (ValueIdx.ix2 r (⟨128 + e, by omega⟩ : Fin 256)) (by
      intro k
      match k with
      | ⟨0, _⟩ => exact (Nat.zero_add _).symm
      | ⟨1, _⟩ => rfl), ValueIdx.shapeCast_1ab_ab_apply, ValueIdx.shapeCast_1ab_ab_apply]

/-- The normed row, element by element. -/
theorem finN_apply (o : S512x128.Idx → EReal) (g : S1x128.Idx → EReal) (r : Fin 512) (e : Fin 128) :
    finN (F := Ideal) o g (ValueIdx.ix2 r e)
      = o (ValueIdx.ix2 r e) * Ideal.rsqrt (msq (fun e : Fin 128 => o (ValueIdx.ix2 r e)) + (epsR : EReal)) * g (ValueIdx.ix2 0 e) * lastF := by
  show o (ValueIdx.ix2 r e) * (broadcastTo S512x128 _ broadcasts_S512x1_S512x128 (ValueIdx.ix2 r e) : EReal)
    * (broadcastTo S512x128 (shapeCast S1x128 g shapeCasts_S1x128_S1x128) broadcasts_S1x128_S512x128 (ValueIdx.ix2 r e) : EReal) * lastF = _
  congr 2
  · congr 1
    rw [broadcastTo_apply _ broadcasts_S512x1_S512x128 (ValueIdx.ix2 r e) (ValueIdx.ix2 r (0 : Fin 1)) (by
      intro k
      match k with
      | ⟨0, _⟩ => rfl
      | ⟨1, _⟩ => rfl)]
    show Ideal.rsqrt (Ideal.div (shapeCast S512x1 _ shapeCasts_S512_S512x1 (ValueIdx.ix2 r (0 : Fin 1)) : EReal) (FloatOps.ofBits (F := Ideal) .f32 0x43000000#32 : EReal)
      + (FloatOps.ofBits (F := Ideal) .f32 0x358637BD#32 : EReal)) = _
    rw [eps_eq, size_eq, ValueIdx.shapeCast_a_a1_apply]
    unfold msq
    congr 3
    refine (Ideal.multiReduction_add_single _ _ reduces_S512x128_S512 _ _ _).trans ?_
    refine Finset.sum_congr rfl fun k _ => ?_
    show o _ * o _ = _
    have hl : reduces_S512x128_S512.lift (ValueIdx.ix1 r) k = ValueIdx.ix2 r k := by
      funext a
      match a with
      | ⟨0, _⟩ => rfl
      | ⟨1, _⟩ => rfl
    rw [hl]
    rfl
  · rw [broadcastTo_apply _ broadcasts_S1x128_S512x128 (ValueIdx.ix2 r e) (ValueIdx.ix2 (0 : Fin 1) e) (by
      intro k
      match k with
      | ⟨0, _⟩ => rfl
      | ⟨1, _⟩ => rfl)]
    exact shapeCast_apply _ _ (ValueIdx.ix2 (0 : Fin 1) e) (ValueIdx.ix2 (0 : Fin 1) e) rfl

/-- The difference of a head's two maps at a row and lane, from the states. -/
def okV (lam : EReal) (S W : ℕ → ℕ → ℕ → EReal) (n h r e : ℕ) : EReal :=
  Ideal.div (ac (S (2 * h) r) (W (2 * h) e) n) (ac (S (2 * h) r) (W (2 * h) (128 + e)) n)
    - lam * Ideal.div (ac (S (2 * h + 1) r) (W (2 * h + 1) e) n) (ac (S (2 * h + 1) r) (W (2 * h + 1) (128 + e)) n)

/-- The output row's element at a lane. -/
def outV (lam : EReal) (S W : ℕ → ℕ → ℕ → EReal) (n : ℕ) (g : ℕ → EReal) (r l : ℕ) : EReal :=
  okV lam S W n (l / 128) r (l % 128) * Ideal.rsqrt (msq (fun e : Fin 128 => okV lam S W n (l / 128) r e) + (epsR : EReal)) * g (l % 128) * lastF

theorem ldL_eq (A : Memref sig .tc .smem S1 .f32) (x0 : S1.Idx → EReal) : ldL (F := Ideal) A x0 = x0 (ValueIdx.ix1 0) := by
  unfold ldL
  rw [View.readAt_rep]
  exact congrArg x0 (funext fun k => match k with | ⟨0, _⟩ => Fin.ext (Nat.lt_one_iff.mp (Fin.isLt (n := 1) _)))

theorem ldA_apply (c : Dev nD) (X1 : Buf (Elt Ideal) ((c : Thread nD τ).loc cc0_scratch1)) (i : ℕ)
    (inb : ∀ a, (![i, 0, 0] : Fin 3 → ℕ) a + S1x512x256.size a ≤ S8x512x256.size a) (S W : ℕ → ℕ → ℕ → EReal) (n : ℕ)
    (hX : ∀ y : S8x512x256.Idx, scM1.view.read (Elt Ideal) X1 y = ac (S (y 0).val (y 1).val) (W (y 0).val (y 2).val) n)
    (r : Fin 512) (d : Fin 256) :
    ldA (F := Ideal) c X1 i inb (ValueIdx.ix3 0 r d) = ac (S i r) (W i d) n := by
  show scM1.view.read (Elt Ideal) X1 _ = _
  rw [hX]
  show ac (S (i + 1 * 0) (0 + 1 * r.val)) (W (i + 1 * 0) (0 + 1 * d.val)) n = _
  rw [Nat.mul_zero, Nat.add_zero, Nat.one_mul, Nat.one_mul, Nat.zero_add, Nat.zero_add]

/-- One head's columns, from the state the scratches hold. -/
theorem finP_apply (c : Dev nD) (arg4 : Memref sig .tc .smem S1 .f32) (arg8 : Memref sig .tc .vmem S1x128 .f32)
    (x0 : S1.Idx → EReal) (x4 : S1x128.Idx → EReal) (X1 : Buf (Elt Ideal) ((c : Thread nD τ).loc cc0_scratch1)) (h : ℕ)
    (inb1 : ∀ a, (![2 * h, 0, 0] : Fin 3 → ℕ) a + S1x512x256.size a ≤ S8x512x256.size a)
    (inb2 : ∀ a, (![2 * h + 1, 0, 0] : Fin 3 → ℕ) a + S1x512x256.size a ≤ S8x512x256.size a) (S W : ℕ → ℕ → ℕ → EReal) (n : ℕ)
    (hX : ∀ y : S8x512x256.Idx, scM1.view.read (Elt Ideal) X1 y = ac (S (y 0).val (y 1).val) (W (y 0).val (y 2).val) n)
    (o : ℕ) (ho : o = 128 * h) (inb : ∀ a, (![0, o] : Fin 2 → ℕ) a + S512x128.size a ≤ S512x512.size a) (x : S512x128.Idx) :
    finP (F := Ideal) c arg4 arg8 x0 x4 X1 h inb1 inb2 x
      = (fun y : S512x512.Idx => outV (x0 (ValueIdx.ix1 0)) S W n (at2 x4 0) (y 0).val (y 1).val) ((Rect.unit (s := S512x512) ![0, o] S512x128.size inb).emb x) := by
  subst ho
  obtain ⟨r, l, rfl⟩ : ∃ (r : Fin 512) (l : Fin 128), x = ValueIdx.ix2 r l := ⟨x 0, x 1, ValueIdx.eq_ix2 x⟩
  have ho (e : Fin 128) : (finO (F := Ideal) (ldL (F := Ideal) arg4 x0) (ldA (F := Ideal) c X1 (2 * h) inb1) (ldA (F := Ideal) c X1 (2 * h + 1) inb2) (ValueIdx.ix2 r e) : EReal)
      = okV (x0 (ValueIdx.ix1 0)) S W n h r.val e := by
    show (finQ (F := Ideal) _ (ValueIdx.ix2 r e) : EReal) - ldL (F := Ideal) arg4 x0 * (finQ (F := Ideal) _ (ValueIdx.ix2 r e) : EReal) = _
    rw [finQ_apply, finQ_apply, ldL_eq, ldA_apply c X1 _ inb1 S W n hX, ldA_apply c X1 _ inb1 S W n hX, ldA_apply c X1 _ inb2 S W n hX, ldA_apply c X1 _ inb2 S W n hX]
    rfl
  have e1 : (128 * h + l.val) / 128 = h := by have := l.isLt; omega
  have e2 : (128 * h + l.val) % 128 = l.val := by have := l.isLt; omega
  show _ = outV (x0 (ValueIdx.ix1 0)) S W n (at2 x4 0) (0 + 1 * r.val) (128 * h + 1 * l.val)
  rw [Nat.one_mul, Nat.zero_add, Nat.one_mul]
  unfold outV
  rw [e1, e2]
  unfold finP
  rw [finN_apply, ho]
  simp only [ho]
  congr 2
  rw [ld2_apply]
  refine Eq.trans ?_ (at2_apply (a := 1) (b := 128) x4 0 l).symm
  congr 2
  exact Fin.ext (Nat.zero_add _)

set_option maxHeartbeats 4000000 in
/-- The output block the diagonal part leaves, from the state the second scratch then holds. -/
theorem runDiag0_out (c : Dev nD) (arg4 : Memref sig .tc .smem S1 .f32) (arg5 : Memref sig .tc .vmem S512x512 .f32) (arg6 : Memref sig .tc .vmem S1024x512 .bf16) (arg7 : Memref sig .tc .vmem S1024x512 .bf16)
    (arg8 : Memref sig .tc .vmem S1x128 .f32) (arg9 : Memref sig .tc .vmem S512x512 .bf16) (x0 : S1.Idx → EReal) (x1 : S512x512.Idx → EReal) (x2 x3 : S1024x512.Idx → EReal) (x4 : S1x128.Idx → EReal)
    (X0 : Buf (Elt Ideal) ((c : Thread nD τ).loc cc0_scratch0)) (X1 : Buf (Elt Ideal) ((c : Thread nD τ).loc cc0_scratch1)) (S W : ℕ → ℕ → ℕ → EReal) (n : ℕ)
    (hX : ∀ y : S8x512x256.Idx, scM1.view.read (Elt Ideal) (scM1.view.writes (Elt Ideal) scM1.view.junk (runDiag0.sl.HS1_16 (F := Ideal) c arg5 arg6 arg7 x1 x2 x3 X0 X1)) y = ac (S (y 0).val (y 1).val) (W (y 0).val (y 2).val) n)
    (f : arg9.view.ty.Contents (Elt Ideal)) (y : S512x512.Idx) :
    arg9.view.read (Elt Ideal) (arg9.view.writes (Elt Ideal) f (runDiag0.sl.HO_4 (F := Ideal) c arg4 arg5 arg6 arg7 arg8 x0 x1 x2 x3 x4 X0 X1)) y
      = outV (x0 (ValueIdx.ix1 0)) S W n (at2 x4 0) (y 0).val (y 1).val := by
  rw [runDiag0_O]
  refine View.read_writes_apply_of_pieces (Val := Elt Ideal) arg9.view f (fun y : S512x512.Idx => outV (x0 (ValueIdx.ix1 0)) S W n (at2 x4 0) (y 0).val (y 1).val) _ ?_ y (View.cover_of_tiledL _ ![512, 128] (by sl_kernel_rfl) y)
  intro p hp
  simp only [List.mem_cons, List.not_mem_nil, or_false] at hp
  rcases hp with rfl | rfl | rfl | rfl
  · exact finP_apply c arg4 arg8 x0 x4 _ 3 _ _ S W n hX 384 rfl inb_S512x512_S512x128_0_384
  · exact finP_apply c arg4 arg8 x0 x4 _ 2 _ _ S W n hX 256 rfl inb_S512x512_S512x128_0_256
  · exact finP_apply c arg4 arg8 x0 x4 _ 1 _ _ S W n hX 128 rfl inb_S512x512_S512x128_0_128
  · exact finP_apply c arg4 arg8 x0 x4 _ 0 _ _ S W n hX 0 rfl inb_S512x512_S512x128_0_0

set_option maxHeartbeats 4000000 in
/-- The output block the diagonal part leaves, from the state the second scratch then holds. -/
theorem runDiag1_out (c : Dev nD) (arg4 : Memref sig .tc .smem S1 .f32) (arg5 : Memref sig .tc .vmem S512x512 .f32) (arg6 : Memref sig .tc .vmem S1024x512 .bf16) (arg7 : Memref sig .tc .vmem S1024x512 .bf16)
    (arg8 : Memref sig .tc .vmem S1x128 .f32) (arg9 : Memref sig .tc .vmem S512x512 .bf16) (x0 : S1.Idx → EReal) (x1 : S512x512.Idx → EReal) (x2 x3 : S1024x512.Idx → EReal) (x4 : S1x128.Idx → EReal)
    (X0 : Buf (Elt Ideal) ((c : Thread nD τ).loc cc0_scratch0)) (X1 : Buf (Elt Ideal) ((c : Thread nD τ).loc cc0_scratch1)) (S W : ℕ → ℕ → ℕ → EReal) (n : ℕ)
    (hX : ∀ y : S8x512x256.Idx, scM1.view.read (Elt Ideal) (scM1.view.writes (Elt Ideal) scM1.view.junk (runDiag1.sl.HS1_16 (F := Ideal) c arg5 arg6 arg7 x1 x2 x3 X0 X1)) y = ac (S (y 0).val (y 1).val) (W (y 0).val (y 2).val) n)
    (f : arg9.view.ty.Contents (Elt Ideal)) (y : S512x512.Idx) :
    arg9.view.read (Elt Ideal) (arg9.view.writes (Elt Ideal) f (runDiag1.sl.HO_4 (F := Ideal) c arg4 arg5 arg6 arg7 arg8 x0 x1 x2 x3 x4 X0 X1)) y
      = outV (x0 (ValueIdx.ix1 0)) S W n (at2 x4 0) (y 0).val (y 1).val := by
  rw [runDiag1_O]
  refine View.read_writes_apply_of_pieces (Val := Elt Ideal) arg9.view f (fun y : S512x512.Idx => outV (x0 (ValueIdx.ix1 0)) S W n (at2 x4 0) (y 0).val (y 1).val) _ ?_ y (View.cover_of_tiledL _ ![512, 128] (by sl_kernel_rfl) y)
  intro p hp
  simp only [List.mem_cons, List.not_mem_nil, or_false] at hp
  rcases hp with rfl | rfl | rfl | rfl
  · exact finP_apply c arg4 arg8 x0 x4 _ 3 _ _ S W n hX 384 rfl inb_S512x512_S512x128_0_384
  · exact finP_apply c arg4 arg8 x0 x4 _ 2 _ _ S W n hX 256 rfl inb_S512x512_S512x128_0_256
  · exact finP_apply c arg4 arg8 x0 x4 _ 1 _ _ S W n hX 128 rfl inb_S512x512_S512x128_0_128
  · exact finP_apply c arg4 arg8 x0 x4 _ 0 _ _ S W n hX 0 rfl inb_S512x512_S512x128_0_0

end Cert.KernelIdeal.Attn
-- ==== Proof.Step.lean ====
/- The body at a point: which parts run, and the state they leave. -/
module

public import proofs.«01_k».proof.Proof.Finish
public import proofs.«01_k».proof.Proof.Body

@[expose] public section

set_option maxRecDepth 16384

noncomputable section

namespace Cert.KernelIdeal.Attn

open Cert.KernelIdeal.Gen
open Idealize.ShloMosaic Idealize.ShloMosaic.TcCoe Idealize.ShloMosaic.Tactic

variable (c : Dev nD) (i : grid0.Coords) (arg4 : Memref sig .tc .smem S1 .f32) (harg4 : arg4.IsWhole) (arg5 : Memref sig .tc .vmem S512x512 .f32) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x128 .f32) (harg8 : arg8.IsWhole) (arg9 : Memref sig .tc .vmem S512x512 .bf16) (harg9 : arg9.IsWhole)
  (x0 : S1.Idx → EReal) (x1 : S512x512.Idx → EReal) (x2 x3 : S1024x512.Idx → EReal) (x4 : S1x128.Idx → EReal)
  (X : Buf (Elt Ideal) ((c : Thread nD τ).loc cc0_scratch0) × Buf (Elt Ideal) ((c : Thread nD τ).loc cc0_scratch1))
  (S W : ℕ → ℕ → ℕ → EReal)

/-- The state before the keys: the least value and zero. -/
theorem runInit_St : St c S W 0 (scM0.view.writes (Elt Ideal) scM0.view.junk (runInit.sl.HS0_1 (F := Ideal)))
    (scM1.view.writes (Elt Ideal) scM1.view.junk (runInit.sl.HS1_1 (F := Ideal))) := by
  constructor
  · intro y
    refine View.read_writes_apply_of_pieces (Val := Elt Ideal) scM0.view scM0.view.junk (fun y : S8x512x128.Idx => mx (S (y 0).val (y 1).val) 0) _ ?_ y (View.cover_of_tiledL _ ![8, 512, 128] (by sl_kernel_rfl) y)
    intro p hp
    simp only [runInit.sl.HS0_1, List.mem_cons, List.not_mem_nil, or_false] at hp
    subst hp
    intro x
    show k0_pay1 (F := Ideal) x = mx _ 0
    rw [mx_zero]
    rfl
  · intro y
    refine View.read_writes_apply_of_pieces (Val := Elt Ideal) scM1.view scM1.view.junk (fun y : S8x512x256.Idx => ac (S (y 0).val (y 1).val) (W (y 0).val (y 2).val) 0) _ ?_ y (View.cover_of_tiledL _ ![8, 512, 256] (by sl_kernel_rfl) y)
    intro p hp
    simp only [runInit.sl.HS1_1, List.mem_cons, List.not_mem_nil, or_false] at hp
    subst hp
    intro x
    show k0_pay2 (F := Ideal) x = ac _ _ 0
    rw [ac_zero]
    exact Ideal.ofBits_zero_f32

theorem st0_skip (b : Prop) [Decidable b] (h : ¬ b) : st0 (F := Ideal) b c i arg4 harg4 arg5 harg5 arg6 harg6 arg7 harg7 arg8 harg8 arg9 harg9  X = X := by
  unfold st0; rw [if_neg h, if_neg h]

theorem st0_St (b : Prop) [Decidable b] (h : b)  :
    St c S W 0 (st0 (F := Ideal) b c i arg4 harg4 arg5 harg5 arg6 harg6 arg7 harg7 arg8 harg8 arg9 harg9  X).1 (st0 (F := Ideal) b c i arg4 harg4 arg5 harg5 arg6 harg6 arg7 harg7 arg8 harg8 arg9 harg9  X).2 := by
  have hr := runInit_St c S W
  unfold st0; rw [if_pos h, if_pos h]
  unfold runInit
  with_reducible exact hr

theorem st1_skip (b : Prop) [Decidable b] (h : ¬ b) : st1 (F := Ideal) b c i arg4 harg4 arg5 harg5 arg6 harg6 arg7 harg7 arg8 harg8 arg9 harg9 x1 x2 x3 X = X := by
  unfold st1; rw [if_neg h, if_neg h]

theorem st1_St (b : Prop) [Decidable b] (h : b) (n : ℕ) (hX : St c S W n X.1 X.2)
    (hS : ∀ i r j : ℕ, i < 8 → r < 512 → j < 1024 → S i r (n + j) = dotQK x1 x2 i r (0 + j))
    (hW : ∀ i d j : ℕ, i < 8 → d < 256 → j < 1024 → W i d (n + j) = valV x3 i d (0 + j)) :
    St c S W (n + 1024) (st1 (F := Ideal) b c i arg4 harg4 arg5 harg5 arg6 harg6 arg7 harg7 arg8 harg8 arg9 harg9 x1 x2 x3 X).1 (st1 (F := Ideal) b c i arg4 harg4 arg5 harg5 arg6 harg6 arg7 harg7 arg8 harg8 arg9 harg9 x1 x2 x3 X).2 := by
  have hr := runFull_St c arg5 arg6 arg7 x1 x2 x3 X.1 X.2 S W n hX hS hW
  unfold st1; rw [if_pos h, if_pos h]
  unfold runFull
  with_reducible exact hr

theorem st2_skip (b : Prop) [Decidable b] (h : ¬ b) : st2 (F := Ideal) b c i arg4 harg4 arg5 harg5 arg6 harg6 arg7 harg7 arg8 harg8 arg9 harg9 x1 x2 x3 X = X := by
  unfold st2; rw [if_neg h, if_neg h]

theorem st2_St (b : Prop) [Decidable b] (h : b) (n : ℕ) (hX : St c S W n X.1 X.2)
    (hS : ∀ i r j : ℕ, i < 8 → r < 512 → j < 512 → S i r (n + j) = dotQK x1 x2 i r (0 + j))
    (hW : ∀ i d j : ℕ, i < 8 → d < 256 → j < 512 → W i d (n + j) = valV x3 i d (0 + j)) :
    St c S W (n + 512) (st2 (F := Ideal) b c i arg4 harg4 arg5 harg5 arg6 harg6 arg7 harg7 arg8 harg8 arg9 harg9 x1 x2 x3 X).1 (st2 (F := Ideal) b c i arg4 harg4 arg5 harg5 arg6 harg6 arg7 harg7 arg8 harg8 arg9 harg9 x1 x2 x3 X).2 := by
  have hr := runHalf_St c arg5 arg6 arg7 x1 x2 x3 X.1 X.2 S W n hX hS hW
  unfold st2; rw [if_pos h, if_pos h]
  unfold runHalf
  with_reducible exact hr

theorem st3_skip (b : Prop) [Decidable b] (h : ¬ b) : st3 (F := Ideal) b c i arg4 harg4 arg5 harg5 arg6 harg6 arg7 harg7 arg8 harg8 arg9 harg9 x0 x1 x2 x3 x4 X = X := by
  unfold st3; rw [if_neg h, if_neg h]

theorem st3_St (b : Prop) [Decidable b] (h : b) (n : ℕ) (hX : St c S W n X.1 X.2)
    (hS : ∀ i r j : ℕ, i < 8 → r < 512 → j < 512 → S i r (n + j) = if j / 64 ≤ r / 64 then dotQK x1 x2 i r (0 + j) else (⊥ : EReal))
    (hW : ∀ i d j : ℕ, i < 8 → d < 256 → j < 512 → W i d (n + j) = valV x3 i d (0 + j)) :
    St c S W (n + 512) (st3 (F := Ideal) b c i arg4 harg4 arg5 harg5 arg6 harg6 arg7 harg7 arg8 harg8 arg9 harg9 x0 x1 x2 x3 x4 X).1 (st3 (F := Ideal) b c i arg4 harg4 arg5 harg5 arg6 harg6 arg7 harg7 arg8 harg8 arg9 harg9 x0 x1 x2 x3 x4 X).2 := by
  have hr := runDiag0_St c arg5 arg6 arg7 x1 x2 x3 X.1 X.2 S W n hX hS hW
  unfold st3; rw [if_pos h, if_pos h]
  unfold runDiag0
  with_reducible exact hr

theorem st4_skip (b : Prop) [Decidable b] (h : ¬ b) : st4 (F := Ideal) b c i arg4 harg4 arg5 harg5 arg6 harg6 arg7 harg7 arg8 harg8 arg9 harg9 x0 x1 x2 x3 x4 X = X := by
  unfold st4; rw [if_neg h, if_neg h]

theorem st4_St (b : Prop) [Decidable b] (h : b) (n : ℕ) (hX : St c S W n X.1 X.2)
    (hS : ∀ i r j : ℕ, i < 8 → r < 512 → j < 512 → S i r (n + j) = if j / 64 ≤ r / 64 then dotQK x1 x2 i r (512 + j) else (⊥ : EReal))
    (hW : ∀ i d j : ℕ, i < 8 → d < 256 → j < 512 → W i d (n + j) = valV x3 i d (512 + j)) :
    St c S W (n + 512) (st4 (F := Ideal) b c i arg4 harg4 arg5 harg5 arg6 harg6 arg7 harg7 arg8 harg8 arg9 harg9 x0 x1 x2 x3 x4 X).1 (st4 (F := Ideal) b c i arg4 harg4 arg5 harg5 arg6 harg6 arg7 harg7 arg8 harg8 arg9 harg9 x0 x1 x2 x3 x4 X).2 := by
  have hr := runDiag1_St c arg5 arg6 arg7 x1 x2 x3 X.1 X.2 S W n hX hS hW
  unfold st4; rw [if_pos h, if_pos h]
  unfold runDiag1
  with_reducible exact hr

/-- The state after the body at query tile `a` and key block `b`, from the state before it. -/
theorem step_St (wa wb : BitVec 32) (a b : ℕ) (hab : 2 * b ≤ a)
    (h0 : cnd0 wb ↔ b = 0) (h1 : cnd1 wa wb ↔ 2 * b + 1 < a) (h2 : cnd2 wa wb ↔ a = 2 * b + 1) (h3 : cnd3 wa wb ↔ a = 2 * b) (h4 : cnd4 wa wb ↔ a = 2 * b + 1)
    (hX : b ≠ 0 → St c S W (1024 * b) X.1 X.2)
    (hS : ∀ i r j : ℕ, i < 8 → r < 512 → j < 1024 → S i r (1024 * b + j) = if (1024 * b + j) / 64 ≤ (512 * a + r) / 64 then dotQK x1 x2 i r j else (⊥ : EReal))
    (hW : ∀ i d j : ℕ, i < 8 → d < 256 → j < 1024 → W i d (1024 * b + j) = valV x3 i d j) :
    St c S W (min (1024 * (b + 1)) (512 * (a + 1))) (stEnd (F := Ideal) wa wb c i arg4 harg4 arg5 harg5 arg6 harg6 arg7 harg7 arg8 harg8 arg9 harg9 x0 x1 x2 x3 x4 X).1 (stEnd (F := Ideal) wa wb c i arg4 harg4 arg5 harg5 arg6 harg6 arg7 harg7 arg8 harg8 arg9 harg9 x0 x1 x2 x3 x4 X).2
    ∧ ∀ f, a ≤ 2 * b + 1 → outOk (F := Ideal) wa wb c i arg4 harg4 arg5 harg5 arg6 harg6 arg7 harg7 arg8 harg8 arg9 harg9 x0 x1 x2 x3 x4 X f → ∀ y : S512x512.Idx,
        arg9.view.read (Elt Ideal) f y = outV (x0 (ValueIdx.ix1 0)) S W (512 * (a + 1)) (at2 x4 0) (y 0).val (y 1).val := by
  have hi : St c S W (1024 * b) (st0 (F := Ideal) (cnd0 wb) c i arg4 harg4 arg5 harg5 arg6 harg6 arg7 harg7 arg8 harg8 arg9 harg9 X).1 (st0 (F := Ideal) (cnd0 wb) c i arg4 harg4 arg5 harg5 arg6 harg6 arg7 harg7 arg8 harg8 arg9 harg9 X).2 := by
    by_cases hb : b = 0
    · subst hb; exact st0_St c i arg4 harg4 arg5 harg5 arg6 harg6 arg7 harg7 arg8 harg8 arg9 harg9 X S W _ (h0.mpr rfl)
    · rw [st0_skip _ _ _ _ _ _ _ _ _ _ _ _ _ _ X _ (fun h => hb (h0.mp h))]; exact hX hb
  unfold outOk out0Ok stEnd stD stMid
  generalize st0 (F := Ideal) (cnd0 wb) c i arg4 harg4 arg5 harg5 arg6 harg6 arg7 harg7 arg8 harg8 arg9 harg9 X = Y at hi ⊢
  have hW' (i d j : ℕ) (hi : i < 8) (hd : d < 256) (hj : j < 1024) : W i d (1024 * b + j) = valV x3 i d (0 + j) := by rw [Nat.zero_add]; exact hW i d j hi hd hj
  rcases (by omega : 2 * b + 1 < a ∨ a = 2 * b + 1 ∨ a = 2 * b) with hc | hc | hc
  · have n2 : ¬ cnd2 wa wb := fun h => by have := h2.mp h; omega
    have n3 : ¬ cnd3 wa wb := fun h => by have := h3.mp h; omega
    have n4 : ¬ cnd4 wa wb := fun h => by have := h4.mp h; omega
    refine ⟨?_, fun f hf => absurd hf (by omega)⟩
    rw [st4_skip c i arg4 harg4 arg5 harg5 arg6 harg6 arg7 harg7 arg8 harg8 arg9 harg9 x0 x1 x2 x3 x4 _ _ n4, st3_skip c i arg4 harg4 arg5 harg5 arg6 harg6 arg7 harg7 arg8 harg8 arg9 harg9 x0 x1 x2 x3 x4 _ _ n3, st2_skip c i arg4 harg4 arg5 harg5 arg6 harg6 arg7 harg7 arg8 harg8 arg9 harg9 x1 x2 x3 _ _ n2, show min (1024 * (b + 1)) (512 * (a + 1)) = 1024 * b + 1024 by omega]
    exact st1_St c i arg4 harg4 arg5 harg5 arg6 harg6 arg7 harg7 arg8 harg8 arg9 harg9 x1 x2 x3 Y S W _ (h1.mpr hc) _ hi (fun i r j hi hr hj => by rw [hS i r j hi hr hj, if_pos (by omega), Nat.zero_add]) hW'
  · have n1 : ¬ cnd1 wa wb := fun h => by have := h1.mp h; omega
    have n3 : ¬ cnd3 wa wb := fun h => by have := h3.mp h; omega
    have hd := h4.mpr hc
    rw [st3_skip c i arg4 harg4 arg5 harg5 arg6 harg6 arg7 harg7 arg8 harg8 arg9 harg9 x0 x1 x2 x3 x4 _ _ n3, st1_skip c i arg4 harg4 arg5 harg5 arg6 harg6 arg7 harg7 arg8 harg8 arg9 harg9 x1 x2 x3 _ _ n1]
    have hm := st2_St c i arg4 harg4 arg5 harg5 arg6 harg6 arg7 harg7 arg8 harg8 arg9 harg9 x1 x2 x3 Y S W _ (h2.mpr hc) _ hi (fun i r j hi hr hj => by rw [hS i r j hi hr (by omega), if_pos (by omega), Nat.zero_add]) (fun i d j hi hd hj => hW' i d j hi hd (by omega))
    generalize st2 (F := Ideal) (cnd2 wa wb) c i arg4 harg4 arg5 harg5 arg6 harg6 arg7 harg7 arg8 harg8 arg9 harg9 x1 x2 x3 Y = Z at hm ⊢
    have hSd : ∀ i r j : ℕ, i < 8 → r < 512 → j < 512 → S i r (1024 * b + 512 + j) = if j / 64 ≤ r / 64 then dotQK x1 x2 i r (512 + j) else (⊥ : EReal) := fun i r j hi hr hj => by
      rw [Nat.add_assoc, hS i r (512 + j) hi hr (by omega)]
      exact if_congr (by omega) rfl rfl
    have hWd : ∀ i d j : ℕ, i < 8 → d < 256 → j < 512 → W i d (1024 * b + 512 + j) = valV x3 i d (512 + j) := fun i d j hi hd hj => by
      rw [Nat.add_assoc, hW i d (512 + j) hi hd (by omega)]
    have he := runDiag1_St c arg5 arg6 arg7 x1 x2 x3 Z.1 Z.2 S W _ hm hSd hWd
    refine ⟨?_, fun f _ hf y => ?_⟩
    · rw [show min (1024 * (b + 1)) (512 * (a + 1)) = 1024 * b + 512 + 512 by omega]
      exact st4_St c i arg4 harg4 arg5 harg5 arg6 harg6 arg7 harg7 arg8 harg8 arg9 harg9 x0 x1 x2 x3 x4 Z S W _ hd _ hm hSd hWd
    · obtain ⟨f', rfl⟩ := hf.1 hd
      rw [show 512 * (a + 1) = 1024 * b + 512 + 512 by omega]
      exact runDiag1_out c arg4 arg5 arg6 arg7 arg8 arg9 x0 x1 x2 x3 x4 Z.1 Z.2 S W _ he.2 f' y
  · have n1 : ¬ cnd1 wa wb := fun h => by have := h1.mp h; omega
    have n2 : ¬ cnd2 wa wb := fun h => by have := h2.mp h; omega
    have n4 : ¬ cnd4 wa wb := fun h => by have := h4.mp h; omega
    have hd := h3.mpr hc
    rw [st4_skip c i arg4 harg4 arg5 harg5 arg6 harg6 arg7 harg7 arg8 harg8 arg9 harg9 x0 x1 x2 x3 x4 _ _ n4, st2_skip c i arg4 harg4 arg5 harg5 arg6 harg6 arg7 harg7 arg8 harg8 arg9 harg9 x1 x2 x3 _ _ n2, st1_skip c i arg4 harg4 arg5 harg5 arg6 harg6 arg7 harg7 arg8 harg8 arg9 harg9 x1 x2 x3 _ _ n1]
    have hSd : ∀ i r j : ℕ, i < 8 → r < 512 → j < 512 → S i r (1024 * b + j) = if j / 64 ≤ r / 64 then dotQK x1 x2 i r (0 + j) else (⊥ : EReal) := fun i r j hi hr hj => by
      rw [hS i r j hi hr (by omega), Nat.zero_add]
      exact if_congr (by omega) rfl rfl
    have hWd : ∀ i d j : ℕ, i < 8 → d < 256 → j < 512 → W i d (1024 * b + j) = valV x3 i d (0 + j) := fun i d j hi hd hj => hW' i d j hi hd (by omega)
    have he := runDiag0_St c arg5 arg6 arg7 x1 x2 x3 Y.1 Y.2 S W _ hi hSd hWd
    refine ⟨?_, fun f _ hf y => ?_⟩
    · rw [show min (1024 * (b + 1)) (512 * (a + 1)) = 1024 * b + 512 by omega]
      exact st3_St c i arg4 harg4 arg5 harg5 arg6 harg6 arg7 harg7 arg8 harg8 arg9 harg9 x0 x1 x2 x3 x4 Y S W _ hd _ hi hSd hWd
    · obtain ⟨f', rfl⟩ := (hf.2 n4).1 hd
      rw [show 512 * (a + 1) = 1024 * b + 512 by omega]
      exact runDiag0_out c arg4 arg5 arg6 arg7 arg8 arg9 x0 x1 x2 x3 x4 Y.1 Y.2 S W _ he.2 f' y

end Cert.KernelIdeal.Attn
-- ==== Proof.Points.lean ====
/- The grid's points: the query tile and the key block of each, and the blocks the windows hand it. -/
module

public import proofs.«01_k».proof.Proof.Step
public import proofs.«01_k».proof.Proof.Track
public import Idealize.ShloMosaic.Lib.Pipeline.ArrRel
public import Idealize.ShloMosaic.Lib.Pipeline.ValueKit
public import Idealize.ShloMosaic.Lib.Pipeline.Covers

@[expose] public section

set_option maxRecDepth 16384

noncomputable section

namespace Cert.KernelIdeal.Attn

open Cert.KernelIdeal.Gen
open Idealize.ShloMosaic Idealize.ShloMosaic.TcCoe Idealize.ShloMosaic.Tactic

/-- The query tile of the `s`-th point of a sequence. -/
def qi (s : ℕ) : ℕ := [0, 1, 2, 2, 3, 3, 4, 4, 4, 5, 5, 5, 6, 6, 6, 6, 7, 7, 7, 7].getD s 0
/-- The key block of the `s`-th point of a sequence. -/
def kj (s : ℕ) : ℕ := [0, 0, 0, 1, 0, 1, 0, 1, 2, 0, 1, 2, 0, 1, 2, 3, 0, 1, 2, 3].getD s 0

/-- The grid's points. -/
abbrev Pt : Type := Fin (cfgT (F := Ideal)).N

/-- Which parts of the body a point runs. -/
abbrev Parts (s : ℕ) (wa wb : BitVec 32) : Prop :=
  2 * kj s ≤ qi s ∧ (cnd0 wb ↔ kj s = 0) ∧ (cnd1 wa wb ↔ 2 * kj s + 1 < qi s) ∧ (cnd2 wa wb ↔ qi s = 2 * kj s + 1)
    ∧ (cnd3 wa wb ↔ qi s = 2 * kj s) ∧ (cnd4 wa wb ↔ qi s = 2 * kj s + 1)

theorem parts : ∀ t : Pt, Parts (t.val % 20) (wqT (F := Ideal) t) (wkT (F := Ideal) t) :=
  of_decide_eq_true (by sl_kernel_rfl)

/-- The blocks of a point. -/
theorem idx : ∀ t : Pt,
    (((cfgT (F := Ideal)).win 1).index t : Fin 2 → ℕ) = ![8 * (t.val / 20) + qi (t.val % 20), 0]
    ∧ (((cfgT (F := Ideal)).win 2).index t : Fin 2 → ℕ) = ![4 * (t.val / 20) + kj (t.val % 20), 0]
    ∧ (((cfgT (F := Ideal)).win 3).index t : Fin 2 → ℕ) = ![4 * (t.val / 20) + kj (t.val % 20), 0]
    ∧ (((cfgT (F := Ideal)).win 5).index t : Fin 2 → ℕ) = ![8 * (t.val / 20) + qi (t.val % 20), 0] :=
  of_decide_eq_true (by sl_kernel_rfl)

/-- The next point of a sequence: the same query tile at the next key block, or another query tile at the first. -/
theorem next : ∀ t : Pt, (t.val + 1 < 320 → kj ((t.val + 1) % 20) ≠ 0 → (t.val + 1) / 20 = t.val / 20 ∧ qi ((t.val + 1) % 20) = qi (t.val % 20)
    ∧ kj ((t.val + 1) % 20) = kj (t.val % 20) + 1 ∧ 2 * kj (t.val % 20) + 1 < qi (t.val % 20))
    ∧ qi (t.val % 20) < 8 ∧ kj (t.val % 20) < 4 ∧ t.val / 20 < 16 :=
  of_decide_eq_true (by sl_kernel_rfl)

/-- The two windows that hand every point the whole array. -/
theorem idx_whole : ∀ t : Pt, (((cfgT (F := Ideal)).win 0).index t : Fin 1 → ℕ) = ![0] ∧ (((cfgT (F := Ideal)).win 4).index t : Fin 2 → ℕ) = ![0, 0] :=
  of_decide_eq_true (by sl_kernel_rfl)

variable (m : (ℓ : Loc nD τ sig) → Buf (Elt Ideal) ℓ) (c : Dev nD)

/-- The queries, keys and values as the call finds them. -/
abbrev arrQ : S65536x512.Idx → EReal := V m c main_v16
abbrev arrK : S65536x512.Idx → EReal := V m c main_v18
abbrev arrV : S65536x512.Idx → EReal := V m c main_v20

theorem blk1 (t : Pt) (r : Fin 512) (l : Fin 512) :
    (blkT m c 1 t (ValueIdx.ix2 r l) : EReal) = at2 (arrQ m c) (512 * (8 * (t.val / 20) + qi (t.val % 20)) + r) l := by
  have h := (idx t).1
  have hn := next t
  rw [show 512 * (8 * (t.val / 20) + qi (t.val % 20)) + r.val = (⟨512 * (8 * (t.val / 20) + qi (t.val % 20)) + r.val, by omega⟩ : Fin 65536).val from rfl, at2_apply]
  unfold blkT
  blk_ext [h]
  show _ * 512 + r.val = _
  omega

theorem blk2 (t : Pt) (r : Fin 1024) (l : Fin 512) :
    (blkT m c 2 t (ValueIdx.ix2 r l) : EReal) = at2 (arrK m c) (1024 * (4 * (t.val / 20) + kj (t.val % 20)) + r) l := by
  have h := (idx t).2.1
  have hn := next t
  rw [show 1024 * (4 * (t.val / 20) + kj (t.val % 20)) + r.val = (⟨1024 * (4 * (t.val / 20) + kj (t.val % 20)) + r.val, by omega⟩ : Fin 65536).val from rfl, at2_apply]
  unfold blkT
  blk_ext [h]
  show _ * 1024 + r.val = _
  omega

theorem blk3 (t : Pt) (r : Fin 1024) (l : Fin 512) :
    (blkT m c 3 t (ValueIdx.ix2 r l) : EReal) = at2 (arrV m c) (1024 * (4 * (t.val / 20) + kj (t.val % 20)) + r) l := by
  have h := (idx t).2.2.1
  have hn := next t
  rw [show 1024 * (4 * (t.val / 20) + kj (t.val % 20)) + r.val = (⟨1024 * (4 * (t.val / 20) + kj (t.val % 20)) + r.val, by omega⟩ : Fin 65536).val from rfl, at2_apply]
  unfold blkT
  blk_ext [h]
  show _ * 1024 + r.val = _
  omega

theorem at2_ext {a b a' b' : ℕ} (x : (T2 a b).Idx → EReal) (x' : (T2 a' b').Idx → EReal) (o : ℕ)
    (h : ∀ (r : Fin a) (l : Fin b), x (ValueIdx.ix2 r l) = at2 x' (o + r) l) (r l : ℕ) (hr : r < a) (hl : l < b) :
    at2 x r l = at2 x' (o + r) l := (at2_apply x ⟨r, hr⟩ ⟨l, hl⟩).trans (h ⟨r, hr⟩ ⟨l, hl⟩)

/-- The weight of the second map. -/
abbrev lamK : EReal := (V m c main_v21 : S1.Idx → EReal) (ValueIdx.ix1 0)
/-- The norm's gain. -/
abbrev gainK : ℕ → EReal := at2 (V m c main_v22 : S1x128.Idx → EReal) 0

theorem blk0 (t : Pt) : (blkT m c 0 t (ValueIdx.ix1 0) : EReal) = lamK m c := by
  have h := (idx_whole t).1
  unfold blkT lamK
  blk_ext [h]

theorem blk4 (t : Pt) : at2 (blkT m c 4 t : S1x128.Idx → EReal) 0 = gainK m c := by
  have h : (blkT m c 4 t : S1x128.Idx → EReal) = V m c main_v22 := by
    funext y
    have h := (idx_whole t).2
    unfold blkT
    blk_ext [h]
  rw [h]

/-- The scores of query row `r` of tile `a` in sequence `b`, per key, where the mask allows them. -/
def Sg (b a i r k : ℕ) : EReal :=
  if k / 64 ≤ (512 * a + r) / 64 then
    ∑ d : Fin 64, (at2 (arrQ m c) (512 * (8 * b + a) + r) (128 * (i / 2) + 64 * (i % 2) + d) * (qsc : EReal))
      * at2 (arrK m c) (4096 * b + k) (128 * (i / 2) + 64 * (i % 2) + d)
  else ⊥

/-- The value lanes of sequence `b`, with ones above lane 128. -/
def Wg (b i d k : ℕ) : EReal := if d < 128 then at2 (arrV m c) (4096 * b + k) (128 * (i / 2) + d) else 1

theorem step_point (t : Pt) (X : Scr (F := Ideal) c)
    (hX : kj (t.val % 20) ≠ 0 → St c (Sg m c (t.val / 20) (qi (t.val % 20))) (Wg m c (t.val / 20)) (1024 * kj (t.val % 20)) X.1 X.2) :
    St c (Sg m c (t.val / 20) (qi (t.val % 20))) (Wg m c (t.val / 20)) (min (1024 * (kj (t.val % 20) + 1)) (512 * (qi (t.val % 20) + 1)))
      (stepT m c t X).1 (stepT m c t X).2
    ∧ ∀ f, qi (t.val % 20) ≤ 2 * kj (t.val % 20) + 1 → outT m c t X f → ∀ y : S512x512.Idx,
        (st0_5 (F := Ideal) admT t).view.read (Elt Ideal) f y
          = outV (lamK m c) (Sg m c (t.val / 20) (qi (t.val % 20))) (Wg m c (t.val / 20)) (512 * (qi (t.val % 20) + 1)) (gainK m c) (y 0).val (y 1).val := by
  obtain ⟨p0, p1, p2, p3, p4, p5⟩ := parts t
  have hn := (next t).2
  have hd (i : ℕ) (d : Fin 64) (hi : i < 8) : 128 * (i / 2) + 64 * (i % 2) + d.val < 512 := by omega
  rw [← blk0 m c t, ← blk4 m c t]
  unfold stepT outT
  refine step_St c (grid0.coords t) _ _ _ _ _ _ _ _ _ _ _ _ _ _ _ _ _ X _ _ _ _ _ _ p0 p1 p2 p3 p4 p5 hX ?_ ?_
  · intro i r j hi hr hj
    unfold Sg dotQK
    refine if_congr Iff.rfl (Finset.sum_congr rfl fun d _ => ?_) rfl
    rw [at2_ext (blkT m c 1 t : S512x512.Idx → EReal) (arrQ m c) _ (blk1 m c t) r _ hr (hd i d hi),
      at2_ext (blkT m c 2 t : S1024x512.Idx → EReal) (arrK m c) _ (blk2 m c t) j _ hj (hd i d hi)]
    congr 2
    omega
  · intro i d j hi hd hj
    unfold Wg valV
    refine if_ctx_congr Iff.rfl (fun h => ?_) fun _ => rfl
    rw [at2_ext (blkT m c 3 t : S1024x512.Idx → EReal) (arrV m c) _ (blk3 m c t) j _ hj (by omega)]
    congr 1
    omega

/-- The scratches hold the state of the keys seen so far; a query tile's last point leaves its rows. -/
def track : Track m where
  Inv c t X := t.val < 320 → kj (t.val % 20) ≠ 0 → St c (Sg m c (t.val / 20) (qi (t.val % 20))) (Wg m c (t.val / 20)) (1024 * kj (t.val % 20)) X.1 X.2
  Out c t B := qi (t.val % 20) ≤ 2 * kj (t.val % 20) + 1 → ∀ y : S512x512.Idx,
    B y = outV (lamK m c) (Sg m c (t.val / 20) (qi (t.val % 20))) (Wg m c (t.val / 20)) (512 * (qi (t.val % 20) + 1)) (gainK m c) (y 0).val (y 1).val
  init c X := fun _ h => absurd rfl h
  step c t X hX := fun h1 h2 => by
    have h3 := (step_point m c t X (hX t.isLt)).1
    obtain ⟨e1, e2, e3, e4⟩ := (next t).1 h1 h2
    rw [Fin.val_succ, e1, e2, e3]
    rw [show min (1024 * (kj (t.val % 20) + 1)) (512 * (qi (t.val % 20) + 1)) = 1024 * (kj (t.val % 20) + 1) by omega] at h3
    exact h3
  out c t X hX f hf := fun h => (step_point m c t X (hX t.isLt)).2 f h hf

end Cert.KernelIdeal.Attn
-- ==== Proof.Result.lean ====
/- The kernel's result: every row of the output array, from the query tile's last point. -/
module

public import proofs.«01_k».proof.Proof.Points

@[expose] public section

set_option maxRecDepth 16384

noncomputable section

namespace Cert.KernelIdeal.Attn

open Cert.KernelIdeal.Gen
open Idealize.ShloMosaic Idealize.ShloMosaic.TcCoe Idealize.ShloMosaic.Tactic Idealize.SL.Sem
open Idealize.ShloMosaic.Pipeline (Dat RDat Cfg Window)

/-- The points that write back are the last ones of their query tiles. -/
theorem flush_last : ∀ t : Pt, ((cfgT (F := Ideal)).win 5).flush t = true → qi (t.val % 20) ≤ 2 * kj (t.val % 20) + 1 :=
  of_decide_eq_true (by sl_kernel_rfl)

theorem covers : ((cfgT (F := Ideal)).win 5).Covers := of_decide_eq_true (by sl_kernel_rfl)

variable (m : (ℓ : Loc nD τ sig) → Buf (Elt Ideal) ℓ) (c : Dev nD)

/-- The kernel's output element at row `R` and lane `l`: sequence `R / 4096`, query tile `R / 512 % 8`. -/
def outK (R l : ℕ) : EReal :=
  outV (lamK m c) (Sg m c (R / 4096) (R / 512 % 8)) (Wg m c (R / 4096)) (512 * (R / 512 % 8 + 1)) (gainK m c) (R % 512) l

theorem result_eq (r : PUnit × MemSt nD τ sig (Elt Ideal)) (h : RDat.FramePost (cfgT (F := Ideal)) (rdat (track m)) (V m) r) :
    (r.2.mem ((c.tc : Thread nD τ).loc main_v23) : S65536x512.Idx → EReal) = fun y => outK m c (y 0).val (y 1).val := by
  obtain ⟨after, hL, hA⟩ := h.exists_exact c
  refine (hA 5).trans ?_
  refine ((rdat (track m) c).withAfter after).arrAt_eq_of_covers 5 _ covers fun t hf y => ?_
  obtain ⟨Y, -, hO⟩ := hL 5 t hf
  have h5 := (idx t).2.2.2
  have hn := (next t).2
  have hOy := hO (flush_last t hf)
  blk_simp [h5]
  have h0 : (y 0).val < 512 := (y 0).isLt
  refine (hOy y).trans ?_
  unfold outK
  rw [show ((8 * (t.val / 20) + qi (t.val % 20)) * 512 + (y 0).val) / 4096 = t.val / 20 by omega,
    show ((8 * (t.val / 20) + qi (t.val % 20)) * 512 + (y 0).val) / 512 % 8 = qi (t.val % 20) by omega,
    show ((8 * (t.val / 20) + qi (t.val % 20)) * 512 + (y 0).val) % 512 = (y 0).val by omega]

/-- Every run ends with the arguments unchanged and the result array holding `outK`. -/
theorem value_run (ρ : Dev nD → PrngReg) : θ_run defs (onTc (τ := τ) (main (F := Ideal))) ⟨m, fun _ => 0, ρ⟩ (fun r => ∀ c : Dev nD,
      (r.2.mem ((c.tc : Thread nD τ).loc main_v23) : S65536x512.Idx → EReal) = (fun y => outK m c (y 0).val (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨result_eq m c r h.1, ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c)⟩) (run_main ρ (track m))

end Cert.KernelIdeal.Attn
-- ==== Proof.Ref.lean ====
/- The reference, operation by operation, read element by element. -/
module

public import proofs.«01_k».proof.Proof.Gen.ReferenceIdeal.Run
public import proofs.«01_k».proof.Proof.Math
public import Idealize.ShloMosaic.Lib.Pointwise
public import Idealize.ShloMosaic.Lib.IdealHost

@[expose] public section

set_option maxRecDepth 16384

noncomputable section

namespace Cert.ReferenceIdeal.Attn

open Cert.ReferenceIdeal Cert.ReferenceIdeal.Gen
open Idealize.ShloMosaic Idealize.ShloMosaic.TcCoe Idealize.SL.Sem Idealize.ShloMosaic.StableHlo

section generic
variable {F : FTy → Type} [FloatOps F]

/-- The chunk of each position: its quotient by 64. -/
def rChunk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- Which keys each query sees. -/
def rMask : IVec S4096x4096 1 :=
  cmpi .sle (broadcastInDim S4096x4096 ![0, 1] bcast_S1x4096_S4096x4096_0_1 (broadcastInDim S1x4096 ![1] bcast_S4096_S1x4096_1 rChunk))
    (broadcastInDim S4096x4096 ![0, 1] bcast_S4096x1_S4096x4096_0_1 (broadcastInDim S4096x1 ![0] bcast_S4096_S4096x1_0 rChunk))

/-- The masked scores. -/
def rScore (q k : FVec F S16x4096x4x2x64 .f32) : FVec F S16x4x2x4096x4096 .f32 :=
  select (broadcastInDim S16x4x2x4096x4096 ![3, 4] bcast_S4096x4096_S16x4x2x4096x4096_3_4 rMask)
    (mulf (Host.dotGeneral dot_S16x4096x4x2x64_S16x4096x4x2x64_S16x4x2x4096x4096_4_4_1_1_023_023 none q k)
      (broadcastInDim S16x4x2x4096x4096 ![] bcast_S_S16x4x2x4096x4096 (constant S_ .f32 0x3E000000#32)))
    (broadcastInDim S16x4x2x4096x4096 ![] bcast_S_S16x4x2x4096x4096 (id (constant S_ .f32 0xFF800000#32)))

/-- Each row's greatest score. -/
def rMax (s : FVec F S16x4x2x4096x4096 .f32) : FVec F S16x4x2x4096 .f32 :=
  maximumf (broadcastInDim S16x4x2x4096 ![] bcast_S_S16x4x2x4096 (constant S_ .f32 0xFF800000#32))
    (Host.reduce FloatOps.maximumf s (constant S_ .f32 0xFF800000#32) reducesTo_S16x4x2x4096x4096_S16x4x2x4096_d4 h_S_)

/-- The exponentials of the scores less their row's greatest. -/
def rWeight (s : FVec F S16x4x2x4096x4096 .f32) : FVec F S16x4x2x4096x4096 .f32 :=
  Host.exp (subf s (broadcastInDim S16x4x2x4096x4096 ![0, 1, 2, 3, 4] bcast_S16x4x2x4096x1_S16x4x2x4096x4096_0_1_2_3_4
    (broadcastInDim S16x4x2x4096x1 ![0, 1, 2, 3] bcast_S16x4x2x4096_S16x4x2x4096x1_0_1_2_3 (rMax s))))

/-- The softmax of the rows. -/
def rSoft (e : FVec F S16x4x2x4096x4096 .f32) : FVec F S16x4x2x4096x4096 .f32 :=
  Host.divf e (broadcastInDim S16x4x2x4096x4096 ![0, 1, 2, 3, 4] bcast_S16x4x2x4096x1_S16x4x2x4096x4096_0_1_2_3_4
    (broadcastInDim S16x4x2x4096x1 ![0, 1, 2, 3] bcast_S16x4x2x4096_S16x4x2x4096x1_0_1_2_3
      (Host.reduceAdd e (constant S_ .f32 0x00000000#32) reducesTo_S16x4x2x4096x4096_S16x4x2x4096_d4 h_S_)))

/-- The weight of the second map. -/
def rLam (l : FVec F S4x64 .f32) : FVec F S_ .f32 :=
  addf (subf
    (Host.exp (Host.reduceAdd (mulf (shapeCast _ (extractStridedSlice S1x64 ![0, 0] l slices_S4x64_S1x64_0_0) shapeCasts_S1x64_S64)
      (shapeCast _ (extractStridedSlice S1x64 ![1, 0] l slices_S4x64_S1x64_1_0) shapeCasts_S1x64_S64)) (constant S_ .f32 0x00000000#32) reducesTo_S64_S_d0 h_S_))
    (Host.exp (Host.reduceAdd (mulf (shapeCast _ (extractStridedSlice S1x64 ![2, 0] l slices_S4x64_S1x64_2_0) shapeCasts_S1x64_S64)
      (shapeCast _ (extractStridedSlice S1x64 ![3, 0] l slices_S4x64_S1x64_3_0) shapeCasts_S1x64_S64)) (constant S_ .f32 0x00000000#32) reducesTo_S64_S_d0 h_S_)))
    (constant S_ .f32 0x3E4CCCCD#32)

/-- The difference of the two maps. -/
def rDiff (p : FVec F S16x4x2x4096x4096 .f32) (l : FVec F S_ .f32) : FVec F S16x4x4096x4096 .f32 :=
  subf (shapeCast _ (extractStridedSlice S16x4x1x4096x4096 ![0, 0, 0, 0, 0] p slices_S16x4x2x4096x4096_S16x4x1x4096x4096_0_0_0_0_0) shapeCasts_S16x4x1x4096x4096_S16x4x4096x4096)
    (mulf (broadcastInDim S16x4x4096x4096 ![] bcast_S_S16x4x4096x4096 l)
      (shapeCast _ (extractStridedSlice S16x4x1x4096x4096 ![0, 0, 1, 0, 0] p slices_S16x4x2x4096x4096_S16x4x1x4096x4096_0_0_1_0_0) shapeCasts_S16x4x1x4096x4096_S16x4x4096x4096))

/-- The weighted values. -/
def rMean (v : FVec F S16x4096x4x128 .f32) (d : FVec F S16x4x4096x4096 .f32) : FVec F S16x4096x4x128 .f32 :=
  transpose S16x4096x4x128 [0, 3, 1, 2] (Host.dotGeneral dot_S16x4096x4x128_S16x4x4096x4096_S16x4x128x4096_1_3_3_2_02_01 none v d) transposes_S16x4x128x4096_S16x4096x4x128_0_3_1_2

/-- The normed, scaled heads. -/
def rNorm (o : FVec F S16x4096x4x128 .f32) (g : FVec F S128 .f32) : FVec F S16x4096x4x128 .f32 :=
  mulf (mulf (mulf o (broadcastInDim S16x4096x4x128 ![0, 1, 2, 3] bcast_S16x4096x4x1_S16x4096x4x128_0_1_2_3
      (Host.rsqrt (addf (Host.divf (broadcastInDim S16x4096x4x1 ![0, 1, 2] bcast_S16x4096x4_S16x4096x4x1_0_1_2
          (Host.reduceAdd (mulf o o) (constant S_ .f32 0x00000000#32) reducesTo_S16x4096x4x128_S16x4096x4_d3 h_S_))
        (broadcastInDim S16x4096x4x1 ![] bcast_S_S16x4096x4x1 (constant S_ .f32 0x43000000#32)))
        (broadcastInDim S16x4096x4x1 ![] bcast_S_S16x4096x4x1 (constant S_ .f32 0x358637BD#32))))))
    (broadcastInDim S16x4096x4x128 ![0, 1, 2, 3] bcast_S1x1x1x128_S16x4096x4x128_0_1_2_3 (broadcastInDim S1x1x1x128 ![3] bcast_S128_S1x1x1x128_3 g)))
    (broadcastInDim S16x4096x4x128 ![] bcast_S_S16x4096x4x128 (constant S_ .f32 0x3F4CCCCD#32))

/-- The reference's result. -/
def rOut (q k : FVec F S16x4096x4x2x64 .f32) (v : FVec F S16x4096x4x128 .f32) (l : FVec F S4x64 .f32) (g : FVec F S128 .f32) : FVec F S65536x512 .bf16 :=
  truncf .bf16 (shapeCast _ (rNorm (rMean v (rDiff (rSoft (rWeight (rScore q k))) (rLam l))) g) shapeCasts_S16x4096x4x128_S65536x512) bitsLt_bf16_f32

theorem res_eq (m : (ℓ : Loc nD τ sig) → Buf (Elt F) ℓ) (c : Dev nD) :
    Value.res_main_v63 m c = rOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v63
  rfl

end generic

theorem chunk_table : ∀ i : Fin 4096, rChunk (ix1 i) = BitVec.ofNat 32 (i.val / 64) := of_decide_eq_true (by sl_kernel_rfl)

theorem sle_small (x y : ℕ) (hx : x < 64) (hy : y < 64) :
    IntOp.cmpi .sle (BitVec.ofNat 32 x) (BitVec.ofNat 32 y) = if x ≤ y then 1#1 else 0#1 := by
  have hb : ∀ x y : Fin 64, IntOp.cmpi .sle (BitVec.ofNat 32 x.val) (BitVec.ofNat 32 y.val) = if x.val ≤ y.val then 1#1 else 0#1 := by decide
  exact hb ⟨x, hx⟩ ⟨y, hy⟩

theorem rMask_apply (t k : Fin 4096) : rMask (ix2 t k) = if k.val / 64 ≤ t.val / 64 then 1#1 else 0#1 := by
  unfold rMask
  pointwise
  rw [chunk_table, chunk_table]
  exact sle_small _ _ (by omega) (by omega)

theorem ninf : Ideal.ofBits .f32 0xFF800000#32 = ⊥ := by
  simp [Ideal.ofBits, Ideal.ieee]

theorem eighth : Ideal.ofBits .f32 0x3E000000#32 = ((1 / 8 : ℝ) : EReal) := by
  simp [Ideal.ofBits, Ideal.ieee]
  rw [← EReal.coe_mul]
  norm_num

theorem size128 : Ideal.ofBits .f32 0x43000000#32 = ((128 : ℝ) : EReal) := by
  simp [Ideal.ofBits, Ideal.ieee]
  rw [← EReal.coe_mul]
  norm_num

theorem rScore_apply (q k : FVec Ideal S16x4096x4x2x64 .f32) (b : Fin 16) (h : Fin 4) (μ : Fin 2) (t j : Fin 4096) :
    rScore q k (ix5 b h μ t j) = if j.val / 64 ≤ t.val / 64 then (∑ d : Fin 64, q (ix5 b t h μ d) * k (ix5 b j h μ d)) * ((1 / 8 : ℝ) : EReal) else ⊥ := by
  unfold rScore
  pointwise
  rw [rMask_apply, eighth]
  split
  · rfl
  · exact ninf

/-- A maximum along the last of five axes, at one place. -/
theorem reduceMax_last {n0 n1 n2 n3 n4 : ℕ} {u : Shape} (s : FVec Ideal ⟨5, ![n0, n1, n2, n3, n4]⟩ .f32) (init : u.Idx → Ideal .f32)
    (h : (⟨5, ![n0, n1, n2, n3, n4]⟩ : Shape).ReducesTo [4] ⟨4, ![n0, n1, n2, n3]⟩) (hu : 0 < u.numel) (a : Fin n0) (b : Fin n1) (c : Fin n2) (d : Fin n3) :
    Host.reduce FloatOps.maximumf s init h hu (ix4 a b c d)
      = (Finset.univ : Finset (Fin n4)).fold FloatOps.maximumf (init (Shape.Idx.first hu)) fun k => s (ix5 a b c d k) := by
  rw [Host.reduce_eq_fold, h.fold_fiber_r5_a4]
  rfl

theorem fold_max {n : ℕ} (f : Fin n → EReal) : (Finset.univ : Finset (Fin n)).fold max ⊥ f = Finset.univ.sup f := rfl

theorem rMax_apply (s : FVec Ideal S16x4x2x4096x4096 .f32) (b : Fin 16) (h : Fin 4) (μ : Fin 2) (t : Fin 4096) :
    rMax s (ix4 b h μ t) = Finset.univ.sup fun j : Fin 4096 => s (ix5 b h μ t j) := by
  have e := reduceMax_last s (constant (F := Ideal) S_ .f32 0xFF800000#32) reducesTo_S16x4x2x4096x4096_S16x4x2x4096_d4 h_S_ b h μ t
  unfold rMax
  rw [maximumf_apply, e]
  generalize (fun j : Fin 4096 => s (ix5 b h μ t j)) = f
  show max (Ideal.ofBits .f32 0xFF800000#32) (Finset.univ.fold max (Ideal.ofBits .f32 0xFF800000#32) f) = _
  rw [ninf, fold_max, bot_sup_eq]

theorem rWeight_apply (s : FVec Ideal S16x4x2x4096x4096 .f32) (b : Fin 16) (h : Fin 4) (μ : Fin 2) (t j : Fin 4096) :
    rWeight s (ix5 b h μ t j) = Ideal.exp (s (ix5 b h μ t j) - rMax s (ix4 b h μ t)) := by
  unfold rWeight
  pointwise

theorem rSoft_apply (e : FVec Ideal S16x4x2x4096x4096 .f32) (b : Fin 16) (h : Fin 4) (μ : Fin 2) (t j : Fin 4096) :
    rSoft e (ix5 b h μ t j) = Ideal.div (e (ix5 b h μ t j)) (∑ j' : Fin 4096, e (ix5 b h μ t j')) := by
  unfold rSoft
  pointwise

theorem rDiff_apply (p : FVec Ideal S16x4x2x4096x4096 .f32) (l : FVec Ideal S_ .f32) (b : Fin 16) (h : Fin 4) (t j : Fin 4096) :
    rDiff p l (ix4 b h t j) = p (ix5 b h 0 t j) - l ix0 * p (ix5 b h 1 t j) := by
  unfold rDiff
  pointwise

theorem rMean_apply (v : FVec Ideal S16x4096x4x128 .f32) (d : FVec Ideal S16x4x4096x4096 .f32) (b : Fin 16) (t : Fin 4096) (h : Fin 4) (e : Fin 128) :
    rMean v d (ix4 b t h e) = ∑ j : Fin 4096, v (ix4 b j h e) * d (ix4 b h t j) := by
  unfold rMean
  pointwise

theorem rNorm_apply (o : FVec Ideal S16x4096x4x128 .f32) (g : FVec Ideal S128 .f32) (b : Fin 16) (t : Fin 4096) (h : Fin 4) (e : Fin 128) :
    rNorm o g (ix4 b t h e) = o (ix4 b t h e) * Ideal.rsqrt (Cert.KernelIdeal.Attn.msq (fun e => o (ix4 b t h e)) + Ideal.ofBits .f32 0x358637BD#32) * g (ix1 e) * Ideal.ofBits .f32 0x3F4CCCCD#32 := by
  unfold rNorm Cert.KernelIdeal.Attn.msq
  pointwise
  rw [size128]

theorem rOut_apply (q k : FVec Ideal S16x4096x4x2x64 .f32) (v : FVec Ideal S16x4096x4x128 .f32) (l : FVec Ideal S4x64 .f32) (g : FVec Ideal S128 .f32)
    (R : Fin 65536) (c : Fin 512) :
    rOut q k v l g (ix2 R c) = rNorm (rMean v (rDiff (rSoft (rWeight (rScore q k))) (rLam l))) g
      (ix4 (⟨R.val / 4096, by omega⟩ : Fin 16) (⟨R.val % 4096, by omega⟩ : Fin 4096) (⟨c.val / 128, by omega⟩ : Fin 4) (⟨c.val % 128, by omega⟩ : Fin 128)) := by
  unfold rOut
  generalize rNorm (rMean v (rDiff (rSoft (rWeight (rScore q k))) (rLam l))) g = x
  pointwise

end Cert.ReferenceIdeal.Attn

end
-- ==== Proof.Entry.lean ====
/- What the call finds: its operands as terms of the program's arguments. -/
module

public import proofs.«01_k».proof.Proof.Result
public import proofs.«01_k».proof.Proof.Ref

@[expose] public section

set_option maxRecDepth 16384

noncomputable section

namespace Cert.KernelIdeal.Attn

open Cert.KernelIdeal.Gen
open Idealize.ShloMosaic Idealize.ShloMosaic.TcCoe Idealize.ShloMosaic.Tactic Idealize.SL.Sem

variable (m : (ℓ : Loc nD τ sig) → Buf (Elt Ideal) ℓ) (c : Dev nD)

/-- The program's arguments. -/
abbrev argQ : S16x4096x4x2x64.Idx → EReal := m ((c.tc : Thread nD τ).loc main_arg0)
abbrev argK : S16x4096x4x2x64.Idx → EReal := m ((c.tc : Thread nD τ).loc main_arg1)
abbrev argV : S16x4096x4x128.Idx → EReal := m ((c.tc : Thread nD τ).loc main_arg2)
abbrev argL : S4x64.Idx → EReal := m ((c.tc : Thread nD τ).loc main_arg3)
abbrev argG : S128.Idx → EReal := m ((c.tc : Thread nD τ).loc main_arg4)

theorem arrQ_apply (R : Fin 65536) (l : Fin 512) : arrQ m c (ix2 R l)
    = argQ m c (ix5 (⟨R.val / 4096, by omega⟩ : Fin 16) (⟨R.val % 4096, by omega⟩ : Fin 4096) (⟨l.val / 128, by omega⟩ : Fin 4)
        (⟨l.val / 64 % 2, by omega⟩ : Fin 2) (⟨l.val % 64, by omega⟩ : Fin 64)) := by
  unfold arrQ argQ
  entry_read
  pointwise

theorem arrK_apply (R : Fin 65536) (l : Fin 512) : arrK m c (ix2 R l)
    = argK m c (ix5 (⟨R.val / 4096, by omega⟩ : Fin 16) (⟨R.val % 4096, by omega⟩ : Fin 4096) (⟨l.val / 128, by omega⟩ : Fin 4)
        (⟨l.val / 64 % 2, by omega⟩ : Fin 2) (⟨l.val % 64, by omega⟩ : Fin 64)) := by
  unfold arrK argK
  entry_read
  pointwise

theorem arrV_apply (R : Fin 65536) (l : Fin 512) : arrV m c (ix2 R l)
    = argV m c (ix4 (⟨R.val / 4096, by omega⟩ : Fin 16) (⟨R.val % 4096, by omega⟩ : Fin 4096) (⟨l.val / 128, by omega⟩ : Fin 4)
        (⟨l.val % 128, by omega⟩ : Fin 128)) := by
  unfold arrV argV
  entry_read
  pointwise

theorem gainK_apply (e : Fin 128) : gainK m c e.val = argG m c (ix1 e) := by
  unfold gainK argG
  rw [show (0 : ℕ) = (0 : Fin 1).val from rfl, at2_apply, ← ix2_eq_valueIdx]
  entry_read
  pointwise

theorem lamK_eq : lamK m c = Cert.ReferenceIdeal.Attn.rLam (F := Ideal) (argL m c) Idealize.ShloMosaic.ix0 := by
  unfold lamK argL Cert.ReferenceIdeal.Attn.rLam
  entry_read
  pointwise

end Cert.KernelIdeal.Attn

end
-- ==== Proof.Agree.lean ====
/- The kernel's rows are the reference's. -/
module

public import proofs.«01_k».proof.Proof.Entry
public import proofs.«01_k».proof.Pre_finite_values

@[expose] public section

set_option maxRecDepth 16384

noncomputable section

namespace Cert.KernelIdeal.Attn

open Cert.KernelIdeal.Gen
open Idealize.ShloMosaic Idealize.ShloMosaic.TcCoe Idealize.ShloMosaic.Tactic Idealize.SL.Sem
open Cert.ReferenceIdeal.Attn

/-- The reciprocal of the logarithm of two. -/
def kap : ℝ := (Real.log 2)⁻¹

theorem kap_pos : 0 < kap := inv_pos.mpr (Real.log_pos (by norm_num))

/-- A running maximum over all the keys is the row's greatest score, scaled. -/
theorem mx_row (s : Fin 4096 → EReal) (S : ℕ → EReal) (hS : ∀ k : Fin 4096, S k = (kap : EReal) * s k) :
    mx S 4096 = (kap : EReal) * Finset.univ.sup s := by
  have e : mx S 4096 = mx (fun k => (kap : EReal) * (if h : k < 4096 then s ⟨k, h⟩ else ⊥)) 4096 := by
    unfold mx
    refine Finset.sup_congr rfl fun k hk => ?_
    have h := Finset.mem_range.mp hk
    rw [dif_pos h]
    exact hS ⟨k, h⟩
  rw [e, mx_mul kap_pos _ (by norm_num)]
  refine congrArg _ ?_
  refine le_antisymm (Finset.sup_le fun k hk => ?_) (Finset.sup_le fun k _ => ?_)
  · have h := Finset.mem_range.mp hk
    rw [dif_pos h]
    exact Finset.le_sup (f := s) (Finset.mem_univ _)
  · refine le_trans (le_of_eq ?_) (le_mx _ k.isLt)
    rw [dif_pos k.isLt]

/-- A running weighted sum is the sum over all the keys of their exponential weights. -/
theorem ac_row (s : Fin 4096 → EReal) (S va : ℕ → EReal) (hS : ∀ k : Fin 4096, S k = (kap : EReal) * s k) {n : ℕ} (hn : n ≤ 4096)
    (hb : ∀ k, n ≤ k → k < 4096 → S k = ⊥) :
    ac S va n = ∑ k : Fin 4096, Ideal.exp (s k - Finset.univ.sup s) * va k := by
  rw [← ac_ext S va hn hb, ac, Finset.sum_range]
  refine Finset.sum_congr rfl fun k _ => ?_
  rw [mx_row s S hS, hS k]
  exact congrArg (· * va k) (exp2_scale (Finset.le_sup (f := s) (Finset.mem_univ k)))

/-- A row's exponential weights are nonnegative reals. -/
theorem weights (s : Fin 4096 → EReal) : ∃ u : Fin 4096 → ℝ, (∀ k, 0 ≤ u k) ∧ ∀ k, Ideal.exp (s k - Finset.univ.sup s) = u k := by
  have h (k : Fin 4096) := exp_real (Finset.le_sup (f := s) (Finset.mem_univ k))
  choose u h1 h2 using h
  exact ⟨u, h1, h2⟩

variable (m : (ℓ : Loc nD τ sig) → Buf (Elt Ideal) ℓ) (c : Dev nD)

/-- The reference's scores of one query row. -/
def sRow (b : Fin 16) (h : Fin 4) (μ : Fin 2) (t : Fin 4096) (j : Fin 4096) : EReal :=
  rScore (F := Ideal) (argQ m c) (argK m c) (ix5 b h μ t j)

theorem at2_arrQ (b : Fin 16) (t : Fin 4096) (h : Fin 4) (μ : Fin 2) (d : Fin 64) (R l : ℕ)
    (hR : R = 4096 * b + t) (hl : l = 128 * h + 64 * μ + d) : at2 (arrQ m c) R l = argQ m c (ix5 b t h μ d) := by
  subst hR hl
  have e := at2_apply (arrQ m c) (⟨4096 * b.val + t.val, by omega⟩ : Fin 65536) (⟨128 * h.val + 64 * μ.val + d.val, by omega⟩ : Fin 512)
  refine e.trans ?_
  rw [← ix2_eq_valueIdx, arrQ_apply]
  congr 2 <;> apply Fin.ext <;> simp only <;> omega

theorem at2_arrK (b : Fin 16) (t : Fin 4096) (h : Fin 4) (μ : Fin 2) (d : Fin 64) (R l : ℕ)
    (hR : R = 4096 * b + t) (hl : l = 128 * h + 64 * μ + d) : at2 (arrK m c) R l = argK m c (ix5 b t h μ d) := by
  subst hR hl
  have e := at2_apply (arrK m c) (⟨4096 * b.val + t.val, by omega⟩ : Fin 65536) (⟨128 * h.val + 64 * μ.val + d.val, by omega⟩ : Fin 512)
  refine e.trans ?_
  rw [← ix2_eq_valueIdx, arrK_apply]
  congr 2 <;> apply Fin.ext <;> simp only <;> omega

theorem at2_arrV (b : Fin 16) (t : Fin 4096) (h : Fin 4) (d : Fin 128) (R l : ℕ)
    (hR : R = 4096 * b + t) (hl : l = 128 * h + d) : at2 (arrV m c) R l = argV m c (ix4 b t h d) := by
  subst hR hl
  have e := at2_apply (arrV m c) (⟨4096 * b.val + t.val, by omega⟩ : Fin 65536) (⟨128 * h.val + d.val, by omega⟩ : Fin 512)
  refine e.trans ?_
  rw [← ix2_eq_valueIdx, arrV_apply]
  congr 2 <;> apply Fin.ext <;> simp only <;> omega

/-- The kernel's scores are the reference's, scaled. -/
theorem Sg_eq (b : Fin 16) (h : Fin 4) (μ : Fin 2) (t k : Fin 4096) (a i r : ℕ) (hi : i = 2 * h + μ) (ht : t.val = 512 * a + r) :
    Sg m c b a i r k = (kap : EReal) * sRow m c b h μ t k := by
  unfold Sg sRow
  rw [rScore_apply, ← ht]
  by_cases hk : k.val / 64 ≤ t.val / 64
  · rw [if_pos hk, if_pos hk]
    have hq : ((kap : ℝ) : EReal) * ((∑ d : Fin 64, argQ m c (ix5 b t h μ d) * argK m c (ix5 b k h μ d)) * ((1 / 8 : ℝ) : EReal))
        = (qsc : EReal) * ∑ d : Fin 64, argQ m c (ix5 b t h μ d) * argK m c (ix5 b k h μ d) := by
      rw [show (qsc : ℝ) = kap * (1 / 8) by unfold qsc kap; ring, EReal.coe_mul, mul_comm (Finset.sum _ _), mul_assoc]
    refine Eq.trans ?_ hq.symm
    have hqs : (0 : ℝ) ≤ qsc := by
      rw [show (qsc : ℝ) = kap * (1 / 8) by unfold qsc kap; ring]
      exact mul_nonneg kap_pos.le (by norm_num)
    rw [coe_mul_sum hqs]
    refine Finset.sum_congr rfl fun d _ => ?_
    rw [at2_arrQ m c b t h μ d _ _ (by omega) (by omega), at2_arrK m c b k h μ d _ _ rfl (by omega), mul_comm _ (qsc : EReal), mul_assoc]
  · rw [if_neg hk, if_neg hk]
    exact (EReal.coe_mul_bot_of_pos kap_pos).symm

theorem Sg_bot (b a i r k : ℕ) (hr : r < 512) (hk : 512 * (a + 1) ≤ k) : Sg m c b a i r k = ⊥ :=
  if_neg (by omega)

/-- The kernel's row is the reference's, where the values and the second map's weight are finite. -/
theorem row_agree (b : Fin 16) (t : Fin 4096) (h : Fin 4) (a r : ℕ) (ha : a < 8) (hr : r < 512) (ht : t.val = 512 * a + r)
    (hv : ∀ y : S16x4096x4x128.Idx, ∃ x : ℝ, argV m c y = x) (hl : ∃ x : ℝ, rLam (F := Ideal) (argL m c) Idealize.ShloMosaic.ix0 = x) (e : Fin 128) :
    okV (lamK m c) (Sg m c b a) (Wg m c b) (512 * (a + 1)) h r e
        * Ideal.rsqrt (msq (fun e : Fin 128 => okV (lamK m c) (Sg m c b a) (Wg m c b) (512 * (a + 1)) h r e) + (epsR : EReal))
      = (rMean (F := Ideal) (argV m c) (rDiff (rSoft (rWeight (rScore (argQ m c) (argK m c)))) (rLam (argL m c))) (ix4 b t h e) : EReal)
        * Ideal.rsqrt (msq (fun e : Fin 128 => (rMean (F := Ideal) (argV m c) (rDiff (rSoft (rWeight (rScore (argQ m c) (argK m c)))) (rLam (argL m c))) (ix4 b t h e) : EReal))
          + (epsR : EReal)) := by
  obtain ⟨u, hu, eu⟩ := weights (sRow m c b h 0 t)
  obtain ⟨w, hw, ew⟩ := weights (sRow m c b h 1 t)
  obtain ⟨l, hl⟩ := hl
  choose v hv using hv
  have hn : 512 * (a + 1) ≤ 4096 := by omega
  have a0 (va : ℕ → EReal) := ac_row (sRow m c b h 0 t) (Sg m c b a (2 * h) r) va (fun k => Sg_eq m c b h 0 t k a _ r rfl ht) hn
    (fun k h1 _ => Sg_bot m c b a _ r k hr h1)
  have a1 (va : ℕ → EReal) := ac_row (sRow m c b h 1 t) (Sg m c b a (2 * h + 1) r) va (fun k => Sg_eq m c b h 1 t k a _ r rfl ht) hn
    (fun k h1 _ => Sg_bot m c b a _ r k hr h1)
  simp only [eu] at a0
  simp only [ew] at a1
  have wv (i : ℕ) (hi : i / 2 = h) (e : Fin 128) (k : Fin 4096) : Wg m c b i e k = (v (ix4 b k h e) : EReal) := by
    unfold Wg
    rw [if_pos e.isLt, ← hv]
    exact at2_arrV m c b k h e _ _ rfl (by omega)
  have w1 (i : ℕ) (e k : ℕ) : Wg m c b i (128 + e) k = 1 := if_neg (by omega)
  have x0 (μ : Fin 2) (k : Fin 4096) : (rWeight (F := Ideal) (rScore (argQ m c) (argK m c)) (ix5 b h μ t k) : EReal)
      = Ideal.exp (sRow m c b h μ t k - Finset.univ.sup (sRow m c b h μ t)) := by
    rw [rWeight_apply, rMax_apply]
    rfl
  refine row_eq u w hu hw (fun k e => v (ix4 b k h e)) l epsR (fun e : Fin 128 => okV (lamK m c) (Sg m c b a) (Wg m c b) (512 * (a + 1)) h r e)
    (fun e : Fin 128 => (rMean (F := Ideal) (argV m c) (rDiff (rSoft (rWeight (rScore (argQ m c) (argK m c)))) (rLam (argL m c))) (ix4 b t h e) : EReal)) (fun e => ?_) (fun e => ?_) e
  · unfold okV
    rw [a0, a0, a1, a1, lamK_eq, hl]
    simp only [wv (2 * h) (by omega), wv (2 * h + 1) (by omega), w1, mul_one]
  · rw [rMean_apply]
    refine Finset.sum_congr rfl fun k _ => ?_
    rw [rDiff_apply, rSoft_apply, rSoft_apply, hl]
    simp only [x0, eu, ew]
    rw [mul_comm]
    exact congrArg _ (hv _)

/-- The kernel's result array is the reference's. -/
theorem outK_eq (hv : ∀ y : S16x4096x4x128.Idx, ∃ x : ℝ, argV m c y = x) (hl : ∃ x : ℝ, rLam (F := Ideal) (argL m c) Idealize.ShloMosaic.ix0 = x) :
    (fun y : S65536x512.Idx => outK m c (y 0).val (y 1).val) = rOut (F := Ideal) (argQ m c) (argK m c) (argV m c) (argL m c) (argG m c) := by
  funext y
  obtain ⟨R, l, rfl⟩ : ∃ (R : Fin 65536) (l : Fin 512), y = ix2 R l := ⟨y 0, y 1, ValueIdx.eq_ix2 y⟩
  show outV (lamK m c) (Sg m c (R.val / 4096) (R.val / 512 % 8)) (Wg m c (R.val / 4096)) (512 * (R.val / 512 % 8 + 1)) (gainK m c) (R.val % 512) l.val = _
  rw [rOut_apply, rNorm_apply]
  have h := row_agree m c (⟨R.val / 4096, by omega⟩ : Fin 16) (⟨R.val % 4096, by omega⟩ : Fin 4096) (⟨l.val / 128, by omega⟩ : Fin 4) (R.val / 512 % 8) (R.val % 512)
    (by omega) (by omega) (by simp only; omega) hv hl (⟨l.val % 128, by omega⟩ : Fin 128)
  have he : (Ideal.ofBits .f32 0x358637BD#32 : EReal) = (epsR : EReal) := eps_eq
  rw [he]
  unfold outV
  rw [← gainK_apply]
  exact congrArg (fun z : EReal => z * gainK m c (l.val % 128) * lastF) h

/-- The side conditions the precondition's operations state. -/
theorem pre_facts : Cert.Pre_finite_values.Facts where
  bcast_S_S16x4096x4x128 := by decide
  bcast_S_S4x64 := by decide

theorem real_of_abs {x : EReal} (h : BitVec.ofBool (decide ((FloatOps.absf (F := Ideal) (φ := .f32) x : EReal) < Ideal.ofBits .f32 0x7F800000#32)) = 1#1) : ∃ r : ℝ, x = r := by
  have ht : Ideal.ofBits .f32 0x7F800000#32 = ⊤ := by simp [Ideal.ofBits, Ideal.ieee]
  rw [ht] at h
  have hb : (FloatOps.absf (F := Ideal) (φ := .f32) x : EReal) ≠ ⊤ := by
    intro e
    rw [e] at h
    simp at h
  induction x using EReal.rec with
  | bot => exact absurd rfl hb
  | top => exact absurd rfl hb
  | coe r => exact ⟨r, rfl⟩

theorem pre_read [Cert.Pre_finite_values.Facts] (q k : FVec Ideal S16x4096x4x2x64 .f32) (v : FVec Ideal S16x4096x4x128 .f32) (l : FVec Ideal S4x64 .f32) (g : FVec Ideal S128 .f32)
    (h : (Cert.Pre_finite_values.fn (F := Ideal) q k v l g).1 = (fun _ => 1#1) ∧ (Cert.Pre_finite_values.fn (F := Ideal) q k v l g).2 = (fun _ => 1#1)) :
    (∀ y, ∃ x : ℝ, (v y : EReal) = x) ∧ ∀ y, ∃ x : ℝ, (l y : EReal) = x := by
  constructor
  · intro y
    have := congrFun h.1 y
    unfold Cert.Pre_finite_values.fn at this
    pointwise at this
    exact real_of_abs this
  · intro y
    have := congrFun h.2 y
    unfold Cert.Pre_finite_values.fn at this
    pointwise at this
    exact real_of_abs this

theorem lam_real (l : FVec Ideal S4x64 .f32) (h : ∀ y, ∃ x : ℝ, (l y : EReal) = x) : ∃ x : ℝ, rLam (F := Ideal) l Idealize.ShloMosaic.ix0 = x := by
  choose r hr using h
  unfold rLam
  pointwise
  simp only [hr]
  have hc : ∃ x : ℝ, Ideal.ofBits .f32 0x3E4CCCCD#32 = (x : EReal) := by
    simp only [Ideal.ofBits, Ideal.ieee]
    simp
    exact ⟨_, (EReal.coe_mul _ _).symm⟩
  obtain ⟨x, hx⟩ := hc
  rw [hx]
  simp only [← EReal.coe_mul, ← coe_sum, exp_coe, ← EReal.coe_sub, ← EReal.coe_add]
  exact ⟨_, rfl⟩

end Cert.KernelIdeal.Attn

end
-- ==== Proof.FfnBody.lean ====
/- One point of the feed-forward call: the stored blocks, in one vocabulary for all column chunks. -/
module

public import proofs.«01_k».proof.Proof.Gen.Kernel2Ideal.Value
public import Idealize.ShloMosaic.Lib.WholeRead

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic

variable {F : FTy → Type} [FloatOps F]

/-- One chunk of the up-projection. -/
def mulU (xn : FVec F S512x1024 .bf16) (w : Vec F S1024x256 .bf16) : FVec F S512x256 .f32 :=
  matmul dot_S512x1024_S1024x256_S512x256_1_0_0_1_n_n none xn (shapeCast S1024x256 w shapeCasts_S1024x256_S1024x256) (constant S512x256 .f32 0x00000000#32)

/-- The rows' numbers. -/
abbrev rowNo : IVec S512x256 32 := iota .tc S512x256 32 [0] iota_S512x256_d0_w32

/-- The gates one row back: row 0 takes the carried row. -/
def back1 (g : FVec F S512x256 .f32) (p7 : Vec F S1x256 .f32) : FVec F S512x256 .f32 :=
  select (cmpi .eq rowNo (broadcast S512x256 0#32)) (broadcastTo S512x256 (shapeCast S1x256 p7 shapeCasts_S1x256_S1x256) broadcasts_S1x256_S512x256)
    (dynamicRotate 0 1#32 none g rotates_S512x256_d0)

/-- The gates two rows back: rows 0 and 1 take the carried rows. -/
def back2 (g : FVec F S512x256 .f32) (p7 p6 : Vec F S1x256 .f32) : FVec F S512x256 .f32 :=
  select (cmpi .eq rowNo (broadcast S512x256 0#32)) (broadcastTo S512x256 (shapeCast S1x256 p6 shapeCasts_S1x256_S1x256) broadcasts_S1x256_S512x256)
    (select (cmpi .eq rowNo (broadcast S512x256 1#32)) (broadcastTo S512x256 (shapeCast S1x256 p7 shapeCasts_S1x256_S1x256) broadcasts_S1x256_S512x256)
      (dynamicRotate 0 2#32 none g rotates_S512x256_d0))

/-- The convolved gates of a chunk. -/
def convV (g : FVec F S512x256 .f32) (p7 p6 cb w0 w1 w2 : Vec F S1x256 .f32) : FVec F S512x256 .f32 :=
  addf (addf (addf (broadcastTo S512x256 (shapeCast S1x256 cb shapeCasts_S1x256_S1x256) broadcasts_S1x256_S512x256)
    (mulf (back2 g p7 p6) (broadcastTo S512x256 w0 broadcasts_S1x256_S512x256)))
    (mulf (back1 g p7) (broadcastTo S512x256 w1 broadcasts_S1x256_S512x256)))
    (mulf g (broadcastTo S512x256 w2 broadcasts_S1x256_S512x256))

/-- The activated, gated values of a chunk. -/
def actV (c u : FVec F S512x256 .f32) : FVec F S512x256 .bf16 := truncf .bf16 (mulf (mulf c (logistic c)) u) bitsLt_bf16_f32

/-- A chunk, from what is loaded for it. -/
def hidV (xn : FVec F S512x1024 .bf16) (wg wu : Vec F S1024x256 .bf16) (p7 p6 cb w0 w1 w2 : Vec F S1x256 .f32) : FVec F S512x256 .bf16 :=
  actV (convV (mulU xn wg) p7 p6 cb w0 w1 w2) (mulU xn wu)

/-- The last eight gates of a chunk. -/
def tailV (g : FVec F S512x256 .f32) : FVec F S8x256 .f32 :=
  shapeCast S8x256 (extractStridedSlice S8x256 ![504, 0] g slices_S512x256_o504_0_S8x256) shapeCasts_S8x256_S8x256

/-- Four chunks against 1024 rows of the down-projection. -/
def down4 (a b c d : FVec F S512x256 .bf16) (w : Vec F S1024x1024 .bf16) : FVec F S512x1024 .f32 :=
  matmul dot_S512x1024_S1024x1024_S512x1024_1_0_0_1_n_n none
    (concatenate S512x1024 1 [⟨S512x256, a⟩, ⟨S512x256, b⟩, ⟨S512x256, c⟩, ⟨S512x256, d⟩] concatenates_S512x256_S512x256_S512x256_S512x256_S512x1024_d1)
    (shapeCast S1024x1024 w shapeCasts_S1024x1024_S1024x1024) (constant S512x1024 .f32 0x00000000#32)

/-- Three chunks against the last 768 rows. -/
def down3 (a b c : FVec F S512x256 .bf16) (w : Vec F S768x1024 .bf16) : FVec F S512x1024 .f32 :=
  matmul dot_S512x768_S768x1024_S512x1024_1_0_0_1_n_n none
    (concatenate S512x768 1 [⟨S512x256, a⟩, ⟨S512x256, b⟩, ⟨S512x256, c⟩] concatenates_S512x256_S512x256_S512x256_S512x768_d1)
    (shapeCast S768x1024 w shapeCasts_S768x1024_S768x1024) (constant S512x1024 .f32 0x00000000#32)

/-- The block of results. -/
def outV (x : FVec F S512x1024 .f32) (h : Fin 11 → FVec F S512x256 .bf16) (d0 d1 : Vec F S1024x1024 .bf16) (d2 : Vec F S768x1024 .bf16) : FVec F S512x1024 .f32 :=
  addf x (addf (addf (addf (broadcast S512x1024 (Scalar.ofBits .f32 0x00000000#32)) (down4 (h 0) (h 1) (h 2) (h 3) d0)) (down4 (h 4) (h 5) (h 6) (h 7) d1))
    (down3 (h 8) (h 9) (h 10) d2))

theorem inb2 {m n a b o p : ℕ} (h0 : o + a ≤ m) (h1 : p + b ≤ n) :
    ∀ k : Fin 2, (![o, p] : Fin 2 → ℕ) k + (⟨2, ![a, b]⟩ : Shape).size k ≤ (⟨2, ![m, n]⟩ : Shape).size k :=
  Fin.forall_fin_two.mpr ⟨h0, h1⟩

/-- A load of a rectangle of a block. -/
abbrev rd {s : Shape} {e : EltTy} (A : Memref sig .tc .vmem s e) (hA : A.IsWhole) (x : s.Idx → Elt F e) (r : Rect s) : r.shape.Idx → Elt F e :=
  A.view.readAt (Elt F) r.toLoadRect (hA.unread x)

/-- The rectangles of chunk `j`: the gate's columns and the values', -/
abbrev rG (j : Fin 11) : Rect S1024x5632 := Rect.unit ![0, 256 * j.val] S1024x256.size (inb2 (by omega) (by omega))
abbrev rV (j : Fin 11) : Rect S1024x5632 := Rect.unit ![0, 2816 + 256 * j.val] S1024x256.size (inb2 (by omega) (by omega))
/-- a row of the taps, -/
abbrev rC (i : Fin 3) (j : Fin 11) : Rect S3x2816 := Rect.unit ![i.val, 256 * j.val] S1x256.size (inb2 (by omega) (by omega))
/-- the offsets, -/
abbrev rB (j : Fin 11) : Rect S1x2816 := Rect.unit ![0, 256 * j.val] S1x256.size (inb2 (by omega) (by omega))
/-- a row of the carried gates, and all its rows. -/
abbrev rS (i : Fin 8) (j : Fin 11) : Rect S8x2816 := Rect.unit ![i.val, 256 * j.val] S1x256.size (inb2 (by omega) (by omega))
abbrev rT (j : Fin 11) : Rect S8x2816 := Rect.unit ![0, 256 * j.val] S8x256.size (inb2 (by omega) (by omega))

/-- The stores of the first `n` chunks' last gates, over earlier ones. -/
def tails (g : Fin 11 → FVec F S512x256 .f32) (L : List (View.Piece (Elt F) S8x2816 .f32)) : (n : ℕ) → n ≤ 11 → List (View.Piece (Elt F) S8x2816 .f32)
  | 0, _ => L
  | n + 1, h => ⟨rT ⟨n, h⟩, tailV (g ⟨n, h⟩)⟩ :: tails g L n (by omega)

section runs
variable (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x2816 .f32) (harg8 : arg8.IsWhole) (arg9 : Memref sig .tc .vmem S1x2816 .f32) (harg9 : arg9.IsWhole) (arg10 : Memref sig .tc .vmem S2816x1024 .bf16) (harg10 : arg10.IsWhole) (arg11 : Memref sig .tc .vmem S1x8x2816 .f32) (harg11 : arg11.IsWhole) (arg12 : Memref sig .tc .vmem S512x1024 .f32) (harg12 : arg12.IsWhole) (arg13 : Memref sig .tc .vmem S1x8x2816 .f32) (harg13 : arg13.IsWhole) (arg14 : Memref sig .tc .vmem S8x2816 .f32) (harg14 : arg14.IsWhole)
  (x0 : Vec F S512x1024 .f32) (x1 : Vec F S512x512 .bf16) (x2 : Vec F S512x512 .bf16) (x3 : Vec F S1024x1024 .bf16) (x4 : Vec F S1x1024 .f32) (x5 : Vec F S1024x5632 .bf16) (x6 : Vec F S3x2816 .f32) (x7 : Vec F S1x2816 .f32) (x8 : Vec F S2816x1024 .bf16) (x9 : Vec F S1x8x2816 .f32) (xs0 : Vec F S8x2816 .f32)

/-- What the point loads and makes of it. -/
abbrev pH := (k0_pay3 (rd arg3 harg3 x1 (Rect.unit ![0, 0] S512x512.size inb_S512x512_S512x512_0_0)) (rd arg4 harg4 x2 (Rect.unit ![0, 0] S512x512.size inb_S512x512_S512x512_0_0))
  (rd arg2 harg2 x0 (Rect.unit ![0, 0] S512x1024.size inb_S512x1024_S512x1024_0_0)) (rd arg5 harg5 x3 (Rect.unit ![0, 0] S1024x1024.size inb_S1024x1024_S1024x1024_0_0)))
abbrev pN := (k0_pay4 (rd arg3 harg3 x1 (Rect.unit ![0, 0] S512x512.size inb_S512x512_S512x512_0_0)) (rd arg4 harg4 x2 (Rect.unit ![0, 0] S512x512.size inb_S512x512_S512x512_0_0))
  (rd arg2 harg2 x0 (Rect.unit ![0, 0] S512x1024.size inb_S512x1024_S512x1024_0_0)) (rd arg5 harg5 x3 (Rect.unit ![0, 0] S1024x1024.size inb_S1024x1024_S1024x1024_0_0))
  (rd arg6 harg6 x4 (Rect.unit ![0, 0] S1x1024.size inb_S1x1024_S1x1024_0_0)))
abbrev pG (j : Fin 11) := mulU (pN arg2 harg2 arg3 harg3 arg4 harg4 arg5 harg5 arg6 harg6 x0 x1 x2 x3 x4) (rd arg7 harg7 x5 (rG j))
abbrev pHid (s : Fin 8 → Fin 11 → Vec F S1x256 .f32) (j : Fin 11) := hidV (pN arg2 harg2 arg3 harg3 arg4 harg4 arg5 harg5 arg6 harg6 x0 x1 x2 x3 x4) (rd arg7 harg7 x5 (rG j)) (rd arg7 harg7 x5 (rV j)) (s 7 j) (s 6 j)
  (rd arg9 harg9 x7 (rB j)) (rd arg8 harg8 x6 (rC 0 j)) (rd arg8 harg8 x6 (rC 1 j)) (rd arg8 harg8 x6 (rC 2 j))
abbrev pOut (s : Fin 8 → Fin 11 → Vec F S1x256 .f32) := outV (pH arg2 harg2 arg3 harg3 arg4 harg4 arg5 harg5 x0 x1 x2 x3) (pHid arg2 harg2 arg3 harg3 arg4 harg4 arg5 harg5 arg6 harg6 arg7 harg7 arg8 harg8 arg9 harg9 x0 x1 x2 x3 x4 x5 x6 x7 s)
  (rd arg10 harg10 x8 (Rect.unit ![0, 0] S1024x1024.size inb_S2816x1024_S1024x1024_0_0)) (rd arg10 harg10 x8 (Rect.unit ![1024, 0] S1024x1024.size inb_S2816x1024_S1024x1024_1024_0))
  (rd arg10 harg10 x8 (Rect.unit ![2048, 0] S768x1024.size inb_S2816x1024_S768x1024_2048_0))

/-- The carried rows a later point loads, -/
abbrev sB (i : Fin 8) (j : Fin 11) : Vec F S1x256 .f32 := rd arg14 harg14 xs0 (rS i j)
/-- and its stores over them. -/
abbrev tB := tails (pG arg2 harg2 arg3 harg3 arg4 harg4 arg5 harg5 arg6 harg6 arg7 harg7 x0 x1 x2 x3 x4 x5) [] 11 le_rfl
/-- The first point's fill of the carried rows, the rows it loads, and its stores. -/
abbrev fill : List (View.Piece (Elt F) S8x2816 .f32) := [⟨Rect.unit ![0, 0] S8x2816.size inb_S8x2816_S8x2816_0_0,
  k0_pay2 (rd arg11 harg11 x9 (Rect.unit ![0, 0, 0] S1x8x2816.size inb_S1x8x2816_S1x8x2816_0_0_0))⟩]
abbrev sA (i : Fin 8) (j : Fin 11) : Vec F S1x256 .f32 := arg14.view.readCov (tails (pG arg2 harg2 arg3 harg3 arg4 harg4 arg5 harg5 arg6 harg6 arg7 harg7 x0 x1 x2 x3 x4 x5) (fill arg11 harg11 x9) j.val (by omega)) (rS i j).toLoadRect
abbrev tA := tails (pG arg2 harg2 arg3 harg3 arg4 harg4 arg5 harg5 arg6 harg6 arg7 harg7 x0 x1 x2 x3 x4 x5) (fill arg11 harg11 x9) 11 le_rfl

theorem outB_pieces (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0).1 = [⟨Rect.unit ![0, 0] S512x1024.size inb_S512x1024_S512x1024_0_0,
    pOut arg2 harg2 arg3 harg3 arg4 harg4 arg5 harg5 arg6 harg6 arg7 harg7 arg8 harg8 arg9 harg9 arg10 harg10 x0 x1 x2 x3 x4 x5 x6 x7 x8 (sB arg14 harg14 xs0)⟩] := by
  rfl

theorem newB_pieces (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0).2.1 = [⟨Rect.unit ![0, 0, 0] S1x8x2816.size inb_S1x8x2816_S1x8x2816_0_0_0,
    k0_pay1 (arg14.view.readCov (tB arg2 harg2 arg3 harg3 arg4 harg4 arg5 harg5 arg6 harg6 arg7 harg7 x0 x1 x2 x3 x4 x5) (Rect.unit ![0, 0] S8x2816.size inb_S8x2816_S8x2816_0_0).toLoadRect)⟩] := by
  rfl

theorem tailB_pieces (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0).2.2.1 = tB arg2 harg2 arg3 harg3 arg4 harg4 arg5 harg5 arg6 harg6 arg7 harg7 x0 x1 x2 x3 x4 x5 := by
  rfl

theorem outA_pieces (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1 = [⟨Rect.unit ![0, 0] S512x1024.size inb_S512x1024_S512x1024_0_0,
    pOut arg2 harg2 arg3 harg3 arg4 harg4 arg5 harg5 arg6 harg6 arg7 harg7 arg8 harg8 arg9 harg9 arg10 harg10 x0 x1 x2 x3 x4 x5 x6 x7 x8 (sA arg2 harg2 arg3 harg3 arg4 harg4 arg5 harg5 arg6 harg6 arg7 harg7 arg11 harg11 arg14 x0 x1 x2 x3 x4 x5 x9)⟩] := by
  rfl

theorem newA_pieces (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1 = [⟨Rect.unit ![0, 0, 0] S1x8x2816.size inb_S1x8x2816_S1x8x2816_0_0_0,
    k0_pay1 (arg14.view.readCov (tA arg2 harg2 arg3 harg3 arg4 harg4 arg5 harg5 arg6 harg6 arg7 harg7 arg11 harg11 x0 x1 x2 x3 x4 x5 x9) (Rect.unit ![0, 0] S8x2816.size inb_S8x2816_S8x2816_0_0).toLoadRect)⟩] := by
  rfl

theorem tailA_pieces (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.2.1 = tA arg2 harg2 arg3 harg3 arg4 harg4 arg5 harg5 arg6 harg6 arg7 harg7 arg11 harg11 x0 x1 x2 x3 x4 x5 x9 := by
  rfl

end runs

end Cert.Kernel2Ideal.Ffn
-- ==== Proof.FfnMath.lean ====
/- The feed-forward call's mathematics, one row at a time. -/
module

public import Idealize.ShloMosaic.PureOps.Ideal

@[expose] public section

noncomputable section

namespace Cert.Ffn

open Idealize.ShloMosaic

/-- One row of the stream after the output projection. -/
def rowH (h : Fin 1024 → EReal) (yr ya : Fin 512 → EReal) (wo : Fin 1024 → Fin 1024 → EReal) (d : Fin 1024) : EReal :=
  h d + ∑ k : Fin 1024, (if hk : k.val < 512 then yr ⟨k.val, hk⟩ else ya ⟨k.val - 512, by omega⟩) * wo k d

/-- A row divided by its root mean square, and scaled. -/
def rowN (x g : Fin 1024 → EReal) (d : Fin 1024) : EReal :=
  x d * Ideal.rsqrt (Ideal.div (∑ e : Fin 1024, x e * x e) (Ideal.ofBits .f32 0x44800000#32) + Ideal.ofBits .f32 0x358637BD#32) * g d

/-- A row against a column of the up-projection. -/
def rowU (x : Fin 1024 → EReal) (w : Fin 1024 → Fin 5632 → EReal) (f : Fin 5632) : EReal := ∑ d : Fin 1024, x d * w d f

/-- The convolution of three successive gates. -/
def conv (b p2 w0 p1 w1 p0 w2 : EReal) : EReal := b + p2 * w0 + p1 * w1 + p0 * w2

/-- The activated, gated value. -/
def act (c u : EReal) : EReal := c * Ideal.logistic c * u

/-- The gate's column and the value's of a hidden feature. -/
abbrev lo (f : Fin 2816) : Fin 5632 := ⟨f.val, by omega⟩
abbrev hi (f : Fin 2816) : Fin 5632 := ⟨2816 + f.val, by omega⟩

/-- The stream of every sequence and position after the output projection, and the columns of its up-projection. -/
def gX (h : Fin 16 → Fin 4096 → Fin 1024 → EReal) (yr ya : Fin 16 → Fin 4096 → Fin 512 → EReal) (wo : Fin 1024 → Fin 1024 → EReal) (b : Fin 16) (p : Fin 4096) :
    Fin 1024 → EReal := rowH (h b p) (yr b p) (ya b p) wo
def gU (X : Fin 16 → Fin 4096 → Fin 1024 → EReal) (g : Fin 1024 → EReal) (wu : Fin 1024 → Fin 5632 → EReal) (b : Fin 16) (p : Fin 4096) (f : Fin 5632) : EReal :=
  rowU (rowN (X b p) g) wu f

/-- A hidden feature of a position: nothing stands before a sequence's first. -/
def gHid (U : Fin 16 → Fin 4096 → Fin 5632 → EReal) (w : Fin 3 → Fin 2816 → EReal) (cb : Fin 2816 → EReal) (b : Fin 16) (p : Fin 4096) (f : Fin 2816) : EReal :=
  act (conv (cb f) (if h : 2 ≤ p.val then U b ⟨p.val - 2, by omega⟩ (lo f) else 0) (w 0 f)
    (if h : 1 ≤ p.val then U b ⟨p.val - 1, by omega⟩ (lo f) else 0) (w 1 f) (U b p (lo f)) (w 2 f)) (U b p (hi f))

/-- The stream after the layer. -/
def gOut (X : Fin 16 → Fin 4096 → Fin 1024 → EReal) (H : Fin 16 → Fin 4096 → Fin 2816 → EReal) (wd : Fin 2816 → Fin 1024 → EReal) (b : Fin 16) (p : Fin 4096)
    (d : Fin 1024) : EReal := X b p d + ∑ f : Fin 2816, H b p f * wd f d

end Cert.Ffn
-- ==== Proof.FfnElem.lean ====
/- One point of the feed-forward call, element by element over the extended reals. -/
module

public import proofs.«01_k».proof.Proof.FfnBody
public import proofs.«01_k».proof.Proof.FfnMath
public import Idealize.ShloMosaic.Lib.Pointwise
public import Idealize.ShloMosaic.Lib.IdealHost

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.Tactic

theorem pay3_apply (yr ya : FVec Ideal S512x512 .bf16) (h : FVec Ideal S512x1024 .f32) (w : FVec Ideal S1024x1024 .bf16) (r : Fin 512) (d : Fin 1024) :
    k0_pay3 (F := Ideal) yr ya h w (ix2 r d)
      = rowH (fun e => h (ix2 r e)) (fun e => yr (ix2 r e)) (fun e => ya (ix2 r e)) (fun e f => w (ix2 e f)) d := by
  unfold k0_pay3 rowH
  pointwise

theorem pay4_apply (yr ya : FVec Ideal S512x512 .bf16) (h : FVec Ideal S512x1024 .f32) (w : FVec Ideal S1024x1024 .bf16) (g : FVec Ideal S1x1024 .f32)
    (r : Fin 512) (d : Fin 1024) :
    k0_pay4 (F := Ideal) yr ya h w g (ix2 r d) = rowN (fun e => k0_pay3 (F := Ideal) yr ya h w (ix2 r e)) (fun e => g (ix2 0 e)) d := by
  unfold k0_pay4 rowN
  pointwise

theorem mulU_apply (xn : FVec Ideal S512x1024 .bf16) (w : FVec Ideal S1024x256 .bf16) (r : Fin 512) (k : Fin 256) :
    mulU (F := Ideal) xn w (ix2 r k) = ∑ d : Fin 1024, xn (ix2 r d) * w (ix2 d k) := by
  unfold mulU
  pointwise

theorem row_eq (r : Fin 512) (n : Fin 2) : IntOp.cmpi .eq (BitVec.ofNat 32 r.val) (BitVec.ofNat 32 n.val) = if r.val = n.val then 1#1 else 0#1 := by
  have h : ∀ (r : Fin 512) (n : Fin 2), IntOp.cmpi .eq (BitVec.ofNat 32 r.val) (BitVec.ofNat 32 n.val) = if r.val = n.val then 1#1 else 0#1 :=
    of_decide_eq_true (by sl_kernel_rfl)
  exact h r n

theorem select_row {α : Type} (r : Fin 512) (n : Fin 2) (x y : α) :
    Scalar.select (IntOp.cmpi .eq (BitVec.ofNat 32 r.val) (BitVec.ofNat 32 n.val)) x y = if r.val = n.val then x else y := by
  rw [row_eq]
  split <;> rfl

theorem back1_apply (g : FVec Ideal S512x256 .f32) (p7 : FVec Ideal S1x256 .f32) (r : Fin 512) (k : Fin 256) :
    back1 (F := Ideal) g p7 (ix2 r k) = if h : 1 ≤ r.val then g (ix2 ⟨r.val - 1, by omega⟩ k) else p7 (ix2 0 k) := by
  unfold back1
  pointwise
  refine (select_row r 0 _ _).trans ?_
  by_cases h : 1 ≤ r.val
  · rw [dif_pos h, if_neg (by show ¬r.val = 0; omega)]
    exact congrArg (fun e => g (ix2 e k)) (Fin.ext (by show (r.val + 512 - 1) % 512 = r.val - 1; omega))
  · rw [dif_neg h, if_pos (by show r.val = 0; omega)]

theorem back2_apply (g : FVec Ideal S512x256 .f32) (p7 p6 : FVec Ideal S1x256 .f32) (r : Fin 512) (k : Fin 256) :
    back2 (F := Ideal) g p7 p6 (ix2 r k) = if h : 2 ≤ r.val then g (ix2 ⟨r.val - 2, by omega⟩ k) else if r.val = 1 then p7 (ix2 0 k) else p6 (ix2 0 k) := by
  unfold back2
  pointwise
  refine (select_row r 0 _ _).trans ?_
  by_cases h : 2 ≤ r.val
  · rw [dif_pos h, if_neg (by show ¬r.val = 0; omega)]
    refine (select_row r 1 _ _).trans ?_
    rw [if_neg (by show ¬r.val = 1; omega)]
    exact congrArg (fun e => g (ix2 e k)) (Fin.ext (by show (r.val + 512 - 2) % 512 = r.val - 2; omega))
  · rw [dif_neg h]
    by_cases h0 : r.val = 0
    · rw [if_pos (by show r.val = 0; omega), if_neg (by omega)]
    · rw [if_neg (by show ¬r.val = 0; omega), if_pos (by omega)]
      refine (select_row r 1 _ _).trans ?_
      rw [if_pos (by show r.val = 1; omega)]

theorem convV_apply (g : FVec Ideal S512x256 .f32) (p7 p6 cb w0 w1 w2 : FVec Ideal S1x256 .f32) (r : Fin 512) (k : Fin 256) :
    convV (F := Ideal) g p7 p6 cb w0 w1 w2 (ix2 r k) = conv (cb (ix2 0 k)) (back2 (F := Ideal) g p7 p6 (ix2 r k)) (w0 (ix2 0 k)) (back1 (F := Ideal) g p7 (ix2 r k)) (w1 (ix2 0 k))
      (g (ix2 r k)) (w2 (ix2 0 k)) := by
  unfold convV conv
  pointwise

theorem actV_apply (c u : FVec Ideal S512x256 .f32) (r : Fin 512) (k : Fin 256) :
    actV (F := Ideal) c u (ix2 r k) = act (c (ix2 r k)) (u (ix2 r k)) := by
  unfold actV act
  pointwise

theorem tailV_apply (g : FVec Ideal S512x256 .f32) (i : Fin 8) (k : Fin 256) :
    tailV (F := Ideal) g (ix2 i k) = g (ix2 ⟨504 + i.val, by omega⟩ k) := by
  unfold tailV
  pointwise

theorem pick {N : ℕ} (h : Fin N → FVec Ideal S512x256 .bf16) (r : Fin 512) (f : ℕ) (hf : f < 256 * N) (n : Fin N) (k : Fin 256) (e : f = 256 * n.val + k.val) :
    h n (ix2 r k) = h ⟨f / 256, by omega⟩ (ix2 r ⟨f % 256, by omega⟩) := by
  have e1 : (⟨f / 256, by omega⟩ : Fin N) = n := Fin.ext (by show f / 256 = n.val; omega)
  have e2 : (⟨f % 256, by omega⟩ : Fin 256) = k := Fin.ext (by show f % 256 = k.val; omega)
  rw [e1, e2]

theorem down4_apply (h : Fin 4 → FVec Ideal S512x256 .bf16) (w : FVec Ideal S1024x1024 .bf16) (r : Fin 512) (d : Fin 1024) :
    down4 (F := Ideal) (h 0) (h 1) (h 2) (h 3) w (ix2 r d) = ∑ f : Fin 1024, h ⟨f.val / 256, by omega⟩ (ix2 r ⟨f.val % 256, by omega⟩) * w (ix2 f d) := by
  unfold down4
  pointwise
  refine Finset.sum_congr rfl fun f _ => congrArg (· * _) ?_
  by_cases h0 : f.val < 256
  · rw [dif_pos h0]
    exact pick h r f.val (by omega) 0 ⟨f.val, by omega⟩ (by show f.val = 256 * 0 + (f.val); omega)
  rw [dif_neg h0]
  by_cases h1 : f.val - 256 < 256
  · rw [dif_pos h1]
    exact pick h r f.val (by omega) 1 ⟨f.val - 256, by omega⟩ (by show f.val = 256 * 1 + (f.val - 256); omega)
  rw [dif_neg h1]
  by_cases h2 : f.val - 256 - 256 < 256
  · rw [dif_pos h2]
    exact pick h r f.val (by omega) 2 ⟨f.val - 256 - 256, by omega⟩ (by show f.val = 256 * 2 + (f.val - 256 - 256); omega)
  rw [dif_neg h2]
  exact pick h r f.val (by omega) 3 ⟨f.val - 256 - 256 - 256, by omega⟩ (by show f.val = 256 * 3 + (f.val - 256 - 256 - 256); omega)

theorem down3_apply (h : Fin 3 → FVec Ideal S512x256 .bf16) (w : FVec Ideal S768x1024 .bf16) (r : Fin 512) (d : Fin 1024) :
    down3 (F := Ideal) (h 0) (h 1) (h 2) w (ix2 r d) = ∑ f : Fin 768, h ⟨f.val / 256, by omega⟩ (ix2 r ⟨f.val % 256, by omega⟩) * w (ix2 f d) := by
  unfold down3
  pointwise
  refine Finset.sum_congr rfl fun f _ => congrArg (· * _) ?_
  by_cases h0 : f.val < 256
  · rw [dif_pos h0]
    exact pick h r f.val (by omega) 0 ⟨f.val, by omega⟩ (by show f.val = 256 * 0 + (f.val); omega)
  rw [dif_neg h0]
  by_cases h1 : f.val - 256 < 256
  · rw [dif_pos h1]
    exact pick h r f.val (by omega) 1 ⟨f.val - 256, by omega⟩ (by show f.val = 256 * 1 + (f.val - 256); omega)
  rw [dif_neg h1]
  exact pick h r f.val (by omega) 2 ⟨f.val - 256 - 256, by omega⟩ (by show f.val = 256 * 2 + (f.val - 256 - 256); omega)

/-- A sum over the 2816 columns, in the three parts the call takes. -/
theorem sum_parts (T : Fin 2816 → EReal) : ∑ f : Fin 2816, T f
    = ∑ f : Fin 1024, T ⟨f.val, by omega⟩ + ∑ f : Fin 1024, T ⟨1024 + f.val, by omega⟩ + ∑ f : Fin 768, T ⟨2048 + f.val, by omega⟩ := by
  have e := Fin.sum_univ_add (a := 2048) (b := 768) T
  have e' := Fin.sum_univ_add (a := 1024) (b := 1024) (fun i => T (Fin.castAdd 768 i))
  exact e.trans (congrArg (· + _) e')

theorem zeroB : (broadcast S512x1024 (Scalar.ofBits (F := Ideal) .f32 0x00000000#32) : FVec Ideal S512x1024 .f32) = fun _ => 0 := by
  funext i
  show Ideal.ofBits .f32 0x00000000#32 = 0
  simp [Ideal.ofBits, Ideal.ieee]

theorem outV_apply (x : FVec Ideal S512x1024 .f32) (h : Fin 11 → FVec Ideal S512x256 .bf16) (d0 d1 : FVec Ideal S1024x1024 .bf16) (d2 : FVec Ideal S768x1024 .bf16)
    (w : FVec Ideal S2816x1024 .bf16) (h0 : ∀ (k : Fin 1024) (d : Fin 1024), d0 (ix2 k d) = w (ix2 ⟨k.val, by omega⟩ d))
    (h1 : ∀ (k : Fin 1024) (d : Fin 1024), d1 (ix2 k d) = w (ix2 ⟨1024 + k.val, by omega⟩ d))
    (h2 : ∀ (k : Fin 768) (d : Fin 1024), d2 (ix2 k d) = w (ix2 ⟨2048 + k.val, by omega⟩ d)) (r : Fin 512) (d : Fin 1024) :
    outV (F := Ideal) x h d0 d1 d2 (ix2 r d)
      = x (ix2 r d) + ∑ f : Fin 2816, h ⟨f.val / 256, by omega⟩ (ix2 r ⟨f.val % 256, by omega⟩) * w (ix2 f d) := by
  have e0 : down4 (F := Ideal) (h 0) (h 1) (h 2) (h 3) d0 (ix2 r d) = _ := down4_apply (fun i => h ⟨i.val, by omega⟩) d0 r d
  have e1 : down4 (F := Ideal) (h 4) (h 5) (h 6) (h 7) d1 (ix2 r d) = _ := down4_apply (fun i => h ⟨4 + i.val, by omega⟩) d1 r d
  have e2 : down3 (F := Ideal) (h 8) (h 9) (h 10) d2 (ix2 r d) = _ := down3_apply (fun i => h ⟨8 + i.val, by omega⟩) d2 r d
  rw [sum_parts]
  unfold outV
  rw [zeroB]
  show x (ix2 r d) + (((0 + down4 (F := Ideal) (h 0) (h 1) (h 2) (h 3) d0 (ix2 r d)) + down4 (F := Ideal) (h 4) (h 5) (h 6) (h 7) d1 (ix2 r d))
    + down3 (F := Ideal) (h 8) (h 9) (h 10) d2 (ix2 r d)) = _
  rw [e0, e1, e2, zero_add]
  refine congrArg (x (ix2 r d) + ·) (congrArg₂ (· + ·) (congrArg₂ (· + ·) ?_ ?_) ?_)
  · exact Finset.sum_congr rfl fun f _ => congrArg (_ * ·) (h0 f d)
  · refine Finset.sum_congr rfl fun f _ => ?_
    rw [h1]
    exact congrArg (· * _) ((pick h r (1024 + f.val) (by omega) ⟨4 + f.val / 256, by omega⟩ ⟨f.val % 256, by omega⟩
      (by show 1024 + f.val = 256 * (4 + f.val / 256) + f.val % 256; omega)))
  · refine Finset.sum_congr rfl fun f _ => ?_
    rw [h2]
    exact congrArg (· * _) ((pick h r (2048 + f.val) (by omega) ⟨8 + f.val / 256, by omega⟩ ⟨f.val % 256, by omega⟩
      (by show 2048 + f.val = 256 * (8 + f.val / 256) + f.val % 256; omega)))

end Cert.Kernel2Ideal.Ffn
-- ==== Proof.FfnPoint.lean ====
/- One point of the feed-forward call: what it stores, element by element, of the blocks and carried rows it is handed. -/
module

public import proofs.«01_k».proof.Proof.FfnElem
public import Idealize.ShloMosaic.Lib.Pipeline.ValueKit

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.Tactic

theorem idx2 {m n a b o p : ℕ} (hin : ∀ k : Fin 2, (![o, p] : Fin 2 → ℕ) k + (![a, b] : Fin 2 → ℕ) k ≤ (⟨2, ![m, n]⟩ : Shape).size k) (i : Fin a) (j : Fin b)
    (h0 : o + i.val < m) (h1 : p + j.val < n) :
    (Rect.unit (s := ⟨2, ![m, n]⟩) ![o, p] ![a, b] hin).toLoadRect.idx (ix2 i j) = ix2 ⟨o + i.val, h0⟩ ⟨p + j.val, h1⟩ := by
  funext k
  match k with
  | 0 => exact Fin.ext (by show o + 1 * i.val = o + i.val; omega)
  | 1 => exact Fin.ext (by show p + 1 * j.val = p + j.val; omega)

theorem rd2 {m n a b o p : ℕ} {e : EltTy} (A : Memref sig .tc .vmem ⟨2, ![m, n]⟩ e) (hA : A.IsWhole) (x : (⟨2, ![m, n]⟩ : Shape).Idx → Elt Ideal e)
    (hin : ∀ k : Fin 2, (![o, p] : Fin 2 → ℕ) k + (![a, b] : Fin 2 → ℕ) k ≤ (⟨2, ![m, n]⟩ : Shape).size k) (i : Fin a) (j : Fin b)
    (h0 : o + i.val < m) (h1 : p + j.val < n) :
    rd (F := Ideal) A hA x (Rect.unit (s := ⟨2, ![m, n]⟩) ![o, p] ![a, b] hin) (ix2 i j) = x (ix2 ⟨o + i.val, h0⟩ ⟨p + j.val, h1⟩) :=
  (hA.readAt_unread x _ _).trans (congrArg x (idx2 hin i j h0 h1))

theorem rd2_whole {m n : ℕ} {e : EltTy} (A : Memref sig .tc .vmem ⟨2, ![m, n]⟩ e) (hA : A.IsWhole) (x : (⟨2, ![m, n]⟩ : Shape).Idx → Elt Ideal e)
    (hin : ∀ k : Fin 2, (![0, 0] : Fin 2 → ℕ) k + (![m, n] : Fin 2 → ℕ) k ≤ (⟨2, ![m, n]⟩ : Shape).size k) (i : Fin m) (j : Fin n) :
    rd (F := Ideal) A hA x (Rect.unit (s := ⟨2, ![m, n]⟩) ![0, 0] ![m, n] hin) (ix2 i j) = x (ix2 i j) := by
  refine (rd2 A hA x hin i j (by omega) (by omega)).trans ?_
  simp only [Nat.zero_add]

/-- A row of the block after the mixers' outputs, and the columns of its up-projection. -/
def ptX (x0 : Vec Ideal S512x1024 .f32) (x1 x2 : Vec Ideal S512x512 .bf16) (x3 : Vec Ideal S1024x1024 .bf16) (r : Fin 512) : Fin 1024 → EReal :=
  rowH (fun e => x0 (ix2 r e)) (fun e => x1 (ix2 r e)) (fun e => x2 (ix2 r e)) (fun e f => x3 (ix2 e f))
def ptU (x0 : Vec Ideal S512x1024 .f32) (x1 x2 : Vec Ideal S512x512 .bf16) (x3 : Vec Ideal S1024x1024 .bf16) (x4 : Vec Ideal S1x1024 .f32)
    (x5 : Vec Ideal S1024x5632 .bf16) (r : Fin 512) (f : Fin 5632) : EReal :=
  rowU (rowN (ptX x0 x1 x2 x3 r) (fun e => x4 (ix2 0 e))) (fun d f => x5 (ix2 d f)) f

/-- A hidden feature of a row, of the block's gates and values `G` and the carried gates `q`. -/
def ptHid (G : Fin 512 → Fin 5632 → EReal) (q : Fin 8 → Fin 2816 → EReal) (w : Vec Ideal S3x2816 .f32) (cb : Vec Ideal S1x2816 .f32) (r : Fin 512) (f : Fin 2816) : EReal :=
  act (conv (cb (ix2 0 f)) (if h : 2 ≤ r.val then G ⟨r.val - 2, by omega⟩ (lo f) else if r.val = 1 then q 7 f else q 6 f) (w (ix2 0 f))
    (if h : 1 ≤ r.val then G ⟨r.val - 1, by omega⟩ (lo f) else q 7 f) (w (ix2 1 f)) (G r (lo f)) (w (ix2 2 f))) (G r (hi f))

theorem join (f : Fin 2816) (h : 256 * (f.val / 256) + f.val % 256 < 2816) : (⟨256 * (f.val / 256) + f.val % 256, h⟩ : Fin 2816) = f := Fin.ext (by show 256 * (f.val / 256) + f.val % 256 = f.val; omega)

theorem tails_miss (g : Fin 11 → FVec Ideal S512x256 .f32) (L : List (View.Piece (Elt Ideal) S8x2816 .f32)) :
    ∀ (n : ℕ) (hn : n ≤ 11) (i : Fin 8) (f : Fin 2816), 256 * n ≤ f.val → View.canon (tails (F := Ideal) g L n hn) (ix2 i f) = View.canon L (ix2 i f)
  | 0, _, _, _, _ => rfl
  | n + 1, hn, i, f, h => by
    refine (View.canon_cons_of_not_mem _ _ ?_).trans (tails_miss g L n (by omega) i f (by omega))
    intro hm
    obtain ⟨j, hj⟩ := (Rect.toLoadRect _).exists_idx_of_mem hm
    have h1 := congrArg Fin.val (congrFun hj (1 : Fin 2))
    have h2 : 256 * n + 1 * (j 1).val = f.val := h1
    have h3 : (j 1).val < 256 := (j 1).isLt
    omega

theorem tails_hit (g : Fin 11 → FVec Ideal S512x256 .f32) (L : List (View.Piece (Elt Ideal) S8x2816 .f32)) :
    ∀ (n : ℕ) (hn : n ≤ 11) (i : Fin 8) (f : Fin 2816), f.val < 256 * n →
      View.canon (tails (F := Ideal) g L n hn) (ix2 i f) = g ⟨f.val / 256, by omega⟩ (ix2 ⟨504 + i.val, by omega⟩ ⟨f.val % 256, by omega⟩)
  | 0, _, _, _, h => absurd h (by omega)
  | n + 1, hn, i, f, h => by
    by_cases hf : f.val < 256 * n
    · refine (View.canon_cons_of_not_mem _ _ ?_).trans (tails_hit g L n (by omega) i f hf)
      intro hm
      obtain ⟨j, hj⟩ := (Rect.toLoadRect _).exists_idx_of_mem hm
      have h1 := congrArg Fin.val (congrFun hj (1 : Fin 2))
      have h2 : 256 * n + 1 * (j 1).val = f.val := h1
      omega
    · have e : (ix2 i f : S8x2816.Idx) = (rT ⟨n, hn⟩).emb (ix2 i ⟨f.val - 256 * n, by omega⟩) := by
        funext k
        match k with
        | 0 => exact Fin.ext (by show i.val = 0 + 1 * i.val; omega)
        | 1 => exact Fin.ext (by show f.val = 256 * n + 1 * (f.val - 256 * n); omega)
      rw [e]
      refine (View.canon_cons_emb _ _ _ _).trans ?_
      refine (tailV_apply _ i _).trans ?_
      have e1 : (⟨f.val / 256, by omega⟩ : Fin 11) = ⟨n, hn⟩ := Fin.ext (by show f.val / 256 = n; omega)
      have e2 : (⟨f.val % 256, by omega⟩ : Fin 256) = ⟨f.val - 256 * n, by omega⟩ := Fin.ext (by show f.val % 256 = f.val - 256 * n; omega)
      rw [e1, e2]

section runs
variable (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x2816 .f32) (harg8 : arg8.IsWhole) (arg9 : Memref sig .tc .vmem S1x2816 .f32) (harg9 : arg9.IsWhole) (arg10 : Memref sig .tc .vmem S2816x1024 .bf16) (harg10 : arg10.IsWhole) (arg11 : Memref sig .tc .vmem S1x8x2816 .f32) (harg11 : arg11.IsWhole) (arg12 : Memref sig .tc .vmem S512x1024 .f32) (harg12 : arg12.IsWhole) (arg13 : Memref sig .tc .vmem S1x8x2816 .f32) (harg13 : arg13.IsWhole) (arg14 : Memref sig .tc .vmem S8x2816 .f32) (harg14 : arg14.IsWhole)
  (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1024x5632 .bf16) (x6 : Vec Ideal S3x2816 .f32) (x7 : Vec Ideal S1x2816 .f32) (x8 : Vec Ideal S2816x1024 .bf16) (x9 : Vec Ideal S1x8x2816 .f32) (xs0 : Vec Ideal S8x2816 .f32)

theorem pH_apply (r : Fin 512) (d : Fin 1024) : pH (F := Ideal) arg2 harg2 arg3 harg3 arg4 harg4 arg5 harg5 x0 x1 x2 x3 (ix2 r d) = ptX x0 x1 x2 x3 r d := by
  refine (pay3_apply _ _ _ _ r d).trans ?_
  unfold ptX
  congr 1
  · funext e; exact rd2_whole arg2 harg2 x0 _ r e
  · funext e; exact rd2_whole arg3 harg3 x1 _ r e
  · funext e; exact rd2_whole arg4 harg4 x2 _ r e
  · funext e f; exact rd2_whole arg5 harg5 x3 _ e f

theorem pN_apply (r : Fin 512) (d : Fin 1024) : pN (F := Ideal) arg2 harg2 arg3 harg3 arg4 harg4 arg5 harg5 arg6 harg6 x0 x1 x2 x3 x4 (ix2 r d) = rowN (ptX x0 x1 x2 x3 r) (fun e => x4 (ix2 0 e)) d := by
  refine (pay4_apply _ _ _ _ _ r d).trans ?_
  congr 1
  · funext e; exact pH_apply arg2 harg2 arg3 harg3 arg4 harg4 arg5 harg5 x0 x1 x2 x3 r e
  · funext e; exact rd2_whole arg6 harg6 x4 _ 0 e

theorem pG_apply (j : Fin 11) (r : Fin 512) (k : Fin 256) :
    pG (F := Ideal) arg2 harg2 arg3 harg3 arg4 harg4 arg5 harg5 arg6 harg6 arg7 harg7 x0 x1 x2 x3 x4 x5 j (ix2 r k) = ptU x0 x1 x2 x3 x4 x5 r (lo ⟨256 * j.val + k.val, by omega⟩) := by
  refine (mulU_apply _ _ r k).trans ?_
  unfold ptU rowU
  refine Finset.sum_congr rfl fun d _ => ?_
  refine congr (congrArg _ (pN_apply arg2 harg2 arg3 harg3 arg4 harg4 arg5 harg5 arg6 harg6 x0 x1 x2 x3 x4 r d)) ?_
  refine (rd2 arg7 harg7 x5 _ d k (by omega) (by omega)).trans ?_
  simp only [Nat.zero_add]

theorem pV_apply (j : Fin 11) (r : Fin 512) (k : Fin 256) :
    mulU (F := Ideal) (pN (F := Ideal) arg2 harg2 arg3 harg3 arg4 harg4 arg5 harg5 arg6 harg6 x0 x1 x2 x3 x4) (rd (F := Ideal) arg7 harg7 x5 (rV j)) (ix2 r k) = ptU x0 x1 x2 x3 x4 x5 r (hi ⟨256 * j.val + k.val, by omega⟩) := by
  refine (mulU_apply _ _ r k).trans ?_
  unfold ptU rowU
  refine Finset.sum_congr rfl fun d _ => ?_
  refine congr (congrArg _ (pN_apply arg2 harg2 arg3 harg3 arg4 harg4 arg5 harg5 arg6 harg6 x0 x1 x2 x3 x4 r d)) ?_
  refine (rd2 arg7 harg7 x5 _ d k (by omega) (by omega)).trans ?_
  simp only [Nat.zero_add, Nat.add_assoc]

theorem pHid_apply (s : Fin 8 → Fin 11 → Vec Ideal S1x256 .f32) (q : Fin 8 → Fin 2816 → EReal)
    (hs : ∀ (i : Fin 8) (j : Fin 11) (k : Fin 256), s i j (ix2 0 k) = q i ⟨256 * j.val + k.val, by omega⟩) (j : Fin 11) (r : Fin 512) (k : Fin 256) :
    pHid (F := Ideal) arg2 harg2 arg3 harg3 arg4 harg4 arg5 harg5 arg6 harg6 arg7 harg7 arg8 harg8 arg9 harg9 x0 x1 x2 x3 x4 x5 x6 x7 s j (ix2 r k) = ptHid (ptU x0 x1 x2 x3 x4 x5) q x6 x7 r ⟨256 * j.val + k.val, by omega⟩ := by
  refine (actV_apply _ _ r k).trans ?_
  unfold ptHid
  refine congr (congrArg act ((convV_apply _ _ _ _ _ _ _ r k).trans ?_)) (pV_apply arg2 harg2 arg3 harg3 arg4 harg4 arg5 harg5 arg6 harg6 arg7 harg7 x0 x1 x2 x3 x4 x5 j r k)
  have e0 : rd (F := Ideal) arg9 harg9 x7 (rB j) (ix2 0 k) = x7 (ix2 0 ⟨256 * j.val + k.val, by omega⟩) := rd2 arg9 harg9 x7 _ 0 k (by decide) (by omega)
  have e1 : ∀ i : Fin 3, rd (F := Ideal) arg8 harg8 x6 (rC i j) (ix2 0 k) = x6 (ix2 i ⟨256 * j.val + k.val, by omega⟩) := fun i => rd2 arg8 harg8 x6 _ 0 k (by show i.val + 0 < 3; omega) (by omega)
  have e2 := back2_apply (pG (F := Ideal) arg2 harg2 arg3 harg3 arg4 harg4 arg5 harg5 arg6 harg6 arg7 harg7 x0 x1 x2 x3 x4 x5 j) (s 7 j) (s 6 j) r k
  have e3 := back1_apply (pG (F := Ideal) arg2 harg2 arg3 harg3 arg4 harg4 arg5 harg5 arg6 harg6 arg7 harg7 x0 x1 x2 x3 x4 x5 j) (s 7 j) r k
  simp only [pG_apply, hs] at e2 e3
  refine (congr (congr (congr (congr (congr (congr (congrArg conv e0) e2) (e1 0)) e3) (e1 1)) (pG_apply arg2 harg2 arg3 harg3 arg4 harg4 arg5 harg5 arg6 harg6 arg7 harg7 x0 x1 x2 x3 x4 x5 j r k)) (e1 2))

theorem pOut_apply (s : Fin 8 → Fin 11 → Vec Ideal S1x256 .f32) (q : Fin 8 → Fin 2816 → EReal)
    (hs : ∀ (i : Fin 8) (j : Fin 11) (k : Fin 256), s i j (ix2 0 k) = q i ⟨256 * j.val + k.val, by omega⟩) (r : Fin 512) (d : Fin 1024) :
    pOut (F := Ideal) arg2 harg2 arg3 harg3 arg4 harg4 arg5 harg5 arg6 harg6 arg7 harg7 arg8 harg8 arg9 harg9 arg10 harg10 x0 x1 x2 x3 x4 x5 x6 x7 x8 s (ix2 r d)
      = ptX x0 x1 x2 x3 r d + ∑ f : Fin 2816, ptHid (ptU x0 x1 x2 x3 x4 x5) q x6 x7 r f * x8 (ix2 f d) := by
  refine (outV_apply _ _ _ _ _ x8 ?_ ?_ ?_ r d).trans ?_
  · intro k d
    refine (rd2 arg10 harg10 x8 _ k d (by omega) (by omega)).trans ?_
    simp only [Nat.zero_add]
  · intro k d
    refine (rd2 arg10 harg10 x8 _ k d (by omega) (by omega)).trans ?_
    simp only [Nat.zero_add]
  · intro k d
    refine (rd2 arg10 harg10 x8 _ k d (by omega) (by omega)).trans ?_
    simp only [Nat.zero_add]
  · refine congr (congrArg _ (pH_apply arg2 harg2 arg3 harg3 arg4 harg4 arg5 harg5 x0 x1 x2 x3 r d)) (Finset.sum_congr rfl fun f _ => congrArg (· * _) ?_)
    refine (pHid_apply arg2 harg2 arg3 harg3 arg4 harg4 arg5 harg5 arg6 harg6 arg7 harg7 arg8 harg8 arg9 harg9 x0 x1 x2 x3 x4 x5 x6 x7 s q hs _ r _).trans ?_
    exact congrArg (ptHid _ q x6 x7 r) (join f _)

theorem sB_apply (i : Fin 8) (j : Fin 11) (k : Fin 256) : sB (F := Ideal) arg14 harg14 xs0 i j (ix2 0 k) = xs0 (ix2 i ⟨256 * j.val + k.val, by omega⟩) :=
  rd2 arg14 harg14 xs0 _ 0 k (by show i.val + 0 < 8; omega) (by omega)

theorem fill_apply (i : Fin 8) (f : Fin 2816) : View.canon (fill (F := Ideal) arg11 harg11 x9) (ix2 i f) = x9 (ix3 0 i f) := by
  have e : View.canon (fill (F := Ideal) arg11 harg11 x9) = k0_pay2 (F := Ideal) (rd (F := Ideal) arg11 harg11 x9 (Rect.unit ![0, 0, 0] S1x8x2816.size inb_S1x8x2816_S1x8x2816_0_0_0)) :=
    View.canon_cons_unit_lit _ _ _ (Fin.forall_fin_two.mpr ⟨rfl, rfl⟩)
  have e9 : rd (F := Ideal) arg11 harg11 x9 (Rect.unit ![0, 0, 0] S1x8x2816.size inb_S1x8x2816_S1x8x2816_0_0_0) = x9 := by
    funext y
    refine (harg11.readAt_unread x9 _ _).trans (congrArg x9 ?_)
    funext k
    match k with
    | 0 => exact Fin.ext (by show 0 + 1 * (y 0).val = (y 0).val; omega)
    | 1 => exact Fin.ext (by show 0 + 1 * (y 1).val = (y 1).val; omega)
    | 2 => exact Fin.ext (by show 0 + 1 * (y 2).val = (y 2).val; omega)
  rw [e, e9]
  unfold k0_pay2
  pointwise

theorem sA_apply (i : Fin 8) (j : Fin 11) (k : Fin 256) : sA (F := Ideal) arg2 harg2 arg3 harg3 arg4 harg4 arg5 harg5 arg6 harg6 arg7 harg7 arg11 harg11 arg14 x0 x1 x2 x3 x4 x5 x9 i j (ix2 0 k) = x9 (ix3 0 i ⟨256 * j.val + k.val, by omega⟩) := by
  refine (congrFun (View.readCov_eq_canon' arg14.view _ _) _).trans ?_
  refine (congrArg (View.canon _) (idx2 (m := 8) (n := 2816) _ 0 k (by show i.val + 0 < 8; omega) (by omega))).trans ?_
  refine (tails_miss _ _ j.val (by omega) _ _ (by show 256 * j.val ≤ 256 * j.val + k.val; omega)).trans ?_
  exact fill_apply arg11 harg11 x9 i _

/-- The carried gates a point leaves. -/
theorem tail_apply (L : List (View.Piece (Elt Ideal) S8x2816 .f32)) (i : Fin 8) (f : Fin 2816) :
    View.canon (tails (F := Ideal) (pG (F := Ideal) arg2 harg2 arg3 harg3 arg4 harg4 arg5 harg5 arg6 harg6 arg7 harg7 x0 x1 x2 x3 x4 x5) L 11 le_rfl) (ix2 i f) = ptU x0 x1 x2 x3 x4 x5 ⟨504 + i.val, by omega⟩ (lo f) := by
  refine (tails_hit _ L 11 le_rfl i f (by omega)).trans ?_
  refine (pG_apply arg2 harg2 arg3 harg3 arg4 harg4 arg5 harg5 arg6 harg6 arg7 harg7 x0 x1 x2 x3 x4 x5 _ _ _).trans ?_
  exact congrArg (fun f => ptU x0 x1 x2 x3 x4 x5 _ (lo f)) (join f _)

theorem new_apply (L : List (View.Piece (Elt Ideal) S8x2816 .f32)) (i : Fin 8) (f : Fin 2816) :
    k0_pay1 (F := Ideal) (arg14.view.readCov (tails (F := Ideal) (pG (F := Ideal) arg2 harg2 arg3 harg3 arg4 harg4 arg5 harg5 arg6 harg6 arg7 harg7 x0 x1 x2 x3 x4 x5) L 11 le_rfl) (Rect.unit ![0, 0] S8x2816.size inb_S8x2816_S8x2816_0_0).toLoadRect) (ix3 0 i f)
      = ptU x0 x1 x2 x3 x4 x5 ⟨504 + i.val, by omega⟩ (lo f) := by
  have e : (arg14.view.readCov (tails (F := Ideal) (pG (F := Ideal) arg2 harg2 arg3 harg3 arg4 harg4 arg5 harg5 arg6 harg6 arg7 harg7 x0 x1 x2 x3 x4 x5) L 11 le_rfl) (Rect.unit ![0, 0] S8x2816.size inb_S8x2816_S8x2816_0_0).toLoadRect : FVec Ideal S8x2816 .f32)
      = View.canon (tails (F := Ideal) (pG (F := Ideal) arg2 harg2 arg3 harg3 arg4 harg4 arg5 harg5 arg6 harg6 arg7 harg7 x0 x1 x2 x3 x4 x5) L 11 le_rfl) := by
    refine (View.readCov_eq_canon' arg14.view _ _).trans ?_
    funext y
    refine congrArg (View.canon _) ?_
    funext k
    match k with
    | 0 => exact Fin.ext (by show 0 + 1 * (y 0).val = (y 0).val; omega)
    | 1 => exact Fin.ext (by show 0 + 1 * (y 1).val = (y 1).val; omega)
  rw [e]
  refine Eq.trans ?_ (tail_apply arg2 harg2 arg3 harg3 arg4 harg4 arg5 harg5 arg6 harg6 arg7 harg7 x0 x1 x2 x3 x4 x5 L i f)
  generalize View.canon (tails (F := Ideal) (pG (F := Ideal) arg2 harg2 arg3 harg3 arg4 harg4 arg5 harg5 arg6 harg6 arg7 harg7 x0 x1 x2 x3 x4 x5) L 11 le_rfl) = z
  unfold k0_pay1
  pointwise

theorem outB (hc0 : ¬cond0_0 i) (r : Fin 512) (d : Fin 1024) : out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 (ix2 r d)
    = ptX x0 x1 x2 x3 r d + ∑ f : Fin 2816, ptHid (ptU x0 x1 x2 x3 x4 x5) (fun i f => xs0 (ix2 i f)) x6 x7 r f * x8 (ix2 f d) := by
  have e : out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = pOut (F := Ideal) arg2 harg2 arg3 harg3 arg4 harg4 arg5 harg5 arg6 harg6 arg7 harg7 arg8 harg8 arg9 harg9 arg10 harg10 x0 x1 x2 x3 x4 x5 x6 x7 x8 (sB (F := Ideal) arg14 harg14 xs0) := by
    refine (View.read_writes_junk_eq_canon _ _).trans ?_
    rw [outB_pieces]
    exact View.canon_cons_unit_lit _ _ _ (Fin.forall_fin_two.mpr ⟨rfl, rfl⟩)
  rw [e]
  exact pOut_apply arg2 harg2 arg3 harg3 arg4 harg4 arg5 harg5 arg6 harg6 arg7 harg7 arg8 harg8 arg9 harg9 arg10 harg10 x0 x1 x2 x3 x4 x5 x6 x7 x8 _ _ (fun i j k => sB_apply arg14 harg14 xs0 i j k) r d

theorem newB (hc0 : ¬cond0_0 i) (k : Fin 8) (f : Fin 2816) : out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 (ix3 0 k f) = ptU x0 x1 x2 x3 x4 x5 ⟨504 + k.val, by omega⟩ (lo f) := by
  refine (congrFun (View.read_writes_junk_eq_canon _ _) _).trans ?_
  rw [newB_pieces, View.canon_cons_unit_lit _ _ _ (by decide)]
  exact new_apply arg2 harg2 arg3 harg3 arg4 harg4 arg5 harg5 arg6 harg6 arg7 harg7 arg14 x0 x1 x2 x3 x4 x5 [] k f

theorem tailB (hc0 : ¬cond0_0 i) (k : Fin 8) (f : Fin 2816) : sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 (ix2 k f) = ptU x0 x1 x2 x3 x4 x5 ⟨504 + k.val, by omega⟩ (lo f) := by
  refine (congrFun (View.read_writes_junk_eq_canon _ _) _).trans ?_
  rw [tailB_pieces]
  exact tail_apply arg2 harg2 arg3 harg3 arg4 harg4 arg5 harg5 arg6 harg6 arg7 harg7 x0 x1 x2 x3 x4 x5 [] k f

theorem outA (hc0 : cond0_0 i) (r : Fin 512) (d : Fin 1024) : out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 r d)
    = ptX x0 x1 x2 x3 r d + ∑ f : Fin 2816, ptHid (ptU x0 x1 x2 x3 x4 x5) (fun i f => x9 (ix3 0 i f)) x6 x7 r f * x8 (ix2 f d) := by
  have e : out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = pOut (F := Ideal) arg2 harg2 arg3 harg3 arg4 harg4 arg5 harg5 arg6 harg6 arg7 harg7 arg8 harg8 arg9 harg9 arg10 harg10 x0 x1 x2 x3 x4 x5 x6 x7 x8 (sA (F := Ideal) arg2 harg2 arg3 harg3 arg4 harg4 arg5 harg5 arg6 harg6 arg7 harg7 arg11 harg11 arg14 x0 x1 x2 x3 x4 x5 x9) := by
    refine (View.read_writes_junk_eq_canon _ _).trans ?_
    rw [outA_pieces]
    exact View.canon_cons_unit_lit _ _ _ (Fin.forall_fin_two.mpr ⟨rfl, rfl⟩)
  rw [e]
  exact pOut_apply arg2 harg2 arg3 harg3 arg4 harg4 arg5 harg5 arg6 harg6 arg7 harg7 arg8 harg8 arg9 harg9 arg10 harg10 x0 x1 x2 x3 x4 x5 x6 x7 x8 _ _ (fun i j k => sA_apply arg2 harg2 arg3 harg3 arg4 harg4 arg5 harg5 arg6 harg6 arg7 harg7 arg11 harg11 arg14 x0 x1 x2 x3 x4 x5 x9 i j k) r d

theorem newA (hc0 : cond0_0 i) (k : Fin 8) (f : Fin 2816) : out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix3 0 k f) = ptU x0 x1 x2 x3 x4 x5 ⟨504 + k.val, by omega⟩ (lo f) := by
  refine (congrFun (View.read_writes_junk_eq_canon _ _) _).trans ?_
  rw [newA_pieces, View.canon_cons_unit_lit _ _ _ (by decide)]
  exact new_apply arg2 harg2 arg3 harg3 arg4 harg4 arg5 harg5 arg6 harg6 arg7 harg7 arg14 x0 x1 x2 x3 x4 x5 (fill (F := Ideal) arg11 harg11 x9) k f

theorem tailA (hc0 : cond0_0 i) (k : Fin 8) (f : Fin 2816) : sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 (ix2 k f) = ptU x0 x1 x2 x3 x4 x5 ⟨504 + k.val, by omega⟩ (lo f) := by
  refine (congrFun (View.read_writes_junk_eq_canon _ _) _).trans ?_
  rw [tailA_pieces]
  exact tail_apply arg2 harg2 arg3 harg3 arg4 harg4 arg5 harg5 arg6 harg6 arg7 harg7 x0 x1 x2 x3 x4 x5 (fill (F := Ideal) arg11 harg11 x9) k f

end runs

end Cert.Kernel2Ideal.Ffn
-- ==== Proof.FfnEntry.lean ====
/- What the points of the feed-forward call are handed, as terms of the program's arguments. -/
module

public import proofs.«01_k».proof.Proof.FfnPoint

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.Tactic Idealize.SL.Sem

variable (m : (ℓ : Loc nD τ sig) → Buf (Elt Ideal) ℓ) (c : Dev nD)

/-- The blocks of a point. -/
theorem idx : ∀ t : Fin cfg0.N,
    (win0_0.index t : Fin 2 → ℕ) = ![t.val, 0] ∧ (win0_1.index t : Fin 2 → ℕ) = ![t.val, 0] ∧ (win0_2.index t : Fin 2 → ℕ) = ![t.val, 0]
    ∧ (win0_3.index t : Fin 2 → ℕ) = ![0, 0] ∧ (win0_4.index t : Fin 2 → ℕ) = ![0, 0] ∧ (win0_5.index t : Fin 2 → ℕ) = ![0, 0]
    ∧ (win0_6.index t : Fin 2 → ℕ) = ![0, 0] ∧ (win0_7.index t : Fin 2 → ℕ) = ![0, 0] ∧ (win0_8.index t : Fin 2 → ℕ) = ![0, 0]
    ∧ (win0_9.index t : Fin 3 → ℕ) = ![t.val / 8, 0, 0] :=
  of_decide_eq_true (by sl_kernel_rfl)

/-- The program's arguments. -/
abbrev argH : S16x4096x1024.Idx → EReal := m ((c.tc : Thread nD τ).loc main_arg0)
abbrev argR : S16x4096x512.Idx → EReal := m ((c.tc : Thread nD τ).loc main_arg1)
abbrev argA : S16x4096x512.Idx → EReal := m ((c.tc : Thread nD τ).loc main_arg2)
abbrev argWo : S1024x1024.Idx → EReal := m ((c.tc : Thread nD τ).loc main_arg3)
abbrev argG : S1024.Idx → EReal := m ((c.tc : Thread nD τ).loc main_arg4)
abbrev argWu : S1024x5632.Idx → EReal := m ((c.tc : Thread nD τ).loc main_arg5)
abbrev argCw : S3x2816.Idx → EReal := m ((c.tc : Thread nD τ).loc main_arg6)
abbrev argCb : S2816.Idx → EReal := m ((c.tc : Thread nD τ).loc main_arg7)
abbrev argWd : S2816x1024.Idx → EReal := m ((c.tc : Thread nD τ).loc main_arg8)

theorem val_lt (t : Fin cfg0.N) : t.val < 128 := lt_of_lt_of_eq t.isLt N_0

/-- The sequence of a point, and the position of its row. -/
abbrev sq (t : Fin cfg0.N) : Fin 16 := ⟨t.val / 8, by have := val_lt t; omega⟩
abbrev ps (t : Fin cfg0.N) (r : Fin 512) : Fin 4096 := ⟨512 * (t.val % 8) + r.val, by omega⟩
/-- The row of the whole array. -/
abbrev rw' (t : Fin cfg0.N) (r : Fin 512) : Fin 65536 := ⟨512 * t.val + r.val, by have := val_lt t; omega⟩

theorem blk0 (t : Fin cfg0.N) (r : Fin 512) (d : Fin 1024) : (iblk m c 0 t : S512x1024.Idx → EReal) (ix2 r d) = (V m c main_v5 : S65536x1024.Idx → EReal) (ix2 (rw' t r) d) := by
  have h := (idx t).1
  unfold iblk
  rw [ix2_eq_valueIdx, ix2_eq_valueIdx]
  blk_ext [h]
  show _ * 512 + r.val = _
  omega

theorem blk1 (t : Fin cfg0.N) (r : Fin 512) (d : Fin 512) : (iblk m c 1 t : S512x512.Idx → EReal) (ix2 r d) = (V m c main_v1 : S65536x512.Idx → EReal) (ix2 (rw' t r) d) := by
  have h := (idx t).2.1
  unfold iblk
  rw [ix2_eq_valueIdx, ix2_eq_valueIdx]
  blk_ext [h]
  show _ * 512 + r.val = _
  omega

theorem blk2 (t : Fin cfg0.N) (r : Fin 512) (d : Fin 512) : (iblk m c 2 t : S512x512.Idx → EReal) (ix2 r d) = (V m c main_v3 : S65536x512.Idx → EReal) (ix2 (rw' t r) d) := by
  have h := (idx t).2.2.1
  unfold iblk
  rw [ix2_eq_valueIdx, ix2_eq_valueIdx]
  blk_ext [h]
  show _ * 512 + r.val = _
  omega

theorem blk3 (t : Fin cfg0.N) : (iblk m c 3 t : S1024x1024.Idx → EReal) = V m c main_v6 := by
  funext y
  have h := (idx t).2.2.2.1
  unfold iblk
  blk_ext [h]

theorem blk4 (t : Fin cfg0.N) : (iblk m c 4 t : S1x1024.Idx → EReal) = V m c main_v7 := by
  funext y
  have h := (idx t).2.2.2.2.1
  unfold iblk
  blk_ext [h]

theorem blk5 (t : Fin cfg0.N) : (iblk m c 5 t : S1024x5632.Idx → EReal) = V m c main_v8 := by
  funext y
  have h := (idx t).2.2.2.2.2.1
  unfold iblk
  blk_ext [h]

theorem blk6 (t : Fin cfg0.N) : (iblk m c 6 t : S3x2816.Idx → EReal) = V m c main_arg6 := by
  funext y
  have h := (idx t).2.2.2.2.2.2.1
  unfold iblk
  blk_ext [h]

theorem blk7 (t : Fin cfg0.N) : (iblk m c 7 t : S1x2816.Idx → EReal) = V m c main_v9 := by
  funext y
  have h := (idx t).2.2.2.2.2.2.2.1
  unfold iblk
  blk_ext [h]

theorem blk8 (t : Fin cfg0.N) : (iblk m c 8 t : S2816x1024.Idx → EReal) = V m c main_v10 := by
  funext y
  have h := (idx t).2.2.2.2.2.2.2.2.1
  unfold iblk
  blk_ext [h]

theorem blk9 (t : Fin cfg0.N) (i : Fin 8) (f : Fin 2816) : (iblk m c 9 t : S1x8x2816.Idx → EReal) (ix3 0 i f) = (0 : EReal) := by
  have h := (idx t).2.2.2.2.2.2.2.2.2
  unfold iblk
  rw [View.read_apply]
  entry_read
  pointwise
  rfl

theorem arr0 (t : Fin cfg0.N) (r : Fin 512) (d : Fin 1024) : (V m c main_v5 : S65536x1024.Idx → EReal) (ix2 (rw' t r) d) = argH m c (ix3 (sq t) (ps t r) d) := by
  have e1 : (⟨(rw' t r).val / 4096, by omega⟩ : Fin 16) = sq t := Fin.ext (by show (512 * t.val + r.val) / 4096 = t.val / 8; omega)
  have e2 : (⟨(rw' t r).val % 4096, by omega⟩ : Fin 4096) = ps t r := Fin.ext (by show (512 * t.val + r.val) % 4096 = 512 * (t.val % 8) + r.val; omega)
  rw [← e1, ← e2]
  unfold argH
  entry_read
  pointwise

theorem arr1 (t : Fin cfg0.N) (r : Fin 512) (d : Fin 512) : (V m c main_v1 : S65536x512.Idx → EReal) (ix2 (rw' t r) d) = argR m c (ix3 (sq t) (ps t r) d) := by
  have e1 : (⟨(rw' t r).val / 4096, by omega⟩ : Fin 16) = sq t := Fin.ext (by show (512 * t.val + r.val) / 4096 = t.val / 8; omega)
  have e2 : (⟨(rw' t r).val % 4096, by omega⟩ : Fin 4096) = ps t r := Fin.ext (by show (512 * t.val + r.val) % 4096 = 512 * (t.val % 8) + r.val; omega)
  rw [← e1, ← e2]
  unfold argR
  entry_read
  pointwise

theorem arr2 (t : Fin cfg0.N) (r : Fin 512) (d : Fin 512) : (V m c main_v3 : S65536x512.Idx → EReal) (ix2 (rw' t r) d) = argA m c (ix3 (sq t) (ps t r) d) := by
  have e1 : (⟨(rw' t r).val / 4096, by omega⟩ : Fin 16) = sq t := Fin.ext (by show (512 * t.val + r.val) / 4096 = t.val / 8; omega)
  have e2 : (⟨(rw' t r).val % 4096, by omega⟩ : Fin 4096) = ps t r := Fin.ext (by show (512 * t.val + r.val) % 4096 = 512 * (t.val % 8) + r.val; omega)
  rw [← e1, ← e2]
  unfold argA
  entry_read
  pointwise

theorem arr3 (i : Fin 1024) (j : Fin 1024) : (V m c main_v6 : S1024x1024.Idx → EReal) (ix2 i j) = argWo m c (ix2 i j) := by
  unfold argWo
  entry_read
  pointwise

theorem arr4 (i : Fin 1) (j : Fin 1024) : (V m c main_v7 : S1x1024.Idx → EReal) (ix2 i j) = argG m c (ix1 j) := by
  unfold argG
  entry_read
  pointwise

theorem arr5 (i : Fin 1024) (j : Fin 5632) : (V m c main_v8 : S1024x5632.Idx → EReal) (ix2 i j) = argWu m c (ix2 i j) := by
  unfold argWu
  entry_read
  pointwise

theorem arr6 (i : Fin 3) (j : Fin 2816) : (V m c main_arg6 : S3x2816.Idx → EReal) (ix2 i j) = argCw m c (ix2 i j) := by
  unfold argCw
  entry_read
  pointwise

theorem arr7 (i : Fin 1) (j : Fin 2816) : (V m c main_v9 : S1x2816.Idx → EReal) (ix2 i j) = argCb m c (ix1 j) := by
  unfold argCb
  entry_read
  pointwise

theorem arr8 (i : Fin 2816) (j : Fin 1024) : (V m c main_v10 : S2816x1024.Idx → EReal) (ix2 i j) = argWd m c (ix2 i j) := by
  unfold argWd
  entry_read
  pointwise

attribute [local irreducible] out0_A_10 out0_A_11 sout0_A_0 out0_B_10 out0_B_11 sout0_B_0 outsAt0

/-- The stream, its up-projection and its hidden features, of the program's arguments. -/
abbrev kX : Fin 16 → Fin 4096 → Fin 1024 → EReal :=
  gX (fun b p d => argH m c (ix3 b p d)) (fun b p d => argR m c (ix3 b p d)) (fun b p d => argA m c (ix3 b p d)) (fun e f => argWo m c (ix2 e f))
abbrev kU : Fin 16 → Fin 4096 → Fin 5632 → EReal := gU (kX m c) (fun e => argG m c (ix1 e)) (fun d f => argWu m c (ix2 d f))
abbrev kHid : Fin 16 → Fin 4096 → Fin 2816 → EReal := gHid (kU m c) (fun i f => argCw m c (ix2 i f)) (fun f => argCb m c (ix1 f))
abbrev kOut : Fin 16 → Fin 4096 → Fin 1024 → EReal := gOut (kX m c) (kHid m c) (fun f d => argWd m c (ix2 f d))

theorem ptX_eq (t : Fin cfg0.N) (r : Fin 512) : ptX (iblk m c 0 t) (iblk m c 1 t) (iblk m c 2 t) (iblk m c 3 t) r = kX m c (sq t) (ps t r) := by
  unfold ptX kX gX
  congr 1
  · funext e; exact (blk0 m c t r e).trans (arr0 m c t r e)
  · funext e; exact (blk1 m c t r e).trans (arr1 m c t r e)
  · funext e; exact (blk2 m c t r e).trans (arr2 m c t r e)
  · funext e f; exact (congrFun (blk3 m c t) _).trans (arr3 m c e f)

theorem ptU_eq (t : Fin cfg0.N) (r : Fin 512) (f : Fin 5632) :
    ptU (iblk m c 0 t) (iblk m c 1 t) (iblk m c 2 t) (iblk m c 3 t) (iblk m c 4 t) (iblk m c 5 t) r f = kU m c (sq t) (ps t r) f := by
  unfold ptU kU gU
  rw [ptX_eq]
  congr 1
  · congr 1
    funext e; exact (congrFun (blk4 m c t) _).trans (arr4 m c 0 e)
  · funext e f; exact (congrFun (blk5 m c t) _).trans (arr5 m c e f)

/-- A point's result, where the carried gates are those before its rows. -/
theorem out_eq (t : Fin cfg0.N) (q : Fin 8 → Fin 2816 → EReal)
    (hq : ∀ (i : Fin 8) (f : Fin 2816), q i f = if h : 8 ≤ 512 * (t.val % 8) + i.val then kU m c (sq t) ⟨512 * (t.val % 8) + i.val - 8, by omega⟩ (lo f) else 0)
    (r : Fin 512) (d : Fin 1024) :
    ptX (iblk m c 0 t) (iblk m c 1 t) (iblk m c 2 t) (iblk m c 3 t) r d
      + ∑ f : Fin 2816, ptHid (ptU (iblk m c 0 t) (iblk m c 1 t) (iblk m c 2 t) (iblk m c 3 t) (iblk m c 4 t) (iblk m c 5 t)) q (iblk m c 6 t) (iblk m c 7 t) r f
          * (iblk m c 8 t : S2816x1024.Idx → EReal) (ix2 f d) = kOut m c (sq t) (ps t r) d := by
  unfold kOut gOut
  refine congr (congrArg _ (congrFun (ptX_eq m c t r) d)) (Finset.sum_congr rfl fun f _ => ?_)
  refine congr (congrArg _ ?_) ((congrFun (blk8 m c t) _).trans (arr8 m c f d))
  unfold ptHid kHid gHid
  simp only [ptU_eq]
  have e6 : ∀ i : Fin 3, (iblk m c 6 t : S3x2816.Idx → EReal) (ix2 i f) = argCw m c (ix2 i f) := fun i => (congrFun (blk6 m c t) _).trans (arr6 m c i f)
  have e7 : (iblk m c 7 t : S1x2816.Idx → EReal) (ix2 0 f) = argCb m c (ix1 f) := (congrFun (blk7 m c t) _).trans (arr7 m c 0 f)
  refine congrFun (congrArg act ?_) _
  refine congr (congrFun (congr (congr (congr (congr (congrArg conv e7) ?_) (e6 0)) ?_) (e6 1)) _) (e6 2)
  · by_cases h2 : 2 ≤ r.val
    · rw [dif_pos h2, dif_pos (by show 2 ≤ 512 * (t.val % 8) + r.val; omega)]
      exact congrArg (fun p => kU m c (sq t) p (lo f)) (Fin.ext (by show 512 * (t.val % 8) + (r.val - 2) = 512 * (t.val % 8) + r.val - 2; omega))
    · rw [dif_neg h2]
      by_cases h1 : r.val = 1
      · rw [if_pos h1, hq]
        by_cases h0 : t.val % 8 = 0
        · rw [dif_neg (by show ¬8 ≤ 512 * (t.val % 8) + 7; omega), dif_neg (by show ¬2 ≤ 512 * (t.val % 8) + r.val; omega)]
        · rw [dif_pos (by show 8 ≤ 512 * (t.val % 8) + 7; omega), dif_pos (by show 2 ≤ 512 * (t.val % 8) + r.val; omega)]
          exact congrArg (fun p => kU m c (sq t) p (lo f)) (Fin.ext (by show 512 * (t.val % 8) + 7 - 8 = 512 * (t.val % 8) + r.val - 2; omega))
      · rw [if_neg h1, hq]
        by_cases h0 : t.val % 8 = 0
        · rw [dif_neg (by show ¬8 ≤ 512 * (t.val % 8) + 6; omega), dif_neg (by show ¬2 ≤ 512 * (t.val % 8) + r.val; omega)]
        · rw [dif_pos (by show 8 ≤ 512 * (t.val % 8) + 6; omega), dif_pos (by show 2 ≤ 512 * (t.val % 8) + r.val; omega)]
          exact congrArg (fun p => kU m c (sq t) p (lo f)) (Fin.ext (by show 512 * (t.val % 8) + 6 - 8 = 512 * (t.val % 8) + r.val - 2; omega))
  · by_cases h1 : 1 ≤ r.val
    · rw [dif_pos h1, dif_pos (by show 1 ≤ 512 * (t.val % 8) + r.val; omega)]
      exact congrArg (fun p => kU m c (sq t) p (lo f)) (Fin.ext (by show 512 * (t.val % 8) + (r.val - 1) = 512 * (t.val % 8) + r.val - 1; omega))
    · rw [dif_neg h1, hq]
      by_cases h0 : t.val % 8 = 0
      · rw [dif_neg (by show ¬8 ≤ 512 * (t.val % 8) + 7; omega), dif_neg (by show ¬1 ≤ 512 * (t.val % 8) + r.val; omega)]
      · rw [dif_pos (by show 8 ≤ 512 * (t.val % 8) + 7; omega), dif_pos (by show 1 ≤ 512 * (t.val % 8) + r.val; omega)]
        exact congrArg (fun p => kU m c (sq t) p (lo f)) (Fin.ext (by show 512 * (t.val % 8) + 7 - 8 = 512 * (t.val % 8) + r.val - 1; omega))

/-- What a point leaves in the carried gates and hands to the second result: the gates of its last eight rows. -/
theorem tail_eq (t : Fin cfg0.N) (i : Fin 8) (f : Fin 2816) :
    (outsAt0 m c t.val t.isLt).2.2 (ix2 i f) = kU m c (sq t) (ps t ⟨504 + i.val, by omega⟩) (lo f) := by
  refine Eq.trans ?_ (ptU_eq m c t ⟨504 + i.val, by omega⟩ (lo f))
  by_cases h0 : t.val % 8 = 0
  · refine (congrArg (fun z : Vec Ideal S512x1024 .f32 × Vec Ideal S1x8x2816 .f32 × Vec Ideal S8x2816 .f32 => z.2.2 (ix2 i f)) (outsAt0_A m c t h0)).trans ?_
    exact tailA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) i f
  · refine (congrArg (fun z : Vec Ideal S512x1024 .f32 × Vec Ideal S1x8x2816 .f32 × Vec Ideal S8x2816 .f32 => z.2.2 (ix2 i f)) (outsAt0_B m c t h0)).trans ?_
    exact tailB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2 (fun h => h0 ((hcond0_0 t).mp h)) i f

theorem new_eq (t : Fin cfg0.N) (i : Fin 8) (f : Fin 2816) :
    (outsAt0 m c t.val t.isLt).2.1 (ix3 0 i f) = kU m c (sq t) (ps t ⟨504 + i.val, by omega⟩) (lo f) := by
  refine Eq.trans ?_ (ptU_eq m c t ⟨504 + i.val, by omega⟩ (lo f))
  by_cases h0 : t.val % 8 = 0
  · refine (congrArg (fun z : Vec Ideal S512x1024 .f32 × Vec Ideal S1x8x2816 .f32 × Vec Ideal S8x2816 .f32 => z.2.1 (ix3 0 i f)) (outsAt0_A m c t h0)).trans ?_
    exact newA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) i f
  · refine (congrArg (fun z : Vec Ideal S512x1024 .f32 × Vec Ideal S1x8x2816 .f32 × Vec Ideal S8x2816 .f32 => z.2.1 (ix3 0 i f)) (outsAt0_B m c t h0)).trans ?_
    exact newB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2 (fun h => h0 ((hcond0_0 t).mp h)) i f

/-- What a point writes. -/
theorem point_eq (t : Fin cfg0.N) (r : Fin 512) (d : Fin 1024) :
    (outsAt0 m c t.val t.isLt).1 (ix2 r d) = kOut m c (sq t) (ps t r) d := by
  by_cases h0 : t.val % 8 = 0
  · refine (congrArg (fun z : Vec Ideal S512x1024 .f32 × Vec Ideal S1x8x2816 .f32 × Vec Ideal S8x2816 .f32 => z.1 (ix2 r d)) (outsAt0_A m c t h0)).trans ?_
    refine (outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) r d).trans ?_
    refine out_eq m c t _ (fun i f => ?_) r d
    rw [dif_neg (by omega)]
    exact blk9 m c t i f
  · refine (congrArg (fun z : Vec Ideal S512x1024 .f32 × Vec Ideal S1x8x2816 .f32 × Vec Ideal S8x2816 .f32 => z.1 (ix2 r d)) (outsAt0_B m c t h0)).trans ?_
    refine (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2 (fun h => h0 ((hcond0_0 t).mp h)) r d).trans ?_
    refine out_eq m c t _ (fun i f => ?_) r d
    have hN := val_lt t
    rw [dif_pos (by omega)]
    refine (tail_eq m c ⟨t.val - 1, lt_of_lt_of_eq (by omega : t.val - 1 < 128) N_0.symm⟩ i f).trans ?_
    have e1 : sq ⟨t.val - 1, lt_of_lt_of_eq (by omega : t.val - 1 < 128) N_0.symm⟩ = sq t := Fin.ext (by show (t.val - 1) / 8 = t.val / 8; omega)
    have e2 : ps ⟨t.val - 1, lt_of_lt_of_eq (by omega : t.val - 1 < 128) N_0.symm⟩ ⟨504 + i.val, by omega⟩ = ⟨512 * (t.val % 8) + i.val - 8, by omega⟩ :=
      Fin.ext (by show 512 * ((t.val - 1) % 8) + (504 + i.val) = 512 * (t.val % 8) + i.val - 8; omega)
    rw [e1, e2]

end Cert.Kernel2Ideal.Ffn
-- ==== Proof.FfnRef.lean ====
/- The feed-forward reference, operation by operation, read element by element. -/
module

public import proofs.«01_k».proof.Proof.Gen.Reference2Ideal.Run
public import proofs.«01_k».proof.Proof.FfnMath
public import Idealize.ShloMosaic.Lib.Pointwise
public import Idealize.ShloMosaic.Lib.IdealHost

@[expose] public section

set_option maxRecDepth 16384

noncomputable section

namespace Cert.Reference2Ideal.Ffn

open Cert.Reference2Ideal Cert.Reference2Ideal.Gen Cert.Ffn
open Idealize.ShloMosaic Idealize.ShloMosaic.TcCoe Idealize.SL.Sem Idealize.ShloMosaic.StableHlo

section generic
variable {F : FTy → Type} [FloatOps F]

/-- The stream after the output projection. -/
def rH (h : FVec F S16x4096x1024 .f32) (yr ya : FVec F S16x4096x512 .f32) (w : FVec F S1024x1024 .f32) : FVec F S16x4096x1024 .f32 :=
  addf h (Host.dotGeneral dot_S16x4096x1024_S1024x1024_S16x4096x1024_2_0_01_1_n_n none
    (concatenate S16x4096x1024 2 [⟨S16x4096x512, yr⟩, ⟨S16x4096x512, ya⟩] concatenates_S16x4096x512_S16x4096x512_S16x4096x1024_d2) w)

/-- The normed rows. -/
def rN (x : FVec F S16x4096x1024 .f32) (g : FVec F S1024 .f32) : FVec F S16x4096x1024 .f32 :=
  mulf (mulf x (broadcastInDim S16x4096x1024 ![0, 1, 2] bcast_S16x4096x1_S16x4096x1024_0_1_2 (Host.rsqrt (addf
      (Host.divf (broadcastInDim S16x4096x1 ![0, 1] bcast_S16x4096_S16x4096x1_0_1
        (Host.reduceAdd (mulf x x) (constant S_ .f32 0x00000000#32) reducesTo_S16x4096x1024_S16x4096_d2 h_S_))
        (broadcastInDim S16x4096x1 ![] bcast_S_S16x4096x1 (constant S_ .f32 0x44800000#32)))
      (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 g))

/-- The up-projection. -/
def rU (x : FVec F S16x4096x1024 .f32) (w : FVec F S1024x5632 .f32) : FVec F S16x4096x5632 .f32 :=
  Host.dotGeneral dot_S16x4096x1024_S1024x5632_S16x4096x5632_2_0_01_1_n_n none x w

/-- Its first half, the gate. -/
def rGate (u : FVec F S16x4096x5632 .f32) : FVec F S16x4096x2816 .f32 :=
  extractStridedSlice S16x4096x2816 ![0, 0, 0] u slices_S16x4096x5632_S16x4096x2816_0_0_0

/-- Its second half. -/
def rVal (u : FVec F S16x4096x5632 .f32) : FVec F S16x4096x2816 .f32 :=
  extractStridedSlice S16x4096x2816 ![0, 0, 2816] u slices_S16x4096x5632_S16x4096x2816_0_0_2816

/-- The gate behind two rows of zeros. -/
def rPad (g : FVec F S16x4096x2816 .f32) : FVec F S16x4098x2816 .f32 :=
  concatenate S16x4098x2816 1 [⟨S16x2x2816, broadcastInDim S16x2x2816 ![] bcast_S_S16x2x2816 (constant S_ .f32 0x00000000#32)⟩, ⟨S16x4096x2816, g⟩]
    concatenates_S16x2x2816_S16x4096x2816_S16x4098x2816_d1

/-- The convolved gate. -/
def rConv (p : FVec F S16x4098x2816 .f32) (w : FVec F S3x2816 .f32) (b : FVec F S2816 .f32) : FVec F S16x4096x2816 .f32 :=
  addf (addf (addf
    (broadcastInDim S16x4096x2816 ![0, 1, 2] bcast_S1x1x2816_S16x4096x2816_0_1_2 (broadcastInDim S1x1x2816 ![2] bcast_S2816_S1x1x2816_2 b))
    (mulf (extractStridedSlice S16x4096x2816 ![0, 0, 0] p slices_S16x4098x2816_S16x4096x2816_0_0_0)
      (broadcastInDim S16x4096x2816 ![0, 1, 2] bcast_S1x1x2816_S16x4096x2816_0_1_2 (broadcastInDim S1x1x2816 ![2] bcast_S2816_S1x1x2816_2
        (shapeCast _ (extractStridedSlice S1x2816 ![0, 0] w slices_S3x2816_S1x2816_0_0) shapeCasts_S1x2816_S2816)))))
    (mulf (extractStridedSlice S16x4096x2816 ![0, 1, 0] p slices_S16x4098x2816_S16x4096x2816_0_1_0)
      (broadcastInDim S16x4096x2816 ![0, 1, 2] bcast_S1x1x2816_S16x4096x2816_0_1_2 (broadcastInDim S1x1x2816 ![2] bcast_S2816_S1x1x2816_2
        (shapeCast _ (extractStridedSlice S1x2816 ![1, 0] w slices_S3x2816_S1x2816_1_0) shapeCasts_S1x2816_S2816)))))
    (mulf (extractStridedSlice S16x4096x2816 ![0, 2, 0] p slices_S16x4098x2816_S16x4096x2816_0_2_0)
      (broadcastInDim S16x4096x2816 ![0, 1, 2] bcast_S1x1x2816_S16x4096x2816_0_1_2 (broadcastInDim S1x1x2816 ![2] bcast_S2816_S1x1x2816_2
        (shapeCast _ (extractStridedSlice S1x2816 ![2, 0] w slices_S3x2816_S1x2816_2_0) shapeCasts_S1x2816_S2816))))

/-- The activated, gated values. -/
def rAct (c u : FVec F S16x4096x2816 .f32) : FVec F S16x4096x2816 .f32 :=
  mulf (mulf c (Host.divf (broadcastInDim S16x4096x2816 ![] bcast_S_S16x4096x2816 (constant S_ .f32 0x3F800000#32))
    (addf (broadcastInDim S16x4096x2816 ![] bcast_S_S16x4096x2816 (constant S_ .f32 0x3F800000#32)) (Host.exp (Host.negf c))))) u

/-- The stream after the down-projection. -/
def rOut (x : FVec F S16x4096x1024 .f32) (a : FVec F S16x4096x2816 .f32) (w : FVec F S2816x1024 .f32) : FVec F S65536x1024 .f32 :=
  shapeCast _ (addf x (Host.dotGeneral dot_S16x4096x2816_S2816x1024_S16x4096x1024_2_0_01_1_n_n none a w)) shapeCasts_S16x4096x1024_S65536x1024

/-- The last eight gates of each row. -/
def rLast (g : FVec F S16x4096x2816 .f32) : FVec F S16x8x2816 .f32 :=
  extractStridedSlice S16x8x2816 ![0, 4088, 0] g slices_S16x4096x2816_S16x8x2816_0_4088_0

/-- The up-projected rows, from the arguments. -/
def rUp (h : FVec F S16x4096x1024 .f32) (yr ya : FVec F S16x4096x512 .f32) (wo : FVec F S1024x1024 .f32) (g : FVec F S1024 .f32)
    (wu : FVec F S1024x5632 .f32) : FVec F S16x4096x5632 .f32 := rU (rN (rH h yr ya wo) g) wu

theorem res_eq (m : (ℓ : Loc nD τ sig) → Buf (Elt F) ℓ) (c : Dev nD) :
    Value.res_main_v48 m c =
      let h := m ((c.tc : Thread nD τ).loc main_arg0); let yr := m ((c.tc : Thread nD τ).loc main_arg1)
      let ya := m ((c.tc : Thread nD τ).loc main_arg2); let wo := m ((c.tc : Thread nD τ).loc main_arg3)
      let g := m ((c.tc : Thread nD τ).loc main_arg4); let wu := m ((c.tc : Thread nD τ).loc main_arg5)
      rOut (rH h yr ya wo) (rAct (rConv (rPad (rGate (rUp h yr ya wo g wu))) (m ((c.tc : Thread nD τ).loc main_arg6)) (m ((c.tc : Thread nD τ).loc main_arg7)))
        (rVal (rUp h yr ya wo g wu))) (m ((c.tc : Thread nD τ).loc main_arg8)) := by
  unfold Value.res_main_v48
  rfl

end generic

variable (h : FVec Ideal S16x4096x1024 .f32) (yr ya : FVec Ideal S16x4096x512 .f32) (wo : FVec Ideal S1024x1024 .f32) (g : FVec Ideal S1024 .f32)
  (wu : FVec Ideal S1024x5632 .f32)

theorem rH_apply (b : Fin 16) (t : Fin 4096) (d : Fin 1024) :
    rH h yr ya wo (ix3 b t d) = rowH (fun e => h (ix3 b t e)) (fun e => yr (ix3 b t e)) (fun e => ya (ix3 b t e)) (fun e f => wo (ix2 e f)) d := by
  unfold rH rowH
  pointwise

theorem rN_apply (x : FVec Ideal S16x4096x1024 .f32) (b : Fin 16) (t : Fin 4096) (d : Fin 1024) :
    rN x g (ix3 b t d) = rowN (fun e => x (ix3 b t e)) (fun e => g (ix1 e)) d := by
  unfold rN rowN
  pointwise

theorem rU_apply (x : FVec Ideal S16x4096x1024 .f32) (b : Fin 16) (t : Fin 4096) (f : Fin 5632) :
    rU x wu (ix3 b t f) = rowU (fun e => x (ix3 b t e)) (fun e f => wu (ix2 e f)) f := by
  unfold rU rowU
  pointwise

theorem rGate_apply (u : FVec Ideal S16x4096x5632 .f32) (b : Fin 16) (t : Fin 4096) (f : Fin 2816) :
    rGate u (ix3 b t f) = u (ix3 b t ⟨f.val, by omega⟩) := by
  unfold rGate
  pointwise

theorem rVal_apply (u : FVec Ideal S16x4096x5632 .f32) (b : Fin 16) (t : Fin 4096) (f : Fin 2816) :
    rVal u (ix3 b t f) = u (ix3 b t ⟨2816 + f.val, by omega⟩) := by
  unfold rVal
  pointwise

theorem rPad_apply (x : FVec Ideal S16x4096x2816 .f32) (b : Fin 16) (t : Fin 4098) (f : Fin 2816) :
    rPad x (ix3 b t f) = if ht : 2 ≤ t.val then x (ix3 b ⟨t.val - 2, by omega⟩ f) else 0 := by
  unfold rPad
  pointwise
  by_cases ht : t.val < 2
  · rw [dif_pos ht, dif_neg (by omega)]
  · rw [dif_neg ht, dif_pos (by omega)]

theorem rConv_apply (p : FVec Ideal S16x4098x2816 .f32) (w : FVec Ideal S3x2816 .f32) (cb : FVec Ideal S2816 .f32) (b : Fin 16) (t : Fin 4096) (f : Fin 2816) :
    rConv p w cb (ix3 b t f) = conv (cb (ix1 f)) (p (ix3 b ⟨t.val, by omega⟩ f)) (w (ix2 0 f)) (p (ix3 b ⟨1 + t.val, by omega⟩ f)) (w (ix2 1 f))
      (p (ix3 b ⟨2 + t.val, by omega⟩ f)) (w (ix2 2 f)) := by
  unfold rConv conv
  pointwise

theorem rAct_apply (x u : FVec Ideal S16x4096x2816 .f32) (b : Fin 16) (t : Fin 4096) (f : Fin 2816) :
    rAct x u (ix3 b t f) = act (x (ix3 b t f)) (u (ix3 b t f)) := by
  unfold rAct act
  pointwise
  rfl

theorem rOut_apply (x : FVec Ideal S16x4096x1024 .f32) (a : FVec Ideal S16x4096x2816 .f32) (w : FVec Ideal S2816x1024 .f32) (b : Fin 16) (t : Fin 4096) (d : Fin 1024)
    (R : Fin 65536) (hR : R.val = 4096 * b.val + t.val) :
    rOut x a w (ix2 R d) = x (ix3 b t d) + ∑ f : Fin 2816, a (ix3 b t f) * w (ix2 f d) := by
  have e1 : (⟨R.val / 4096, by omega⟩ : Fin 16) = b := Fin.ext (by show R.val / 4096 = b.val; omega)
  have e2 : (⟨R.val % 4096, by omega⟩ : Fin 4096) = t := Fin.ext (by show R.val % 4096 = t.val; omega)
  unfold rOut
  pointwise
  rw [e1, e2]

theorem rLast_apply (x : FVec Ideal S16x4096x2816 .f32) (b : Fin 16) (t : Fin 8) (f : Fin 2816) :
    rLast x (ix3 b t f) = x (ix3 b ⟨4088 + t.val, by omega⟩ f) := by
  unfold rLast
  pointwise

end Cert.Reference2Ideal.Ffn
-- ==== Proof.FfnAgree.lean ====
/- The feed-forward call's results are the reference's. -/
module

public import proofs.«01_k».proof.Proof.FfnEntry
public import proofs.«01_k».proof.Proof.FfnRef

@[expose] public section

set_option maxRecDepth 16384

noncomputable section

namespace Cert.Reference2Ideal.Ffn

open Cert.Reference2Ideal Cert.Ffn
open Idealize.ShloMosaic Idealize.ShloMosaic.TcCoe

section
variable (h : FVec Ideal S16x4096x1024 .f32) (yr ya : FVec Ideal S16x4096x512 .f32) (wo : FVec Ideal S1024x1024 .f32) (g : FVec Ideal S1024 .f32)
  (wu : FVec Ideal S1024x5632 .f32) (w : FVec Ideal S3x2816 .f32) (cb : FVec Ideal S2816 .f32) (wd : FVec Ideal S2816x1024 .f32)

/-- The stream, its up-projection and its hidden features, of the arguments. -/
abbrev eX : Fin 16 → Fin 4096 → Fin 1024 → EReal :=
  gX (fun b p d => h (ix3 b p d)) (fun b p d => yr (ix3 b p d)) (fun b p d => ya (ix3 b p d)) (fun e f => wo (ix2 e f))
abbrev eU : Fin 16 → Fin 4096 → Fin 5632 → EReal := gU (eX h yr ya wo) (fun e => g (ix1 e)) (fun d f => wu (ix2 d f))
abbrev eHid : Fin 16 → Fin 4096 → Fin 2816 → EReal := gHid (eU h yr ya wo g wu) (fun i f => w (ix2 i f)) (fun f => cb (ix1 f))

theorem up_apply (b : Fin 16) (t : Fin 4096) (f : Fin 5632) : rUp (F := Ideal) h yr ya wo g wu (ix3 b t f) = eU h yr ya wo g wu b t f := by
  unfold rUp
  refine (rU_apply wu _ b t f).trans ?_
  unfold eU gU
  congr 1
  funext e
  refine (rN_apply g _ b t e).trans ?_
  congr 1
  funext e
  exact rH_apply h yr ya wo b t e

theorem gate_apply (b : Fin 16) (t : Fin 4096) (f : Fin 2816) : rGate (F := Ideal) (rUp (F := Ideal) h yr ya wo g wu) (ix3 b t f) = eU h yr ya wo g wu b t (lo f) :=
  (rGate_apply _ b t f).trans (up_apply h yr ya wo g wu b t _)

theorem hid_apply (b : Fin 16) (t : Fin 4096) (f : Fin 2816) :
    rAct (F := Ideal) (rConv (F := Ideal) (rPad (F := Ideal) (rGate (F := Ideal) (rUp (F := Ideal) h yr ya wo g wu))) w cb) (rVal (F := Ideal) (rUp (F := Ideal) h yr ya wo g wu)) (ix3 b t f)
      = eHid h yr ya wo g wu w cb b t f := by
  refine (rAct_apply _ _ b t f).trans ?_
  unfold eHid gHid
  refine congr (congrArg act ((rConv_apply _ w cb b t f).trans ?_)) ((rVal_apply _ b t f).trans (up_apply h yr ya wo g wu b t _))
  refine congrFun (congr (congrFun (congr (congrFun (congrArg (conv _) ?_) _) ?_) _) ?_) _
  · refine (rPad_apply _ b _ f).trans ?_
    by_cases h2 : 2 ≤ t.val
    · rw [dif_pos h2, dif_pos h2]
      exact gate_apply h yr ya wo g wu b _ f
    · rw [dif_neg h2, dif_neg h2]
  · refine (rPad_apply _ b _ f).trans ?_
    by_cases h1 : 1 ≤ t.val
    · rw [dif_pos (by show 2 ≤ 1 + t.val; omega), dif_pos h1]
      refine (gate_apply h yr ya wo g wu b _ f).trans ?_
      exact congrArg (fun p => eU h yr ya wo g wu b p (lo f)) (Fin.ext (by show 1 + t.val - 2 = t.val - 1; omega))
    · rw [dif_neg (by show ¬2 ≤ 1 + t.val; omega), dif_neg h1]
  · refine (rPad_apply _ b _ f).trans ?_
    rw [dif_pos (by show 2 ≤ 2 + t.val; omega)]
    refine (gate_apply h yr ya wo g wu b _ f).trans ?_
    exact congrArg (fun p => eU h yr ya wo g wu b p (lo f)) (Fin.ext (by show 2 + t.val - 2 = t.val; omega))

theorem out_apply (R : Fin 65536) (d : Fin 1024) :
    rOut (F := Ideal) (rH (F := Ideal) h yr ya wo) (rAct (F := Ideal) (rConv (F := Ideal) (rPad (F := Ideal) (rGate (F := Ideal) (rUp (F := Ideal) h yr ya wo g wu))) w cb)
        (rVal (F := Ideal) (rUp (F := Ideal) h yr ya wo g wu))) wd (ix2 R d)
      = gOut (eX h yr ya wo) (eHid h yr ya wo g wu w cb) (fun f d => wd (ix2 f d)) ⟨R.val / 4096, by omega⟩ ⟨R.val % 4096, by omega⟩ d := by
  refine (rOut_apply _ _ wd ⟨R.val / 4096, by omega⟩ ⟨R.val % 4096, by omega⟩ d R (by show R.val = 4096 * (R.val / 4096) + R.val % 4096; omega)).trans ?_
  unfold gOut
  refine congr (congrArg _ (rH_apply h yr ya wo _ _ d)) (Finset.sum_congr rfl fun f _ => congrArg (· * _) ?_)
  exact hid_apply h yr ya wo g wu w cb _ _ f

theorem last_apply (b : Fin 16) (i : Fin 8) (f : Fin 2816) :
    rLast (F := Ideal) (rGate (F := Ideal) (rUp (F := Ideal) h yr ya wo g wu)) (ix3 b i f) = eU h yr ya wo g wu b ⟨4088 + i.val, by omega⟩ (lo f) :=
  (rLast_apply _ b i f).trans (gate_apply h yr ya wo g wu b _ f)
end

end Cert.Reference2Ideal.Ffn

namespace Cert.Kernel2Ideal.Ffn

open Cert.Kernel2Ideal Cert.Kernel2Ideal.Gen Cert.Ffn
open Idealize.ShloMosaic Idealize.ShloMosaic.TcCoe

variable (m : (ℓ : Loc nD τ sig) → Buf (Elt Ideal) ℓ) (c : Dev nD)

theorem out_apply (R : Fin 65536) (d : Fin 1024) :
    (Value.G10 m c : S65536x1024.Idx → EReal) (ix2 R d) = kOut m c ⟨R.val / 4096, by omega⟩ ⟨R.val % 4096, by omega⟩ d := by
  have ep : Value.pt10Of (ix2 R d) = R.val / 512 := by show 1 * (R.val / 512 - 0) + 1 * (d.val / 1024 - 0) = R.val / 512; omega
  have hp : Value.pt10Of (ix2 R d) < cfg0.N := by rw [ep, show cfg0.N = 128 from N_0]; omega
  have el : Value.loc10Of (ix2 R d) = ix2 ⟨R.val % 512, by omega⟩ d := by
    funext a
    match a with
    | 0 => rfl
    | 1 => exact Fin.ext (by show d.val % 1024 = d.val; omega)
  unfold Value.G10
  rw [dif_pos hp, ← Value.outsAt0_sweep m c _ hp, el]
  refine (point_eq m c ⟨_, hp⟩ _ d).trans ?_
  have e1 : sq ⟨_, hp⟩ = ⟨R.val / 4096, by omega⟩ := Fin.ext (by show Value.pt10Of (ix2 R d) / 8 = R.val / 4096; rw [ep]; omega)
  have e2 : ps ⟨_, hp⟩ ⟨R.val % 512, by omega⟩ = ⟨R.val % 4096, by omega⟩ :=
    Fin.ext (by show 512 * (Value.pt10Of (ix2 R d) % 8) + R.val % 512 = R.val % 4096; rw [ep]; omega)
  rw [e1, e2]

theorem last_apply (b : Fin 16) (i : Fin 8) (f : Fin 2816) :
    (Value.G11 m c : S16x8x2816.Idx → EReal) (ix3 b i f) = kU m c b ⟨4088 + i.val, by omega⟩ (lo f) := by
  have ep : Value.pt11Of (ix3 b i f) = 8 * b.val + 7 := by
    show 8 * (1 * (b.val / 1 - 0) + 1 * (i.val / 8 - 0) + 1 * (f.val / 2816 - 0)) + 7 = 8 * b.val + 7
    omega
  have hp : Value.pt11Of (ix3 b i f) < cfg0.N := by rw [ep, show cfg0.N = 128 from N_0]; omega
  have el : Value.loc11Of (ix3 b i f) = ix3 0 i f := by
    funext a
    match a with
    | 0 => exact Fin.ext (by show b.val % 1 = 0; omega)
    | 1 => exact Fin.ext (by show i.val % 8 = i.val; omega)
    | 2 => exact Fin.ext (by show f.val % 2816 = f.val; omega)
  unfold Value.G11
  rw [dif_pos hp, ← Value.outsAt0_sweep m c _ hp, el]
  refine (new_eq m c ⟨_, hp⟩ i f).trans ?_
  have e1 : sq ⟨_, hp⟩ = b := Fin.ext (by show Value.pt11Of (ix3 b i f) / 8 = b.val; rw [ep]; omega)
  have e2 : ps ⟨_, hp⟩ ⟨504 + i.val, by omega⟩ = ⟨4088 + i.val, by omega⟩ :=
    Fin.ext (by show 512 * (Value.pt11Of (ix3 b i f) % 8) + (504 + i.val) = 4088 + i.val; rw [ep]; omega)
  rw [e1, e2]

/-- The results, as the reference writes them. -/
theorem out_ref : (Value.G10 m c : S65536x1024.Idx → EReal) = Cert.Reference2Ideal.Ffn.rOut (F := Ideal) (Cert.Reference2Ideal.Ffn.rH (F := Ideal) (argH m c) (argR m c) (argA m c) (argWo m c))
    (Cert.Reference2Ideal.Ffn.rAct (F := Ideal) (Cert.Reference2Ideal.Ffn.rConv (F := Ideal) (Cert.Reference2Ideal.Ffn.rPad (F := Ideal) (Cert.Reference2Ideal.Ffn.rGate (F := Ideal)
        (Cert.Reference2Ideal.Ffn.rUp (F := Ideal) (argH m c) (argR m c) (argA m c) (argWo m c) (argG m c) (argWu m c)))) (argCw m c) (argCb m c))
      (Cert.Reference2Ideal.Ffn.rVal (F := Ideal) (Cert.Reference2Ideal.Ffn.rUp (F := Ideal) (argH m c) (argR m c) (argA m c) (argWo m c) (argG m c) (argWu m c)))) (argWd m c) := by
  funext y
  obtain ⟨R, d, rfl⟩ : ∃ (R : Fin 65536) (d : Fin 1024), y = ix2 R d := ⟨y 0, y 1, ValueIdx.eq_ix2 y⟩
  exact (out_apply m c R d).trans (Cert.Reference2Ideal.Ffn.out_apply _ _ _ _ _ _ _ _ _ R d).symm

theorem last_ref : (Value.G11 m c : S16x8x2816.Idx → EReal) = Cert.Reference2Ideal.Ffn.rLast (F := Ideal) (Cert.Reference2Ideal.Ffn.rGate (F := Ideal)
    (Cert.Reference2Ideal.Ffn.rUp (F := Ideal) (argH m c) (argR m c) (argA m c) (argWo m c) (argG m c) (argWu m c))) := by
  funext y
  obtain ⟨b, i, f, rfl⟩ : ∃ (b : Fin 16) (i : Fin 8) (f : Fin 2816), y = ix3 b i f := ⟨y 0, y 1, y 2, ValueIdx.eq_ix3 y⟩
  exact (last_apply m c b i f).trans (Cert.Reference2Ideal.Ffn.last_apply _ _ _ _ _ _ b i f).symm

end Cert.Kernel2Ideal.Ffn

end
-- ==== Proof.ProjRun.lean ====
/- The input projection's body, run symbolically: what it leaves in the six output blocks, and the launch. -/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel3Ideal.Proj

open Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1024x3328 := Rect.unit (s := S1024x3328) ![0, 0] S1024x1792.size inb_S1024x3328_S1024x1792_0_0
abbrev r0_3 : Rect S512x1792 := Rect.unit (s := S512x1792) ![0, 0] S512x1792.size inb_S512x1792_S512x1792_0_0
abbrev r0_4 : Rect S256x256 := Rect.unit (s := S256x256) ![0, 0] S256x256.size inb_S256x256_S256x256_0_0
abbrev r0_5 : Rect S1024x3328 := Rect.unit (s := S1024x3328) ![0, 1792] S1024x512.size inb_S1024x3328_S1024x512_0_1792
abbrev r0_6 : Rect S1024x3328 := Rect.unit (s := S1024x3328) ![0, 2304] S1024x512.size inb_S1024x3328_S1024x512_0_2304
abbrev r0_7 : Rect S1024x3328 := Rect.unit (s := S1024x3328) ![0, 2816] S1024x512.size inb_S1024x3328_S1024x512_0_2816
abbrev r0_8 : Rect S1x2048x128 := ⟨(⟨![0, 0, 0], S1x512x128.size, ![1, 4, 1], inb_S1x2048x128_S1x512x128_0_0_0_s_1_4_1⟩ : LoadRect S1x2048x128), spos_1_4_1⟩
abbrev r0_9 : Rect S1x2048x128 := ⟨(⟨![0, 1, 0], S1x512x128.size, ![1, 4, 1], inb_S1x2048x128_S1x512x128_0_1_0_s_1_4_1⟩ : LoadRect S1x2048x128), spos_1_4_1⟩
abbrev r0_10 : Rect S1x2048x128 := ⟨(⟨![0, 2, 0], S1x512x128.size, ![1, 4, 1], inb_S1x2048x128_S1x512x128_0_2_0_s_1_4_1⟩ : LoadRect S1x2048x128), spos_1_4_1⟩
abbrev r0_11 : Rect S1x2048x128 := ⟨(⟨![0, 3, 0], S1x512x128.size, ![1, 4, 1], inb_S1x2048x128_S1x512x128_0_3_0_s_1_4_1⟩ : LoadRect S1x2048x128), spos_1_4_1⟩
abbrev r0_12 : Rect S512x512 := Rect.unit (s := S512x512) ![0, 0] S512x512.size inb_S512x512_S512x512_0_0
abbrev r0_13 : Rect S1x512 := Rect.unit (s := S1x512) ![0, 0] S1x512.size inb_S1x512_S1x512_0_0

/-- The four strided row sets, row 4 r + k for k = 0, 1, 2, 3, cover a block of rows. -/
theorem rows_cover (p0 p1 p2 p3 : Vec F S1x512x128 .f32) (y : S1x2048x128.Idx) :
    ∃ pc ∈ ([⟨r0_11, p0⟩, ⟨r0_10, p1⟩, ⟨r0_9, p2⟩, ⟨r0_8, p3⟩] : List (View.Piece (Elt F) S1x2048x128 .f32)), y ∈ pc.1.set := by
  have h0 : (y 0).val < 1 := (y 0).isLt
  have h1 : (y 1).val < 2048 := (y 1).isLt
  have h2 : (y 2).val < 128 := (y 2).isLt
  have key : ∀ k : Fin 4, (y 1).val % 4 = k.val → ∀ r : Rect S1x2048x128, r.off = ![0, k.val, 0] → r.size = S1x512x128.size → r.stride = ![1, 4, 1] → y ∈ r.set := by
    intro k hk r ho hs ht
    rw [LoadRect.mem_set]
    intro a
    rw [ho, hs, ht]
    match a with
    | ⟨0, _⟩ => exact ⟨(y 0).val, h0, by show (y 0).val = 0 + 1 * (y 0).val; omega⟩
    | ⟨1, _⟩ => exact ⟨(y 1).val / 4, by show (y 1).val / 4 < 512; omega, by show (y 1).val = k.val + 4 * ((y 1).val / 4); omega⟩
    | ⟨2, _⟩ => exact ⟨(y 2).val, h2, by show (y 2).val = 0 + 1 * (y 2).val; omega⟩
  have h4 : (y 1).val % 4 = 0 ∨ (y 1).val % 4 = 1 ∨ (y 1).val % 4 = 2 ∨ (y 1).val % 4 = 3 := by omega
  rcases h4 with h | h | h | h
  · exact ⟨⟨r0_8, p3⟩, by simp, key 0 h r0_8 rfl rfl rfl⟩
  · exact ⟨⟨r0_9, p2⟩, by simp, key 1 h r0_9 rfl rfl rfl⟩
  · exact ⟨⟨r0_10, p1⟩, by simp, key 2 h r0_10 rfl rfl rfl⟩
  · exact ⟨⟨r0_11, p0⟩, by simp, key 3 h r0_11 rfl rfl rfl⟩

/-! ## What the body leaves in each output window's buffer -/

/-! ### Values of the body that more than one store reads -/

def k0_pay21 (x0 : Vec F S512x1024 .f32) (x1 : Vec F S1x1024 .f32) (x2 : Vec F S1024x3328 .bf16) (x3 : Vec F S1x512 .f32) (x4 : Vec F S1x512 .f32) (x5 : Vec F S256x256 .bf16) : FVec F S256x256 .bf16 :=
  k0_pay4 (View.ld x5 r0_4)
def k0_pay22 (x0 : Vec F S512x1024 .f32) (x1 : Vec F S1x1024 .f32) (x2 : Vec F S1024x3328 .bf16) (x3 : Vec F S1x512 .f32) (x4 : Vec F S1x512 .f32) (x5 : Vec F S256x256 .bf16) : FVec F S512x512 .f32 :=
  k0_pay6 (View.ld x0 r0_0) (View.ld x1 r0_1) (View.ld x2 r0_6)
def k0_pay23 (x0 : Vec F S512x1024 .f32) (x1 : Vec F S1x1024 .f32) (x2 : Vec F S1024x3328 .bf16) (x3 : Vec F S1x512 .f32) (x4 : Vec F S1x512 .f32) (x5 : Vec F S256x256 .bf16) : FVec F S512x512 .f32 :=
  k0_pay7 (View.ld x0 r0_0) (View.ld x1 r0_1) (View.ld x2 r0_7)

/-- What the body leaves in output block 6: its stores as pieces, the last first. -/
def out0_6 (x0 : Vec F S512x1024 .f32) (x1 : Vec F S1x1024 .f32) (x2 : Vec F S1024x3328 .bf16) (x3 : Vec F S1x512 .f32) (x4 : Vec F S1x512 .f32) (x5 : Vec F S256x256 .bf16) : Vec F S512x1792 .f32 :=
  View.canon [⟨r0_3, k0_pay3 (View.ld x0 r0_0) (View.ld x1 r0_1) (View.ld x2 r0_2)⟩]

/-- The stores cover the block. -/
theorem cover0_6 (p0 : Vec F S512x1792 .f32) (y : S512x1792.Idx) :
    ∃ pc ∈ ([⟨r0_3, p0⟩] : List (View.Piece (Elt F) S512x1792 .f32)), y ∈ pc.1.set :=
  View.cover_of_tiled [⟨r0_3, p0⟩] S512x1792.size (by rfl) y

/-- What the body leaves in output block 7: its stores as pieces, the last first. -/
def out0_7 (x0 : Vec F S512x1024 .f32) (x1 : Vec F S1x1024 .f32) (x2 : Vec F S1024x3328 .bf16) (x3 : Vec F S1x512 .f32) (x4 : Vec F S1x512 .f32) (x5 : Vec F S256x256 .bf16) : Vec F S512x512 .bf16 :=
  View.canon [⟨r0_12, k0_pay15 (k0_pay14 (k0_pay21 x0 x1 x2 x3 x4 x5) (k0_pay5 (View.ld x0 r0_0) (View.ld x1 r0_1) (View.ld x2 r0_5)) (View.ld x3 r0_13))⟩]

/-- The stores cover the block. -/
theorem cover0_7 (p0 : Vec F S512x512 .bf16) (y : S512x512.Idx) :
    ∃ pc ∈ ([⟨r0_12, p0⟩] : List (View.Piece (Elt F) S512x512 .bf16)), y ∈ pc.1.set :=
  View.cover_of_tiled [⟨r0_12, p0⟩] S512x512.size (by rfl) y

/-- What the body leaves in output block 8: its stores as pieces, the last first. -/
def out0_8 (x0 : Vec F S512x1024 .f32) (x1 : Vec F S1x1024 .f32) (x2 : Vec F S1024x3328 .bf16) (x3 : Vec F S1x512 .f32) (x4 : Vec F S1x512 .f32) (x5 : Vec F S256x256 .bf16) : Vec F S1x2048x128 .f32 :=
  View.canon [⟨r0_11, k0_pay20 (k0_pay21 x0 x1 x2 x3 x4 x5) (k0_pay22 x0 x1 x2 x3 x4 x5) (View.ld x4 r0_13)⟩,
    ⟨r0_10, k0_pay19 (k0_pay21 x0 x1 x2 x3 x4 x5) (k0_pay22 x0 x1 x2 x3 x4 x5) (View.ld x4 r0_13)⟩,
    ⟨r0_9, k0_pay18 (k0_pay21 x0 x1 x2 x3 x4 x5) (k0_pay22 x0 x1 x2 x3 x4 x5) (View.ld x4 r0_13)⟩,
    ⟨r0_8, k0_pay17 (k0_pay21 x0 x1 x2 x3 x4 x5) (k0_pay22 x0 x1 x2 x3 x4 x5) (View.ld x4 r0_13)⟩]

/-- The stores cover the block. -/
theorem cover0_8 (p0 : Vec F S1x512x128 .f32) (p1 : Vec F S1x512x128 .f32) (p2 : Vec F S1x512x128 .f32) (p3 : Vec F S1x512x128 .f32) (y : S1x2048x128.Idx) :
    ∃ pc ∈ ([⟨r0_11, p0⟩, ⟨r0_10, p1⟩, ⟨r0_9, p2⟩, ⟨r0_8, p3⟩] : List (View.Piece (Elt F) S1x2048x128 .f32)), y ∈ pc.1.set :=
  rows_cover p0 p1 p2 p3 y

/-- What the body leaves in output block 9: its stores as pieces, the last first. -/
def out0_9 (x0 : Vec F S512x1024 .f32) (x1 : Vec F S1x1024 .f32) (x2 : Vec F S1024x3328 .bf16) (x3 : Vec F S1x512 .f32) (x4 : Vec F S1x512 .f32) (x5 : Vec F S256x256 .bf16) : Vec F S1x2048x128 .f32 :=
  View.canon [⟨r0_11, k0_pay12 (k0_pay23 x0 x1 x2 x3 x4 x5)⟩,
    ⟨r0_10, k0_pay11 (k0_pay23 x0 x1 x2 x3 x4 x5)⟩,
    ⟨r0_9, k0_pay10 (k0_pay23 x0 x1 x2 x3 x4 x5)⟩,
    ⟨r0_8, k0_pay9 (k0_pay8 (View.ld x0 r0_0) (View.ld x1 r0_1) (View.ld x2 r0_7))⟩]

/-- The stores cover the block. -/
theorem cover0_9 (p0 : Vec F S1x512x128 .f32) (p1 : Vec F S1x512x128 .f32) (p2 : Vec F S1x512x128 .f32) (p3 : Vec F S1x512x128 .f32) (y : S1x2048x128.Idx) :
    ∃ pc ∈ ([⟨r0_11, p0⟩, ⟨r0_10, p1⟩, ⟨r0_9, p2⟩, ⟨r0_8, p3⟩] : List (View.Piece (Elt F) S1x2048x128 .f32)), y ∈ pc.1.set :=
  rows_cover p0 p1 p2 p3 y

/-- What the body leaves in output block 10: its stores as pieces, the last first. -/
def out0_10 (x0 : Vec F S512x1024 .f32) (x1 : Vec F S1x1024 .f32) (x2 : Vec F S1024x3328 .bf16) (x3 : Vec F S1x512 .f32) (x4 : Vec F S1x512 .f32) (x5 : Vec F S256x256 .bf16) : Vec F S512x512 .bf16 :=
  View.canon [⟨r0_12, k0_pay1 (k0_pay16 (k0_pay21 x0 x1 x2 x3 x4 x5) (k0_pay22 x0 x1 x2 x3 x4 x5) (View.ld x4 r0_13))⟩]

/-- The stores cover the block. -/
theorem cover0_10 (p0 : Vec F S512x512 .bf16) (y : S512x512.Idx) :
    ∃ pc ∈ ([⟨r0_12, p0⟩] : List (View.Piece (Elt F) S512x512 .bf16)), y ∈ pc.1.set :=
  View.cover_of_tiled [⟨r0_12, p0⟩] S512x512.size (by rfl) y

/-- What the body leaves in output block 11: its stores as pieces, the last first. -/
def out0_11 (x0 : Vec F S512x1024 .f32) (x1 : Vec F S1x1024 .f32) (x2 : Vec F S1024x3328 .bf16) (x3 : Vec F S1x512 .f32) (x4 : Vec F S1x512 .f32) (x5 : Vec F S256x256 .bf16) : Vec F S512x512 .bf16 :=
  View.canon [⟨r0_12, k0_pay13 (k0_pay23 x0 x1 x2 x3 x4 x5)⟩]

/-- The stores cover the block. -/
theorem cover0_11 (p0 : Vec F S512x512 .bf16) (y : S512x512.Idx) :
    ∃ pc ∈ ([⟨r0_12, p0⟩] : List (View.Piece (Elt F) S512x512 .bf16)), y ∈ pc.1.set :=
  View.cover_of_tiled [⟨r0_12, p0⟩] S512x512.size (by rfl) y

/-! ## The body's triple -/

set_option maxHeartbeats 1000000 in
/-- The body, run on whole staging buffers: the inputs stay and each output block holds its pieces. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3328 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S256x256 .bf16) (harg6 : arg6.IsWhole) (arg7 : Memref sig .tc .vmem S512x1792 .f32) (harg7 : arg7.IsWhole) (arg8 : Memref sig .tc .vmem S512x512 .bf16) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S512x512 .bf16) (harg11 : arg11.IsWhole) (arg12 : Memref sig .tc .vmem S512x512 .bf16) (harg12 : arg12.IsWhole)
    (x0 : Vec F S512x1024 .f32) (x1 : Vec F S1x1024 .f32) (x2 : Vec F S1024x3328 .bf16) (x3 : Vec F S1x512 .f32) (x4 : Vec F S1x512 .f32) (x5 : Vec F S256x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5) ∗ owns (c : Thread nD τ) arg10 fullShare (out0_9 x0 x1 x2 x3 x4 x5) ∗ owns (c : Thread nD τ) arg11 fullShare (out0_10 x0 x1 x2 x3 x4 x5) ∗ owns (c : Thread nD τ) arg12 fullShare (out0_11 x0 x1 x2 x3 x4 x5)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12) K := by
  simp only [cc0_inproj_eq_skeleton]; unfold cc0_inproj_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _ _ _ _)).trans ?_
    rfl
  isplitl [H9]
  · iexists _; isplitr
    swap; · iexact H9
    ipureintro
    refine (View.read_writes_eq_canon _ _ _ (cover0_9 _ _ _ _)).trans ?_
    rfl
  isplitl [H10]
  · iexists _; isplitr
    swap; · iexact H10
    ipureintro
    refine (View.read_writes_eq_canon _ _ _ (cover0_10 _)).trans ?_
    rfl
  iexists _; isplitr
  swap; · iexact H11
  ipureintro
  refine (View.read_writes_eq_canon _ _ _ (cover0_11 _)).trans ?_
  rfl

/-! ## The pipeline's proof data -/

/-- The data of the launch: the arrays as the region finds them, and the blocks that the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
    | ⟨8, _⟩ => out0_8 (iblk m c 0 t) (iblk m c 1 t) (iblk m c 2 t) (iblk m c 3 t) (iblk m c 4 t) (iblk m c 5 t)
    | ⟨9, _⟩ => out0_9 (iblk m c 0 t) (iblk m c 1 t) (iblk m c 2 t) (iblk m c 3 t) (iblk m c 4 t) (iblk m c 5 t)
    | ⟨10, _⟩ => out0_10 (iblk m c 0 t) (iblk m c 1 t) (iblk m c 2 t) (iblk m c 3 t) (iblk m c 4 t) (iblk m c 5 t)
    | ⟨11, _⟩ => out0_11 (iblk m c 0 t) (iblk m c 1 t) (iblk m c 2 t) (iblk m c 3 t) (iblk m c 4 t) (iblk m c 5 t)
  Φ _ := Pipeline.ΦA spec0 c
  q _ := fullShare
  owed _ := 0

/-- The arrays are those at the entry of the region. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The row of the body table at a point. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch ends with the arrays at what the blocks make of them and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch ends with the arrays at what the blocks make of them. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel3Ideal.Proj

end
-- ==== Proof.ProjMath.lean ====
/- The input projection's mathematics, one row at a time. -/
module

public import Idealize.ShloMosaic.PureOps.Ideal
public import proofs.«01_k».proof.Proof.FfnMath

@[expose] public section

noncomputable section

namespace Cert.Proj

open Idealize.ShloMosaic Cert.Ffn

/-- A row, normed, against a column of the projection. -/
def prj (x g : Fin 1024 → EReal) (w : Fin 1024 → Fin 3328 → EReal) (j : Fin 3328) : EReal := ∑ d : Fin 1024, rowN x g d * w d j

/-- Column `l` of the half head that holds column `j`. -/
abbrev hcol (j : Fin 512) (l : Fin 64) : Fin 512 := ⟨64 * (j.val / 64) + l.val, by omega⟩

/-- A row of 512 columns, each divided by the root mean square of its half head's 64 columns, and scaled. -/
def hn (y : Fin 512 → EReal) (g : Fin 64 → EReal) (j : Fin 512) : EReal :=
  y j * Ideal.rsqrt (Ideal.div (∑ l : Fin 64, y (hcol j l) * y (hcol j l)) (Ideal.ofBits .f32 0x42800000#32) + Ideal.ofBits .f32 0x358637BD#32)
    * g ⟨j.val % 64, by omega⟩

/-- The four parts of a projected row: what goes to the recurrence, the queries, the keys and the values. -/
def rowP (x g : Fin 1024 → EReal) (w : Fin 1024 → Fin 3328 → EReal) (j : Fin 1792) : EReal := prj x g w ⟨j.val, by omega⟩
def rowQ (x g : Fin 1024 → EReal) (w : Fin 1024 → Fin 3328 → EReal) (qg : Fin 64 → EReal) (j : Fin 512) : EReal :=
  hn (fun j => prj x g w ⟨1792 + j.val, by omega⟩) qg j * Ideal.ofBits .f32 0x3E38AA3B#32
def rowK (x g : Fin 1024 → EReal) (w : Fin 1024 → Fin 3328 → EReal) (kg : Fin 64 → EReal) (j : Fin 512) : EReal :=
  hn (fun j => prj x g w ⟨2304 + j.val, by omega⟩) kg j
def rowV (x g : Fin 1024 → EReal) (w : Fin 1024 → Fin 3328 → EReal) (j : Fin 512) : EReal := prj x g w ⟨2816 + j.val, by omega⟩

/-- Dividing by 64 is multiplying by its reciprocal. -/
theorem div64 (a : EReal) : Ideal.div a (Ideal.ofBits .f32 0x42800000#32) = a * Ideal.ofBits .f32 0x3C800000#32 := by
  have h1 : Ideal.ofBits .f32 0x42800000#32 = ((64 : ℝ) : EReal) := by
    simp [Ideal.ofBits, Ideal.ieee]
    rw [← EReal.coe_mul]
    norm_num
  have h2 : Ideal.ofBits .f32 0x3C800000#32 = ((1 / 64 : ℝ) : EReal) := by
    simp [Ideal.ofBits, Ideal.ieee]
    rw [← EReal.coe_mul]
    norm_num
  rw [h1, h2]
  exact Ideal.div_coe (by norm_num) a

/-- A sum against a block of ones is the sum over the block. -/
theorem sum_ones (f : Fin 256 → EReal) (i : Fin 256) :
    ∑ k : Fin 256, f k * (if k.val / 64 = i.val / 64 then 1 else 0) = ∑ l : Fin 64, f ⟨64 * (i.val / 64) + l.val, by omega⟩ := by
  symm
  refine Fintype.sum_of_injective (fun l : Fin 64 => (⟨64 * (i.val / 64) + l.val, by omega⟩ : Fin 256)) ?_ _ _ ?_ ?_
  · intro a b h
    have h' : 64 * (i.val / 64) + a.val = 64 * (i.val / 64) + b.val := congrArg Fin.val h
    exact Fin.ext (by omega)
  · intro k hk
    rw [if_neg, mul_zero]
    intro he
    exact hk ⟨⟨k.val % 64, by omega⟩, Fin.ext (by show 64 * (i.val / 64) + k.val % 64 = k.val; omega)⟩
  · intro l
    rw [if_pos (by show (64 * (i.val / 64) + l.val) / 64 = i.val / 64; omega), mul_one]

end Cert.Proj
-- ==== Proof.ProjElem.lean ====
/- One point of the input projection, element by element over the extended reals. -/
module

public import proofs.«01_k».proof.Proof.ProjRun
public import proofs.«01_k».proof.Proof.ProjMath
public import Idealize.ShloMosaic.Lib.Pointwise
public import Idealize.ShloMosaic.Lib.IdealHost
public import Idealize.ShloMosaic.Lib.Pipeline.ValueKit

@[expose] public section

set_option maxRecDepth 16384

noncomputable section

namespace Cert.Kernel3Ideal.Proj

open Cert.Kernel3Ideal Cert.Kernel3Ideal.Gen Cert.Ffn Cert.Proj
open Idealize.ShloMosaic Idealize.ShloMosaic.TcCoe Idealize.ShloMosaic.Tactic

theorem pay2_apply (x : FVec Ideal S512x1024 .f32) (g : FVec Ideal S1x1024 .f32) (r : Fin 512) (d : Fin 1024) :
    k0_pay2 (F := Ideal) x g (ix2 r d) = rowN (fun e => x (ix2 r e)) (fun e => g (ix2 0 e)) d := by
  unfold k0_pay2 rowN
  pointwise

theorem pay3_apply (x : FVec Ideal S512x1024 .f32) (g : FVec Ideal S1x1024 .f32) (w : FVec Ideal S1024x1792 .bf16) (r : Fin 512) (j : Fin 1792) :
    k0_pay3 (F := Ideal) x g w (ix2 r j) = ∑ d : Fin 1024, k0_pay2 (F := Ideal) x g (ix2 r d) * w (ix2 d j) := by
  unfold k0_pay3
  pointwise

theorem pay5_apply (x : FVec Ideal S512x1024 .f32) (g : FVec Ideal S1x1024 .f32) (w : FVec Ideal S1024x512 .bf16) (r : Fin 512) (j : Fin 512) :
    k0_pay5 (F := Ideal) x g w (ix2 r j) = ∑ d : Fin 1024, k0_pay2 (F := Ideal) x g (ix2 r d) * w (ix2 d j) := by
  unfold k0_pay5
  pointwise

theorem pay6_apply (x : FVec Ideal S512x1024 .f32) (g : FVec Ideal S1x1024 .f32) (w : FVec Ideal S1024x512 .bf16) (r : Fin 512) (j : Fin 512) :
    k0_pay6 (F := Ideal) x g w (ix2 r j) = ∑ d : Fin 1024, k0_pay2 (F := Ideal) x g (ix2 r d) * w (ix2 d j) := by
  unfold k0_pay6
  pointwise

theorem pay7_apply (x : FVec Ideal S512x1024 .f32) (g : FVec Ideal S1x1024 .f32) (w : FVec Ideal S1024x512 .bf16) (r : Fin 512) (j : Fin 512) :
    k0_pay7 (F := Ideal) x g w (ix2 r j) = ∑ d : Fin 1024, k0_pay2 (F := Ideal) x g (ix2 r d) * w (ix2 d j) := by
  unfold k0_pay7
  pointwise

theorem pay4_eq (e : FVec Ideal S256x256 .bf16) : k0_pay4 (F := Ideal) e = e := by
  unfold k0_pay4
  exact shapeCast_self _ _

/-- The sums of the squares over a half head, by a product with blocks of ones. -/
theorem ssq (y : Fin 512 → EReal) (e : FVec Ideal S256x256 .bf16) (he : ∀ i j : Fin 256, e (ix2 i j) = if i.val / 64 = j.val / 64 then 1 else 0) (j : Fin 512) :
    (if h : j.val < 256 then ∑ k : Fin 256, y ⟨k.val, by omega⟩ * y ⟨k.val, by omega⟩ * e (ix2 k ⟨j.val, h⟩)
      else ∑ k : Fin 256, y ⟨256 + k.val, by omega⟩ * y ⟨256 + k.val, by omega⟩ * e (ix2 k ⟨j.val - 256, by omega⟩))
      = ∑ l : Fin 64, y (hcol j l) * y (hcol j l) := by
  simp only [he]
  split
  · rename_i h
    exact sum_ones (fun k : Fin 256 => y ⟨k.val, by omega⟩ * y ⟨k.val, by omega⟩) ⟨j.val, h⟩
  · rename_i h
    refine (sum_ones (fun k : Fin 256 => y ⟨256 + k.val, by omega⟩ * y ⟨256 + k.val, by omega⟩) ⟨j.val - 256, by omega⟩).trans ?_
    refine Finset.sum_congr rfl fun l _ => ?_
    have h' : (⟨256 + (64 * ((j.val - 256) / 64) + l.val), by omega⟩ : Fin 512) = hcol j l :=
      Fin.ext (by show 256 + (64 * ((j.val - 256) / 64) + l.val) = 64 * (j.val / 64) + l.val; omega)
    show y ⟨256 + (64 * ((j.val - 256) / 64) + l.val), _⟩ * y ⟨256 + (64 * ((j.val - 256) / 64) + l.val), _⟩ = _
    rw [h']

theorem pay16_raw (e : FVec Ideal S256x256 .bf16) (y : FVec Ideal S512x512 .f32) (g : FVec Ideal S1x512 .f32) (r : Fin 512) (j : Fin 512) :
    k0_pay16 (F := Ideal) e y g (ix2 r j) = y (ix2 r j) * Ideal.rsqrt (
      (if h : j.val < 256 then ∑ k : Fin 256, y (ix2 r ⟨k.val, by omega⟩) * y (ix2 r ⟨k.val, by omega⟩) * e (ix2 k ⟨j.val, h⟩)
        else ∑ k : Fin 256, y (ix2 r ⟨256 + k.val, by omega⟩) * y (ix2 r ⟨256 + k.val, by omega⟩) * e (ix2 k ⟨j.val - 256, by omega⟩))
      * Ideal.ofBits .f32 0x3C800000#32 + Ideal.ofBits .f32 0x358637BD#32) * g (ix2 0 j) := by
  unfold k0_pay16
  pointwise

theorem pay14_raw (e : FVec Ideal S256x256 .bf16) (y : FVec Ideal S512x512 .f32) (g : FVec Ideal S1x512 .f32) (r : Fin 512) (j : Fin 512) :
    k0_pay14 (F := Ideal) e y g (ix2 r j) = y (ix2 r j) * Ideal.rsqrt (
      (if h : j.val < 256 then ∑ k : Fin 256, y (ix2 r ⟨k.val, by omega⟩) * y (ix2 r ⟨k.val, by omega⟩) * e (ix2 k ⟨j.val, h⟩)
        else ∑ k : Fin 256, y (ix2 r ⟨256 + k.val, by omega⟩) * y (ix2 r ⟨256 + k.val, by omega⟩) * e (ix2 k ⟨j.val - 256, by omega⟩))
      * Ideal.ofBits .f32 0x3C800000#32 + Ideal.ofBits .f32 0x358637BD#32) * g (ix2 0 j) * Ideal.ofBits .f32 0x3E38AA3B#32 := by
  unfold k0_pay14
  pointwise

theorem pay16_apply (e : FVec Ideal S256x256 .bf16) (y : FVec Ideal S512x512 .f32) (g : FVec Ideal S1x512 .f32)
    (he : ∀ i j : Fin 256, e (ix2 i j) = if i.val / 64 = j.val / 64 then 1 else 0) (g' : Fin 64 → EReal) (hg : ∀ j : Fin 512, g (ix2 0 j) = g' ⟨j.val % 64, by omega⟩)
    (r : Fin 512) (j : Fin 512) : k0_pay16 (F := Ideal) e y g (ix2 r j) = hn (fun j => y (ix2 r j)) g' j := by
  rw [pay16_raw, ssq (fun j => y (ix2 r j)) e he j, hg, ← div64]
  rfl

theorem pay14_apply (e : FVec Ideal S256x256 .bf16) (y : FVec Ideal S512x512 .f32) (g : FVec Ideal S1x512 .f32)
    (he : ∀ i j : Fin 256, e (ix2 i j) = if i.val / 64 = j.val / 64 then 1 else 0) (g' : Fin 64 → EReal) (hg : ∀ j : Fin 512, g (ix2 0 j) = g' ⟨j.val % 64, by omega⟩)
    (r : Fin 512) (j : Fin 512) : k0_pay14 (F := Ideal) e y g (ix2 r j) = hn (fun j => y (ix2 r j)) g' j * Ideal.ofBits .f32 0x3E38AA3B#32 := by
  rw [pay14_raw, ssq (fun j => y (ix2 r j)) e he j, hg, ← div64]
  rfl

theorem pay15_apply (y : FVec Ideal S512x512 .f32) (r : Fin 512) (j : Fin 512) : k0_pay15 (F := Ideal) y (ix2 r j) = y (ix2 r j) := rfl
theorem pay1_apply (y : FVec Ideal S512x512 .f32) (r : Fin 512) (j : Fin 512) : k0_pay1 (F := Ideal) y (ix2 r j) = y (ix2 r j) := rfl
theorem pay13_apply (y : FVec Ideal S512x512 .f32) (r : Fin 512) (j : Fin 512) : k0_pay13 (F := Ideal) y (ix2 r j) = y (ix2 r j) := rfl

theorem pay9_apply (x : FVec Ideal S512x1024 .f32) (g : FVec Ideal S1x1024 .f32) (w : FVec Ideal S1024x512 .bf16) (r : Fin 512) (l : Fin 128) :
    k0_pay9 (F := Ideal) (k0_pay8 (F := Ideal) x g w) (ix3 0 r l) = k0_pay7 (F := Ideal) x g w (ix2 r ⟨0 + l.val, by omega⟩) := by
  unfold k0_pay9 k0_pay8
  pointwise
theorem pay10_apply (y : FVec Ideal S512x512 .f32) (r : Fin 512) (l : Fin 128) : k0_pay10 (F := Ideal) y (ix3 0 r l) = y (ix2 r ⟨128 + l.val, by omega⟩) := by
  unfold k0_pay10
  pointwise
theorem pay11_apply (y : FVec Ideal S512x512 .f32) (r : Fin 512) (l : Fin 128) : k0_pay11 (F := Ideal) y (ix3 0 r l) = y (ix2 r ⟨256 + l.val, by omega⟩) := by
  unfold k0_pay11
  pointwise
theorem pay12_apply (y : FVec Ideal S512x512 .f32) (r : Fin 512) (l : Fin 128) : k0_pay12 (F := Ideal) y (ix3 0 r l) = y (ix2 r ⟨384 + l.val, by omega⟩) := by
  unfold k0_pay12
  pointwise

theorem pay17_apply (e : FVec Ideal S256x256 .bf16) (y : FVec Ideal S512x512 .f32) (g : FVec Ideal S1x512 .f32) (r : Fin 512) (l : Fin 128) :
    k0_pay17 (F := Ideal) e y g (ix3 0 r l) = k0_pay16 (F := Ideal) e y g (ix2 r ⟨0 + l.val, by omega⟩) := by
  unfold k0_pay17
  pointwise
theorem pay18_apply (e : FVec Ideal S256x256 .bf16) (y : FVec Ideal S512x512 .f32) (g : FVec Ideal S1x512 .f32) (r : Fin 512) (l : Fin 128) :
    k0_pay18 (F := Ideal) e y g (ix3 0 r l) = k0_pay16 (F := Ideal) e y g (ix2 r ⟨128 + l.val, by omega⟩) := by
  unfold k0_pay18
  pointwise
theorem pay19_apply (e : FVec Ideal S256x256 .bf16) (y : FVec Ideal S512x512 .f32) (g : FVec Ideal S1x512 .f32) (r : Fin 512) (l : Fin 128) :
    k0_pay19 (F := Ideal) e y g (ix3 0 r l) = k0_pay16 (F := Ideal) e y g (ix2 r ⟨256 + l.val, by omega⟩) := by
  unfold k0_pay19
  pointwise
theorem pay20_apply (e : FVec Ideal S256x256 .bf16) (y : FVec Ideal S512x512 .f32) (g : FVec Ideal S1x512 .f32) (r : Fin 512) (l : Fin 128) :
    k0_pay20 (F := Ideal) e y g (ix3 0 r l) = k0_pay16 (F := Ideal) e y g (ix2 r ⟨384 + l.val, by omega⟩) := by
  unfold k0_pay20
  pointwise

end Cert.Kernel3Ideal.Proj

end
-- ==== Proof.ProjEntry.lean ====
/- What the points of the input projection are handed, as terms of the program's arguments. -/
module

public import proofs.«01_k».proof.Proof.ProjElem

@[expose] public section

set_option maxRecDepth 16384

noncomputable section

namespace Cert.Kernel3Ideal.Proj

open Cert.Kernel3Ideal Cert.Kernel3Ideal.Gen Cert.Ffn Cert.Proj
open Idealize.ShloMosaic Idealize.ShloMosaic.TcCoe Idealize.ShloMosaic.Tactic Idealize.SL.Sem

variable (m : (ℓ : Loc nD τ sig) → Buf (Elt Ideal) ℓ) (c : Dev nD)

/-- The blocks of a point. -/
theorem idx : ∀ t : Fin cfg0.N,
    (win0_0.index t : Fin 2 → ℕ) = ![t.val, 0] ∧ (win0_1.index t : Fin 2 → ℕ) = ![0, 0] ∧ (win0_2.index t : Fin 2 → ℕ) = ![0, 0]
    ∧ (win0_3.index t : Fin 2 → ℕ) = ![0, 0] ∧ (win0_4.index t : Fin 2 → ℕ) = ![0, 0] ∧ (win0_5.index t : Fin 2 → ℕ) = ![0, 0] :=
  of_decide_eq_true (by sl_kernel_rfl)
theorem idxO : ∀ t : Fin cfg0.N,
    (win0_6.index t : Fin 2 → ℕ) = ![t.val, 0] ∧ (win0_7.index t : Fin 2 → ℕ) = ![t.val, 0] ∧ (win0_8.index t : Fin 3 → ℕ) = ![0, t.val, 0]
    ∧ (win0_9.index t : Fin 3 → ℕ) = ![0, t.val, 0] ∧ (win0_10.index t : Fin 2 → ℕ) = ![t.val, 0] ∧ (win0_11.index t : Fin 2 → ℕ) = ![t.val, 0] :=
  of_decide_eq_true (by sl_kernel_rfl)

/-- The program's arguments. -/
abbrev argX : S16x4096x1024.Idx → EReal := m ((c.tc : Thread nD τ).loc main_arg0)
abbrev argG : S1024.Idx → EReal := m ((c.tc : Thread nD τ).loc main_arg1)
abbrev argW : S1024x3328.Idx → EReal := m ((c.tc : Thread nD τ).loc main_arg2)
abbrev argQ : S64.Idx → EReal := m ((c.tc : Thread nD τ).loc main_arg3)
abbrev argK : S64.Idx → EReal := m ((c.tc : Thread nD τ).loc main_arg4)

theorem val_lt (t : Fin cfg0.N) : t.val < 128 := lt_of_lt_of_eq t.isLt N_0

/-- The row of the whole array. -/
abbrev rw' (t : Fin cfg0.N) (r : Fin 512) : Fin 65536 := ⟨512 * t.val + r.val, by have := val_lt t; omega⟩

theorem blk0 (t : Fin cfg0.N) (r : Fin 512) (d : Fin 1024) : (iblk m c 0 t : S512x1024.Idx → EReal) (ix2 r d) = (V m c main_v0 : S65536x1024.Idx → EReal) (ix2 (rw' t r) d) := by
  have h := (idx t).1
  unfold iblk
  rw [ix2_eq_valueIdx, ix2_eq_valueIdx]
  blk_ext [h]
  show _ * 512 + r.val = _
  omega

theorem blk1 (t : Fin cfg0.N) : (iblk m c 1 t : S1x1024.Idx → EReal) = V m c main_v1 := by
  funext y
  have h := (idx t).2.1
  unfold iblk
  blk_ext [h]

theorem blk2 (t : Fin cfg0.N) : (iblk m c 2 t : S1024x3328.Idx → EReal) = V m c main_v2 := by
  funext y
  have h := (idx t).2.2.1
  unfold iblk
  blk_ext [h]

theorem blk3 (t : Fin cfg0.N) : (iblk m c 3 t : S1x512.Idx → EReal) = V m c main_v6 := by
  funext y
  have h := (idx t).2.2.2.1
  unfold iblk
  blk_ext [h]

theorem blk4 (t : Fin cfg0.N) : (iblk m c 4 t : S1x512.Idx → EReal) = V m c main_v10 := by
  funext y
  have h := (idx t).2.2.2.2.1
  unfold iblk
  blk_ext [h]

theorem blk5 (t : Fin cfg0.N) : (iblk m c 5 t : S256x256.Idx → EReal) = V m c main_v19 := by
  funext y
  have h := (idx t).2.2.2.2.2
  unfold iblk
  blk_ext [h]

theorem arr0 (R : Fin 65536) (d : Fin 1024) : (V m c main_v0 : S65536x1024.Idx → EReal) (ix2 R d) = argX m c (ix3 ⟨R.val / 4096, by omega⟩ ⟨R.val % 4096, by omega⟩ d) := by
  unfold argX
  unfold V
  simp only [hostOps0, hostOps0_1, hostOps0_2, List.flatten_cons, List.flatten_nil, List.append_nil, List.cons_append, List.nil_append]
  after_results
  pointwise

theorem arr1 (i : Fin 1) (j : Fin 1024) : (V m c main_v1 : S1x1024.Idx → EReal) (ix2 i j) = argG m c (ix1 j) := by
  unfold argG
  unfold V
  simp only [hostOps0, hostOps0_1, hostOps0_2, List.flatten_cons, List.flatten_nil, List.append_nil, List.cons_append, List.nil_append]
  after_results
  pointwise

theorem arr2 (i : Fin 1024) (j : Fin 3328) : (V m c main_v2 : S1024x3328.Idx → EReal) (ix2 i j) = argW m c (ix2 i j) := by
  unfold argW
  unfold V
  simp only [hostOps0, hostOps0_1, hostOps0_2, List.flatten_cons, List.flatten_nil, List.append_nil, List.cons_append, List.nil_append]
  after_results
  pointwise

theorem arr3 (i : Fin 1) (j : Fin 512) : (V m c main_v6 : S1x512.Idx → EReal) (ix2 i j) = argQ m c (ix1 ⟨j.val % 64, by omega⟩) := by
  unfold argQ
  unfold V
  simp only [hostOps0, hostOps0_1, hostOps0_2, List.flatten_cons, List.flatten_nil, List.append_nil, List.cons_append, List.nil_append]
  after_results
  pointwise

theorem arr4 (i : Fin 1) (j : Fin 512) : (V m c main_v10 : S1x512.Idx → EReal) (ix2 i j) = argK m c (ix1 ⟨j.val % 64, by omega⟩) := by
  unfold argK
  unfold V
  simp only [hostOps0, hostOps0_1, hostOps0_2, List.flatten_cons, List.flatten_nil, List.append_nil, List.cons_append, List.nil_append]
  after_results
  pointwise

/-- The blocks of ones, as the program makes them: a product of a 4 by 4 identity with 64 by 64 ones. -/
def onesM : FVec Ideal S256x256 .bf16 :=
  truncf .bf16 (shapeCast S256x256 (mulf
    (broadcastInDim S4x64x4x64 ![0, 1, 2, 3] bcast_S4x1x4x1_S4x64x4x64_0_1_2_3 (broadcastInDim S4x1x4x1 ![0, 2] bcast_S4x4_S4x1x4x1_0_2
      (uitofp .f32 (cmpi .eq (addi (iotaInDim S4x4 32 0) (broadcastInDim S4x4 ![] bcast_S_S4x4 (constantI S_ 32 0#32))) (iotaInDim S4x4 32 1)))))
    (broadcastInDim S4x64x4x64 ![0, 1, 2, 3] bcast_S1x64x1x64_S4x64x4x64_0_1_2_3 (broadcastInDim S1x64x1x64 ![1, 3] bcast_S64x64_S1x64x1x64_1_3
      (broadcastInDim S64x64 ![] bcast_S_S64x64 (constant S_ .f32 0x3F800000#32)))) : FVec Ideal S4x64x4x64 .f32) shapeCasts_S4x64x4x64_S256x256) bitsLt_bf16_f32

theorem V19 : (V m c main_v19 : S256x256.Idx → EReal) = onesM := by
  unfold V
  simp only [hostOps0, hostOps0_1, hostOps0_2, List.flatten_cons, List.flatten_nil, List.append_nil, List.cons_append, List.nil_append]
  after_results
  rfl

theorem eye_eq (a b : Fin 4) : IntOp.cmpi .eq (IntOp.addi (BitVec.ofNat 32 a.val) 0#32) (BitVec.ofNat 32 b.val) = if a.val = b.val then 1#1 else 0#1 := by
  have h : ∀ a b : Fin 4, IntOp.cmpi .eq (IntOp.addi (BitVec.ofNat 32 a.val) 0#32) (BitVec.ofNat 32 b.val) = if a.val = b.val then 1#1 else 0#1 :=
    of_decide_eq_true (by sl_kernel_rfl)
  exact h a b

theorem onesM_apply (i j : Fin 256) : onesM (ix2 i j) = if i.val / 64 = j.val / 64 then (1 : EReal) else 0 := by
  unfold onesM
  pointwise
  refine (congrArg (FloatOps.uitofp (F := Ideal) FTy.f32) (eye_eq ⟨i.val / 64, by omega⟩ ⟨j.val / 64, by omega⟩)).trans ?_
  show FloatOps.uitofp (F := Ideal) FTy.f32 (if i.val / 64 = j.val / 64 then 1#1 else 0#1) = _
  split <;> simp [FloatOps.uitofp]

/-- The row of the residual stream at a row of the flattened array, and the other arguments. -/
abbrev xr (R : Fin 65536) : Fin 1024 → EReal := fun e => argX m c (ix3 ⟨R.val / 4096, by omega⟩ ⟨R.val % 4096, by omega⟩ e)
abbrev gr : Fin 1024 → EReal := fun e => argG m c (ix1 e)
abbrev wr : Fin 1024 → Fin 3328 → EReal := fun e f => argW m c (ix2 e f)
abbrev qr : Fin 64 → EReal := fun e => argQ m c (ix1 e)
abbrev kr : Fin 64 → EReal := fun e => argK m c (ix1 e)

/-! ## What a point leaves -/

theorem pidx2 {m n a b o p : ℕ} (hin : ∀ k : Fin 2, (![o, p] : Fin 2 → ℕ) k + (![a, b] : Fin 2 → ℕ) k ≤ (⟨2, ![m, n]⟩ : Shape).size k) (i : Fin a) (j : Fin b)
    (h0 : o + i.val < m) (h1 : p + j.val < n) :
    (Rect.unit (s := ⟨2, ![m, n]⟩) ![o, p] ![a, b] hin).toLoadRect.idx (ix2 i j) = ix2 ⟨o + i.val, h0⟩ ⟨p + j.val, h1⟩ := by
  funext k
  match k with
  | 0 => exact Fin.ext (by show o + 1 * i.val = o + i.val; omega)
  | 1 => exact Fin.ext (by show p + 1 * j.val = p + j.val; omega)

theorem ld2 {m n a b o p : ℕ} {e : EltTy} (x : (⟨2, ![m, n]⟩ : Shape).Idx → Elt Ideal e)
    (hin : ∀ k : Fin 2, (![o, p] : Fin 2 → ℕ) k + (![a, b] : Fin 2 → ℕ) k ≤ (⟨2, ![m, n]⟩ : Shape).size k) (i : Fin a) (j : Fin b)
    (h0 : o + i.val < m) (h1 : p + j.val < n) :
    View.ld x (Rect.unit (s := ⟨2, ![m, n]⟩) ![o, p] ![a, b] hin) (ix2 i j) = x (ix2 ⟨o + i.val, h0⟩ ⟨p + j.val, h1⟩) :=
  congrArg x (pidx2 hin i j h0 h1)

theorem ld2_whole {m n : ℕ} {e : EltTy} (x : (⟨2, ![m, n]⟩ : Shape).Idx → Elt Ideal e)
    (hin : ∀ k : Fin 2, (![0, 0] : Fin 2 → ℕ) k + (![m, n] : Fin 2 → ℕ) k ≤ (⟨2, ![m, n]⟩ : Shape).size k) (i : Fin m) (j : Fin n) :
    View.ld x (Rect.unit (s := ⟨2, ![m, n]⟩) ![0, 0] ![m, n] hin) (ix2 i j) = x (ix2 i j) := by
  refine (ld2 x hin i j (by omega) (by omega)).trans ?_
  simp only [Nat.zero_add]

theorem canon2_whole {m n : ℕ} {e : EltTy} (hin : ∀ k : Fin 2, (![0, 0] : Fin 2 → ℕ) k + (![m, n] : Fin 2 → ℕ) k ≤ (⟨2, ![m, n]⟩ : Shape).size k)
    (p : (⟨2, ![m, n]⟩ : Shape).Idx → Elt Ideal e) :
    View.canon [⟨Rect.unit (s := ⟨2, ![m, n]⟩) ![0, 0] ![m, n] hin, p⟩] = p :=
  View.canon_cons_unit_zero (S := ⟨2, ![m, n]⟩) (Val := Elt Ideal) (by funext k; match k with | 0 => rfl | 1 => rfl) hin p []

variable (t : Fin cfg0.N)

theorem norm_eq (r : Fin 512) (d : Fin 1024) :
    k0_pay2 (F := Ideal) (View.ld (iblk m c 0 t) r0_0) (View.ld (iblk m c 1 t) r0_1) (ix2 r d) = rowN (xr m c (rw' t r)) (gr m c) d := by
  refine (pay2_apply _ _ r d).trans ?_
  refine congrFun (congr (congrArg rowN (funext fun e => ?_)) (funext fun e => ?_)) d
  · exact (ld2_whole _ _ r e).trans ((blk0 m c t r e).trans (arr0 m c _ e))
  · exact (ld2_whole _ _ 0 e).trans ((congrFun (blk1 m c t) _).trans (arr1 m c 0 e))

theorem w_eq (d : Fin 1024) (j : Fin 3328) : (iblk m c 2 t : S1024x3328.Idx → EReal) (ix2 d j) = wr m c d j :=
  (congrFun (blk2 m c t) _).trans (arr2 m c d j)

theorem p_eq (r : Fin 512) (j : Fin 1792) :
    k0_pay3 (F := Ideal) (View.ld (iblk m c 0 t) r0_0) (View.ld (iblk m c 1 t) r0_1) (View.ld (iblk m c 2 t) r0_2) (ix2 r j) = rowP (xr m c (rw' t r)) (gr m c) (wr m c) j := by
  unfold rowP
  refine (pay3_apply _ _ _ r j).trans (Finset.sum_congr rfl fun d _ => ?_)
  refine congr (congrArg _ (norm_eq m c t r d)) ((ld2 _ _ d j (by omega) (by omega)).trans ((w_eq m c t _ _).trans ?_))
  exact congrArg₂ (wr m c) (Fin.ext (Nat.zero_add _)) (Fin.ext (Nat.zero_add _))

theorem q_eq (r : Fin 512) (j : Fin 512) :
    k0_pay5 (F := Ideal) (View.ld (iblk m c 0 t) r0_0) (View.ld (iblk m c 1 t) r0_1) (View.ld (iblk m c 2 t) r0_5) (ix2 r j)
      = prj (xr m c (rw' t r)) (gr m c) (wr m c) ⟨1792 + j.val, by omega⟩ := by
  refine (pay5_apply _ _ _ r j).trans (Finset.sum_congr rfl fun d _ => ?_)
  refine congr (congrArg _ (norm_eq m c t r d)) ((ld2 _ _ d j (by omega) (by omega)).trans ((w_eq m c t _ _).trans ?_))
  exact congrArg₂ (wr m c) (Fin.ext (Nat.zero_add _)) rfl

theorem k_eq (r : Fin 512) (j : Fin 512) :
    k0_pay6 (F := Ideal) (View.ld (iblk m c 0 t) r0_0) (View.ld (iblk m c 1 t) r0_1) (View.ld (iblk m c 2 t) r0_6) (ix2 r j)
      = prj (xr m c (rw' t r)) (gr m c) (wr m c) ⟨2304 + j.val, by omega⟩ := by
  refine (pay6_apply _ _ _ r j).trans (Finset.sum_congr rfl fun d _ => ?_)
  refine congr (congrArg _ (norm_eq m c t r d)) ((ld2 _ _ d j (by omega) (by omega)).trans ((w_eq m c t _ _).trans ?_))
  exact congrArg₂ (wr m c) (Fin.ext (Nat.zero_add _)) rfl

theorem v_eq (r : Fin 512) (j : Fin 512) :
    k0_pay7 (F := Ideal) (View.ld (iblk m c 0 t) r0_0) (View.ld (iblk m c 1 t) r0_1) (View.ld (iblk m c 2 t) r0_7) (ix2 r j) = rowV (xr m c (rw' t r)) (gr m c) (wr m c) j := by
  unfold rowV
  refine (pay7_apply _ _ _ r j).trans (Finset.sum_congr rfl fun d _ => ?_)
  refine congr (congrArg _ (norm_eq m c t r d)) ((ld2 _ _ d j (by omega) (by omega)).trans ((w_eq m c t _ _).trans ?_))
  exact congrArg₂ (wr m c) (Fin.ext (Nat.zero_add _)) rfl

theorem ones_eq (i j : Fin 256) : k0_pay4 (F := Ideal) (View.ld (iblk m c 5 t) r0_4) (ix2 i j) = if i.val / 64 = j.val / 64 then (1 : EReal) else 0 := by
  rw [pay4_eq]
  exact (ld2_whole _ _ i j).trans ((congrFun (blk5 m c t) _).trans ((congrFun (V19 m c) _).trans (onesM_apply i j)))

theorem qn_eq (r : Fin 512) (j : Fin 512) :
    k0_pay14 (F := Ideal) (k0_pay4 (F := Ideal) (View.ld (iblk m c 5 t) r0_4)) (k0_pay5 (F := Ideal) (View.ld (iblk m c 0 t) r0_0) (View.ld (iblk m c 1 t) r0_1) (View.ld (iblk m c 2 t) r0_5))
      (View.ld (iblk m c 3 t) r0_13) (ix2 r j) = rowQ (xr m c (rw' t r)) (gr m c) (wr m c) (qr m c) j := by
  refine (pay14_apply _ _ _ (ones_eq m c t) (qr m c) (fun j => (ld2_whole _ _ 0 j).trans ((congrFun (blk3 m c t) _).trans (arr3 m c 0 j))) r j).trans ?_
  unfold rowQ
  refine congrArg (fun y => hn y (qr m c) j * _) (funext fun j => q_eq m c t r j)

theorem kn_eq (r : Fin 512) (j : Fin 512) :
    k0_pay16 (F := Ideal) (k0_pay4 (F := Ideal) (View.ld (iblk m c 5 t) r0_4)) (k0_pay6 (F := Ideal) (View.ld (iblk m c 0 t) r0_0) (View.ld (iblk m c 1 t) r0_1) (View.ld (iblk m c 2 t) r0_6))
      (View.ld (iblk m c 4 t) r0_13) (ix2 r j) = rowK (xr m c (rw' t r)) (gr m c) (wr m c) (kr m c) j := by
  refine (pay16_apply _ _ _ (ones_eq m c t) (kr m c) (fun j => (ld2_whole _ _ 0 j).trans ((congrFun (blk4 m c t) _).trans (arr4 m c 0 j))) r j).trans ?_
  unfold rowK
  refine congrArg (fun y => hn y (kr m c) j) (funext fun j => k_eq m c t r j)

abbrev o6 := out0_6 (F := Ideal) (iblk m c 0 t) (iblk m c 1 t) (iblk m c 2 t) (iblk m c 3 t) (iblk m c 4 t) (iblk m c 5 t)
abbrev o7 := out0_7 (F := Ideal) (iblk m c 0 t) (iblk m c 1 t) (iblk m c 2 t) (iblk m c 3 t) (iblk m c 4 t) (iblk m c 5 t)
abbrev o8 := out0_8 (F := Ideal) (iblk m c 0 t) (iblk m c 1 t) (iblk m c 2 t) (iblk m c 3 t) (iblk m c 4 t) (iblk m c 5 t)
abbrev o9 := out0_9 (F := Ideal) (iblk m c 0 t) (iblk m c 1 t) (iblk m c 2 t) (iblk m c 3 t) (iblk m c 4 t) (iblk m c 5 t)
abbrev o10 := out0_10 (F := Ideal) (iblk m c 0 t) (iblk m c 1 t) (iblk m c 2 t) (iblk m c 3 t) (iblk m c 4 t) (iblk m c 5 t)
abbrev o11 := out0_11 (F := Ideal) (iblk m c 0 t) (iblk m c 1 t) (iblk m c 2 t) (iblk m c 3 t) (iblk m c 4 t) (iblk m c 5 t)

theorem o6_eq (r : Fin 512) (j : Fin 1792) : o6 m c t (ix2 r j) = rowP (xr m c (rw' t r)) (gr m c) (wr m c) j := by
  unfold o6 out0_6
  exact (congrFun (canon2_whole _ _) _).trans (p_eq m c t r j)

theorem o7_eq (r : Fin 512) (j : Fin 512) : o7 m c t (ix2 r j) = rowQ (xr m c (rw' t r)) (gr m c) (wr m c) (qr m c) j := by
  unfold o7 out0_7 k0_pay21
  exact (congrFun (canon2_whole _ _) _).trans ((pay15_apply _ r j).trans (qn_eq m c t r j))

theorem o10_eq (r : Fin 512) (j : Fin 512) : o10 m c t (ix2 r j) = rowK (xr m c (rw' t r)) (gr m c) (wr m c) (kr m c) j := by
  unfold o10 out0_10 k0_pay21 k0_pay22
  exact (congrFun (canon2_whole _ _) _).trans ((pay1_apply _ r j).trans (kn_eq m c t r j))

theorem o11_eq (r : Fin 512) (j : Fin 512) : o11 m c t (ix2 r j) = rowV (xr m c (rw' t r)) (gr m c) (wr m c) j := by
  unfold o11 out0_11 k0_pay23
  exact (congrFun (canon2_whole _ _) _).trans ((pay13_apply _ r j).trans (v_eq m c t r j))

/-- A block of rows of 128 columns, four to a row of 512. -/
def leafB (A : Fin 512 → Fin 512 → EReal) (y : S1x2048x128.Idx) : EReal :=
  A ⟨(y 1).val / 4, by have h : (y 1).val < 2048 := (y 1).isLt; omega⟩ ⟨128 * ((y 1).val % 4) + (y 2).val, by have h : (y 2).val < 128 := (y 2).isLt; omega⟩

theorem leafB_at (A : Fin 512 → Fin 512 → EReal) (y : S1x2048x128.Idx) (r : Fin 512) (j : Fin 512) (h1 : (y 1).val / 4 = r.val) (h2 : 128 * ((y 1).val % 4) + (y 2).val = j.val) :
    A r j = leafB A y := congrArg₂ A (Fin.ext h1.symm) (Fin.ext h2.symm)

theorem o8_eq (y : S1x2048x128.Idx) : o8 m c t y = leafB (fun r j => rowK (xr m c (rw' t r)) (gr m c) (wr m c) (kr m c) j) y := by
  unfold o8 out0_8
  refine View.canon_apply_of_pieces _ _ ?_ y (cover0_8 _ _ _ _ y)
  intro p hp x
  simp only [List.mem_cons, List.not_mem_nil, or_false] at hp
  rcases hp with rfl | rfl | rfl | rfl
  · obtain ⟨r, l, rfl⟩ : ∃ (r : Fin 512) (l : Fin 128), x = ix3 0 r l := ⟨x 1, x 2, by rw [ValueIdx.eq_ix3 x]; congr 1; exact Subsingleton.elim (α := Fin 1) _ _⟩
    refine ((pay20_apply _ _ _ r l).trans (kn_eq m c t r _)).trans (leafB_at (fun r j => rowK (xr m c (rw' t r)) (gr m c) (wr m c) (kr m c) j) _ r _ ?_ ?_)
    · show (3 + 4 * r.val) / 4 = r.val; omega
    · show 128 * ((3 + 4 * r.val) % 4) + (0 + 1 * l.val) = 384 + l.val; omega
  · obtain ⟨r, l, rfl⟩ : ∃ (r : Fin 512) (l : Fin 128), x = ix3 0 r l := ⟨x 1, x 2, by rw [ValueIdx.eq_ix3 x]; congr 1; exact Subsingleton.elim (α := Fin 1) _ _⟩
    refine ((pay19_apply _ _ _ r l).trans (kn_eq m c t r _)).trans (leafB_at (fun r j => rowK (xr m c (rw' t r)) (gr m c) (wr m c) (kr m c) j) _ r _ ?_ ?_)
    · show (2 + 4 * r.val) / 4 = r.val; omega
    · show 128 * ((2 + 4 * r.val) % 4) + (0 + 1 * l.val) = 256 + l.val; omega
  · obtain ⟨r, l, rfl⟩ : ∃ (r : Fin 512) (l : Fin 128), x = ix3 0 r l := ⟨x 1, x 2, by rw [ValueIdx.eq_ix3 x]; congr 1; exact Subsingleton.elim (α := Fin 1) _ _⟩
    refine ((pay18_apply _ _ _ r l).trans (kn_eq m c t r _)).trans (leafB_at (fun r j => rowK (xr m c (rw' t r)) (gr m c) (wr m c) (kr m c) j) _ r _ ?_ ?_)
    · show (1 + 4 * r.val) / 4 = r.val; omega
    · show 128 * ((1 + 4 * r.val) % 4) + (0 + 1 * l.val) = 128 + l.val; omega
  · obtain ⟨r, l, rfl⟩ : ∃ (r : Fin 512) (l : Fin 128), x = ix3 0 r l := ⟨x 1, x 2, by rw [ValueIdx.eq_ix3 x]; congr 1; exact Subsingleton.elim (α := Fin 1) _ _⟩
    refine ((pay17_apply _ _ _ r l).trans (kn_eq m c t r _)).trans (leafB_at (fun r j => rowK (xr m c (rw' t r)) (gr m c) (wr m c) (kr m c) j) _ r _ ?_ ?_)
    · show (0 + 4 * r.val) / 4 = r.val; omega
    · show 128 * ((0 + 4 * r.val) % 4) + (0 + 1 * l.val) = 0 + l.val; omega

theorem o9_eq (y : S1x2048x128.Idx) : o9 m c t y = leafB (fun r j => rowV (xr m c (rw' t r)) (gr m c) (wr m c) j) y := by
  unfold o9 out0_9
  refine View.canon_apply_of_pieces _ _ ?_ y (cover0_9 _ _ _ _ y)
  intro p hp x
  simp only [List.mem_cons, List.not_mem_nil, or_false] at hp
  rcases hp with rfl | rfl | rfl | rfl
  · obtain ⟨r, l, rfl⟩ : ∃ (r : Fin 512) (l : Fin 128), x = ix3 0 r l := ⟨x 1, x 2, by rw [ValueIdx.eq_ix3 x]; congr 1; exact Subsingleton.elim (α := Fin 1) _ _⟩
    refine ((pay12_apply _ r l).trans (v_eq m c t r _)).trans (leafB_at (fun r j => rowV (xr m c (rw' t r)) (gr m c) (wr m c) j) _ r _ ?_ ?_)
    · show (3 + 4 * r.val) / 4 = r.val; omega
    · show 128 * ((3 + 4 * r.val) % 4) + (0 + 1 * l.val) = 384 + l.val; omega
  · obtain ⟨r, l, rfl⟩ : ∃ (r : Fin 512) (l : Fin 128), x = ix3 0 r l := ⟨x 1, x 2, by rw [ValueIdx.eq_ix3 x]; congr 1; exact Subsingleton.elim (α := Fin 1) _ _⟩
    refine ((pay11_apply _ r l).trans (v_eq m c t r _)).trans (leafB_at (fun r j => rowV (xr m c (rw' t r)) (gr m c) (wr m c) j) _ r _ ?_ ?_)
    · show (2 + 4 * r.val) / 4 = r.val; omega
    · show 128 * ((2 + 4 * r.val) % 4) + (0 + 1 * l.val) = 256 + l.val; omega
  · obtain ⟨r, l, rfl⟩ : ∃ (r : Fin 512) (l : Fin 128), x = ix3 0 r l := ⟨x 1, x 2, by rw [ValueIdx.eq_ix3 x]; congr 1; exact Subsingleton.elim (α := Fin 1) _ _⟩
    refine ((pay10_apply _ r l).trans (v_eq m c t r _)).trans (leafB_at (fun r j => rowV (xr m c (rw' t r)) (gr m c) (wr m c) j) _ r _ ?_ ?_)
    · show (1 + 4 * r.val) / 4 = r.val; omega
    · show 128 * ((1 + 4 * r.val) % 4) + (0 + 1 * l.val) = 128 + l.val; omega
  · obtain ⟨r, l, rfl⟩ : ∃ (r : Fin 512) (l : Fin 128), x = ix3 0 r l := ⟨x 1, x 2, by rw [ValueIdx.eq_ix3 x]; congr 1; exact Subsingleton.elim (α := Fin 1) _ _⟩
    refine ((pay9_apply _ _ _ r l).trans (v_eq m c t r _)).trans (leafB_at (fun r j => rowV (xr m c (rw' t r)) (gr m c) (wr m c) j) _ r _ ?_ ?_)
    · show (0 + 4 * r.val) / 4 = r.val; omega
    · show 128 * ((0 + 4 * r.val) % 4) + (0 + 1 * l.val) = 0 + l.val; omega

end Cert.Kernel3Ideal.Proj

end
-- ==== Proof.ProjRef.lean ====
/- The input projection's reference, operation by operation, read element by element. -/
module

public import proofs.«01_k».proof.Proof.Gen.Reference3Ideal.Run
public import proofs.«01_k».proof.Proof.ProjMath
public import Idealize.ShloMosaic.Lib.Pointwise
public import Idealize.ShloMosaic.Lib.IdealHost
public import Idealize.ShloMosaic.Lib.Pipeline.ValueKit

@[expose] public section

set_option maxRecDepth 16384

noncomputable section

namespace Cert.Reference3Ideal.Proj

open Cert.Reference3Ideal Cert.Reference3Ideal.Gen Cert.Ffn Cert.Proj
open Idealize.ShloMosaic Idealize.ShloMosaic.TcCoe Idealize.SL.Sem Idealize.ShloMosaic.StableHlo

section generic
variable {F : FTy → Type} [FloatOps F]

/-- The normed rows. -/
def rN (x : FVec F S16x4096x1024 .f32) (g : FVec F S1024 .f32) : FVec F S16x4096x1024 .f32 :=
  mulf (mulf x (broadcastInDim S16x4096x1024 ![0, 1, 2] bcast_S16x4096x1_S16x4096x1024_0_1_2 (Host.rsqrt (addf
      (Host.divf (broadcastInDim S16x4096x1 ![0, 1] bcast_S16x4096_S16x4096x1_0_1
        (Host.reduceAdd (mulf x x) (constant S_ .f32 0x00000000#32) reducesTo_S16x4096x1024_S16x4096_d2 h_S_))
        (broadcastInDim S16x4096x1 ![] bcast_S_S16x4096x1 (constant S_ .f32 0x44800000#32)))
      (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 g))

/-- The projected rows. -/
def rP (x : FVec F S16x4096x1024 .f32) (g : FVec F S1024 .f32) (w : FVec F S1024x3328 .f32) : FVec F S16x4096x3328 .f32 :=
  Host.dotGeneral dot_S16x4096x1024_S1024x3328_S16x4096x3328_2_0_01_1_n_n none (rN x g) w

/-- The columns of the queries, of the keys and of the values, and the ones before them. -/
def rQc (p : FVec F S16x4096x3328 .f32) : FVec F S16x4096x4x2x64 .f32 :=
  shapeCast _ (extractStridedSlice S16x4096x512 ![0, 0, 1792] p slices_S16x4096x3328_S16x4096x512_0_0_1792) shapeCasts_S16x4096x512_S16x4096x4x2x64
def rKc (p : FVec F S16x4096x3328 .f32) : FVec F S16x4096x4x2x64 .f32 :=
  shapeCast _ (extractStridedSlice S16x4096x512 ![0, 0, 2304] p slices_S16x4096x3328_S16x4096x512_0_0_2304) shapeCasts_S16x4096x512_S16x4096x4x2x64
def rV (p : FVec F S16x4096x3328 .f32) : FVec F S16x4096x512 .f32 :=
  extractStridedSlice S16x4096x512 ![0, 0, 2816] p slices_S16x4096x3328_S16x4096x512_0_0_2816

/-- Every half head of every row, normed. -/
def rHn (t : FVec F S16x4096x4x2x64 .f32) (g : FVec F S64 .f32) : FVec F S16x4096x4x2x64 .f32 :=
  mulf (mulf t (broadcastInDim S16x4096x4x2x64 ![0, 1, 2, 3, 4] bcast_S16x4096x4x2x1_S16x4096x4x2x64_0_1_2_3_4 (Host.rsqrt (addf
      (Host.divf (broadcastInDim S16x4096x4x2x1 ![0, 1, 2, 3] bcast_S16x4096x4x2_S16x4096x4x2x1_0_1_2_3
        (Host.reduceAdd (mulf t t) (constant S_ .f32 0x00000000#32) reducesTo_S16x4096x4x2x64_S16x4096x4x2_d4 h_S_))
        (broadcastInDim S16x4096x4x2x1 ![] bcast_S_S16x4096x4x2x1 (constant S_ .f32 0x42800000#32)))
      (broadcastInDim S16x4096x4x2x1 ![] bcast_S_S16x4096x4x2x1 (constant S_ .f32 0x358637BD#32))))))
    (broadcastInDim S16x4096x4x2x64 ![0, 1, 2, 3, 4] bcast_S1x1x1x1x64_S16x4096x4x2x64_0_1_2_3_4 (broadcastInDim S1x1x1x1x64 ![4] bcast_S64_S1x1x1x1x64_4 g))

/-- The queries, scaled. -/
def rScale (t : FVec F S16x4096x4x2x64 .f32) : FVec F S16x4096x4x2x64 .f32 :=
  mulf t (broadcastInDim S16x4096x4x2x64 ![] bcast_S_S16x4096x4x2x64 (constant S_ .f32 0x3E38AA3B#32))

/-- The six results. -/
def resP (x : FVec F S16x4096x1024 .f32) (g : FVec F S1024 .f32) (w : FVec F S1024x3328 .f32) : FVec F S65536x1792 .f32 :=
  shapeCast _ (extractStridedSlice S16x4096x1792 ![0, 0, 0] (rP x g w) slices_S16x4096x3328_S16x4096x1792_0_0_0) shapeCasts_S16x4096x1792_S65536x1792
def resQ (x : FVec F S16x4096x1024 .f32) (g : FVec F S1024 .f32) (w : FVec F S1024x3328 .f32) (qg : FVec F S64 .f32) : FVec F S65536x512 .bf16 :=
  truncf .bf16 (shapeCast S65536x512 (rScale (rHn (rQc (rP x g w)) qg)) shapeCasts_S16x4096x4x2x64_S65536x512) bitsLt_bf16_f32
def resKl (x : FVec F S16x4096x1024 .f32) (g : FVec F S1024 .f32) (w : FVec F S1024x3328 .f32) (kg : FVec F S64 .f32) : FVec F S1x262144x128 .f32 :=
  shapeCast _ (rHn (rKc (rP x g w)) kg) shapeCasts_S16x4096x4x2x64_S1x262144x128
def resVl (x : FVec F S16x4096x1024 .f32) (g : FVec F S1024 .f32) (w : FVec F S1024x3328 .f32) : FVec F S1x262144x128 .f32 :=
  shapeCast _ (rV (rP x g w)) shapeCasts_S16x4096x512_S1x262144x128
def resKb (x : FVec F S16x4096x1024 .f32) (g : FVec F S1024 .f32) (w : FVec F S1024x3328 .f32) (kg : FVec F S64 .f32) : FVec F S65536x512 .bf16 :=
  truncf .bf16 (shapeCast S65536x512 (rHn (rKc (rP x g w)) kg) shapeCasts_S16x4096x4x2x64_S65536x512) bitsLt_bf16_f32
def resVb (x : FVec F S16x4096x1024 .f32) (g : FVec F S1024 .f32) (w : FVec F S1024x3328 .f32) : FVec F S65536x512 .bf16 :=
  truncf .bf16 (shapeCast S65536x512 (rV (rP x g w)) shapeCasts_S16x4096x512_S65536x512) bitsLt_bf16_f32

/-- The run, with the results named. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = resP (m ((c.tc : Thread nD τ).loc main_arg0)) (m ((c.tc : Thread nD τ).loc main_arg1)) (m ((c.tc : Thread nD τ).loc main_arg2))
      ∧ r.2.mem ((c.tc : Thread nD τ).loc main_v50) = resQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v51) = resKl (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v52) = resVl (m ((c.tc : Thread nD τ).loc main_arg0)) (m ((c.tc : Thread nD τ).loc main_arg1)) (m ((c.tc : Thread nD τ).loc main_arg2))
      ∧ r.2.mem ((c.tc : Thread nD τ).loc main_v54) = resKb (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v56) = resVb (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2.1, (h c).2.2.1, (h c).2.2.2.1, (h c).2.2.2.2.1, (h c).2.2.2.2.2.1, (h c).2.2.2.2.2.2⟩) (Value.run (F := F) m ρ)

end generic

variable (x : FVec Ideal S16x4096x1024 .f32) (g : FVec Ideal S1024 .f32) (w : FVec Ideal S1024x3328 .f32) (qg kg : FVec Ideal S64 .f32)

theorem rN_apply (b : Fin 16) (t : Fin 4096) (d : Fin 1024) :
    rN (F := Ideal) x g (ix3 b t d) = rowN (fun e => x (ix3 b t e)) (fun e => g (ix1 e)) d := by
  unfold rN rowN
  pointwise

/-- Row `(b, t)` of the projection. -/
abbrev prow (b : Fin 16) (t : Fin 4096) : Fin 3328 → EReal := prj (fun e => x (ix3 b t e)) (fun e => g (ix1 e)) (fun e f => w (ix2 e f))

theorem rP_apply (b : Fin 16) (t : Fin 4096) (j : Fin 3328) : rP (F := Ideal) x g w (ix3 b t j) = prow x g w b t j := by
  have h : rP (F := Ideal) x g w (ix3 b t j) = ∑ d : Fin 1024, rN (F := Ideal) x g (ix3 b t d) * w (ix2 d j) := by
    unfold rP
    pointwise
  rw [h]
  unfold prow prj
  simp only [rN_apply]

theorem rQc_apply (p : FVec Ideal S16x4096x3328 .f32) (b : Fin 16) (t : Fin 4096) (i : Fin 4) (k : Fin 2) (l : Fin 64) :
    rQc (F := Ideal) p (ix5 b t i k l) = p (ix3 b t ⟨1792 + (128 * i.val + 64 * k.val + l.val), by omega⟩) := by
  unfold rQc
  pointwise
  exact congrArg (fun j => p (ix3 b t j)) (Fin.ext (by dsimp only; omega))

theorem rKc_apply (p : FVec Ideal S16x4096x3328 .f32) (b : Fin 16) (t : Fin 4096) (i : Fin 4) (k : Fin 2) (l : Fin 64) :
    rKc (F := Ideal) p (ix5 b t i k l) = p (ix3 b t ⟨2304 + (128 * i.val + 64 * k.val + l.val), by omega⟩) := by
  unfold rKc
  pointwise
  exact congrArg (fun j => p (ix3 b t j)) (Fin.ext (by dsimp only; omega))

theorem rV_apply (p : FVec Ideal S16x4096x3328 .f32) (b : Fin 16) (t : Fin 4096) (j : Fin 512) :
    rV (F := Ideal) p (ix3 b t j) = p (ix3 b t ⟨2816 + j.val, by omega⟩) := by
  unfold rV
  pointwise

theorem rHn_apply (t : FVec Ideal S16x4096x4x2x64 .f32) (g : FVec Ideal S64 .f32) (b : Fin 16) (s : Fin 4096) (i : Fin 4) (k : Fin 2) (l : Fin 64) :
    rHn (F := Ideal) t g (ix5 b s i k l) = t (ix5 b s i k l) * Ideal.rsqrt (Ideal.div (∑ e : Fin 64, t (ix5 b s i k e) * t (ix5 b s i k e)) (Ideal.ofBits .f32 0x42800000#32)
      + Ideal.ofBits .f32 0x358637BD#32) * g (ix1 l) := by
  unfold rHn
  pointwise

end Cert.Reference3Ideal.Proj

end
-- ==== Proof.ProjAgree.lean ====
/- The input projection's results, array by array, and that they are the reference's. -/
module

public import proofs.«01_k».proof.Proof.ProjEntry
public import proofs.«01_k».proof.Proof.ProjRef

@[expose] public section

set_option maxRecDepth 16384

noncomputable section

namespace Cert.Reference3Ideal.Proj

open Cert.Reference3Ideal Cert.Reference3Ideal.Gen Cert.Ffn Cert.Proj
open Idealize.ShloMosaic Idealize.ShloMosaic.TcCoe

variable (x : FVec Ideal S16x4096x1024 .f32) (g : FVec Ideal S1024 .f32) (w : FVec Ideal S1024x3328 .f32) (qg kg : FVec Ideal S64 .f32)

/-- The row of the residual stream at a row of the flattened array, and the other arguments. -/
abbrev xr (R : Fin 65536) : Fin 1024 → EReal := fun e => x (ix3 ⟨R.val / 4096, by omega⟩ ⟨R.val % 4096, by omega⟩ e)
abbrev gr : Fin 1024 → EReal := fun e => g (ix1 e)
abbrev wr : Fin 1024 → Fin 3328 → EReal := fun e f => w (ix2 e f)
abbrev hr (g : FVec Ideal S64 .f32) : Fin 64 → EReal := fun e => g (ix1 e)

/-- The normed half heads of a row whose columns are `y`. -/
theorem hn_eq (t : FVec Ideal S16x4096x4x2x64 .f32) (g : FVec Ideal S64 .f32) (b : Fin 16) (s : Fin 4096) (y : Fin 512 → EReal)
    (h : ∀ (i : Fin 4) (k : Fin 2) (l : Fin 64), t (ix5 b s i k l) = y ⟨128 * i.val + 64 * k.val + l.val, by omega⟩) (i : Fin 4) (k : Fin 2) (l : Fin 64) (j : Fin 512)
    (hj : j.val = 128 * i.val + 64 * k.val + l.val) : rHn (F := Ideal) t g (ix5 b s i k l) = hn y (hr g) j := by
  rw [rHn_apply]
  simp only [h]
  unfold hn
  have e1 : (⟨128 * i.val + 64 * k.val + l.val, by omega⟩ : Fin 512) = j := Fin.ext hj.symm
  have e2 : ∀ e : Fin 64, (⟨128 * i.val + 64 * k.val + e.val, by omega⟩ : Fin 512) = hcol j e :=
    fun e => Fin.ext (by show 128 * i.val + 64 * k.val + e.val = 64 * (j.val / 64) + e.val; omega)
  have e3 : (⟨j.val % 64, by omega⟩ : Fin 64) = l := Fin.ext (by show j.val % 64 = l.val; omega)
  simp only [e1, e2, e3]

theorem q_at (b : Fin 16) (s : Fin 4096) (i : Fin 4) (k : Fin 2) (l : Fin 64) (j : Fin 512) (hj : j.val = 128 * i.val + 64 * k.val + l.val) :
    rHn (F := Ideal) (rQc (F := Ideal) (rP (F := Ideal) x g w)) qg (ix5 b s i k l) = hn (fun j => prow x g w b s ⟨1792 + j.val, by omega⟩) (hr qg) j :=
  hn_eq _ qg b s (fun j => prow x g w b s ⟨1792 + j.val, by omega⟩) (fun i k l => (rQc_apply _ b s i k l).trans (rP_apply x g w b s _)) i k l j hj

theorem k_at (b : Fin 16) (s : Fin 4096) (i : Fin 4) (k : Fin 2) (l : Fin 64) (j : Fin 512) (hj : j.val = 128 * i.val + 64 * k.val + l.val) :
    rHn (F := Ideal) (rKc (F := Ideal) (rP (F := Ideal) x g w)) kg (ix5 b s i k l) = hn (fun j => prow x g w b s ⟨2304 + j.val, by omega⟩) (hr kg) j :=
  hn_eq _ kg b s (fun j => prow x g w b s ⟨2304 + j.val, by omega⟩) (fun i k l => (rKc_apply _ b s i k l).trans (rP_apply x g w b s _)) i k l j hj

theorem resP_apply (R : Fin 65536) (j : Fin 1792) : resP (F := Ideal) x g w (ix2 R j) = rowP (xr x R) (gr g) (wr w) j := by
  have h : resP (F := Ideal) x g w (ix2 R j) = rP (F := Ideal) x g w (ix3 ⟨R.val / 4096, by omega⟩ ⟨R.val % 4096, by omega⟩ ⟨j.val, by omega⟩) := by
    unfold resP
    pointwise
  exact h.trans (rP_apply x g w _ _ _)

theorem resVb_apply (R : Fin 65536) (j : Fin 512) : resVb (F := Ideal) x g w (ix2 R j) = rowV (xr x R) (gr g) (wr w) j := by
  have h : resVb (F := Ideal) x g w (ix2 R j) = rV (F := Ideal) (rP (F := Ideal) x g w) (ix3 ⟨R.val / 4096, by omega⟩ ⟨R.val % 4096, by omega⟩ j) := by
    unfold resVb
    pointwise
  exact h.trans ((rV_apply _ _ _ _).trans (rP_apply x g w _ _ _))

theorem resQ_apply (R : Fin 65536) (j : Fin 512) : resQ (F := Ideal) x g w qg (ix2 R j) = rowQ (xr x R) (gr g) (wr w) (hr qg) j := by
  have h : resQ (F := Ideal) x g w qg (ix2 R j) = rHn (F := Ideal) (rQc (F := Ideal) (rP (F := Ideal) x g w)) qg (ix5 ⟨R.val / 4096, by omega⟩ ⟨R.val % 4096, by omega⟩
      ⟨j.val / 128, by omega⟩ ⟨j.val / 64 % 2, by omega⟩ ⟨j.val % 64, by omega⟩) * Ideal.ofBits .f32 0x3E38AA3B#32 := by
    unfold resQ rScale
    pointwise
  rw [h, q_at x g w qg _ _ _ _ _ j (by show j.val = 128 * (j.val / 128) + 64 * (j.val / 64 % 2) + j.val % 64; omega)]
  rfl

theorem resKb_apply (R : Fin 65536) (j : Fin 512) : resKb (F := Ideal) x g w kg (ix2 R j) = rowK (xr x R) (gr g) (wr w) (hr kg) j := by
  have h : resKb (F := Ideal) x g w kg (ix2 R j) = rHn (F := Ideal) (rKc (F := Ideal) (rP (F := Ideal) x g w)) kg (ix5 ⟨R.val / 4096, by omega⟩ ⟨R.val % 4096, by omega⟩
      ⟨j.val / 128, by omega⟩ ⟨j.val / 64 % 2, by omega⟩ ⟨j.val % 64, by omega⟩) := by
    unfold resKb
    pointwise
  rw [h, k_at x g w kg _ _ _ _ _ j (by show j.val = 128 * (j.val / 128) + 64 * (j.val / 64 % 2) + j.val % 64; omega)]
  rfl

/-- A row of a leaf is a head of a position: row `ρ` is head `ρ % 4` of row `ρ / 4`. -/
theorem resVl_apply (ρ : Fin 262144) (l : Fin 128) :
    resVl (F := Ideal) x g w (ix3 0 ρ l) = rowV (xr x ⟨ρ.val / 4, by omega⟩) (gr g) (wr w) ⟨128 * (ρ.val % 4) + l.val, by omega⟩ := by
  have h : resVl (F := Ideal) x g w (ix3 0 ρ l) = rV (F := Ideal) (rP (F := Ideal) x g w) (ix3 ⟨ρ.val / 4 / 4096, by omega⟩ ⟨ρ.val / 4 % 4096, by omega⟩ ⟨128 * (ρ.val % 4) + l.val, by omega⟩) := by
    unfold resVl
    pointwise
    exact congrArg₂ (fun b j => rV (F := Ideal) (rP (F := Ideal) x g w) (ix3 b ⟨ρ.val / 4 % 4096, by omega⟩ j)) (Fin.ext (by show ρ.val / 16384 = ρ.val / 4 / 4096; omega))
      (Fin.ext (by show ρ.val % 4 * 128 + l.val = 128 * (ρ.val % 4) + l.val; omega))
  exact h.trans ((rV_apply _ _ _ _).trans (rP_apply x g w _ _ _))

theorem resKl_apply (ρ : Fin 262144) (l : Fin 128) :
    resKl (F := Ideal) x g w kg (ix3 0 ρ l) = rowK (xr x ⟨ρ.val / 4, by omega⟩) (gr g) (wr w) (hr kg) ⟨128 * (ρ.val % 4) + l.val, by omega⟩ := by
  have h : resKl (F := Ideal) x g w kg (ix3 0 ρ l) = rHn (F := Ideal) (rKc (F := Ideal) (rP (F := Ideal) x g w)) kg (ix5 ⟨ρ.val / 4 / 4096, by omega⟩ ⟨ρ.val / 4 % 4096, by omega⟩
      ⟨ρ.val % 4, by omega⟩ ⟨l.val / 64, by omega⟩ ⟨l.val % 64, by omega⟩) := by
    unfold resKl
    pointwise
    exact congrArg (fun b => rHn (F := Ideal) (rKc (F := Ideal) (rP (F := Ideal) x g w)) kg (ix5 b ⟨ρ.val / 4 % 4096, by omega⟩ ⟨ρ.val % 4, by omega⟩ ⟨l.val / 64, by omega⟩ ⟨l.val % 64, by omega⟩))
      (Fin.ext (by show ρ.val / 16384 = ρ.val / 4 / 4096; omega))
  rw [h, k_at x g w kg _ _ _ _ _ ⟨128 * (ρ.val % 4) + l.val, by omega⟩ (by show 128 * (ρ.val % 4) + l.val = 128 * (ρ.val % 4) + 64 * (l.val / 64) + l.val % 64; omega)]
  rfl

end Cert.Reference3Ideal.Proj

namespace Cert.Kernel3Ideal.Proj

open Cert.Kernel3Ideal Cert.Kernel3Ideal.Gen Cert.Ffn Cert.Proj
open Idealize.ShloMosaic Idealize.ShloMosaic.TcCoe Idealize.ShloMosaic.Tactic Idealize.SL.Sem
open Idealize.ShloMosaic.Pipeline (Dat Cfg Window)

theorem covers6 : (cfg0.win 6).Covers := of_decide_eq_true (by sl_kernel_rfl)
theorem covers7 : (cfg0.win 7).Covers := of_decide_eq_true (by sl_kernel_rfl)
theorem covers8 : (cfg0.win 8).Covers := of_decide_eq_true (by sl_kernel_rfl)
theorem covers9 : (cfg0.win 9).Covers := of_decide_eq_true (by sl_kernel_rfl)
theorem covers10 : (cfg0.win 10).Covers := of_decide_eq_true (by sl_kernel_rfl)
theorem covers11 : (cfg0.win 11).Covers := of_decide_eq_true (by sl_kernel_rfl)

variable (m : (ℓ : Loc nD τ sig) → Buf (Elt Ideal) ℓ) (c : Dev nD)

attribute [local irreducible] out0_6 out0_7 out0_8 out0_9 out0_10 out0_11

/-! The six arrays. -/

def F6 : S65536x1792.Idx → EReal := fun y => rowP (xr m c ⟨(y 0).val, (y 0).isLt⟩) (gr m c) (wr m c) ⟨(y 1).val, (y 1).isLt⟩
def F7 : S65536x512.Idx → EReal := fun y => rowQ (xr m c ⟨(y 0).val, (y 0).isLt⟩) (gr m c) (wr m c) (qr m c) ⟨(y 1).val, (y 1).isLt⟩
def F10 : S65536x512.Idx → EReal := fun y => rowK (xr m c ⟨(y 0).val, (y 0).isLt⟩) (gr m c) (wr m c) (kr m c) ⟨(y 1).val, (y 1).isLt⟩
def F11 : S65536x512.Idx → EReal := fun y => rowV (xr m c ⟨(y 0).val, (y 0).isLt⟩) (gr m c) (wr m c) ⟨(y 1).val, (y 1).isLt⟩
def F8 : S1x262144x128.Idx → EReal := fun y => rowK (xr m c ⟨(y 1).val / 4, by have h : (y 1).val < 262144 := (y 1).isLt; omega⟩) (gr m c) (wr m c) (kr m c)
  ⟨128 * ((y 1).val % 4) + (y 2).val, by have h : (y 2).val < 128 := (y 2).isLt; omega⟩
def F9 : S1x262144x128.Idx → EReal := fun y => rowV (xr m c ⟨(y 1).val / 4, by have h : (y 1).val < 262144 := (y 1).isLt; omega⟩) (gr m c) (wr m c)
  ⟨128 * ((y 1).val % 4) + (y 2).val, by have h : (y 2).val < 128 := (y 2).isLt; omega⟩

theorem pt6 (t : Fin cfg0.N) (y : S512x1792.Idx) (a : Fin 65536) (b : Fin 1792) (ha : a.val = 512 * t.val + (y 0).val) (hb : b.val = (y 1).val) :
    o6 m c t y = rowP (xr m c a) (gr m c) (wr m c) b := by
  obtain ⟨r, l, rfl⟩ : ∃ (r : Fin 512) (l : Fin 1792), y = ix2 r l := ⟨y 0, y 1, ValueIdx.eq_ix2 y⟩
  have ea : a = rw' t r := Fin.ext ha
  have eb : b = l := Fin.ext hb
  rw [ea, eb]
  exact o6_eq m c t r l

theorem fin6 : ((dats (F := Ideal) m 0 c).arrAt 6 cfg0.N : S65536x1792.Idx → EReal) = F6 m c := by
  refine (dats (F := Ideal) m 0 c).arrAt_eq_of_covers 6 (F6 m c) covers6 fun t hf y => ?_
  have h := (idxO t).1
  unfold F6
  blk_simp [h]
  rw [after0_6]
  exact pt6 m c t y _ _ (by show t.val * 512 + (y 0).val = 512 * t.val + (y 0).val; omega) (by first | rfl | (show 0 * 1792 + (y 1).val = (y 1).val; omega))

theorem pt7 (t : Fin cfg0.N) (y : S512x512.Idx) (a : Fin 65536) (b : Fin 512) (ha : a.val = 512 * t.val + (y 0).val) (hb : b.val = (y 1).val) :
    o7 m c t y = rowQ (xr m c a) (gr m c) (wr m c) (qr m c) b := by
  obtain ⟨r, l, rfl⟩ : ∃ (r : Fin 512) (l : Fin 512), y = ix2 r l := ⟨y 0, y 1, ValueIdx.eq_ix2 y⟩
  have ea : a = rw' t r := Fin.ext ha
  have eb : b = l := Fin.ext hb
  rw [ea, eb]
  exact o7_eq m c t r l

theorem fin7 : ((dats (F := Ideal) m 0 c).arrAt 7 cfg0.N : S65536x512.Idx → EReal) = F7 m c := by
  refine (dats (F := Ideal) m 0 c).arrAt_eq_of_covers 7 (F7 m c) covers7 fun t hf y => ?_
  have h := (idxO t).2.1
  unfold F7
  blk_simp [h]
  rw [after0_7]
  exact pt7 m c t y _ _ (by show t.val * 512 + (y 0).val = 512 * t.val + (y 0).val; omega) (by first | rfl | (show 0 * 512 + (y 1).val = (y 1).val; omega))

theorem pt10 (t : Fin cfg0.N) (y : S512x512.Idx) (a : Fin 65536) (b : Fin 512) (ha : a.val = 512 * t.val + (y 0).val) (hb : b.val = (y 1).val) :
    o10 m c t y = rowK (xr m c a) (gr m c) (wr m c) (kr m c) b := by
  obtain ⟨r, l, rfl⟩ : ∃ (r : Fin 512) (l : Fin 512), y = ix2 r l := ⟨y 0, y 1, ValueIdx.eq_ix2 y⟩
  have ea : a = rw' t r := Fin.ext ha
  have eb : b = l := Fin.ext hb
  rw [ea, eb]
  exact o10_eq m c t r l

theorem fin10 : ((dats (F := Ideal) m 0 c).arrAt 10 cfg0.N : S65536x512.Idx → EReal) = F10 m c := by
  refine (dats (F := Ideal) m 0 c).arrAt_eq_of_covers 10 (F10 m c) covers10 fun t hf y => ?_
  have h := (idxO t).2.2.2.2.1
  unfold F10
  blk_simp [h]
  rw [after0_10]
  exact pt10 m c t y _ _ (by show t.val * 512 + (y 0).val = 512 * t.val + (y 0).val; omega) (by first | rfl | (show 0 * 512 + (y 1).val = (y 1).val; omega))

theorem pt11 (t : Fin cfg0.N) (y : S512x512.Idx) (a : Fin 65536) (b : Fin 512) (ha : a.val = 512 * t.val + (y 0).val) (hb : b.val = (y 1).val) :
    o11 m c t y = rowV (xr m c a) (gr m c) (wr m c) b := by
  obtain ⟨r, l, rfl⟩ : ∃ (r : Fin 512) (l : Fin 512), y = ix2 r l := ⟨y 0, y 1, ValueIdx.eq_ix2 y⟩
  have ea : a = rw' t r := Fin.ext ha
  have eb : b = l := Fin.ext hb
  rw [ea, eb]
  exact o11_eq m c t r l

theorem fin11 : ((dats (F := Ideal) m 0 c).arrAt 11 cfg0.N : S65536x512.Idx → EReal) = F11 m c := by
  refine (dats (F := Ideal) m 0 c).arrAt_eq_of_covers 11 (F11 m c) covers11 fun t hf y => ?_
  have h := (idxO t).2.2.2.2.2
  unfold F11
  blk_simp [h]
  rw [after0_11]
  exact pt11 m c t y _ _ (by show t.val * 512 + (y 0).val = 512 * t.val + (y 0).val; omega) (by first | rfl | (show 0 * 512 + (y 1).val = (y 1).val; omega))

theorem pt8 (t : Fin cfg0.N) (y : S1x2048x128.Idx) (a : Fin 65536) (b : Fin 512) (ha : a.val = 512 * t.val + (y 1).val / 4) (hb : b.val = 128 * ((y 1).val % 4) + (y 2).val) :
    o8 m c t y = rowK (xr m c a) (gr m c) (wr m c) (kr m c) b := by
  have h1 : (y 1).val < 2048 := (y 1).isLt
  have ea : a = rw' t ⟨(y 1).val / 4, by omega⟩ := Fin.ext ha
  rw [ea]
  refine (o8_eq m c t y).trans (leafB_at (fun r j => rowK (xr m c (rw' t r)) (gr m c) (wr m c) (kr m c) j) y _ b rfl hb.symm).symm

theorem fin8 : ((dats (F := Ideal) m 0 c).arrAt 8 cfg0.N : S1x262144x128.Idx → EReal) = F8 m c := by
  refine (dats (F := Ideal) m 0 c).arrAt_eq_of_covers 8 (F8 m c) covers8 fun t hf y => ?_
  have h := (idxO t).2.2.1
  unfold F8
  blk_simp [h]
  rw [after0_8]
  exact pt8 m c t y _ _ (by show (t.val * 2048 + (y 1).val) / 4 = 512 * t.val + (y 1).val / 4; omega)
    (by show 128 * ((t.val * 2048 + (y 1).val) % 4) + (y 2).val = 128 * ((y 1).val % 4) + (y 2).val; omega)

theorem pt9 (t : Fin cfg0.N) (y : S1x2048x128.Idx) (a : Fin 65536) (b : Fin 512) (ha : a.val = 512 * t.val + (y 1).val / 4) (hb : b.val = 128 * ((y 1).val % 4) + (y 2).val) :
    o9 m c t y = rowV (xr m c a) (gr m c) (wr m c) b := by
  have h1 : (y 1).val < 2048 := (y 1).isLt
  have ea : a = rw' t ⟨(y 1).val / 4, by omega⟩ := Fin.ext ha
  rw [ea]
  refine (o9_eq m c t y).trans (leafB_at (fun r j => rowV (xr m c (rw' t r)) (gr m c) (wr m c) j) y _ b rfl hb.symm).symm

theorem fin9 : ((dats (F := Ideal) m 0 c).arrAt 9 cfg0.N : S1x262144x128.Idx → EReal) = F9 m c := by
  refine (dats (F := Ideal) m 0 c).arrAt_eq_of_covers 9 (F9 m c) covers9 fun t hf y => ?_
  have h := (idxO t).2.2.2.1
  unfold F9
  blk_simp [h]
  rw [after0_9]
  exact pt9 m c t y _ _ (by show (t.val * 2048 + (y 1).val) / 4 = 512 * t.val + (y 1).val / 4; omega)
    (by show 128 * ((t.val * 2048 + (y 1).val) % 4) + (y 2).val = 128 * ((y 1).val % 4) + (y 2).val; omega)

/-! The six arrays are the reference's results. -/

theorem ref6 : Cert.Reference3Ideal.Proj.resP (F := Ideal) (argX m c) (argG m c) (argW m c) = F6 m c := by
  funext y
  refine (congrArg (Cert.Reference3Ideal.Proj.resP (F := Ideal) (argX m c) (argG m c) (argW m c)) (ValueIdx.eq_ix2 y)).trans ?_
  rw [← ix2_eq_valueIdx]
  exact Cert.Reference3Ideal.Proj.resP_apply (argX m c) (argG m c) (argW m c) (y 0) (y 1)

theorem ref7 : Cert.Reference3Ideal.Proj.resQ (F := Ideal) (argX m c) (argG m c) (argW m c) (argQ m c) = F7 m c := by
  funext y
  refine (congrArg (Cert.Reference3Ideal.Proj.resQ (F := Ideal) (argX m c) (argG m c) (argW m c) (argQ m c)) (ValueIdx.eq_ix2 y)).trans ?_
  rw [← ix2_eq_valueIdx]
  exact Cert.Reference3Ideal.Proj.resQ_apply (argX m c) (argG m c) (argW m c) (argQ m c) (y 0) (y 1)

theorem ref10 : Cert.Reference3Ideal.Proj.resKb (F := Ideal) (argX m c) (argG m c) (argW m c) (argK m c) = F10 m c := by
  funext y
  refine (congrArg (Cert.Reference3Ideal.Proj.resKb (F := Ideal) (argX m c) (argG m c) (argW m c) (argK m c)) (ValueIdx.eq_ix2 y)).trans ?_
  rw [← ix2_eq_valueIdx]
  exact Cert.Reference3Ideal.Proj.resKb_apply (argX m c) (argG m c) (argW m c) (argK m c) (y 0) (y 1)

theorem ref11 : Cert.Reference3Ideal.Proj.resVb (F := Ideal) (argX m c) (argG m c) (argW m c) = F11 m c := by
  funext y
  refine (congrArg (Cert.Reference3Ideal.Proj.resVb (F := Ideal) (argX m c) (argG m c) (argW m c)) (ValueIdx.eq_ix2 y)).trans ?_
  rw [← ix2_eq_valueIdx]
  exact Cert.Reference3Ideal.Proj.resVb_apply (argX m c) (argG m c) (argW m c) (y 0) (y 1)

theorem ref8 : Cert.Reference3Ideal.Proj.resKl (F := Ideal) (argX m c) (argG m c) (argW m c) (argK m c) = F8 m c := by
  funext y
  have e : y = ix3 (0 : Fin 1) (y 1) (y 2) := by
    refine (ValueIdx.eq_ix3 y).trans ?_
    have h0 : y 0 = (0 : Fin 1) := Fin.ext (by have h : (y 0).val < 1 := (y 0).isLt; show (y 0).val = 0; omega)
    rw [h0]
    rfl
  refine (congrArg (Cert.Reference3Ideal.Proj.resKl (F := Ideal) (argX m c) (argG m c) (argW m c) (argK m c)) e).trans ?_
  exact Cert.Reference3Ideal.Proj.resKl_apply (argX m c) (argG m c) (argW m c) (argK m c) (y 1) (y 2)

theorem ref9 : Cert.Reference3Ideal.Proj.resVl (F := Ideal) (argX m c) (argG m c) (argW m c) = F9 m c := by
  funext y
  have e : y = ix3 (0 : Fin 1) (y 1) (y 2) := by
    refine (ValueIdx.eq_ix3 y).trans ?_
    have h0 : y 0 = (0 : Fin 1) := Fin.ext (by have h : (y 0).val < 1 := (y 0).isLt; show (y 0).val = 0; omega)
    rw [h0]
    rfl
  refine (congrArg (Cert.Reference3Ideal.Proj.resVl (F := Ideal) (argX m c) (argG m c) (argW m c)) e).trans ?_
  exact Cert.Reference3Ideal.Proj.resVl_apply (argX m c) (argG m c) (argW m c) (y 1) (y 2)

/-- Every run ends with the six result arrays at these and the arguments unchanged. -/
theorem value_run (ρ : Dev nD → PrngReg) : θ_run defs (onTc (τ := τ) (main (F := Ideal))) ⟨m, fun _ => 0, ρ⟩ (fun r => ∀ c : Dev nD,
      (r.2.mem ((c.tc : Thread nD τ).loc main_v20_0) : S65536x1792.Idx → EReal) = F6 m c
      ∧ (r.2.mem ((c.tc : Thread nD τ).loc main_v20_1) : S65536x512.Idx → EReal) = F7 m c
      ∧ (r.2.mem ((c.tc : Thread nD τ).loc main_v20_2) : S1x262144x128.Idx → EReal) = F8 m c
      ∧ (r.2.mem ((c.tc : Thread nD τ).loc main_v20_3) : S1x262144x128.Idx → EReal) = F9 m c
      ∧ (r.2.mem ((c.tc : Thread nD τ).loc main_v20_4) : S65536x512.Idx → EReal) = F10 m c
      ∧ (r.2.mem ((c.tc : Thread nD τ).loc main_v20_5) : S65536x512.Idx → EReal) = F11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 6).trans (fin6 m c), ((h.1 c).1 7).trans (fin7 m c), ((h.1 c).1 8).trans (fin8 m c), ((h.1 c).1 9).trans (fin9 m c), ((h.1 c).1 10).trans (fin10 m c), ((h.1 c).1 11).trans (fin11 m c), h.2 c⟩) (θ_run_and (run_main (F := Ideal) m ρ) (unchanged (F := Ideal) m ρ))

end Cert.Kernel3Ideal.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Track
public import proofs.«01_k».proof.Proof.Same
public import proofs.«01_k».proof.Proof.Agree
public import Idealize.ShloMosaic.Lib.Quiescent
public import proofs.«01_k».proof.Proof.Gen.ReferenceIdeal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.FfnAgree
public import proofs.«01_k».proof.Proof.Gen.Kernel3.Frame
public import proofs.«01_k».proof.Proof.Gen.Kernel3Ideal.Frame
public import proofs.«01_k».proof.Proof.Gen.Kernel3.Skeleton
public import proofs.«01_k».proof.Proof.Gen.Kernel3Ideal.Skeleton
public import proofs.«01_k».proof.Proof.Gen.Reference3Ideal.Run
public import proofs.«01_k».proof.Proof.ProjRun
public import proofs.«01_k».proof.Proof.ProjWords
public import proofs.«01_k».proof.Proof.ProjAgree
public import Idealize.ShloMosaic.Adequacy
public import Idealize.ShloMosaic.Init

@[expose] public section

noncomputable section

namespace Cert.Proof

open Idealize.ShloMosaic Idealize.SL.Sem Cert.Kernel

/-- The reference runs, its arguments end unchanged and no semaphore counter is left over. -/
theorem reference_frame : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

theorem reference_frame_pre : @Cert.quiescent_ReferenceIdeal_pre_finite_values Cert.ReferenceIdeal.Gen.facts Cert.KernelIdeal.Attn.pre_facts :=
  fun m ρ _ => reference_frame m ρ trivial

/-- The idealized program is the program with its two named constants read as the numbers they stand for. -/
theorem preserved : Cert.preserves_Kernel_KernelIdeal :=
  ⟨IdealRules.named_const.statement Cert.KernelIdeal.κ "neg" .f32 0xF149F2CA#32 ⊥ rfl,
    IdealRules.named_const.statement Cert.KernelIdeal.κ "scale" .f32 0x3E38AA3B#32 (((1 / 8) * (Real.log 2)⁻¹ : ℝ) : EReal) rfl⟩

/-- The idealized kernel and the reference, run on equal arguments, leave equal results, where the values and the lambdas are finite. -/
theorem algebraic : @Cert.algebraic_KernelIdeal_ReferenceIdeal_pre_finite_values Cert.KernelIdeal.Gen.facts Cert.ReferenceIdeal.Gen.facts Cert.KernelIdeal.Attn.pre_facts :=
  fun m g m' g' hp ha => by
    letI := Cert.KernelIdeal.Attn.pre_facts
    refine ⟨fun c => (fun y => Cert.KernelIdeal.Attn.outK m c (y 0).val (y 1).val), Cert.KernelIdeal.Attn.value_run m g, ?_⟩
    refine (θ_run Cert.ReferenceIdeal.defs _ _).mono (fun r h c => ⟨(h c).1.trans ?_, (h c).2⟩) (Cert.ReferenceIdeal.Value.run (F := Ideal) m' g')
    obtain ⟨h0, h1, h2, h3, h4⟩ := ha c
    obtain ⟨hv, hl⟩ := Cert.KernelIdeal.Attn.pre_read _ _ _ _ _ (hp c)
    rw [Cert.ReferenceIdeal.Attn.res_eq, h0, h1, h2, h3, h4]
    exact (Cert.KernelIdeal.Attn.outK_eq m c hv (Cert.KernelIdeal.Attn.lam_real _ hl)).symm

/-- The feed-forward call's reference runs likewise. -/
theorem reference2_frame : Cert.quiescent_Reference2Ideal := fun m ρ _ =>
  (θ_run Cert.Reference2Ideal.defs _ _).mono (fun r h => ⟨fun c => (h c).2.2, sem_eq_zero_of_no_sems rfl r.2⟩) (Cert.Reference2Ideal.Value.run (F := Ideal) m ρ)

/-- The feed-forward call and its reference, run on equal arguments, leave equal results. -/
theorem algebraic2 : @Cert.algebraic_Kernel2Ideal_Reference2Ideal Cert.Kernel2Ideal.Gen.facts Cert.Reference2Ideal.Gen.facts :=
  fun m g m' g' _ ha => by
    refine ⟨fun c => Cert.Kernel2Ideal.Value.G10 m c, fun c => Cert.Kernel2Ideal.Value.G11 m c, Cert.Kernel2Ideal.Value.run (F := Ideal) m g, ?_⟩
    refine (θ_run Cert.Reference2Ideal.defs _ _).mono (fun r h c => ⟨(h c).1.trans ?_, (h c).2.1.trans ?_, (h c).2.2⟩) (Cert.Reference2Ideal.Value.run (F := Ideal) m' g')
    · obtain ⟨h0, h1, h2, h3, h4, h5, h6, h7, h8⟩ := ha c
      rw [Cert.Reference2Ideal.Ffn.res_eq, h0, h1, h2, h3, h4, h5, h6, h7, h8]
      exact (Cert.Kernel2Ideal.Ffn.out_ref m c).symm
    · obtain ⟨h0, h1, h2, h3, h4, h5, h6, h7, h8⟩ := ha c
      rw [h0, h1, h2, h3, h4, h5]
      exact (Cert.Kernel2Ideal.Ffn.last_ref m c).symm

/-- The input projection's reference runs likewise. -/
theorem reference3_frame : Cert.quiescent_Reference3Ideal := fun m ρ _ =>
  (θ_run Cert.Reference3Ideal.defs _ _).mono (fun r h => ⟨fun c => (h c).2.2.2.2.2.2, sem_eq_zero_of_no_sems rfl r.2⟩) (Cert.Reference3Ideal.Proj.run (F := Ideal) m ρ)

/-- The input projection and its reference, run on equal arguments, leave equal results. -/
theorem algebraic3 : @Cert.algebraic_Kernel3Ideal_Reference3Ideal Cert.Kernel3Ideal.Gen.facts Cert.Reference3Ideal.Gen.facts :=
  fun m g m' g' _ ha => by
    refine ⟨fun c => Cert.Kernel3Ideal.Proj.F6 m c, fun c => Cert.Kernel3Ideal.Proj.F7 m c, fun c => Cert.Kernel3Ideal.Proj.F8 m c, fun c => Cert.Kernel3Ideal.Proj.F9 m c, fun c => Cert.Kernel3Ideal.Proj.F10 m c, fun c => Cert.Kernel3Ideal.Proj.F11 m c, Cert.Kernel3Ideal.Proj.value_run m g, ?_⟩
    refine (θ_run Cert.Reference3Ideal.defs _ _).mono (fun r h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩) (Cert.Reference3Ideal.Proj.run (F := Ideal) m' g')
    · obtain ⟨h0, h1, h2, h3, h4⟩ := ha c
      rw [h0, h1, h2]
      exact Cert.Kernel3Ideal.Proj.ref6 m c
    · obtain ⟨h0, h1, h2, h3, h4⟩ := ha c
      rw [h0, h1, h2, h3]
      exact Cert.Kernel3Ideal.Proj.ref7 m c
    · obtain ⟨h0, h1, h2, h3, h4⟩ := ha c
      rw [h0, h1, h2, h4]
      exact Cert.Kernel3Ideal.Proj.ref8 m c
    · obtain ⟨h0, h1, h2, h3, h4⟩ := ha c
      rw [h0, h1, h2]
      exact Cert.Kernel3Ideal.Proj.ref9 m c
    · obtain ⟨h0, h1, h2, h3, h4⟩ := ha c
      rw [h0, h1, h2, h4]
      exact Cert.Kernel3Ideal.Proj.ref10 m c
    · obtain ⟨h0, h1, h2, h3, h4⟩ := ha c
      rw [h0, h1, h2]
      exact Cert.Kernel3Ideal.Proj.ref11 m c

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.KernelIdeal.Attn.pre_facts,
  fun m ρ _ => Cert.KernelIdeal.Attn.frame_bits m ρ, fun m ρ _ => Cert.KernelIdeal.Attn.frame_run (F := Ideal) m ρ,
  fun m ρ _ => Cert.KernelIdeal.Attn.frame_run (F := Ideal) m ρ, reference_frame, reference_frame_pre,
  fun m ρ _ => Cert.Kernel2.Gen.frame m ρ, fun m ρ _ => Cert.Kernel2Ideal.Gen.frame m ρ, reference2_frame,
  fun m ρ _ => Cert.Kernel3.Proj.frame m ρ, fun m ρ _ => Cert.Kernel3Ideal.Proj.frame m ρ, reference3_frame,
  preserved, algebraic, trivial, algebraic2, trivial, algebraic3⟩

end Cert.Proof

end
